-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v17) = v2 c
          ∧ r.2.mem ((c.tc : Thread Cert.Reference8Ideal.nD Cert.Reference8Ideal.τ).loc Cert.Reference8Ideal.main_v23) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_v36) = v1 c
          ∧ r.2.mem ((c.tc : Thread Cert.Reference9Ideal.nD Cert.Reference9Ideal.τ).loc Cert.Reference9Ideal.main_v17) = v2 c
          ∧ r.2.mem ((c.tc : Thread Cert.Reference9Ideal.nD Cert.Reference9Ideal.τ).loc Cert.Reference9Ideal.main_v23) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v36) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_v23) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_v17) = v2 c
          ∧ r.2.mem ((c.tc : Thread Cert.Reference11Ideal.nD Cert.Reference11Ideal.τ).loc Cert.Reference11Ideal.main_v23) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x256 : Shape := ⟨2, ![8192, 256]⟩
abbrev S8192x4 : Shape := ⟨2, ![8192, 4]⟩
abbrev S_ : Shape := ⟨0, ![]⟩
abbrev S1 : Shape := ⟨1, ![1]⟩
abbrev S5 : Shape := ⟨1, ![5]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S8192x256 .f32) (main_v3 : IVec S_ 1) (main_v7 : IVec S_ 1) (main_v11 : IVec S_ 1) (main_v15 : IVec S_ 1) : IVec S5 1 :=
  let main_v16 : FVec F S8192x256 .f32 := Host.absf main_arg4
  let main_cst_6 : FVec F S_ .f32 := constant S_ .f32 0x7F800000#32
  let main_v17 : FVec F S8192x256 .f32 := broadcastInDim S8192x256 ![] bcast_S_S8192x256 main_cst_6
  let main_v18 : IVec S8192x256 1 := cmpf .olt main_v16 main_v17
  let main_c_7 : IVec S_ 1 := constantI S_ 1 1#1
  let main_v19 : IVec S_ 1 := (fun x v => Host.reduce IntOp.andi x v reducesTo_S8192x256_S_d0_1 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S8192x256 .f32) (main_arg1 : FVec F S8192x256 .f32) (main_arg2 : FVec F S8192x256 .f32) (main_arg3 : FVec F S8192x4 .f32) (main_arg4 : FVec F S8192x256 .f32) : IVec S5 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S8192x256 .f32 := Host.absf main_arg2
  let main_cst_2 : FVec F S_ .f32 := constant S_ .f32 0x7F800000#32
  let main_v9 : FVec F S8192x256 .f32 := broadcastInDim S8192x256 ![] bcast_S_S8192x256 main_cst_2
  let main_v10 : IVec S8192x256 1 := cmpf .olt main_v8 main_v9
  let main_c_3 : IVec S_ 1 := constantI S_ 1 1#1
  let main_v11 : IVec S_ 1 := (fun x v => Host.reduce IntOp.andi x v reducesTo_S8192x256_S_d0_1 h_S_) main_v10 main_c_3
  let main_v12 : FVec F S8192x4 .f32 := Host.absf main_arg3
  let main_cst_4 : FVec F S_ .f32 := constant S_ .f32 0x7F800000#32
  let main_v13 : FVec F S8192x4 .f32 := broadcastInDim S8192x4 ![] bcast_S_S8192x4 main_cst_4
  let main_v14 : IVec S8192x4 1 := cmpf .olt main_v12 main_v13
  let main_c_5 : IVec S_ 1 := constantI S_ 1 1#1
  let main_v15 : IVec S_ 1 := (fun x v => Host.reduce IntOp.andi x v reducesTo_S8192x4_S_d0_1 h_S_) main_v14 main_c_5
  fn_part1 (F := F) main_arg4 main_v3 main_v7 main_v11 main_v15
-- ==== Kernel.lean ====
abbrev S8192x256 : Shape := ⟨2, ![8192, 256]⟩
abbrev S8192x4 : Shape := ⟨2, ![8192, 4]⟩
abbrev S8192x4x64 : Shape := ⟨3, ![8192, 4, 64]⟩
abbrev S4x8192x64 : Shape := ⟨3, ![4, 8192, 64]⟩
abbrev S4x8192 : Shape := ⟨2, ![4, 8192]⟩
abbrev S8192 : Shape := ⟨1, ![8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x768 : Shape := ⟨2, ![8192, 768]⟩
abbrev S8192x128 : Shape := ⟨2, ![8192, 128]⟩
abbrev S8x8192 : Shape := ⟨2, ![8, 8192]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 82
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x256, .f32⟩
  | .hbm, ⟨5, _⟩ => ⟨S8192x4x64, .f32⟩
  | .hbm, ⟨6, _⟩ => ⟨S4x8192x64, .f32⟩
  | .hbm, ⟨7, _⟩ => ⟨S8192x4x64, .f32⟩
  | .hbm, ⟨8, _⟩ => ⟨S4x8192x64, .f32⟩
  | .hbm, ⟨9, _⟩ => ⟨S8192x4x64, .f32⟩
  | .hbm, ⟨10, _⟩ => ⟨S4x8192x64, .f32⟩
  | .hbm, ⟨11, _⟩ => ⟨S4x8192, .f32⟩
  | .hbm, ⟨12, _⟩ => ⟨S8192, .i32⟩
  | .hbm, ⟨13, _⟩ => ⟨S4x8192x8192, .f32⟩
  | .hbm, ⟨14, _⟩ => ⟨S4x8192x1, .f32⟩
  | .hbm, ⟨15, _⟩ => ⟨S4x8192x8192, .f32⟩
  | .hbm, ⟨16, _⟩ => ⟨S4x8192x8192, .f32⟩
  | .hbm, ⟨17, _⟩ => ⟨S4x1x8192, .f32⟩
  | .hbm, ⟨18, _⟩ => ⟨S4x8192x8192, .f32⟩
  | .hbm, ⟨19, _⟩ => ⟨S4x8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S4x8192x8192, .i1⟩
  | .hbm, ⟨28, _⟩ => ⟨S4x8192x8192, .f32⟩
  | .hbm, ⟨29, _⟩ => ⟨S4x8192x8192, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192x1, .f32⟩
  | .hbm, ⟨36, _⟩ => ⟨S4x8192x8192, .f32⟩
  | .hbm, ⟨37, _⟩ => ⟨S4x8192x8192, .f32⟩
  | .hbm, ⟨38, _⟩ => ⟨S4x8192x8192, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x8192, .f32⟩
  | .hbm, ⟨43, _⟩ => ⟨S4x8192x8192, .f32⟩
  | .hbm, ⟨44, _⟩ => ⟨S4x8192x64, .f32⟩
  | .hbm, ⟨45, _⟩ => ⟨S8192x4x64, .f32⟩
  | .hbm, ⟨46, _⟩ => ⟨S8192x256, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S4x8192x8192, .f32⟩
  | .hbm, ⟨51, _⟩ => ⟨S4x8192x8192, .f32⟩
  | .hbm, ⟨52, _⟩ => ⟨S4x8192x8192, .f32⟩
  | .hbm, ⟨53, _⟩ => ⟨S_, .f32⟩
  | .hbm, ⟨54, _⟩ => ⟨S4x8192, .f32⟩
  | .hbm, ⟨55, _⟩ => ⟨S4x8192, .f32⟩
  | .hbm, ⟨56, _⟩ => ⟨S4x8192, .f32⟩
  | .hbm, ⟨57, _⟩ => ⟨S8192x256, .f32⟩
  | .hbm, ⟨58, _⟩ => ⟨S8192x4x64, .f32⟩
  | .hbm, ⟨59, _⟩ => ⟨S_, .f32⟩
  | .hbm, ⟨60, _⟩ => ⟨S8192x4, .f32⟩
  | .hbm, ⟨61, _⟩ => ⟨S4x8192, .f32⟩
  | .hbm, ⟨62, _⟩ => ⟨S8192x768, .f32⟩
  | .hbm, ⟨63, _⟩ => ⟨S8192x768, .bf16⟩
  | .hbm, ⟨64, _⟩ => ⟨S_, .i32⟩
  | .hbm, ⟨65, _⟩ => ⟨S_, .f32⟩
  | .hbm, ⟨66, _⟩ => ⟨S8192x128, .f32⟩
  | .hbm, ⟨67, _⟩ => ⟨S4x8192, .f32⟩
  | .hbm, ⟨68, _⟩ => ⟨S_, .i32⟩
  | .hbm, ⟨69, _⟩ => ⟨S_, .f32⟩
  | .hbm, ⟨70, _⟩ => ⟨S8x8192, .f32⟩
  | .hbm, ⟨71, _⟩ => ⟨S_, .i32⟩
  | .hbm, ⟨72, _⟩ => ⟨S_, .f32⟩
  | .hbm, ⟨73, _⟩ => ⟨S8x8192, .f32⟩
  | .hbm, ⟨74, _⟩ => ⟨S_, .i32⟩
  | .hbm, ⟨75, _⟩ => ⟨S_, .f32⟩
  | .hbm, ⟨76, _⟩ => ⟨S8x8192, .f32⟩
  | .hbm, ⟨77, _⟩ => ⟨S8192x256, .bf16⟩
  | .hbm, ⟨78, _⟩ => ⟨S8192x256, .f32⟩
  | .hbm, ⟨79, _⟩ => ⟨S8192x256, .f32⟩
  | .hbm, ⟨80, _⟩ => ⟨S8192x256, .f32⟩
  | .hbm, ⟨81, _⟩ => ⟨S8192x128, .f32⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x128, .f32⟩
  | .local _ .vmem, ⟨7, _⟩ => ⟨S512x128, .f32⟩
  | .local _ .vmem, ⟨8, _⟩ => ⟨S8x8192, .f32⟩
  | .local _ .vmem, ⟨9, _⟩ => ⟨S8x8192, .f32⟩
  | .local _ .vmem, ⟨10, _⟩ => ⟨S8x8192, .f32⟩
  | .local _ .vmem, ⟨11, _⟩ => ⟨S8192x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c : Ref sig .tc := ⟨.hbm, 64, rfl⟩
abbrev main_call1_v0 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_call2_v0 : Ref sig .tc := ⟨.hbm, 69, rfl⟩
abbrev main_v51 : Ref sig .tc := ⟨.hbm, 70, rfl⟩
abbrev main_c_7 : Ref sig .tc := ⟨.hbm, 71, rfl⟩
abbrev main_call3_v0 : Ref sig .tc := ⟨.hbm, 72, rfl⟩
abbrev main_v52 : Ref sig .tc := ⟨.hbm, 73, rfl⟩
abbrev main_c_8 : Ref sig .tc := ⟨.hbm, 74, rfl⟩
abbrev main_call4_v0 : Ref sig .tc := ⟨.hbm, 75, rfl⟩
abbrev main_v53 : Ref sig .tc := ⟨.hbm, 76, rfl⟩
abbrev main_v54 : Ref sig .tc := ⟨.hbm, 77, rfl⟩
abbrev main_v55_0 : Ref sig .tc := ⟨.hbm, 78, rfl⟩
abbrev main_v55_1 : Ref sig .tc := ⟨.hbm, 79, rfl⟩
abbrev main_v55_2 : Ref sig .tc := ⟨.hbm, 80, rfl⟩
abbrev main_v55_3 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v42 : BitVec 32 := Scalar.muli arg0 c512_i32
  v42
def k0_off1 (i : grid0.Coords) : Fin 2 → Nat :=
  let arg0 : BitVec 32 := BitVec.ofNat 32 (i 0).val
  let c512_i32 : BitVec 32 := 512#32
  let v42 : BitVec 32 := Scalar.muli arg0 c512_i32
  let v43 : BitVec 32 := v42
  let v44 : Index := Scalar.indexCast v43
  let c0_18 : Index := 0#32
  ![v44.toNat, 0]
def k0_off2 (i : grid0.Coords) : Fin 2 → Nat :=
  let c0_23 : Index := 0#32
  let arg0 : BitVec 32 := BitVec.ofNat 32 (i 0).val
  let c512_i32 : BitVec 32 := 512#32
  let v42 : BitVec 32 := Scalar.muli arg0 c512_i32
  let v43 : BitVec 32 := v42
  let v56 : Index := Scalar.indexCast v43
  ![0, v56.toNat]
def k0_off3 (i : grid0.Coords) : Fin 2 → Nat :=
  let c1 : Index := 1#32
  let arg0 : BitVec 32 := BitVec.ofNat 32 (i 0).val
  let c512_i32 : BitVec 32 := 512#32
  let v42 : BitVec 32 := Scalar.muli arg0 c512_i32
  let v43 : BitVec 32 := v42
  let v98 : Index := Scalar.indexCast v43
  ![1, v98.toNat]
@[reducible] def k0_t1_loop (i : grid0.Coords) : Scf.Loop 32 :=
  let arg0 : BitVec 32 := BitVec.ofNat 32 (i 0).val
  let c1_i32_46 : BitVec 32 := 1#32
  let v141 : BitVec 32 := Scalar.addi arg0 c1_i32_46
  let c16_i32 : BitVec 32 := 16#32
  let v142 : BitVec 32 := Scalar.subi c16_i32 v141
  let c1_i32_47 : BitVec 32 := 1#32
  let v144 : BitVec 32 := Scalar.divsi v142 c1_i32_47
  let v145 : BitVec 32 := Scalar.muli v144 c1_i32_47
  let v146 : BitVec 32 := Scalar.addi v141 v145
  let c1_i32_48 : BitVec 32 := 1#32
  ⟨v141, v146, c1_i32_48⟩
def k0_mult2 (i : grid0.Coords) (k0_t1 : Fin (k0_t1_loop i).trips) : BitVec 32 :=
  let arg0 : BitVec 32 := BitVec.ofNat 32 (i 0).val
  let c1_i32_46 : BitVec 32 := 1#32
  let v141 : BitVec 32 := Scalar.addi arg0 c1_i32_46
  let c1_i32_48 : BitVec 32 := 1#32
  let arg13 : BitVec 32 := Scf.iv v141 c1_i32_48 k0_t1
  let c512_i32_114 : BitVec 32 := 512#32
  let v317 : BitVec 32 := Scalar.muli arg13 c512_i32_114
  v317
def k0_off4 (i : grid0.Coords) (k0_t1 : Fin (k0_t1_loop i).trips) : Fin 2 → Nat :=
  let arg0 : BitVec 32 := BitVec.ofNat 32 (i 0).val
  let c1_i32_46 : BitVec 32 := 1#32
  let v141 : BitVec 32 := Scalar.addi arg0 c1_i32_46
  let c1_i32_48 : BitVec 32 := 1#32
  let arg13 : BitVec 32 := Scf.iv v141 c1_i32_48 k0_t1
  let c512_i32_114 : BitVec 32 := 512#32
  let v317 : BitVec 32 := Scalar.muli arg13 c512_i32_114
  let v318 : BitVec 32 := v317
  let v319 : Index := Scalar.indexCast v318
  let c0_115 : Index := 0#32
  ![v319.toNat, 0]
def k0_off5 (i : grid0.Coords) (k0_t1 : Fin (k0_t1_loop i).trips) : Fin 2 → Nat :=
  let c0_120 : Index := 0#32
  let arg0 : BitVec 32 := BitVec.ofNat 32 (i 0).val
  let c1_i32_46 : BitVec 32 := 1#32
  let v141 : BitVec 32 := Scalar.addi arg0 c1_i32_46
  let c1_i32_48 : BitVec 32 := 1#32
  let arg13 : BitVec 32 := Scf.iv v141 c1_i32_48 k0_t1
  let c512_i32_114 : BitVec 32 := 512#32
  let v317 : BitVec 32 := Scalar.muli arg13 c512_i32_114
  let v318 : BitVec 32 := v317
  let v331 : Index := Scalar.indexCast v318
  ![0, v331.toNat]
def k0_off6 (i : grid0.Coords) (k0_t1 : Fin (k0_t1_loop i).trips) : Fin 2 → Nat :=
  let c1_131 : Index := 1#32
  let arg0 : BitVec 32 := BitVec.ofNat 32 (i 0).val
  let c1_i32_46 : BitVec 32 := 1#32
  let v141 : BitVec 32 := Scalar.addi arg0 c1_i32_46
  let c1_i32_48 : BitVec 32 := 1#32
  let arg13 : BitVec 32 := Scf.iv v141 c1_i32_48 k0_t1
  let c512_i32_114 : BitVec 32 := 512#32
  let v317 : BitVec 32 := Scalar.muli arg13 c512_i32_114
  let v318 : BitVec 32 := v317
  let v371 : Index := Scalar.indexCast v318
  ![1, v371.toNat]
@[reducible] def k0_t2_loop (i : grid0.Coords) : Scf.Loop 32 :=
  let arg0 : BitVec 32 := BitVec.ofNat 32 (i 0).val
  let c1_i32_46 : BitVec 32 := 1#32
  let v141 : BitVec 32 := Scalar.addi arg0 c1_i32_46
  let c16_i32 : BitVec 32 := 16#32
  let v142 : BitVec 32 := Scalar.subi c16_i32 v141
  let c1_i32_47 : BitVec 32 := 1#32
  let v144 : BitVec 32 := Scalar.divsi v142 c1_i32_47
  let v145 : BitVec 32 := Scalar.muli v144 c1_i32_47
  let v146 : BitVec 32 := Scalar.addi v141 v145
  let v143 : BitVec 32 := Scalar.addi v141 v142
  let c1_i32_49 : BitVec 32 := 1#32
  ⟨v146, v143, c1_i32_49⟩
def k0_mult3 (i : grid0.Coords) (k0_t2 : Fin (k0_t2_loop i).trips) : BitVec 32 :=
  let arg0 : BitVec 32 := BitVec.ofNat 32 (i 0).val
  let c1_i32_46 : BitVec 32 := 1#32
  let v141 : BitVec 32 := Scalar.addi arg0 c1_i32_46
  let c16_i32 : BitVec 32 := 16#32
  let v142 : BitVec 32 := Scalar.subi c16_i32 v141
  let c1_i32_47 : BitVec 32 := 1#32
  let v144 : BitVec 32 := Scalar.divsi v142 c1_i32_47
  let v145 : BitVec 32 := Scalar.muli v144 c1_i32_47
  let v146 : BitVec 32 := Scalar.addi v141 v145
  let c1_i32_49 : BitVec 32 := 1#32
  let arg13 : BitVec 32 := Scf.iv v146 c1_i32_49 k0_t2
  let c512_i32_114 : BitVec 32 := 512#32
  let v317 : BitVec 32 := Scalar.muli arg13 c512_i32_114
  v317
def k0_off7 (i : grid0.Coords) (k0_t2 : Fin (k0_t2_loop i).trips) : Fin 2 → Nat :=
  let arg0 : BitVec 32 := BitVec.ofNat 32 (i 0).val
  let c1_i32_46 : BitVec 32 := 1#32
  let v141 : BitVec 32 := Scalar.addi arg0 c1_i32_46
  let c16_i32 : BitVec 32 := 16#32
  let v142 : BitVec 32 := Scalar.subi c16_i32 v141
  let c1_i32_47 : BitVec 32 := 1#32
  let v144 : BitVec 32 := Scalar.divsi v142 c1_i32_47
  let v145 : BitVec 32 := Scalar.muli v144 c1_i32_47
  let v146 : BitVec 32 := Scalar.addi v141 v145
  let c1_i32_49 : BitVec 32 := 1#32
  let arg13 : BitVec 32 := Scf.iv v146 c1_i32_49 k0_t2
  let c512_i32_114 : BitVec 32 := 512#32
  let v317 : BitVec 32 := Scalar.muli arg13 c512_i32_114
  let v318 : BitVec 32 := v317
  let v319 : Index := Scalar.indexCast v318
  let c0_115 : Index := 0#32
  ![v319.toNat, 0]
def k0_off8 (i : grid0.Coords) (k0_t2 : Fin (k0_t2_loop i).trips) : Fin 2 → Nat :=
  let c0_120 : Index := 0#32
  let arg0 : BitVec 32 := BitVec.ofNat 32 (i 0).val
  let c1_i32_46 : BitVec 32 := 1#32
  let v141 : BitVec 32 := Scalar.addi arg0 c1_i32_46
  let c16_i32 : BitVec 32 := 16#32
  let v142 : BitVec 32 := Scalar.subi c16_i32 v141
  let c1_i32_47 : BitVec 32 := 1#32
  let v144 : BitVec 32 := Scalar.divsi v142 c1_i32_47
  let v145 : BitVec 32 := Scalar.muli v144 c1_i32_47
  let v146 : BitVec 32 := Scalar.addi v141 v145
  let c1_i32_49 : BitVec 32 := 1#32
  let arg13 : BitVec 32 := Scf.iv v146 c1_i32_49 k0_t2
  let c512_i32_114 : BitVec 32 := 512#32
  let v317 : BitVec 32 := Scalar.muli arg13 c512_i32_114
  let v318 : BitVec 32 := v317
  let v331 : Index := Scalar.indexCast v318
  ![0, v331.toNat]
def k0_off9 (i : grid0.Coords) (k0_t2 : Fin (k0_t2_loop i).trips) : Fin 2 → Nat :=
  let c1_131 : Index := 1#32
  let arg0 : BitVec 32 := BitVec.ofNat 32 (i 0).val
  let c1_i32_46 : BitVec 32 := 1#32
  let v141 : BitVec 32 := Scalar.addi arg0 c1_i32_46
  let c16_i32 : BitVec 32 := 16#32
  let v142 : BitVec 32 := Scalar.subi c16_i32 v141
  let c1_i32_47 : BitVec 32 := 1#32
  let v144 : BitVec 32 := Scalar.divsi v142 c1_i32_47
  let v145 : BitVec 32 := Scalar.muli v144 c1_i32_47
  let v146 : BitVec 32 := Scalar.addi v141 v145
  let c1_i32_49 : BitVec 32 := 1#32
  let arg13 : BitVec 32 := Scf.iv v146 c1_i32_49 k0_t2
  let c512_i32_114 : BitVec 32 := 512#32
  let v317 : BitVec 32 := Scalar.muli arg13 c512_i32_114
  let v318 : BitVec 32 := v317
  let v371 : Index := Scalar.indexCast v318
  ![1, v371.toNat]
def k0_mult4 (i : grid0.Coords) : BitVec 32 :=
  let arg0 : BitVec 32 := BitVec.ofNat 32 (i 0).val
  let c512_i32_71 : BitVec 32 := 512#32
  let v193 : BitVec 32 := Scalar.muli arg0 c512_i32_71
  v193
def k0_off10 (i : grid0.Coords) : Fin 2 → Nat :=
  let arg0 : BitVec 32 := BitVec.ofNat 32 (i 0).val
  let c512_i32_71 : BitVec 32 := 512#32
  let v193 : BitVec 32 := Scalar.muli arg0 c512_i32_71
  let v194 : BitVec 32 := v193
  let v195 : Index := Scalar.indexCast v194
  let c128_72 : Index := 128#32
  ![v195.toNat, 128]
def k0_off11 (i : grid0.Coords) : Fin 2 → Nat :=
  let c2 : Index := 2#32
  let arg0 : BitVec 32 := BitVec.ofNat 32 (i 0).val
  let c512_i32_71 : BitVec 32 := 512#32
  let v193 : BitVec 32 := Scalar.muli arg0 c512_i32_71
  let v194 : BitVec 32 := v193
  let v207 : Index := Scalar.indexCast v194
  ![2, v207.toNat]
def k0_off12 (i : grid0.Coords) : Fin 2 → Nat :=
  let c3 : Index := 3#32
  let arg0 : BitVec 32 := BitVec.ofNat 32 (i 0).val
  let c512_i32_71 : BitVec 32 := 512#32
  let v193 : BitVec 32 := Scalar.muli arg0 c512_i32_71
  let v194 : BitVec 32 := v193
  let v249 : Index := Scalar.indexCast v194
  ![3, v249.toNat]
@[reducible] def k0_t3_loop (i : grid0.Coords) : Scf.Loop 32 :=
  let arg0 : BitVec 32 := BitVec.ofNat 32 (i 0).val
  let c1_i32_99 : BitVec 32 := 1#32
  let v292 : BitVec 32 := Scalar.addi arg0 c1_i32_99
  let c16_i32_100 : BitVec 32 := 16#32
  let v293 : BitVec 32 := Scalar.subi c16_i32_100 v292
  let c1_i32_101 : BitVec 32 := 1#32
  let v295 : BitVec 32 := Scalar.divsi v293 c1_i32_101
  let v296 : BitVec 32 := Scalar.muli v295 c1_i32_101
  let v297 : BitVec 32 := Scalar.addi v292 v296
  let c1_i32_102 : BitVec 32 := 1#32
  ⟨v292, v297, c1_i32_102⟩
def k0_mult5 (i : grid0.Coords) (k0_t3 : Fin (k0_t3_loop i).trips) : BitVec 32 :=
  let arg0 : BitVec 32 := BitVec.ofNat 32 (i 0).val
  let c1_i32_99 : BitVec 32 := 1#32
  let v292 : BitVec 32 := Scalar.addi arg0 c1_i32_99
  let c1_i32_102 : BitVec 32 := 1#32
  let arg13 : BitVec 32 := Scf.iv v292 c1_i32_102 k0_t3
  let c512_i32_114 : BitVec 32 := 512#32
  let v317 : BitVec 32 := Scalar.muli arg13 c512_i32_114
  v317
def k0_off13 (i : grid0.Coords) (k0_t3 : Fin (k0_t3_loop i).trips) : Fin 2 → Nat :=
  let arg0 : BitVec 32 := BitVec.ofNat 32 (i 0).val
  let c1_i32_99 : BitVec 32 := 1#32
  let v292 : BitVec 32 := Scalar.addi arg0 c1_i32_99
  let c1_i32_102 : BitVec 32 := 1#32
  let arg13 : BitVec 32 := Scf.iv v292 c1_i32_102 k0_t3
  let c512_i32_114 : BitVec 32 := 512#32
  let v317 : BitVec 32 := Scalar.muli arg13 c512_i32_114
  let v318 : BitVec 32 := v317
  let v319 : Index := Scalar.indexCast v318
  let c128_115 : Index := 128#32
  ![v319.toNat, 128]
def k0_off14 (i : grid0.Coords) (k0_t3 : Fin (k0_t3_loop i).trips) : Fin 2 → Nat :=
  let c2_120 : Index := 2#32
  let arg0 : BitVec 32 := BitVec.ofNat 32 (i 0).val
  let c1_i32_99 : BitVec 32 := 1#32
  let v292 : BitVec 32 := Scalar.addi arg0 c1_i32_99
  let c1_i32_102 : BitVec 32 := 1#32
  let arg13 : BitVec 32 := Scf.iv v292 c1_i32_102 k0_t3
  let c512_i32_114 : BitVec 32 := 512#32
  let v317 : BitVec 32 := Scalar.muli arg13 c512_i32_114
  let v318 : BitVec 32 := v317
  let v331 : Index := Scalar.indexCast v318
  ![2, v331.toNat]
def k0_off15 (i : grid0.Coords) (k0_t3 : Fin (k0_t3_loop i).trips) : Fin 2 → Nat :=
  let c3_131 : Index := 3#32
  let arg0 : BitVec 32 := BitVec.ofNat 32 (i 0).val
  let c1_i32_99 : BitVec 32 := 1#32
  let v292 : BitVec 32 := Scalar.addi arg0 c1_i32_99
  let c1_i32_102 : BitVec 32 := 1#32
  let arg13 : BitVec 32 := Scf.iv v292 c1_i32_102 k0_t3
  let c512_i32_114 : BitVec 32 := 512#32
  let v317 : BitVec 32 := Scalar.muli arg13 c512_i32_114
  let v318 : BitVec 32 := v317
  let v371 : Index := Scalar.indexCast v318
  ![3, v371.toNat]
@[reducible] def k0_t4_loop (i : grid0.Coords) : Scf.Loop 32 :=
  let arg0 : BitVec 32 := BitVec.ofNat 32 (i 0).val
  let c1_i32_99 : BitVec 32 := 1#32
  let v292 : BitVec 32 := Scalar.addi arg0 c1_i32_99
  let c16_i32_100 : BitVec 32 := 16#32
  let v293 : BitVec 32 := Scalar.subi c16_i32_100 v292
  let c1_i32_101 : BitVec 32 := 1#32
  let v295 : BitVec 32 := Scalar.divsi v293 c1_i32_101
  let v296 : BitVec 32 := Scalar.muli v295 c1_i32_101
  let v297 : BitVec 32 := Scalar.addi v292 v296
  let v294 : BitVec 32 := Scalar.addi v292 v293
  let c1_i32_103 : BitVec 32 := 1#32
  ⟨v297, v294, c1_i32_103⟩
def k0_mult6 (i : grid0.Coords) (k0_t4 : Fin (k0_t4_loop i).trips) : BitVec 32 :=
  let arg0 : BitVec 32 := BitVec.ofNat 32 (i 0).val
  let c1_i32_99 : BitVec 32 := 1#32
  let v292 : BitVec 32 := Scalar.addi arg0 c1_i32_99
  let c16_i32_100 : BitVec 32 := 16#32
  let v293 : BitVec 32 := Scalar.subi c16_i32_100 v292
  let c1_i32_101 : BitVec 32 := 1#32
  let v295 : BitVec 32 := Scalar.divsi v293 c1_i32_101
  let v296 : BitVec 32 := Scalar.muli v295 c1_i32_101
  let v297 : BitVec 32 := Scalar.addi v292 v296
  let c1_i32_103 : BitVec 32 := 1#32
  let arg13 : BitVec 32 := Scf.iv v297 c1_i32_103 k0_t4
  let c512_i32_114 : BitVec 32 := 512#32
  let v317 : BitVec 32 := Scalar.muli arg13 c512_i32_114
  v317
def k0_off16 (i : grid0.Coords) (k0_t4 : Fin (k0_t4_loop i).trips) : Fin 2 → Nat :=
  let arg0 : BitVec 32 := BitVec.ofNat 32 (i 0).val
  let c1_i32_99 : BitVec 32 := 1#32
  let v292 : BitVec 32 := Scalar.addi arg0 c1_i32_99
  let c16_i32_100 : BitVec 32 := 16#32
  let v293 : BitVec 32 := Scalar.subi c16_i32_100 v292
  let c1_i32_101 : BitVec 32 := 1#32
  let v295 : BitVec 32 := Scalar.divsi v293 c1_i32_101
  let v296 : BitVec 32 := Scalar.muli v295 c1_i32_101
  let v297 : BitVec 32 := Scalar.addi v292 v296
  let c1_i32_103 : BitVec 32 := 1#32
  let arg13 : BitVec 32 := Scf.iv v297 c1_i32_103 k0_t4
  let c512_i32_114 : BitVec 32 := 512#32
  let v317 : BitVec 32 := Scalar.muli arg13 c512_i32_114
  let v318 : BitVec 32 := v317
  let v319 : Index := Scalar.indexCast v318
  let c128_115 : Index := 128#32
  ![v319.toNat, 128]
def k0_off17 (i : grid0.Coords) (k0_t4 : Fin (k0_t4_loop i).trips) : Fin 2 → Nat :=
  let c2_120 : Index := 2#32
  let arg0 : BitVec 32 := BitVec.ofNat 32 (i 0).val
  let c1_i32_99 : BitVec 32 := 1#32
  let v292 : BitVec 32 := Scalar.addi arg0 c1_i32_99
  let c16_i32_100 : BitVec 32 := 16#32
  let v293 : BitVec 32 := Scalar.subi c16_i32_100 v292
  let c1_i32_101 : BitVec 32 := 1#32
  let v295 : BitVec 32 := Scalar.divsi v293 c1_i32_101
  let v296 : BitVec 32 := Scalar.muli v295 c1_i32_101
  let v297 : BitVec 32 := Scalar.addi v292 v296
  let c1_i32_103 : BitVec 32 := 1#32
  let arg13 : BitVec 32 := Scf.iv v297 c1_i32_103 k0_t4
  let c512_i32_114 : BitVec 32 := 512#32
  let v317 : BitVec 32 := Scalar.muli arg13 c512_i32_114
  let v318 : BitVec 32 := v317
  let v331 : Index := Scalar.indexCast v318
  ![2, v331.toNat]
def k0_off18 (i : grid0.Coords) (k0_t4 : Fin (k0_t4_loop i).trips) : Fin 2 → Nat :=
  let c3_131 : Index := 3#32
  let arg0 : BitVec 32 := BitVec.ofNat 32 (i 0).val
  let c1_i32_99 : BitVec 32 := 1#32
  let v292 : BitVec 32 := Scalar.addi arg0 c1_i32_99
  let c16_i32_100 : BitVec 32 := 16#32
  let v293 : BitVec 32 := Scalar.subi c16_i32_100 v292
  let c1_i32_101 : BitVec 32 := 1#32
  let v295 : BitVec 32 := Scalar.divsi v293 c1_i32_101
  let v296 : BitVec 32 := Scalar.muli v295 c1_i32_101
  let v297 : BitVec 32 := Scalar.addi v292 v296
  let c1_i32_103 : BitVec 32 := 1#32
  let arg13 : BitVec 32 := Scf.iv v297 c1_i32_103 k0_t4
  let c512_i32_114 : BitVec 32 := 512#32
  let v317 : BitVec 32 := Scalar.muli arg13 c512_i32_114
  let v318 : BitVec 32 := v317
  let v371 : Index := Scalar.indexCast v318
  ![3, v371.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8192x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x256 : Shape := ⟨2, ![8192, 256]⟩
abbrev S8192x4 : Shape := ⟨2, ![8192, 4]⟩
abbrev S8192x4x64 : Shape := ⟨3, ![8192, 4, 64]⟩
abbrev S4x8192x64 : Shape := ⟨3, ![4, 8192, 64]⟩
abbrev S4x8192 : Shape := ⟨2, ![4, 8192]⟩
abbrev S8192 : Shape := ⟨1, ![8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x64x8192 : Shape := ⟨3, ![4, 64, 8192]⟩
abbrev S8192x128 : Shape := ⟨2, ![8192, 128]⟩

abbrev nBuf : Space → Nat
  | .hbm => 119
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x256, .f32⟩
  | .hbm, ⟨5, _⟩ => ⟨S8192x4x64, .f32⟩
  | .hbm, ⟨6, _⟩ => ⟨S4x8192x64, .f32⟩
  | .hbm, ⟨7, _⟩ => ⟨S8192x4x64, .f32⟩
  | .hbm, ⟨8, _⟩ => ⟨S4x8192x64, .f32⟩
  | .hbm, ⟨9, _⟩ => ⟨S8192x4x64, .f32⟩
  | .hbm, ⟨10, _⟩ => ⟨S4x8192x64, .f32⟩
  | .hbm, ⟨11, _⟩ => ⟨S4x8192, .f32⟩
  | .hbm, ⟨12, _⟩ => ⟨S8192, .i32⟩
  | .hbm, ⟨13, _⟩ => ⟨S4x8192x8192, .f32⟩
  | .hbm, ⟨14, _⟩ => ⟨S4x8192x1, .f32⟩
  | .hbm, ⟨15, _⟩ => ⟨S4x8192x8192, .f32⟩
  | .hbm, ⟨16, _⟩ => ⟨S4x8192x8192, .f32⟩
  | .hbm, ⟨17, _⟩ => ⟨S4x1x8192, .f32⟩
  | .hbm, ⟨18, _⟩ => ⟨S4x8192x8192, .f32⟩
  | .hbm, ⟨19, _⟩ => ⟨S4x8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S4x8192x8192, .i1⟩
  | .hbm, ⟨28, _⟩ => ⟨S4x8192x8192, .f32⟩
  | .hbm, ⟨29, _⟩ => ⟨S4x8192x8192, .f32⟩
  | .hbm, ⟨30, _⟩ => ⟨S_, .f32⟩
  | .hbm, ⟨31, _⟩ => ⟨S4x8192x8192, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S4x8192x8192, .f32⟩
  | .hbm, ⟨36, _⟩ => ⟨S4x8192x8192, .i1⟩
  | .hbm, ⟨37, _⟩ => ⟨S4x8192x8192, .f32⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .i1⟩
  | .hbm, ⟨46, _⟩ => ⟨S_, .f32⟩
  | .hbm, ⟨47, _⟩ => ⟨S4x8192, .f32⟩
  | .hbm, ⟨48, _⟩ => ⟨S4x8192, .i1⟩
  | .hbm, ⟨49, _⟩ => ⟨S_, .f32⟩
  | .hbm, ⟨50, _⟩ => ⟨S4x8192, .f32⟩
  | .hbm, ⟨51, _⟩ => ⟨S_, .f32⟩
  | .hbm, ⟨52, _⟩ => ⟨S4x8192, .f32⟩
  | .hbm, ⟨53, _⟩ => ⟨S_, .f32⟩
  | .hbm, ⟨54, _⟩ => ⟨S4x8192, .f32⟩
  | .hbm, ⟨55, _⟩ => ⟨S4x8192, .f32⟩
  | .hbm, ⟨56, _⟩ => ⟨S4x8192, .f32⟩
  | .hbm, ⟨57, _⟩ => ⟨S4x8192x1, .f32⟩
  | .hbm, ⟨58, _⟩ => ⟨S4x8192x8192, .f32⟩
  | .hbm, ⟨59, _⟩ => ⟨S4x8192x8192, .f32⟩
  | .hbm, ⟨60, _⟩ => ⟨S4x8192x8192, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S4x8192x8192, .f32⟩
  | .hbm, ⟨65, _⟩ => ⟨S4x8192x8192, .f32⟩
  | .hbm, ⟨66, _⟩ => ⟨S4x8192x1, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S4x8192x64, .f32⟩
  | .hbm, ⟨71, _⟩ => ⟨S8192x4x64, .f32⟩
  | .hbm, ⟨72, _⟩ => ⟨S8192x256, .f32⟩
  | .hbm, ⟨73, _⟩ => ⟨S8192x4x64, .f32⟩
  | .hbm, ⟨74, _⟩ => ⟨S4x8192x64, .f32⟩
  | .hbm, ⟨75, _⟩ => ⟨S4x64x8192, .f32⟩
  | .hbm, ⟨76, _⟩ => ⟨S4x8192x64, .f32⟩
  | .hbm, ⟨77, _⟩ => ⟨S4x8192x8192, .f32⟩
  | .hbm, ⟨78, _⟩ => ⟨S4x8192x8192, .f32⟩
  | .hbm, ⟨79, _⟩ => ⟨S4x8192x8192, .f32⟩
  | .hbm, ⟨80, _⟩ => ⟨S4x8192x8192, .f32⟩
  | .hbm, ⟨81, _⟩ => ⟨S_, .f32⟩
  | .hbm, ⟨82, _⟩ => ⟨S4x8192, .f32⟩
  | .hbm, ⟨83, _⟩ => ⟨S4x8192x1, .f32⟩
  | .hbm, ⟨84, _⟩ => ⟨S4x8192x1, .f32⟩
  | .hbm, ⟨85, _⟩ => ⟨S4x8192x8192, .f32⟩
  | .hbm, ⟨86, _⟩ => ⟨S4x8192x8192, .f32⟩
  | .hbm, ⟨87, _⟩ => ⟨S_, .f32⟩
  | .hbm, ⟨88, _⟩ => ⟨S4x8192, .f32⟩
  | .hbm, ⟨89, _⟩ => ⟨S4x8192x8192, .f32⟩
  | .hbm, ⟨90, _⟩ => ⟨S4x8192x8192, .f32⟩
  | .hbm, ⟨91, _⟩ => ⟨S4x8192x8192, .f32⟩
  | .hbm, ⟨92, _⟩ => ⟨S_, .f32⟩
  | .hbm, ⟨93, _⟩ => ⟨S4x8192x8192, .f32⟩
  | .hbm, ⟨94, _⟩ => ⟨S4x8192x8192, .f32⟩
  | .hbm, ⟨95, _⟩ => ⟨S4x8192x8192, .f32⟩
  | .hbm, ⟨96, _⟩ => ⟨S_, .f32⟩
  | .hbm, ⟨97, _⟩ => ⟨S4x8192, .f32⟩
  | .hbm, ⟨98, _⟩ => ⟨S4x1x8192, .f32⟩
  | .hbm, ⟨99, _⟩ => ⟨S_, .f32⟩
  | .hbm, ⟨100, _⟩ => ⟨S4x8192, .f32⟩
  | .hbm, ⟨101, _⟩ => ⟨S_, .f32⟩
  | .hbm, ⟨102, _⟩ => ⟨S4x8192, .f32⟩
  | .hbm, ⟨103, _⟩ => ⟨S4x8192x1, .f32⟩
  | .hbm, ⟨104, _⟩ => ⟨S_, .f32⟩
  | .hbm, ⟨105, _⟩ => ⟨S4x8192, .f32⟩
  | .hbm, ⟨106, _⟩ => ⟨S4x8192, .f32⟩
  | .hbm, ⟨107, _⟩ => ⟨S4x8192x64, .f32⟩
  | .hbm, ⟨108, _⟩ => ⟨S4x8192x64, .f32⟩
  | .hbm, ⟨109, _⟩ => ⟨S8192x4, .f32⟩
  | .hbm, ⟨110, _⟩ => ⟨S8192x4x64, .f32⟩
  | .hbm, ⟨111, _⟩ => ⟨S8192x256, .f32⟩
  | .hbm, ⟨112, _⟩ => ⟨S8192x4x64, .f32⟩
  | .hbm, ⟨113, _⟩ => ⟨S8192x256, .f32⟩
  | .hbm, ⟨114, _⟩ => ⟨S8192x4x64, .f32⟩
  | .hbm, ⟨115, _⟩ => ⟨S8192x256, .f32⟩
  | .hbm, ⟨116, _⟩ => ⟨S_, .i32⟩
  | .hbm, ⟨117, _⟩ => ⟨S_, .f32⟩
  | .hbm, ⟨118, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_v20_1 : Ref sig .tc := ⟨.hbm, 27, rfl⟩
abbrev main_call0_v2 : Ref sig .tc := ⟨.hbm, 28, rfl⟩
abbrev main_v20_0 : Ref sig .tc := ⟨.hbm, 29, rfl⟩
abbrev main_call0_cst : Ref sig .tc := ⟨.hbm, 30, rfl⟩
abbrev main_v20_2 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call1_cst : Ref sig .tc := ⟨.hbm, 92, rfl⟩
abbrev main_call1_v0 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c : Ref sig .tc := ⟨.hbm, 116, rfl⟩
abbrev main_call2_v0 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== Kernel2.lean ====
abbrev S8192x128 : Shape := ⟨2, ![8192, 128]⟩
abbrev S1x128 : Shape := ⟨2, ![1, 128]⟩
abbrev S512x128 : Shape := ⟨2, ![512, 128]⟩
abbrev S8x128 : Shape := ⟨2, ![8, 128]⟩
abbrev S512x512 : Shape := ⟨2, ![512, 512]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S8192x128, .f32⟩
  | .hbm, ⟨4, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S8192x128 : Shape := ⟨2, ![8192, 128]⟩
abbrev S1x128 : Shape := ⟨2, ![1, 128]⟩
abbrev S_ : Shape := ⟨0, ![]⟩
abbrev S128 : Shape := ⟨1, ![128]⟩

abbrev nBuf : Space → Nat
  | .hbm => 65
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .i1⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .i1⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192x128, .f32⟩
  | .hbm, ⟨28, _⟩ => ⟨S8192x128, .i1⟩
  | .hbm, ⟨29, _⟩ => ⟨S_, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x128, .f32⟩
  | .hbm, ⟨42, _⟩ => ⟨S8192x128, .i1⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S_, .f32⟩
  | .hbm, ⟨55, _⟩ => ⟨S8192x128, .f32⟩
  | .hbm, ⟨56, _⟩ => ⟨S_, .f32⟩
  | .hbm, ⟨57, _⟩ => ⟨S_, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S128, .f32⟩
  | .hbm, ⟨64, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8x1024x512 : Shape := ⟨3, ![8, 1024, 512]⟩
abbrev S8x768x1024 : Shape := ⟨3, ![8, 768, 1024]⟩
abbrev S8192x4096 : Shape := ⟨2, ![8192, 4096]⟩
abbrev S512x1024 : Shape := ⟨2, ![512, 1024]⟩
abbrev S8x512x1024 : Shape := ⟨3, ![8, 512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .bf16⟩
  | .hbm, ⟨3, _⟩ => ⟨S8x768x1024, .bf16⟩
  | .hbm, ⟨4, _⟩ => ⟨S1x1024, .f32⟩
  | .hbm, ⟨5, _⟩ => ⟨S8192x4096, .bf16⟩
  | .hbm, ⟨6, _⟩ => ⟨S8192x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S1x1024, .f32⟩
  | .local _ .vmem, ⟨6, _⟩ => ⟨S512x4096, .bf16⟩
  | .local _ .vmem, ⟨7, _⟩ => ⟨S512x4096, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x1024 : Shape := ⟨2, ![8192, 1024]⟩
abbrev S1x1024 : Shape := ⟨2, ![1, 1024]⟩
abbrev S8x1024x512 : Shape := ⟨3, ![8, 1024, 512]⟩
abbrev S8x768x1024 : Shape := ⟨3, ![8, 768, 1024]⟩
abbrev S1024x8x512 : Shape := ⟨3, ![1024, 8, 512]⟩
abbrev S1024x4096 : Shape := ⟨2, ![1024, 4096]⟩
abbrev S8x512x1024 : Shape := ⟨3, ![8, 512, 1024]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .bf16⟩
  | .hbm, ⟨3, _⟩ => ⟨S8x768x1024, .bf16⟩
  | .hbm, ⟨4, _⟩ => ⟨S1x1024, .f32⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S8x512x1024, .bf16⟩
  | .hbm, ⟨9, _⟩ => ⟨S8x512x1024, .f32⟩
  | .hbm, ⟨10, _⟩ => ⟨S4096x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x1024, .f32⟩
  | .hbm, ⟨34, _⟩ => ⟨S8192x4096, .bf16⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8x1024x512 : Shape := ⟨3, ![8, 1024, 512]⟩
abbrev S1024x1024 : Shape := ⟨2, ![1024, 1024]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S8192x2304 : Shape := ⟨2, ![8192, 2304]⟩
abbrev S1024x2304 : Shape := ⟨2, ![1024, 2304]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1024x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S8192x1024, .f32⟩
  | .hbm, ⟨3, _⟩ => ⟨S8192x2304, .f32⟩
  | .hbm, ⟨4, _⟩ => ⟨S_, .f32⟩
  | .hbm, ⟨5, _⟩ => ⟨S1024x2304, .f32⟩
  | .hbm, ⟨6, _⟩ => ⟨S8192x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8x512x1024 : Shape := ⟨3, ![8, 512, 1024]⟩
abbrev S4x512x1024 : Shape := ⟨3, ![4, 512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S8x512x1024 : Shape := ⟨3, ![8, 512, 1024]⟩
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S8x512x1024, .f32⟩
  | .hbm, ⟨8, _⟩ => ⟨S_, .f32⟩
  | .hbm, ⟨9, _⟩ => ⟨S512x1024, .f32⟩
  | .hbm, ⟨10, _⟩ => ⟨S8x512x1024, .f32⟩
  | .hbm, ⟨11, _⟩ => ⟨S_, .f32⟩
  | .hbm, ⟨12, _⟩ => ⟨S512x1024, .f32⟩
  | .hbm, ⟨13, _⟩ => ⟨S8x512x1024, .f32⟩
  | .hbm, ⟨14, _⟩ => ⟨S_, .f32⟩
  | .hbm, ⟨15, _⟩ => ⟨S512x1024, .f32⟩
  | .hbm, ⟨16, _⟩ => ⟨S8x512x1024, .f32⟩
  | .hbm, ⟨17, _⟩ => ⟨S_, .f32⟩
  | .hbm, ⟨18, _⟩ => ⟨S512x1024, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S4x512x1024, .f32⟩
  | .hbm, ⟨24, _⟩ => ⟨S_, .f32⟩
  | .hbm, ⟨25, _⟩ => ⟨S4x512x1024, .f32⟩
  | .hbm, ⟨26, _⟩ => ⟨S4x512x1024, .f32⟩
  | .hbm, ⟨27, _⟩ => ⟨S_, .f32⟩
  | .hbm, ⟨28, _⟩ => ⟨S4x512x1024, .f32⟩
  | .hbm, ⟨29, _⟩ => ⟨S4x512x1024, .f32⟩
  | .hbm, ⟨30, _⟩ => ⟨S4x512x1024, .f32⟩
  | .hbm, ⟨31, _⟩ => ⟨S_, .f32⟩
  | .hbm, ⟨32, _⟩ => ⟨S4x512x1024, .f32⟩
  | .hbm, ⟨33, _⟩ => ⟨S4x512x1024, .f32⟩
  | .hbm, ⟨34, _⟩ => ⟨S4x512x1024, .f32⟩
  | .hbm, ⟨35, _⟩ => ⟨S_, .f32⟩
  | .hbm, ⟨36, _⟩ => ⟨S4x512x1024, .f32⟩
  | .hbm, ⟨37, _⟩ => ⟨S4x512x1024, .f32⟩
  | .hbm, ⟨38, _⟩ => ⟨S4x512x1024, .f32⟩
  | .hbm, ⟨39, _⟩ => ⟨S_, .f32⟩
  | .hbm, ⟨40, _⟩ => ⟨S4x512x1024, .f32⟩
  | .hbm, ⟨41, _⟩ => ⟨S4x512x1024, .f32⟩
  | .hbm, ⟨42, _⟩ => ⟨S_, .f32⟩
  | .hbm, ⟨43, _⟩ => ⟨S4x512x1024, .f32⟩
  | .hbm, ⟨44, _⟩ => ⟨S4x512x1024, .f32⟩
  | .hbm, ⟨45, _⟩ => ⟨S4x512x1024, .f32⟩
  | .hbm, ⟨46, _⟩ => ⟨S_, .f32⟩
  | .hbm, ⟨47, _⟩ => ⟨S4x512x1024, .f32⟩
  | .hbm, ⟨48, _⟩ => ⟨S4x512x1024, .f32⟩
  | .hbm, ⟨49, _⟩ => ⟨S4x512x1024, .f32⟩
  | .hbm, ⟨50, _⟩ => ⟨S_, .f32⟩
  | .hbm, ⟨51, _⟩ => ⟨S4x512x1024, .f32⟩
  | .hbm, ⟨52, _⟩ => ⟨S4x512x1024, .f32⟩
  | .hbm, ⟨53, _⟩ => ⟨S4x512x1024, .f32⟩
  | .hbm, ⟨54, _⟩ => ⟨S_, .f32⟩
  | .hbm, ⟨55, _⟩ => ⟨S4x512x1024, .f32⟩
  | .hbm, ⟨56, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel9.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S4x1024x512, .f32⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S_, .f32⟩
  | .hbm, ⟨32, _⟩ => ⟨S4x1024x512, .f32⟩
  | .hbm, ⟨33, _⟩ => ⟨S4x1024x512, .f32⟩
  | .hbm, ⟨34, _⟩ => ⟨S4x1024x512, .f32⟩
  | .hbm, ⟨35, _⟩ => ⟨S_, .f32⟩
  | .hbm, ⟨36, _⟩ => ⟨S4x1024x512, .f32⟩
  | .hbm, ⟨37, _⟩ => ⟨S4x1024x512, .f32⟩
  | .hbm, ⟨38, _⟩ => ⟨S4x1024x512, .f32⟩
  | .hbm, ⟨39, _⟩ => ⟨S_, .f32⟩
  | .hbm, ⟨40, _⟩ => ⟨S4x1024x512, .f32⟩
  | .hbm, ⟨41, _⟩ => ⟨S4x1024x512, .f32⟩
  | .hbm, ⟨42, _⟩ => ⟨S_, .f32⟩
  | .hbm, ⟨43, _⟩ => ⟨S4x1024x512, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | .hbm, ⟨53, _⟩ => ⟨S4x1024x512, .f32⟩
  | .hbm, ⟨54, _⟩ => ⟨S_, .f32⟩
  | .hbm, ⟨55, _⟩ => ⟨S4x1024x512, .f32⟩
  | .hbm, ⟨56, _⟩ => ⟨S4x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel10.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference10Ideal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S4x128x1024, .f32⟩
  | .hbm, ⟨24, _⟩ => ⟨S_, .f32⟩
  | .hbm, ⟨25, _⟩ => ⟨S4x128x1024, .f32⟩
  | .hbm, ⟨26, _⟩ => ⟨S4x128x1024, .f32⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S4x128x1024, .f32⟩
  | .hbm, ⟨31, _⟩ => ⟨S_, .f32⟩
  | .hbm, ⟨32, _⟩ => ⟨S4x128x1024, .f32⟩
  | .hbm, ⟨33, _⟩ => ⟨S4x128x1024, .f32⟩
  | .hbm, ⟨34, _⟩ => ⟨S4x128x1024, .f32⟩
  | .hbm, ⟨35, _⟩ => ⟨S_, .f32⟩
  | .hbm, ⟨36, _⟩ => ⟨S4x128x1024, .f32⟩
  | .hbm, ⟨37, _⟩ => ⟨S4x128x1024, .f32⟩
  | .hbm, ⟨38, _⟩ => ⟨S4x128x1024, .f32⟩
  | .hbm, ⟨39, _⟩ => ⟨S_, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S4x128x1024, .f32⟩
  | .hbm, ⟨46, _⟩ => ⟨S_, .f32⟩
  | .hbm, ⟨47, _⟩ => ⟨S4x128x1024, .f32⟩
  | .hbm, ⟨48, _⟩ => ⟨S4x128x1024, .f32⟩
  | .hbm, ⟨49, _⟩ => ⟨S4x128x1024, .f32⟩
  | .hbm, ⟨50, _⟩ => ⟨S_, .f32⟩
  | .hbm, ⟨51, _⟩ => ⟨S4x128x1024, .f32⟩
  | .hbm, ⟨52, _⟩ => ⟨S4x128x1024, .f32⟩
  | .hbm, ⟨53, _⟩ => ⟨S4x128x1024, .f32⟩
  | .hbm, ⟨54, _⟩ => ⟨S_, .f32⟩
  | .hbm, ⟨55, _⟩ => ⟨S4x128x1024, .f32⟩
  | .hbm, ⟨56, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel11.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference11Ideal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S4x128x1024, .f32⟩
  | .hbm, ⟨24, _⟩ => ⟨S_, .f32⟩
  | .hbm, ⟨25, _⟩ => ⟨S4x128x1024, .f32⟩
  | .hbm, ⟨26, _⟩ => ⟨S4x128x1024, .f32⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S4x128x1024, .f32⟩
  | .hbm, ⟨31, _⟩ => ⟨S_, .f32⟩
  | .hbm, ⟨32, _⟩ => ⟨S4x128x1024, .f32⟩
  | .hbm, ⟨33, _⟩ => ⟨S4x128x1024, .f32⟩
  | .hbm, ⟨34, _⟩ => ⟨S4x128x1024, .f32⟩
  | .hbm, ⟨35, _⟩ => ⟨S_, .f32⟩
  | .hbm, ⟨36, _⟩ => ⟨S4x128x1024, .f32⟩
  | .hbm, ⟨37, _⟩ => ⟨S4x128x1024, .f32⟩
  | .hbm, ⟨38, _⟩ => ⟨S4x128x1024, .f32⟩
  | .hbm, ⟨39, _⟩ => ⟨S_, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S4x128x1024, .f32⟩
  | .hbm, ⟨46, _⟩ => ⟨S_, .f32⟩
  | .hbm, ⟨47, _⟩ => ⟨S4x128x1024, .f32⟩
  | .hbm, ⟨48, _⟩ => ⟨S4x128x1024, .f32⟩
  | .hbm, ⟨49, _⟩ => ⟨S4x128x1024, .f32⟩
  | .hbm, ⟨50, _⟩ => ⟨S_, .f32⟩
  | .hbm, ⟨51, _⟩ => ⟨S4x128x1024, .f32⟩
  | .hbm, ⟨52, _⟩ => ⟨S4x128x1024, .f32⟩
  | .hbm, ⟨53, _⟩ => ⟨S4x128x1024, .f32⟩
  | .hbm, ⟨54, _⟩ => ⟨S_, .f32⟩
  | .hbm, ⟨55, _⟩ => ⟨S4x128x1024, .f32⟩
  | .hbm, ⟨56, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.AttnFirst.lean ====
module

public import proofs.«01_k».proof.Proof.Gen.KernelIdeal.Frame
public import proofs.«01_k».proof.Proof.Gen.KernelIdeal.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point, as the body tests it. -/
abbrev first (i : grid0.Coords) : Prop :=
  (Scalar.cmpi .ne (Scalar.extui (Scalar.cmpi .eq (BitVec.ofNat 32 (i 0).val) 0#32)) 0#32) = 1#1

set_option maxHeartbeats 4000000 in
/-- The body at the first grid point, on whole staging buffers: the inputs are kept, the array of query gradients
    is zeroed and written over, and the three block results are written. -/
@[irreducible] def runFirst (c : Dev nD) (i : grid0.Coords)
    (arg1 : Memref sig .tc .vmem S8192x256 .bf16) (harg1 : arg1.IsWhole) (arg2 : Memref sig .tc .vmem S8192x256
    .bf16) (harg2 : arg2.IsWhole) (arg3 : Memref sig .tc .vmem S512x256 .bf16) (harg3 : arg3.IsWhole) (arg4 :
    Memref sig .tc .vmem S512x256 .bf16) (harg4 : arg4.IsWhole) (arg5 : Memref sig .tc .vmem S512x128 .f32) (harg5
    : arg5.IsWhole) (arg6 : Memref sig .tc .vmem S8x8192 .f32) (harg6 : arg6.IsWhole) (arg7 : Memref sig .tc .vmem
    S8x8192 .f32) (harg7 : arg7.IsWhole) (arg8 : Memref sig .tc .vmem S8x8192 .f32) (harg8 : arg8.IsWhole) (arg9 :
    Memref sig .tc .vmem S8192x256 .f32) (harg9 : arg9.IsWhole) (arg10 : Memref sig .tc .vmem S512x256 .f32)
    (harg10 : arg10.IsWhole) (arg11 : Memref sig .tc .vmem S512x256 .f32) (harg11 : arg11.IsWhole) (arg12 : Memref
    sig .tc .vmem S512x128 .f32) (harg12 : arg12.IsWhole)
    (hc : first i)
    (x0 : Vec F S8192x256 .bf16) (x1 : Vec F S8192x256 .bf16) (x2 : Vec F S512x256 .bf16) (x3 : Vec F S512x256
    .bf16) (x4 : Vec F S512x128 .f32) (x5 : Vec F S8x8192 .f32) (x6 : Vec F S8x8192 .f32) (x7 : Vec F S8x8192
    .f32) (y8 : Vec F S8192x256 .f32) :
    Σ' (L8 : List (View.Piece (Elt F) S8192x256 .f32)), Σ' (L9 : List (View.Piece (Elt F) S512x256 .f32)),
    Σ' (L10 : List (View.Piece (Elt F) S512x256 .f32)), { L11 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ)
          arg3 fullShare x2 ∗ owns (c : Thread nD τ) arg4 fullShare x3 ∗ owns (c : Thread nD τ) arg5 fullShare x4 ∗ owns
          (c : Thread nD τ) arg6 fullShare x5 ∗ owns (c : Thread nD τ) arg7 fullShare x6 ∗ owns (c : Thread nD τ) arg8
          fullShare x7 ∗ owns (c : Thread nD τ) arg9 fullShare y8 ∗ (∃ d, owns (c : Thread nD τ) arg10 fullShare d) ∗ (∃
          d, owns (c : Thread nD τ) arg11 fullShare d) ∗ (∃ d, owns (c : Thread nD τ) arg12 fullShare d)
          ∗ (iprop(owns (c : Thread nD τ) arg1 fullShare x0 ∗ owns (c : Thread nD τ) arg2 fullShare x1 ∗ owns (c : Thread nD τ)
          arg3 fullShare x2 ∗ owns (c : Thread nD τ) arg4 fullShare x3 ∗ owns (c : Thread nD τ) arg5 fullShare x4 ∗ owns
          (c : Thread nD τ) arg6 fullShare x5 ∗ owns (c : Thread nD τ) arg7 fullShare x6 ∗ owns (c : Thread nD τ) arg8
          fullShare x7 ∗ (∃ f, (arg9.view.loc (c : Thread nD τ) ↦[arg9.view.set]{fullShare} arg9.view.writes (Elt F) f
          L8)) ∗ (∃ f, arg10.view.loc (c : Thread nD τ) ↦[arg10.view.set]{fullShare} arg10.view.writes (Elt F) f L9) ∗
          (∃ f, arg11.view.loc (c : Thread nD τ) ↦[arg11.view.set]{fullShare} arg11.view.writes (Elt F) f L10) ∗ (∃ f,
          arg12.view.loc (c : Thread nD τ) ↦[arg12.view.set]{fullShare} arg12.view.writes (Elt F) f L11)) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10
              harg10 arg11 harg11 arg12 harg12) K } := by
  refine ⟨?_, ?_, ?_, ?_, fun E K => ?run⟩
  case run =>
    simp only [cc0_attn_bwd_eq_skeleton]; unfold cc0_attn_bwd_skel
    simp only [k0_part9_eq_skeleton, k0_part10_eq_skeleton, k0_part11_eq_skeleton, k0_part12_eq_skeleton,
      k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact H11

end Cert.KernelIdeal.Attn

end
-- ==== Proof.AttnLater.lean ====
module

public import proofs.«01_k».proof.Proof.AttnFirst

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any later grid point: as `runFirst`, with the query gradients found at `y8` added to. -/
@[irreducible] def runLater (c : Dev nD) (i : grid0.Coords)
    (arg1 : Memref sig .tc .vmem S8192x256 .bf16) (harg1 : arg1.IsWhole) (arg2 : Memref sig .tc .vmem S8192x256
    .bf16) (harg2 : arg2.IsWhole) (arg3 : Memref sig .tc .vmem S512x256 .bf16) (harg3 : arg3.IsWhole) (arg4 :
    Memref sig .tc .vmem S512x256 .bf16) (harg4 : arg4.IsWhole) (arg5 : Memref sig .tc .vmem S512x128 .f32) (harg5
    : arg5.IsWhole) (arg6 : Memref sig .tc .vmem S8x8192 .f32) (harg6 : arg6.IsWhole) (arg7 : Memref sig .tc .vmem
    S8x8192 .f32) (harg7 : arg7.IsWhole) (arg8 : Memref sig .tc .vmem S8x8192 .f32) (harg8 : arg8.IsWhole) (arg9 :
    Memref sig .tc .vmem S8192x256 .f32) (harg9 : arg9.IsWhole) (arg10 : Memref sig .tc .vmem S512x256 .f32)
    (harg10 : arg10.IsWhole) (arg11 : Memref sig .tc .vmem S512x256 .f32) (harg11 : arg11.IsWhole) (arg12 : Memref
    sig .tc .vmem S512x128 .f32) (harg12 : arg12.IsWhole)
    (hc : ¬ first i)
    (x0 : Vec F S8192x256 .bf16) (x1 : Vec F S8192x256 .bf16) (x2 : Vec F S512x256 .bf16) (x3 : Vec F S512x256
    .bf16) (x4 : Vec F S512x128 .f32) (x5 : Vec F S8x8192 .f32) (x6 : Vec F S8x8192 .f32) (x7 : Vec F S8x8192
    .f32) (y8 : Vec F S8192x256 .f32) :
    Σ' (L8 : List (View.Piece (Elt F) S8192x256 .f32)), Σ' (L9 : List (View.Piece (Elt F) S512x256 .f32)),
    Σ' (L10 : List (View.Piece (Elt F) S512x256 .f32)), { L11 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ)
          arg3 fullShare x2 ∗ owns (c : Thread nD τ) arg4 fullShare x3 ∗ owns (c : Thread nD τ) arg5 fullShare x4 ∗ owns
          (c : Thread nD τ) arg6 fullShare x5 ∗ owns (c : Thread nD τ) arg7 fullShare x6 ∗ owns (c : Thread nD τ) arg8
          fullShare x7 ∗ owns (c : Thread nD τ) arg9 fullShare y8 ∗ (∃ d, owns (c : Thread nD τ) arg10 fullShare d) ∗ (∃
          d, owns (c : Thread nD τ) arg11 fullShare d) ∗ (∃ d, owns (c : Thread nD τ) arg12 fullShare d)
          ∗ (iprop(owns (c : Thread nD τ) arg1 fullShare x0 ∗ owns (c : Thread nD τ) arg2 fullShare x1 ∗ owns (c : Thread nD τ)
          arg3 fullShare x2 ∗ owns (c : Thread nD τ) arg4 fullShare x3 ∗ owns (c : Thread nD τ) arg5 fullShare x4 ∗ owns
          (c : Thread nD τ) arg6 fullShare x5 ∗ owns (c : Thread nD τ) arg7 fullShare x6 ∗ owns (c : Thread nD τ) arg8
          fullShare x7 ∗ (arg9.view.loc (c : Thread nD τ) ↦[arg9.view.set]{fullShare} arg9.view.writes (Elt F)
          (harg9.unread y8) L8) ∗ (∃ f, arg10.view.loc (c : Thread nD τ) ↦[arg10.view.set]{fullShare} arg10.view.writes
          (Elt F) f L9) ∗ (∃ f, arg11.view.loc (c : Thread nD τ) ↦[arg11.view.set]{fullShare} arg11.view.writes (Elt F)
          f L10) ∗ (∃ f, arg12.view.loc (c : Thread nD τ) ↦[arg12.view.set]{fullShare} arg12.view.writes (Elt F) f L11)) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10
              harg10 arg11 harg11 arg12 harg12) K } := by
  refine ⟨?_, ?_, ?_, ?_, fun E K => ?run⟩
  case run =>
    simp only [cc0_attn_bwd_eq_skeleton]; unfold cc0_attn_bwd_skel
    simp only [k0_part9_eq_skeleton, k0_part10_eq_skeleton, k0_part11_eq_skeleton, k0_part12_eq_skeleton,
      k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexact H8
    isplitl [H9]; · iexists _; iexact H9
    isplitl [H10]; · iexists _; iexact H10
    iexists _; iexact H11

end Cert.KernelIdeal.Attn

end
-- ==== Proof.AttnFrame.lean ====
module

public import proofs.«01_k».proof.Proof.AttnFirst
public import proofs.«01_k».proof.Proof.AttnLater
public import proofs.«01_k».proof.Proof.Gen.KernelIdeal.Points
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test holds at the first of the sixteen points only. -/
theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

/-- Window 0's staging buffer at a point. -/
abbrev ms0 (t : Fin cfg0.N) : Memref sig .tc .vmem S8192x256 .bf16 := win0_0.stage (cfg0.slots t 0)
theorem hs0 (t : Fin cfg0.N) : (ms0 t).IsWhole := hstage0_0 ((cfg0.slots t 0).cast nbuf0_0)
/-- Window 1's staging buffer at a point. -/
abbrev ms1 (t : Fin cfg0.N) : Memref sig .tc .vmem S8192x256 .bf16 := win0_1.stage (cfg0.slots t 1)
theorem hs1 (t : Fin cfg0.N) : (ms1 t).IsWhole := hstage0_1 ((cfg0.slots t 1).cast nbuf0_1)
/-- Window 2's staging buffer at a point. -/
abbrev ms2 (t : Fin cfg0.N) : Memref sig .tc .vmem S512x256 .bf16 := win0_2.stage (cfg0.slots t 2)
theorem hs2 (t : Fin cfg0.N) : (ms2 t).IsWhole := hstage0_2 ((cfg0.slots t 2).cast nbuf0_2)
/-- Window 3's staging buffer at a point. -/
abbrev ms3 (t : Fin cfg0.N) : Memref sig .tc .vmem S512x256 .bf16 := win0_3.stage (cfg0.slots t 3)
theorem hs3 (t : Fin cfg0.N) : (ms3 t).IsWhole := hstage0_3 ((cfg0.slots t 3).cast nbuf0_3)
/-- Window 4's staging buffer at a point. -/
abbrev ms4 (t : Fin cfg0.N) : Memref sig .tc .vmem S512x128 .f32 := win0_4.stage (cfg0.slots t 4)
theorem hs4 (t : Fin cfg0.N) : (ms4 t).IsWhole := hstage0_4 ((cfg0.slots t 4).cast nbuf0_4)
/-- Window 5's staging buffer at a point. -/
abbrev ms5 (t : Fin cfg0.N) : Memref sig .tc .vmem S8x8192 .f32 := win0_5.stage (cfg0.slots t 5)
theorem hs5 (t : Fin cfg0.N) : (ms5 t).IsWhole := hstage0_5 ((cfg0.slots t 5).cast nbuf0_5)
/-- Window 6's staging buffer at a point. -/
abbrev ms6 (t : Fin cfg0.N) : Memref sig .tc .vmem S8x8192 .f32 := win0_6.stage (cfg0.slots t 6)
theorem hs6 (t : Fin cfg0.N) : (ms6 t).IsWhole := hstage0_6 ((cfg0.slots t 6).cast nbuf0_6)
/-- Window 7's staging buffer at a point. -/
abbrev ms7 (t : Fin cfg0.N) : Memref sig .tc .vmem S8x8192 .f32 := win0_7.stage (cfg0.slots t 7)
theorem hs7 (t : Fin cfg0.N) : (ms7 t).IsWhole := hstage0_7 ((cfg0.slots t 7).cast nbuf0_7)
/-- Window 8's staging buffer at a point. -/
abbrev ms8 (t : Fin cfg0.N) : Memref sig .tc .vmem S8192x256 .f32 := win0_8.stage (cfg0.slots t 8)
theorem hs8 (t : Fin cfg0.N) : (ms8 t).IsWhole := hstage0_8 ((cfg0.slots t 8).cast nbuf0_8)
/-- Window 9's staging buffer at a point. -/
abbrev ms9 (t : Fin cfg0.N) : Memref sig .tc .vmem S512x256 .f32 := win0_9.stage (cfg0.slots t 9)
theorem hs9 (t : Fin cfg0.N) : (ms9 t).IsWhole := hstage0_9 ((cfg0.slots t 9).cast nbuf0_9)
/-- Window 10's staging buffer at a point. -/
abbrev ms10 (t : Fin cfg0.N) : Memref sig .tc .vmem S512x256 .f32 := win0_10.stage (cfg0.slots t 10)
theorem hs10 (t : Fin cfg0.N) : (ms10 t).IsWhole := hstage0_10 ((cfg0.slots t 10).cast nbuf0_10)
/-- Window 11's staging buffer at a point. -/
abbrev ms11 (t : Fin cfg0.N) : Memref sig .tc .vmem S512x128 .f32 := win0_11.stage (cfg0.slots t 11)
theorem hs11 (t : Fin cfg0.N) : (ms11 t).IsWhole := hstage0_11 ((cfg0.slots t 11).cast nbuf0_11)

/-- The body's run at the first point. -/
abbrev at0 (c : Dev nD) (t : Fin cfg0.N) (h : t.val = 0) (y8 : Vec F S8192x256 .f32) :=
  runFirst (F := F) c (grid0.coords t) (ms0 t) (hs0 t) (ms1 t) (hs1 t) (ms2 t) (hs2 t) (ms3 t) (hs3 t) (ms4 t) (hs4 t) (ms5 t) (hs5 t) (ms6 t) (hs6
    t) (ms7 t) (hs7 t) (ms8 t) (hs8 t) (ms9 t) (hs9 t) (ms10 t) (hs10 t) (ms11 t) (hs11 t)
    ((first_iff t).mpr h) (iblk m c 0 t) (iblk m c 1 t) (iblk m c 2 t) (iblk m c 3 t) (iblk m c 4 t) (iblk m c 5 t) (iblk m c 6 t) (iblk
    m c 7 t) y8

/-- The body's run at a later point, the query gradients found at `y8`. -/
abbrev atN (c : Dev nD) (t : Fin cfg0.N) (h : t.val ≠ 0) (y8 : Vec F S8192x256 .f32) :=
  runLater (F := F) c (grid0.coords t) (ms0 t) (hs0 t) (ms1 t) (hs1 t) (ms2 t) (hs2 t) (ms3 t) (hs3 t) (ms4 t) (hs4 t) (ms5 t) (hs5 t) (ms6 t) (hs6
    t) (ms7 t) (hs7 t) (ms8 t) (hs8 t) (ms9 t) (hs9 t) (ms10 t) (hs10 t) (ms11 t) (hs11 t)
    (fun k => h ((first_iff t).mp k)) (iblk m c 0 t) (iblk m c 1 t) (iblk m c 2 t) (iblk m c 3 t) (iblk m c 4 t) (iblk m c 5 t) (iblk m c 6 t) (iblk
    m c 7 t) y8

set_option maxHeartbeats 4000000 in
/-- What the first point writes does not depend on what it finds in the array of query gradients. -/
theorem at0_indep (c : Dev nD) (t : Fin cfg0.N) (h : t.val = 0) (y y' : Vec F S8192x256 .f32) :
    (at0 m c t h y).1 = (at0 m c t h y').1 ∧ (at0 m c t h y).2.1 = (at0 m c t h y').2.1
    ∧ (at0 m c t h y).2.2.1 = (at0 m c t h y').2.2.1 ∧ (at0 m c t h y).2.2.2.val = (at0 m c t h y').2.2.2.val := by
  unfold at0 runFirst; exact ⟨rfl, rfl, rfl, rfl⟩

theorem full8 (y : S8192x256.Idx) : y ∈ (Rect.unit (s := S8192x256) ![0, 0] S8192x256.size inb_S8192x256_S8192x256_0_0).set := by
  rw [Rect.mem_set_unit]
  intro a
  have := (y a).isLt
  revert this
  refine Fin.cases ?_ (fun a => Fin.cases ?_ (fun a => a.elim0) a) a <;> simp

theorem zeroed : (⟨Rect.unit (s := S8192x256) ![0, 0] S8192x256.size inb_S8192x256_S8192x256_0_0, k0_pay84 (F := F)⟩ : View.Piece (Elt F) S8192x256 .f32)
    ∈ runFirst.sl.H8_1 (F := F) := List.mem_singleton_self _

set_option maxHeartbeats 4000000 in
/-- The first point writes the whole array of query gradients. -/
theorem cover8 (c : Dev nD) (t : Fin cfg0.N) (h : t.val = 0) (y8 : Vec F S8192x256 .f32) (y : S8192x256.Idx) :
    ∃ pc ∈ (at0 m c t h y8).1, y ∈ pc.1.set := by
  unfold at0 runFirst
  dsimp only
  exact ⟨_, List.mem_append_right _ (List.mem_append_right _ (List.mem_cons_of_mem _ (List.mem_append_right _ (List.mem_append_right _ (List.mem_cons_of_mem _ zeroed))))), full8 y⟩

theorem cover9_at0 (c : Dev nD) (t : Fin cfg0.N) (h : t.val = 0) (y8 : Vec F S8192x256 .f32) (y : S512x256.Idx) :
    ∃ pc ∈ (at0 m c t h y8).2.1, y ∈ pc.1.set :=
  View.cover_of_tiledL (at0 m c t h y8).2.1 S512x128.size (by unfold at0 runFirst; sl_kernel_rfl) y

theorem cover9_atN (c : Dev nD) (t : Fin cfg0.N) (h : t.val ≠ 0) (y8 : Vec F S8192x256 .f32) (y : S512x256.Idx) :
    ∃ pc ∈ (atN m c t h y8).2.1, y ∈ pc.1.set :=
  View.cover_of_tiledL (atN m c t h y8).2.1 S512x128.size (by unfold atN runLater; sl_kernel_rfl) y

theorem cover10_at0 (c : Dev nD) (t : Fin cfg0.N) (h : t.val = 0) (y8 : Vec F S8192x256 .f32) (y : S512x256.Idx) :
    ∃ pc ∈ (at0 m c t h y8).2.2.1, y ∈ pc.1.set :=
  View.cover_of_tiledL (at0 m c t h y8).2.2.1 S512x128.size (by unfold at0 runFirst; sl_kernel_rfl) y

theorem cover10_atN (c : Dev nD) (t : Fin cfg0.N) (h : t.val ≠ 0) (y8 : Vec F S8192x256 .f32) (y : S512x256.Idx) :
    ∃ pc ∈ (atN m c t h y8).2.2.1, y ∈ pc.1.set :=
  View.cover_of_tiledL (atN m c t h y8).2.2.1 S512x128.size (by unfold atN runLater; sl_kernel_rfl) y

theorem cover11_at0 (c : Dev nD) (t : Fin cfg0.N) (h : t.val = 0) (y8 : Vec F S8192x256 .f32) (y : S512x128.Idx) :
    ∃ pc ∈ (at0 m c t h y8).2.2.2.val, y ∈ pc.1.set :=
  View.cover_of_tiledL (at0 m c t h y8).2.2.2.val S512x128.size (by unfold at0 runFirst; sl_kernel_rfl) y

theorem cover11_atN (c : Dev nD) (t : Fin cfg0.N) (h : t.val ≠ 0) (y8 : Vec F S8192x256 .f32) (y : S512x128.Idx) :
    ∃ pc ∈ (atN m c t h y8).2.2.2.val, y ∈ pc.1.set :=
  View.cover_of_tiledL (atN m c t h y8).2.2.2.val S512x128.size (by unfold atN runLater; sl_kernel_rfl) y

/-- One staging buffer of window 8, through which its contents are stated. -/
abbrev VO8 : View sig .tc .vmem S8192x256 .f32 := (Memref.whole cc0_stg8_0 : Memref sig .tc .vmem S8192x256 .f32).view
/-- One staging buffer of window 9, through which its contents are stated. -/
abbrev VO9 : View sig .tc .vmem S512x256 .f32 := (Memref.whole cc0_stg9_0 : Memref sig .tc .vmem S512x256 .f32).view
/-- One staging buffer of window 10, through which its contents are stated. -/
abbrev VO10 : View sig .tc .vmem S512x256 .f32 := (Memref.whole cc0_stg10_0 : Memref sig .tc .vmem S512x256 .f32).view
/-- One staging buffer of window 11, through which its contents are stated. -/
abbrev VO11 : View sig .tc .vmem S512x128 .f32 := (Memref.whole cc0_stg11_0 : Memref sig .tc .vmem S512x128 .f32).view

/-- Contents nothing reads. -/
abbrev any8 : Vec F S8192x256 .f32 := VO8.read (Elt F) VO8.junk

/-- The four results after the first point. -/
def out0 (c : Dev nD) (t : Fin cfg0.N) (h : t.val = 0) : Vec F S8192x256 .f32 × Vec F S512x256 .f32 × Vec F S512x256 .f32 × Vec F S512x128 .f32 :=
  (VO8.read (Elt F) (VO8.writes (Elt F) VO8.junk (at0 m c t h any8).1),
   VO9.read (Elt F) (VO9.writes (Elt F) VO9.junk (at0 m c t h any8).2.1),
   VO10.read (Elt F) (VO10.writes (Elt F) VO10.junk (at0 m c t h any8).2.2.1),
   VO11.read (Elt F) (VO11.writes (Elt F) VO11.junk (at0 m c t h any8).2.2.2.val))

/-- The four results after a later point, the query gradients at `y8` before it. -/
def outN (c : Dev nD) (t : Fin cfg0.N) (h : t.val ≠ 0) (y8 : Vec F S8192x256 .f32) : Vec F S8192x256 .f32 × Vec F S512x256 .f32 × Vec F S512x256 .f32 × Vec F S512x128 .f32 :=
  ((ms8 t).view.read (Elt F) ((ms8 t).view.writes (Elt F) ((hs8 t).unread y8) (atN m c t h y8).1),
   VO9.read (Elt F) (VO9.writes (Elt F) VO9.junk (atN m c t h y8).2.1),
   VO10.read (Elt F) (VO10.writes (Elt F) VO10.junk (atN m c t h y8).2.2.1),
   VO11.read (Elt F) (VO11.writes (Elt F) VO11.junk (atN m c t h y8).2.2.2.val))

/-- The four results after the point at position `n`. -/
def outs (c : Dev nD) : (n : ℕ) → n < cfg0.N → Vec F S8192x256 .f32 × Vec F S512x256 .f32 × Vec F S512x256 .f32 × Vec F S512x128 .f32
  | 0, hn => out0 m c ⟨0, hn⟩ rfl
  | n + 1, hn => outN m c ⟨n + 1, hn⟩ (Nat.succ_ne_zero n) (outs c n (Nat.lt_of_succ_lt hn)).1

theorem outs_first (c : Dev nD) (t : Fin cfg0.N) (h : t.val = 0) : outs m c t.val t.isLt = out0 m c t h := by
  obtain ⟨n, hn⟩ := t
  cases n with
  | zero => rfl
  | succ n => exact absurd h (Nat.succ_ne_zero n)

theorem outs_later (c : Dev nD) (t : Fin cfg0.N) (h : t.val ≠ 0) :
    outs m c t.val t.isLt = outN m c t h (outs m c (t.val - 1) (Nat.lt_of_le_of_lt (Nat.sub_le _ _) t.isLt)).1 := by
  obtain ⟨n, hn⟩ := t
  cases n with
  | zero => exact absurd rfl h
  | succ n => rfl

/-- The pipeline's proof data: inputs kept, the results as `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outs m c t.val t.isLt).1 := by dsimp only [dats]
theorem after9 (c : Dev nD) (t : Fin cfg0.N) : (dats m 0 c).after 9 t = (outs m c t.val t.isLt).2.1 := by dsimp only [dats]
theorem after10 (c : Dev nD) (t : Fin cfg0.N) : (dats m 0 c).after 10 t = (outs m c t.val t.isLt).2.2.1 := by dsimp only [dats]
theorem after11 (c : Dev nD) (t : Fin cfg0.N) : (dats m 0 c).after 11 t = (outs m c t.val t.isLt).2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- At a later point the array of query gradients is found as the point before left it. -/
theorem before8_later (c : Dev nD) (t : Fin cfg0.N) (h0 : t.val ≠ 0) (d) :
    (dats m 0 c).before 8 t d = (outs m c (t.val - 1) (Nat.lt_of_le_of_lt (Nat.sub_le _ _) t.isLt)).1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    show (dats m 0 c).Φ t.succ = (dats m 0 c).Φ t.castSucc from rfl,
    after0, after1, after2, after3, after4, after5, after6, after7, after8, after9, after10, after11]
  by_cases hz : t.val = 0
  · rw [outs_first m c t hz]
    unfold out0; dsimp only
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hi := at0_indep m c t hz ((dats m 0 c).before 8 t d8) any8
    iapply ((at0 m c t hz ((dats m 0 c).before 8 t d8)).2.2.2.property Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, ⟨%e8, H8⟩, ⟨%e9, H9⟩, ⟨%e10, H10⟩, ⟨%e11, H11⟩⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact (congrArg (fun L => (ms8 t).view.read (Elt F) ((ms8 t).view.writes (Elt F) e8 L)) hi.1).trans (View.read_writes_of_cover _ _ _ _ _ (cover8 m c t hz _))
    isplitl [H9]
    · unfold owns; iexists _; isplitr
      swap; · iexact H9
      ipureintro; exact (congrArg (fun L => (ms9 t).view.read (Elt F) ((ms9 t).view.writes (Elt F) e9 L)) hi.2.1).trans (View.read_writes_of_cover _ _ _ _ _ (cover9_at0 m c t hz _))
    isplitl [H10]
    · unfold owns; iexists _; isplitr
      swap; · iexact H10
      ipureintro; exact (congrArg (fun L => (ms10 t).view.read (Elt F) ((ms10 t).view.writes (Elt F) e10 L)) hi.2.2.1).trans (View.read_writes_of_cover _ _ _ _ _ (cover10_at0 m c t hz _))
    unfold owns; iexists _; isplitr
    swap; · iexact H11
    ipureintro; exact (congrArg (fun L => (ms11 t).view.read (Elt F) ((ms11 t).view.writes (Elt F) e11 L)) hi.2.2.2).trans (View.read_writes_of_cover _ _ _ _ _ (cover11_at0 m c t hz _))
  · rw [outs_later m c t hz]
    simp only [before8_later m c t hz]
    unfold outN; dsimp only
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atN m c t hz _).2.2.2.property Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rfl
    isplitl [H9]
    · unfold owns; iexists _; isplitr
      swap; · iexact H9
      ipureintro; exact View.read_writes_of_cover _ _ _ _ _ (cover9_atN m c t hz _)
    isplitl [H10]
    · unfold owns; iexists _; isplitr
      swap; · iexact H10
      ipureintro; exact View.read_writes_of_cover _ _ _ _ _ (cover10_atN m c t hz _)
    unfold owns; iexists _; isplitr
    swap; · iexact H11
    ipureintro; exact View.read_writes_of_cover _ _ _ _ _ (cover11_atN m c t hz _)

theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data says, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Idealize.SL.BI.Entails.refl _) (hout := fun c => Idealize.SL.BI.Entails.refl _)

theorem run : θ_run defs (onTc (τ := τ) (main (F := F))) (s₀ m ρ) (Pipeline.FramePost cfgs (dats m) 0 (V m)) :=
  (θ_run defs _ _).mono (fun _ h => h.1) (run_quiescent m ρ)

/-- The arguments end unchanged, every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.Attn

end
-- ==== Proof.AttnPure.lean ====
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

/-! ## What one key block computes, over the extended reals

A key block holds 512 keys of four heads of 64 lanes; the body works on two groups of 128 lanes, two heads each. -/

/-- Lane `l` of group `g`. -/
def gl (g : Fin 2) (l : Fin 128) : Fin 256 := ⟨128 * g.val + l.val, by omega⟩
/-- Head `s` of group `g`. -/
def hh (g s : Fin 2) : Fin 4 := ⟨2 * g.val + s.val, by omega⟩
/-- The head a lane belongs to. -/
def hd (L : Fin 256) : Fin 4 := ⟨L.val / 64, by omega⟩
/-- Lane `d` of head `h`. -/
def lane (h : Fin 4) (d : Fin 64) : Fin 256 := ⟨64 * h.val + d.val, by omega⟩
/-- Row `b` of block `I`. -/
def row (I : Fin 16) (b : Fin 512) : Fin 8192 := ⟨512 * I.val + b.val, by omega⟩
/-- A head, as a row of the arrays kept by head. -/
def r8 (h : Fin 4) : Fin 8 := ⟨h.val, by omega⟩
/-- A head, as a lane of the arrays kept by position. -/
def c128 (h : Fin 4) : Fin 128 := ⟨h.val, by omega⟩

section Body

variable (x0 x1 : FVec Ideal S8192x256 .bf16) (x2 x3 : FVec Ideal S512x256 .bf16)
variable (x4 : FVec Ideal S512x128 .f32) (x5 x6 x7 : FVec Ideal S8x8192 .f32)

/-- The probability of query `B` at key `a` of the block, for head `h`, not masked. -/
def kP (h : Fin 4) (a : Fin 512) (B : Fin 8192) : EReal :=
  Ideal.exp (∑ d : Fin 64, x2 (ix2 a (lane h d)) * x0 (ix2 B (lane h d))
    + (x5 (ix2 (r8 h) B) - x4 (ix2 a (c128 h))) - x6 (ix2 (r8 h) B))

/-- The probability's own gradient: the value row of the key against the output gradient of the query. -/
def kD (h : Fin 4) (a : Fin 512) (B : Fin 8192) : EReal :=
  ∑ d : Fin 64, x3 (ix2 a (lane h d)) * x1 (ix2 B (lane h d))

/-- The gradient of the logit. -/
def kS (h : Fin 4) (a : Fin 512) (B : Fin 8192) : EReal :=
  kP x0 x2 x4 x5 x6 h a B * (kD x1 x3 h a B - x7 (ix2 (r8 h) B))

/-- What the body takes of its key block for group `g`: values, the keys of either head, the gate sums of either head. -/
structure Grp (g : Fin 2) (v17 v21 v25 : FVec Ideal S512x128 .bf16) (v31 v37 : FVec Ideal S512x1 .f32) : Prop where
  h17 : ∀ (a : Fin 512) (l : Fin 128), v17 (ix2 a l) = x3 (ix2 a (gl g l))
  h21 : ∀ (a : Fin 512) (l : Fin 128), v21 (ix2 a l) = if l.val < 64 then x2 (ix2 a (gl g l)) else 0
  h25 : ∀ (a : Fin 512) (l : Fin 128), v25 (ix2 a l) = if l.val < 64 then 0 else x2 (ix2 a (gl g l))
  h31 : ∀ a : Fin 512, v31 (ix2 a 0) = x4 (ix2 a (c128 (hh g 0)))
  h37 : ∀ a : Fin 512, v37 (ix2 a 0) = x4 (ix2 a (c128 (hh g 1)))

/-- What the body reads of query block `I` for group `g`. -/
structure Blk (g : Fin 2) (I : Fin 16) (Q O : FVec Ideal S512x128 .bf16) (C0 L0 D0 C1 L1 D1 : FVec Ideal S1x512 .f32) : Prop where
  hQ : ∀ (b : Fin 512) (l : Fin 128), Q (ix2 b l) = x0 (ix2 (row I b) (gl g l))
  hO : ∀ (b : Fin 512) (l : Fin 128), O (ix2 b l) = x1 (ix2 (row I b) (gl g l))
  hC0 : ∀ b : Fin 512, C0 (ix2 0 b) = x5 (ix2 (r8 (hh g 0)) (row I b))
  hL0 : ∀ b : Fin 512, L0 (ix2 0 b) = x6 (ix2 (r8 (hh g 0)) (row I b))
  hD0 : ∀ b : Fin 512, D0 (ix2 0 b) = x7 (ix2 (r8 (hh g 0)) (row I b))
  hC1 : ∀ b : Fin 512, C1 (ix2 0 b) = x5 (ix2 (r8 (hh g 1)) (row I b))
  hL1 : ∀ b : Fin 512, L1 (ix2 0 b) = x6 (ix2 (r8 (hh g 1)) (row I b))
  hD1 : ∀ b : Fin 512, D1 (ix2 0 b) = x7 (ix2 (r8 (hh g 1)) (row I b))

/-- The lanes of the first head of a group. -/
theorem mask0 (a : Fin 512) (l : Fin 128) : k0_pay85 (ix2 a l) = if l.val < 64 then 1#1 else 0#1 := by
  unfold_payloads
  pointwise
  revert l; decide +kernel

/-- The lanes of the second head of a group. -/
theorem mask1 (a : Fin 512) (l : Fin 128) : k0_pay86 (ix2 a l) = if l.val < 64 then 0#1 else 1#1 := by
  unfold_payloads
  pointwise
  revert l; decide +kernel

/-- A sum over the lanes of a group, taken over the first head alone. -/
theorem sum_head0 (g : Fin 2) (f : Fin 128 → EReal) (k : Fin 256 → EReal) (h : ∀ l, f l = if l.val < 64 then k (gl g l) else 0) :
    ∑ l, f l = ∑ d : Fin 64, k (lane (hh g 0) d) := by
  have := Fin.sum_univ_add (a := 64) (b := 64) f
  rw [this]
  have h2 : ∑ d : Fin 64, f (Fin.natAdd 64 d) = 0 := Finset.sum_eq_zero fun d _ => by
    rw [h, if_neg]; simp [Fin.natAdd]
  rw [h2, add_zero]
  refine Finset.sum_congr rfl fun d _ => ?_
  rw [h, if_pos (by simp)]
  congr 1
  apply Fin.ext; simp [gl, lane, hh]; omega

/-- A sum over the lanes of a group, taken over the second head alone. -/
theorem sum_head1 (g : Fin 2) (f : Fin 128 → EReal) (k : Fin 256 → EReal) (h : ∀ l, f l = if l.val < 64 then 0 else k (gl g l)) :
    ∑ l, f l = ∑ d : Fin 64, k (lane (hh g 1) d) := by
  have := Fin.sum_univ_add (a := 64) (b := 64) f
  rw [this]
  have h2 : ∑ d : Fin 64, f (Fin.castAdd 64 d) = 0 := Finset.sum_eq_zero fun d _ => by
    rw [h, if_pos]; simp
  rw [h2, zero_add]
  refine Finset.sum_congr rfl fun d _ => ?_
  rw [h, if_neg (by simp [Fin.natAdd])]
  congr 1
  apply Fin.ext; simp [gl, lane, hh]; omega

variable {x0 x1 x2 x3 x4 x5 x6 x7}
variable {g : Fin 2} {I : Fin 16} {v17 v21 v25 Q O : FVec Ideal S512x128 .bf16} {v31 v37 : FVec Ideal S512x1 .f32}
variable {C0 L0 D0 C1 L1 D1 : FVec Ideal S1x512 .f32}

theorem st0 (G : Grp x2 x3 x4 g v17 v21 v25 v31 v37) (H : Blk x0 x1 x5 x6 x7 g I Q O C0 L0 D0 C1 L1 D1) (a b : Fin 512) :
    (∑ x : Fin 128, v21 (ix2 a x) * Q (ix2 b x)) = ∑ d : Fin 64, x2 (ix2 a (lane (hh g 0) d)) * x0 (ix2 (row I b) (lane (hh g 0) d)) :=
  sum_head0 g _ (fun L => x2 (ix2 a L) * x0 (ix2 (row I b) L)) fun l => by
    rw [G.h21, H.hQ]; split_ifs <;> simp

theorem st1 (G : Grp x2 x3 x4 g v17 v21 v25 v31 v37) (H : Blk x0 x1 x5 x6 x7 g I Q O C0 L0 D0 C1 L1 D1) (a b : Fin 512) :
    (∑ x : Fin 128, v25 (ix2 a x) * Q (ix2 b x)) = ∑ d : Fin 64, x2 (ix2 a (lane (hh g 1) d)) * x0 (ix2 (row I b) (lane (hh g 1) d)) :=
  sum_head1 g _ (fun L => x2 (ix2 a L) * x0 (ix2 (row I b) L)) fun l => by
    rw [G.h25, H.hQ]; split_ifs <;> simp

theorem d0 (G : Grp x2 x3 x4 g v17 v21 v25 v31 v37) (H : Blk x0 x1 x5 x6 x7 g I Q O C0 L0 D0 C1 L1 D1) (a b : Fin 512) :
    (∑ x : Fin 128, Scalar.select (k0_pay85 (ix2 b x)) (v17 (ix2 a x) * O (ix2 b x)) 0) = kD x1 x3 (hh g 0) a (row I b) :=
  sum_head0 g _ (fun L => x3 (ix2 a L) * x1 (ix2 (row I b) L)) fun l => by
    rw [G.h17, H.hO, mask0]; split_ifs <;> rfl

theorem d1 (G : Grp x2 x3 x4 g v17 v21 v25 v31 v37) (H : Blk x0 x1 x5 x6 x7 g I Q O C0 L0 D0 C1 L1 D1) (a b : Fin 512) :
    (∑ x : Fin 128, Scalar.select (k0_pay86 (ix2 b x)) (v17 (ix2 a x) * O (ix2 b x)) 0) = kD x1 x3 (hh g 1) a (row I b) :=
  sum_head1 g _ (fun L => x3 (ix2 a L) * x1 (ix2 (row I b) L)) fun l => by
    rw [G.h17, H.hO, mask1]; split_ifs <;> rfl

/-- The two heads' terms at one lane are the term of the lane's head. -/
theorem two_heads (g : Fin 2) (l : Fin 128) (f : Fin 4 → Fin 512 → EReal) :
    (∑ x : Fin 512, Scalar.select (if l.val < 64 then 1#1 else 0#1) (f (hh g 0) x) 0)
      + (∑ x : Fin 512, Scalar.select (if l.val < 64 then 0#1 else 1#1) (f (hh g 1) x) 0) = ∑ x, f (hd (gl g l)) x := by
  by_cases h : l.val < 64
  · simp only [h, if_true]
    have e : hd (gl g l) = hh g 0 := by apply Fin.ext; simp [hd, gl, hh]; omega
    rw [e]
    simp [Scalar.select]
  · simp only [h, if_false]
    have e : hd (gl g l) = hh g 1 := by apply Fin.ext; simp [hd, gl, hh]; omega
    rw [e]
    simp [Scalar.select]

/-- The two heads' terms at one lane of the masked keys. -/
theorem two_heads' (g : Fin 2) (l : Fin 128) (f : Fin 4 → Fin 512 → EReal) (k : Fin 512 → EReal) :
    (∑ x : Fin 512, f (hh g 0) x * (if l.val < 64 then k x else 0))
      + (∑ x : Fin 512, f (hh g 1) x * (if l.val < 64 then 0 else k x)) = ∑ x, f (hd (gl g l)) x * k x := by
  by_cases h : l.val < 64
  · simp only [h, if_true]
    have e : hd (gl g l) = hh g 0 := by apply Fin.ext; simp [hd, gl, hh]; omega
    rw [e]
    simp
  · simp only [h, if_false]
    have e : hd (gl g l) = hh g 1 := by apply Fin.ext; simp [hd, gl, hh]; omega
    rw [e]
    simp

end Body

end Cert.KernelIdeal.Attn

end
-- ==== Proof.AttnTrip.lean ====
module

public import proofs.«01_k».proof.Proof.AttnPure

@[expose] public section

set_option maxRecDepth 16384

noncomputable section

namespace Cert.KernelIdeal.Attn

open Idealize.ShloMosaic Idealize.ShloMosaic.TcCoe Idealize.SL.Sem
open Cert.KernelIdeal Cert.KernelIdeal.Gen

variable {x0 x1 : FVec Ideal S8192x256 .bf16} {x2 x3 : FVec Ideal S512x256 .bf16}
variable {x4 : FVec Ideal S512x128 .f32} {x5 x6 x7 : FVec Ideal S8x8192 .f32}
variable {g : Fin 2} {I : Fin 16} {v17 v21 v25 Q O : FVec Ideal S512x128 .bf16} {v31 v37 : FVec Ideal S512x1 .f32}
variable {C0 L0 D0 C1 L1 D1 : FVec Ideal S1x512 .f32} {v5 v7 : IVec S512x128 1} {v12 : IVec S512x512 1}

/-! ## One trip over an unmasked query block -/

theorem t1_dk (G : Grp x2 x3 x4 g v17 v21 v25 v31 v37) (H : Blk x0 x1 x5 x6 x7 g I Q O C0 L0 D0 C1 L1 D1)
    (h5 : v5 = k0_pay85) (h7 : v7 = k0_pay86) (acc : FVec Ideal S512x128 .f32) (a : Fin 512) (l : Fin 128) :
    k0_pay20 (F := Ideal) v7 v17 v25 v37 (k0_pay4 Q) (k0_pay5 O) (k0_pay12 v5 v17 v21 v31 acc Q O C0 L0 D0) C1 L1 D1 (ix2 a l)
      = acc (ix2 a l) + ∑ b, kS x0 x1 x2 x3 x4 x5 x6 x7 (hd (gl g l)) a (row I b) * x0 (ix2 (row I b) (gl g l)) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  have := two_heads g l (fun h b => kS x0 x1 x2 x3 x4 x5 x6 x7 h a (row I b) * x0 (ix2 (row I b) (gl g l)))
  simp only [kS, kP] at this ⊢
  rw [add_assoc, this]

theorem t1_dv (G : Grp x2 x3 x4 g v17 v21 v25 v31 v37) (H : Blk x0 x1 x5 x6 x7 g I Q O C0 L0 D0 C1 L1 D1)
    (h5 : v5 = k0_pay85) (h7 : v7 = k0_pay86) (acc : FVec Ideal S512x128 .f32) (a : Fin 512) (l : Fin 128) :
    k0_pay17 (F := Ideal) v7 v25 v37 (k0_pay4 Q) (k0_pay5 O) (k0_pay9 v5 v21 v31 acc Q O C0 L0) C1 L1 (ix2 a l)
      = acc (ix2 a l) + ∑ b, kP x0 x2 x4 x5 x6 (hd (gl g l)) a (row I b) * x1 (ix2 (row I b) (gl g l)) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  have := two_heads g l (fun h b => kP x0 x2 x4 x5 x6 h a (row I b) * x1 (ix2 (row I b) (gl g l)))
  simp only [kP] at this ⊢
  rw [add_assoc, this]

theorem t1_dc0 (G : Grp x2 x3 x4 g v17 v21 v25 v31 v37) (H : Blk x0 x1 x5 x6 x7 g I Q O C0 L0 D0 C1 L1 D1)
    (h5 : v5 = k0_pay85) (h7 : v7 = k0_pay86) (acc : FVec Ideal S512x1 .f32) (a : Fin 512) :
    k0_pay14 (F := Ideal) acc (k0_pay13 v5 v17 v21 v31 Q O C0 L0 D0) (ix2 a 0)
      = acc (ix2 a 0) + ∑ b, kS x0 x1 x2 x3 x4 x5 x6 x7 (hh g 0) a (row I b) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  simp only [kS, kP]

theorem t1_dc1 (G : Grp x2 x3 x4 g v17 v21 v25 v31 v37) (H : Blk x0 x1 x5 x6 x7 g I Q O C0 L0 D0 C1 L1 D1)
    (h5 : v5 = k0_pay85) (h7 : v7 = k0_pay86) (acc : FVec Ideal S512x1 .f32) (a : Fin 512) :
    k0_pay21 (F := Ideal) v7 v17 v25 v37 acc (k0_pay4 Q) (k0_pay5 O) C1 L1 D1 (ix2 a 0)
      = acc (ix2 a 0) + ∑ b, kS x0 x1 x2 x3 x4 x5 x6 x7 (hh g 1) a (row I b) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  simp only [kS, kP]

theorem t1_dq (G : Grp x2 x3 x4 g v17 v21 v25 v31 v37) (H : Blk x0 x1 x5 x6 x7 g I Q O C0 L0 D0 C1 L1 D1)
    (h5 : v5 = k0_pay85) (h7 : v7 = k0_pay86) (b : Fin 512) (l : Fin 128) :
    k0_pay22 (F := Ideal) v7 v17 v21 v25 v37 (k0_pay4 Q) (k0_pay5 O) k0_pay6 (k0_pay11 v5 v17 v21 v31 Q O C0 L0 D0) C1 L1 D1 (ix2 b l)
      = ∑ a, kS x0 x1 x2 x3 x4 x5 x6 x7 (hd (gl g l)) a (row I b) * x2 (ix2 a (gl g l)) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  have := two_heads' g l (fun h a => kS x0 x1 x2 x3 x4 x5 x6 x7 h a (row I b)) (fun a => x2 (ix2 a (gl g l)))
  simp only [kS, kP] at this ⊢
  rw [this]

theorem t3_dk (G : Grp x2 x3 x4 g v17 v21 v25 v31 v37) (H : Blk x0 x1 x5 x6 x7 g I Q O C0 L0 D0 C1 L1 D1)
    (h5 : v5 = k0_pay85) (h7 : v7 = k0_pay86) (acc : FVec Ideal S512x128 .f32) (a : Fin 512) (l : Fin 128) :
    k0_pay60 (F := Ideal) v7 v17 v25 v37 (k0_pay44 Q) (k0_pay45 O) (k0_pay52 v5 v17 v21 v31 acc Q O C0 L0 D0) C1 L1 D1 (ix2 a l)
      = acc (ix2 a l) + ∑ b, kS x0 x1 x2 x3 x4 x5 x6 x7 (hd (gl g l)) a (row I b) * x0 (ix2 (row I b) (gl g l)) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  have := two_heads g l (fun h b => kS x0 x1 x2 x3 x4 x5 x6 x7 h a (row I b) * x0 (ix2 (row I b) (gl g l)))
  simp only [kS, kP] at this ⊢
  rw [add_assoc, this]

theorem t3_dv (G : Grp x2 x3 x4 g v17 v21 v25 v31 v37) (H : Blk x0 x1 x5 x6 x7 g I Q O C0 L0 D0 C1 L1 D1)
    (h5 : v5 = k0_pay85) (h7 : v7 = k0_pay86) (acc : FVec Ideal S512x128 .f32) (a : Fin 512) (l : Fin 128) :
    k0_pay57 (F := Ideal) v7 v25 v37 (k0_pay44 Q) (k0_pay45 O) (k0_pay49 v5 v21 v31 acc Q O C0 L0) C1 L1 (ix2 a l)
      = acc (ix2 a l) + ∑ b, kP x0 x2 x4 x5 x6 (hd (gl g l)) a (row I b) * x1 (ix2 (row I b) (gl g l)) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  have := two_heads g l (fun h b => kP x0 x2 x4 x5 x6 h a (row I b) * x1 (ix2 (row I b) (gl g l)))
  simp only [kP] at this ⊢
  rw [add_assoc, this]

theorem t3_dc0 (G : Grp x2 x3 x4 g v17 v21 v25 v31 v37) (H : Blk x0 x1 x5 x6 x7 g I Q O C0 L0 D0 C1 L1 D1)
    (h5 : v5 = k0_pay85) (h7 : v7 = k0_pay86) (acc : FVec Ideal S512x1 .f32) (a : Fin 512) :
    k0_pay54 (F := Ideal) acc (k0_pay53 v5 v17 v21 v31 Q O C0 L0 D0) (ix2 a 0)
      = acc (ix2 a 0) + ∑ b, kS x0 x1 x2 x3 x4 x5 x6 x7 (hh g 0) a (row I b) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  simp only [kS, kP]

theorem t3_dc1 (G : Grp x2 x3 x4 g v17 v21 v25 v31 v37) (H : Blk x0 x1 x5 x6 x7 g I Q O C0 L0 D0 C1 L1 D1)
    (h5 : v5 = k0_pay85) (h7 : v7 = k0_pay86) (acc : FVec Ideal S512x1 .f32) (a : Fin 512) :
    k0_pay61 (F := Ideal) v7 v17 v25 v37 acc (k0_pay44 Q) (k0_pay45 O) C1 L1 D1 (ix2 a 0)
      = acc (ix2 a 0) + ∑ b, kS x0 x1 x2 x3 x4 x5 x6 x7 (hh g 1) a (row I b) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  simp only [kS, kP]

theorem t3_dq (G : Grp x2 x3 x4 g v17 v21 v25 v31 v37) (H : Blk x0 x1 x5 x6 x7 g I Q O C0 L0 D0 C1 L1 D1)
    (h5 : v5 = k0_pay85) (h7 : v7 = k0_pay86) (b : Fin 512) (l : Fin 128) :
    k0_pay62 (F := Ideal) v7 v17 v21 v25 v37 (k0_pay44 Q) (k0_pay45 O) k0_pay46 (k0_pay51 v5 v17 v21 v31 Q O C0 L0 D0) C1 L1 D1 (ix2 b l)
      = ∑ a, kS x0 x1 x2 x3 x4 x5 x6 x7 (hd (gl g l)) a (row I b) * x2 (ix2 a (gl g l)) := by
  unfold_payloads
  pointwise
  subst h5 h7
  simp only [st0 G H, st1 G H, d0 G H, d1 G H]
  simp only [mask0, mask1, G.h31, G.h37, H.hC0, H.hC1, H.hL0, H.hL1, H.hD0, H.hD1, H.hQ, H.hO, G.h21, G.h25]
  have := two_heads' g l (fun h a => kS x0 x1 x2 x3 x4 x5 x6 x7 h a (row I b)) (fun a => x2 (ix2 a (gl g l)))
  simp only [kS, kP] at this ⊢
  rw [this]

end Cert.KernelIdeal.Attn

end
-- ==== Proof.AttnDiag.lean ====
module

public import proofs.«01_k».proof.Proof.AttnPure
public import Idealize.ShloMosaic.Lib.WordCmp

@[expose] public section

set_option maxRecDepth 16384

noncomputable section

namespace Cert.KernelIdeal.Attn

open Idealize.ShloMosaic Idealize.ShloMosaic.TcCoe Idealize.SL.Sem
open Cert.KernelIdeal Cert.KernelIdeal.Gen

variable {x0 x1 : FVec Ideal S8192x256 .bf16} {x2 x3 : FVec Ideal S512x256 .bf16}
variable {x4 : FVec Ideal S512x128 .f32} {x5 x6 x7 : FVec Ideal S8x8192 .f32}
variable {g : Fin 2} {I : Fin 16} {v17 v21 v25 Q O : FVec Ideal S512x128 .bf16} {v31 v37 : FVec Ideal S512x1 .f32}
variable {C0 L0 D0 C1 L1 D1 : FVec Ideal S1x512 .f32} {v5 v7 : IVec S512x128 1} {v12 : IVec S512x512 1}

/-! ## The masked block on the diagonal -/

section Def
variable (x0 x1 : FVec Ideal S8192x256 .bf16) (x2 x3 : FVec Ideal S512x256 .bf16)
variable (x4 : FVec Ideal S512x128 .f32) (x5 x6 x7 : FVec Ideal S8x8192 .f32)

/-- The probability, masked: query `b` of the block sees the keys up to itself. -/
def dP (I : Fin 16) (h : Fin 4) (a b : Fin 512) : EReal := if a.val ≤ b.val then kP x0 x2 x4 x5 x6 h a (row I b) else 0

/-- The gradient of the logit, masked. -/
def dS (I : Fin 16) (h : Fin 4) (a b : Fin 512) : EReal :=
  dP x0 x2 x4 x5 x6 I h a b * (kD x1 x3 h a (row I b) - x7 (ix2 (r8 h) (row I b)))

end Def

theorem causal (a b : Fin 512) : k0_pay88 (ix2 a b) = if a.val ≤ b.val then 1#1 else 0#1 := by
  unfold_payloads
  pointwise
  simp (disch := omega) only [hlo_ix]
  by_cases h : a.val ≤ b.val <;> simp [h]

theorem neg_inf : Ideal.ofBits FTy.f32 4286578688#32 = ⊥ := by
  simp [Ideal.ofBits, Ideal.ieee]

theorem exp_mask (a b : Fin 512) (s L : EReal) :
    Ideal.exp (Scalar.select (k0_pay88 (ix2 a b)) s (Ideal.ofBits FTy.f32 4286578688#32) - L) = if a.val ≤ b.val then Ideal.exp (s - L) else 0 := by
  rw [causal, neg_inf]
  by_cases h : a.val ≤ b.val
  · simp [h, Scalar.select]
  · simp [h, Scalar.select, sub_eq_add_neg, EReal.bot_add]

/-- The keys of the first head, before the other head's lanes are cleared. -/
theorem st0' {v166 : FVec Ideal S512x128 .bf16} (h166 : ∀ (a : Fin 512) (l : Fin 128), v166 (ix2 a l) = x2 (ix2 a (gl g l)))
    (H : Blk x0 x1 x5 x6 x7 g I Q O C0 L0 D0 C1 L1 D1) (a b : Fin 512) :
    (∑ x : Fin 128, Scalar.select (k0_pay85 (ix2 a x)) (v166 (ix2 a x) * Q (ix2 b x)) 0)
      = ∑ d : Fin 64, x2 (ix2 a (lane (hh g 0) d)) * x0 (ix2 (row I b) (lane (hh g 0) d)) :=
  sum_head0 g _ (fun L => x2 (ix2 a L) * x0 (ix2 (row I b) L)) fun l => by
    rw [h166, H.hQ, mask0]; split_ifs <;> rfl

theorem g0_dk (G : Grp x2 x3 x4 g v17 v21 v25 v31 v37) (H : Blk x0 x1 x5 x6 x7 g I Q O C0 L0 D0 C1 L1 D1)
    (h5 : v5 = k0_pay85) (h7 : v7 = k0_pay86) (h12 : v12 = k0_pay88) (a : Fin 512) (l : Fin 128) :
    k0_pay117 (k0_pay108 v5 (k0_pay96 (Scalar.ofBits (F := Ideal) .f32 0x00000000#32)) (k0_pay106 v5 v12 v17 v21 v31 Q O C0 L0 D0) (k0_pay107 Q)) (k0_pay116 (F := Ideal) v7 v12 v17 v25 v37 (k0_pay99 Q) (k0_pay100 O) C1 L1 D1) (ix2 a l)
      = ∑ b, dS x0 x1 x2 x3 x4 x5 x6 x7 I (hd (gl g l)) a b * x0 (ix2 (row I b) (gl g l)) := by
  unfold_payloads
  pointwise
  subst h5 h7 h12
  simp only [st0 G H, st1 G H, d0 G H, d1 G H]
  simp only [exp_mask, mask0, mask1, G.h31, G.h37, H.hC0, H.hC1, H.hL0, H.hL1, H.hD0, H.hD1, H.hQ, H.hO, G.h21, G.h25]
  have := two_heads g l (fun h b => dS x0 x1 x2 x3 x4 x5 x6 x7 I h a b * x0 (ix2 (row I b) (gl g l)))
  simp only [dS, dP, kP] at this ⊢
  rw [this]

theorem g0_dv (G : Grp x2 x3 x4 g v17 v21 v25 v31 v37) (H : Blk x0 x1 x5 x6 x7 g I Q O C0 L0 D0 C1 L1 D1)
    (h5 : v5 = k0_pay85) (h7 : v7 = k0_pay86) (h12 : v12 = k0_pay88) (a : Fin 512) (l : Fin 128) :
    k0_pay113 (F := Ideal) v7 v12 v25 v37 (k0_pay99 Q) (k0_pay100 O) (k0_pay104 v5 v12 v21 v31 Q O C0 L0) C1 L1 (ix2 a l)
      = ∑ b, dP x0 x2 x4 x5 x6 I (hd (gl g l)) a b * x1 (ix2 (row I b) (gl g l)) := by
  unfold_payloads
  pointwise
  subst h5 h7 h12
  simp only [st0 G H, st1 G H, d0 G H, d1 G H]
  simp only [exp_mask, mask0, mask1, G.h31, G.h37, H.hC0, H.hC1, H.hL0, H.hL1, H.hD0, H.hD1, H.hQ, H.hO, G.h21, G.h25]
  have := two_heads g l (fun h b => dP x0 x2 x4 x5 x6 I h a b * x1 (ix2 (row I b) (gl g l)))
  simp only [dP, kP] at this ⊢
  rw [this]

theorem g0_dc0 (G : Grp x2 x3 x4 g v17 v21 v25 v31 v37) (H : Blk x0 x1 x5 x6 x7 g I Q O C0 L0 D0 C1 L1 D1)
    (h5 : v5 = k0_pay85) (h7 : v7 = k0_pay86) (h12 : v12 = k0_pay88) (a : Fin 512) :
    k0_pay109 k0_pay97 (k0_pay105 (F := Ideal) v5 v12 v17 v21 v31 Q O C0 L0 D0) (ix2 a 0)
      = ∑ b, dS x0 x1 x2 x3 x4 x5 x6 x7 I (hh g 0) a b := by
  unfold_payloads
  pointwise
  subst h5 h7 h12
  simp only [st0 G H, st1 G H, d0 G H, d1 G H]
  simp only [exp_mask, mask0, mask1, G.h31, G.h37, H.hC0, H.hC1, H.hL0, H.hL1, H.hD0, H.hD1, H.hQ, H.hO, G.h21, G.h25]
  simp only [dS, dP, kP]

theorem g0_dc1 (G : Grp x2 x3 x4 g v17 v21 v25 v31 v37) (H : Blk x0 x1 x5 x6 x7 g I Q O C0 L0 D0 C1 L1 D1)
    (h5 : v5 = k0_pay85) (h7 : v7 = k0_pay86) (h12 : v12 = k0_pay88) (a : Fin 512) :
    k0_pay118 k0_pay98 (k0_pay114 (F := Ideal) v7 v12 v17 v25 v37 (k0_pay99 Q) (k0_pay100 O) C1 L1 D1) (ix2 a 0)
      = ∑ b, dS x0 x1 x2 x3 x4 x5 x6 x7 I (hh g 1) a b := by
  unfold_payloads
  pointwise
  subst h5 h7 h12
  simp only [st0 G H, st1 G H, d0 G H, d1 G H]
  simp only [exp_mask, mask0, mask1, G.h31, G.h37, H.hC0, H.hC1, H.hL0, H.hL1, H.hD0, H.hD1, H.hQ, H.hO, G.h21, G.h25]
  simp only [dS, dP, kP]

theorem g0_dq (G : Grp x2 x3 x4 g v17 v21 v25 v31 v37) (H : Blk x0 x1 x5 x6 x7 g I Q O C0 L0 D0 C1 L1 D1)
    (h5 : v5 = k0_pay85) (h7 : v7 = k0_pay86) (h12 : v12 = k0_pay88) (Y : FVec Ideal S512x128 .f32) (b : Fin 512) (l : Fin 128) :
    k0_pay119 v25 (k0_pay110 v21 k0_pay101 (k0_pay106 (F := Ideal) v5 v12 v17 v21 v31 Q O C0 L0 D0)) (k0_pay115 (F := Ideal) v7 v12 v17 v25 v37 (k0_pay99 Q) (k0_pay100 O) C1 L1 D1) Y (ix2 b l)
      = Y (ix2 b l) + ∑ a, dS x0 x1 x2 x3 x4 x5 x6 x7 I (hd (gl g l)) a b * x2 (ix2 a (gl g l)) := by
  unfold_payloads
  pointwise
  subst h5 h7 h12
  simp only [st0 G H, st1 G H, d0 G H, d1 G H]
  simp only [exp_mask, mask0, mask1, G.h31, G.h37, H.hC0, H.hC1, H.hL0, H.hL1, H.hD0, H.hD1, H.hQ, H.hO, G.h21, G.h25]
  have := two_heads' g l (fun h a => dS x0 x1 x2 x3 x4 x5 x6 x7 I h a b) (fun a => x2 (ix2 a (gl g l)))
  simp only [dS, dP, kP] at this ⊢
  rw [this]

theorem g1_dk (G : Grp x2 x3 x4 g v17 v21 v25 v31 v37) (H : Blk x0 x1 x5 x6 x7 g I Q O C0 L0 D0 C1 L1 D1)
    (h5 : v5 = k0_pay85) (h7 : v7 = k0_pay86) (h12 : v12 = k0_pay88)
    {v166 : FVec Ideal S512x128 .bf16} (h166 : ∀ (a : Fin 512) (l : Fin 128), v166 (ix2 a l) = x2 (ix2 a (gl g l))) (a : Fin 512) (l : Fin 128) :
    k0_pay153 (F := Ideal) v7 v12 v17 (k0_pay133 Q) (k0_pay142 v5 v12 v17 v31 k0_pay129 (k0_pay133 Q) (k0_pay136 v5 O) (k0_pay137 v5 v166 Q) C0 L0 D0) (k0_pay145 v7 (k0_pay134 O)) (k0_pay146 v25 (k0_pay133 Q)) (k0_pay147 C1) (k0_pay148 v37) L1 D1 (ix2 a l)
      = ∑ b, dS x0 x1 x2 x3 x4 x5 x6 x7 I (hd (gl g l)) a b * x0 (ix2 (row I b) (gl g l)) := by
  unfold_payloads
  pointwise
  subst h5 h7 h12
  simp only [st0 G H, st1 G H, d0 G H, d1 G H, st0' h166 H]
  simp only [exp_mask, mask0, mask1, G.h31, G.h37, H.hC0, H.hC1, H.hL0, H.hL1, H.hD0, H.hD1, H.hQ, H.hO, G.h21, G.h25]
  have := two_heads g l (fun h b => dS x0 x1 x2 x3 x4 x5 x6 x7 I h a b * x0 (ix2 (row I b) (gl g l)))
  simp only [dS, dP, kP] at this ⊢
  rw [this]

theorem g1_dv (G : Grp x2 x3 x4 g v17 v21 v25 v31 v37) (H : Blk x0 x1 x5 x6 x7 g I Q O C0 L0 D0 C1 L1 D1)
    (h5 : v5 = k0_pay85) (h7 : v7 = k0_pay86) (h12 : v12 = k0_pay88)
    {v166 : FVec Ideal S512x128 .bf16} (h166 : ∀ (a : Fin 512) (l : Fin 128), v166 (ix2 a l) = x2 (ix2 a (gl g l))) (a : Fin 512) (l : Fin 128) :
    k0_pay150 (F := Ideal) v12 (k0_pay139 v12 v31 k0_pay130 (k0_pay136 v5 O) (k0_pay137 v5 v166 Q) C0 L0) (k0_pay145 v7 (k0_pay134 O)) (k0_pay146 v25 (k0_pay133 Q)) (k0_pay147 C1) (k0_pay148 v37) L1 (ix2 a l)
      = ∑ b, dP x0 x2 x4 x5 x6 I (hd (gl g l)) a b * x1 (ix2 (row I b) (gl g l)) := by
  unfold_payloads
  pointwise
  subst h5 h7 h12
  simp only [st0 G H, st1 G H, d0 G H, d1 G H, st0' h166 H]
  simp only [exp_mask, mask0, mask1, G.h31, G.h37, H.hC0, H.hC1, H.hL0, H.hL1, H.hD0, H.hD1, H.hQ, H.hO, G.h21, G.h25]
  have := two_heads g l (fun h b => dP x0 x2 x4 x5 x6 I h a b * x1 (ix2 (row I b) (gl g l)))
  simp only [dP, kP] at this ⊢
  rw [this]

theorem g1_dc0 (G : Grp x2 x3 x4 g v17 v21 v25 v31 v37) (H : Blk x0 x1 x5 x6 x7 g I Q O C0 L0 D0 C1 L1 D1)
    (h5 : v5 = k0_pay85) (h7 : v7 = k0_pay86) (h12 : v12 = k0_pay88)
    {v166 : FVec Ideal S512x128 .bf16} (h166 : ∀ (a : Fin 512) (l : Fin 128), v166 (ix2 a l) = x2 (ix2 a (gl g l))) (a : Fin 512) :
    k0_pay143 (F := Ideal) v12 v17 v31 k0_pay131 (k0_pay136 v5 O) (k0_pay137 v5 v166 Q) C0 L0 D0 (ix2 a 0)
      = ∑ b, dS x0 x1 x2 x3 x4 x5 x6 x7 I (hh g 0) a b := by
  unfold_payloads
  pointwise
  subst h5 h7 h12
  simp only [st0 G H, st1 G H, d0 G H, d1 G H, st0' h166 H]
  simp only [exp_mask, mask0, mask1, G.h31, G.h37, H.hC0, H.hC1, H.hL0, H.hL1, H.hD0, H.hD1, H.hQ, H.hO, G.h21, G.h25]
  simp only [dS, dP, kP]

theorem g1_dc1 (G : Grp x2 x3 x4 g v17 v21 v25 v31 v37) (H : Blk x0 x1 x5 x6 x7 g I Q O C0 L0 D0 C1 L1 D1)
    (h5 : v5 = k0_pay85) (h7 : v7 = k0_pay86) (h12 : v12 = k0_pay88)
    {v166 : FVec Ideal S512x128 .bf16} (h166 : ∀ (a : Fin 512) (l : Fin 128), v166 (ix2 a l) = x2 (ix2 a (gl g l))) (a : Fin 512) :
    k0_pay154 (F := Ideal) v12 v17 k0_pay132 (k0_pay145 v7 (k0_pay134 O)) (k0_pay146 v25 (k0_pay133 Q)) (k0_pay147 C1) (k0_pay148 v37) L1 D1 (ix2 a 0)
      = ∑ b, dS x0 x1 x2 x3 x4 x5 x6 x7 I (hh g 1) a b := by
  unfold_payloads
  pointwise
  subst h5 h7 h12
  simp only [st0 G H, st1 G H, d0 G H, d1 G H, st0' h166 H]
  simp only [exp_mask, mask0, mask1, G.h31, G.h37, H.hC0, H.hC1, H.hL0, H.hL1, H.hD0, H.hD1, H.hQ, H.hO, G.h21, G.h25]
  simp only [dS, dP, kP]

theorem g1_dq (G : Grp x2 x3 x4 g v17 v21 v25 v31 v37) (H : Blk x0 x1 x5 x6 x7 g I Q O C0 L0 D0 C1 L1 D1)
    (h5 : v5 = k0_pay85) (h7 : v7 = k0_pay86) (h12 : v12 = k0_pay88)
    {v166 : FVec Ideal S512x128 .bf16} (h166 : ∀ (a : Fin 512) (l : Fin 128), v166 (ix2 a l) = x2 (ix2 a (gl g l))) (Y : FVec Ideal S512x128 .f32) (b : Fin 512) (l : Fin 128) :
    k0_pay155 (F := Ideal) v12 v17 v25 (k0_pay144 v12 v17 v21 v31 k0_pay135 (k0_pay136 v5 O) (k0_pay137 v5 v166 Q) C0 L0 D0) (k0_pay145 v7 (k0_pay134 O)) (k0_pay146 v25 (k0_pay133 Q)) (k0_pay147 C1) (k0_pay148 v37) L1 D1 Y (ix2 b l)
      = Y (ix2 b l) + ∑ a, dS x0 x1 x2 x3 x4 x5 x6 x7 I (hd (gl g l)) a b * x2 (ix2 a (gl g l)) := by
  unfold_payloads
  pointwise
  subst h5 h7 h12
  simp only [st0 G H, st1 G H, d0 G H, d1 G H, st0' h166 H]
  simp only [exp_mask, mask0, mask1, G.h31, G.h37, H.hC0, H.hC1, H.hL0, H.hL1, H.hD0, H.hD1, H.hQ, H.hO, G.h21, G.h25]
  have := two_heads' g l (fun h a => dS x0 x1 x2 x3 x4 x5 x6 x7 I h a b) (fun a => x2 (ix2 a (gl g l)))
  simp only [dS, dP, kP] at this ⊢
  rw [this]

end Cert.KernelIdeal.Attn

end
-- ==== Proof.AttnSum.lean ====
module

public import proofs.«01_k».proof.Proof.AttnTrip
public import proofs.«01_k».proof.Proof.AttnDiag
public import Idealize.ShloMosaic.Lib.WritesUnit
public import Idealize.ShloMosaic.Lib.WholeRead

@[expose] public section

set_option maxRecDepth 16384

noncomputable section

namespace Cert.KernelIdeal.Attn

open Idealize.ShloMosaic Idealize.ShloMosaic.TcCoe Idealize.SL.Sem
open Cert.KernelIdeal Cert.KernelIdeal.Gen

variable {x0 x1 : FVec Ideal S8192x256 .bf16} {x2 x3 : FVec Ideal S512x256 .bf16}
variable {x4 : FVec Ideal S512x128 .f32} {x5 x6 x7 : FVec Ideal S8x8192 .f32}
variable {g : Fin 2} {I : Fin 16} {v17 v21 v25 Q O : FVec Ideal S512x128 .bf16} {v31 v37 : FVec Ideal S512x1 .f32}
variable {C0 L0 D0 C1 L1 D1 : FVec Ideal S1x512 .f32} {v5 v7 : IVec S512x128 1} {v12 : IVec S512x512 1}

/-! ## Sums over the queries from a key block on -/

/-- The sum over the queries of the first `n` blocks. -/
def psum (f : Fin 8192 → EReal) (n : ℕ) : EReal := ∑ B : Fin 8192, if B.val < 512 * n then f B else 0

/-- A sum over the positions, by blocks. -/
theorem sum_blocks (f : Fin 8192 → EReal) : ∑ B, f B = ∑ I : Fin 16, ∑ b, f (row I b) := by
  rw [← Fintype.sum_prod_type', ← (finProdFinEquiv (m := 16) (n := 512)).sum_comp]
  refine Finset.sum_congr rfl fun p _ => ?_
  congr 1
  apply Fin.ext
  simp [row, finProdFinEquiv]
  omega

theorem psum_succ (f : Fin 8192 → EReal) (n : Fin 16) : psum f (n.val + 1) = psum f n.val + ∑ b, f (row n b) := by
  unfold psum
  rw [sum_blocks, sum_blocks]
  have h1 : ∀ I : Fin 16, (∑ b, if (row I b).val < 512 * (n.val + 1) then f (row I b) else 0)
      = (∑ b, if (row I b).val < 512 * n.val then f (row I b) else 0) + (if I = n then ∑ b, f (row I b) else 0) := by
    intro I
    by_cases h : I = n
    · subst h
      rw [if_pos rfl]
      have e0 : (∑ b, if (row I b).val < 512 * I.val then f (row I b) else 0) = 0 :=
        Finset.sum_eq_zero fun b _ => if_neg (by simp [row])
      rw [e0, zero_add]
      refine Finset.sum_congr rfl fun b _ => if_pos (by simp only [row]; omega)
    · rw [if_neg h, add_zero]
      refine Finset.sum_congr rfl fun b _ => ?_
      have hv : I.val ≠ n.val := fun e => h (Fin.ext e)
      have : (row I b).val < 512 * (n.val + 1) ↔ (row I b).val < 512 * n.val := by simp only [row]; omega
      simp only [this]
  rw [Finset.sum_congr rfl fun I _ => h1 I, Finset.sum_add_distrib, Finset.sum_ite_eq' Finset.univ n]
  simp

theorem psum_all (f : Fin 8192 → EReal) : psum f 16 = ∑ B, f B :=
  Finset.sum_congr rfl fun B _ => if_pos (by omega)

theorem psum_none (f : Fin 8192 → EReal) (n : ℕ) (h : ∀ B : Fin 8192, B.val < 512 * n → f B = 0) : psum f n = 0 :=
  Finset.sum_eq_zero fun B _ => by split_ifs with hB; exacts [h B hB, rfl]

section Def
variable (x0 x1 : FVec Ideal S8192x256 .bf16) (x2 x3 : FVec Ideal S512x256 .bf16)
variable (x4 : FVec Ideal S512x128 .f32) (x5 x6 x7 : FVec Ideal S8x8192 .f32)

/-- The probability of query `B` at key `a` of block `J`: zero when the key comes after the query. -/
def mP (J : Fin 16) (h : Fin 4) (a : Fin 512) (B : Fin 8192) : EReal :=
  if 512 * J.val + a.val ≤ B.val then kP x0 x2 x4 x5 x6 h a B else 0

/-- The gradient of the logit of query `B` at key `a` of block `J`. -/
def mS (J : Fin 16) (h : Fin 4) (a : Fin 512) (B : Fin 8192) : EReal :=
  mP x0 x2 x4 x5 x6 J h a B * (kD x1 x3 h a B - x7 (ix2 (r8 h) B))

theorem mP_diag (J : Fin 16) (h : Fin 4) (a b : Fin 512) : mP x0 x2 x4 x5 x6 J h a (row J b) = dP x0 x2 x4 x5 x6 J h a b := by
  simp only [mP, dP, row, add_le_add_iff_left]

theorem mS_diag (J : Fin 16) (h : Fin 4) (a b : Fin 512) :
    mS x0 x1 x2 x3 x4 x5 x6 x7 J h a (row J b) = dS x0 x1 x2 x3 x4 x5 x6 x7 J h a b := by
  simp only [mS, dS, mP_diag]

theorem mP_later {J I : Fin 16} (hI : J.val < I.val) (h : Fin 4) (a b : Fin 512) :
    mP x0 x2 x4 x5 x6 J h a (row I b) = kP x0 x2 x4 x5 x6 h a (row I b) := by
  simp only [mP]; exact if_pos (by simp only [row]; omega)

theorem mS_later {J I : Fin 16} (hI : J.val < I.val) (h : Fin 4) (a b : Fin 512) :
    mS x0 x1 x2 x3 x4 x5 x6 x7 J h a (row I b) = kS x0 x1 x2 x3 x4 x5 x6 x7 h a (row I b) := by
  simp only [mS, kS, mP_later x0 x2 x4 x5 x6 hI]

theorem mP_before (J : Fin 16) (h : Fin 4) (a : Fin 512) {B : Fin 8192} (hB : B.val < 512 * J.val) : mP x0 x2 x4 x5 x6 J h a B = 0 := by
  simp only [mP]; exact if_neg (by omega)

theorem mS_before (J : Fin 16) (h : Fin 4) (a : Fin 512) {B : Fin 8192} (hB : B.val < 512 * J.val) : mS x0 x1 x2 x3 x4 x5 x6 x7 J h a B = 0 := by
  simp only [mS, mP_before x0 x2 x4 x5 x6 J h a hB, zero_mul]

/-- What the body adds to the query gradient at position `B` and lane `L`. -/
def cQ (J : Fin 16) (B : Fin 8192) (L : Fin 256) : EReal :=
  ∑ a, mS x0 x1 x2 x3 x4 x5 x6 x7 J (hd L) a B * x2 (ix2 a L)

theorem cQ_before (J : Fin 16) {B : Fin 8192} (L : Fin 256) (hB : B.val < 512 * J.val) : cQ x0 x1 x2 x3 x4 x5 x6 x7 J B L = 0 :=
  Finset.sum_eq_zero fun a _ => by rw [mS_before x0 x1 x2 x3 x4 x5 x6 x7 J _ a hB, zero_mul]

/-- What is carried once the query blocks before `n` are done, for group `g` of key block `J`. -/
structure Acc (g : Fin 2) (J : Fin 16) (n : ℕ) (dk dv : FVec Ideal S512x128 .f32) (dc0 dc1 : FVec Ideal S512x1 .f32) : Prop where
  dk : ∀ (a : Fin 512) (l : Fin 128), dk (ix2 a l) = psum (fun B => mS x0 x1 x2 x3 x4 x5 x6 x7 J (hd (gl g l)) a B * x0 (ix2 B (gl g l))) n
  dv : ∀ (a : Fin 512) (l : Fin 128), dv (ix2 a l) = psum (fun B => mP x0 x2 x4 x5 x6 J (hd (gl g l)) a B * x1 (ix2 B (gl g l))) n
  dc0 : ∀ a : Fin 512, dc0 (ix2 a 0) = psum (fun B => mS x0 x1 x2 x3 x4 x5 x6 x7 J (hh g 0) a B) n
  dc1 : ∀ a : Fin 512, dc1 (ix2 a 0) = psum (fun B => mS x0 x1 x2 x3 x4 x5 x6 x7 J (hh g 1) a B) n

/-- The array of query gradients, started from `y`, once group `g` has done the query blocks before `n`. -/
def Dq (g : Fin 2) (J : Fin 16) (n : ℕ) (y z : FVec Ideal S8192x256 .f32) : Prop :=
  ∀ (B : Fin 8192) (L : Fin 256), z (ix2 B L)
    = y (ix2 B L) + if L.val / 128 = g.val ∧ B.val < 512 * n then cQ x0 x1 x2 x3 x4 x5 x6 x7 J B L else 0

theorem Dq_start (g : Fin 2) (J : Fin 16) (y : FVec Ideal S8192x256 .f32) : Dq x0 x1 x2 x3 x4 x5 x6 x7 g J J.val y y := by
  intro B L
  split_ifs with h
  · rw [cQ_before x0 x1 x2 x3 x4 x5 x6 x7 J L h.2, add_zero]
  · rw [add_zero]

end Def

/-- A query block's store into the array of query gradients. -/
theorem Dq_store {J : Fin 16} {n : Fin 16} {y : FVec Ideal S8192x256 .f32} {arg9 : Memref sig .tc .vmem S8192x256 .f32}
    {f : BufTy.Contents (Elt Ideal) arg9.view.ty} {Ls : List (View.Piece (Elt Ideal) S8192x256 .f32)}
    (hz : Dq x0 x1 x2 x3 x4 x5 x6 x7 g J n.val y (arg9.view.read (Elt Ideal) (arg9.view.writes (Elt Ideal) f Ls)))
    {off : Fin 2 → ℕ} (eo : off = ![512 * n.val, 128 * g.val]) (inb : ∀ a, off a + S512x128.size a ≤ S8192x256.size a)
    (w : FVec Ideal S512x128 .f32)
    (hw : ∀ (b : Fin 512) (l : Fin 128), w (ix2 b l)
      = arg9.view.read (Elt Ideal) (arg9.view.writes (Elt Ideal) f Ls) (ix2 (row n b) (gl g l)) + cQ x0 x1 x2 x3 x4 x5 x6 x7 J (row n b) (gl g l)) :
    Dq x0 x1 x2 x3 x4 x5 x6 x7 g J (n.val + 1) y
      (arg9.view.read (Elt Ideal) (arg9.view.writes (Elt Ideal) f (⟨Rect.unit (s := S8192x256) off S512x128.size inb, w⟩ :: Ls))) := by
  intro B L
  by_cases h : L.val / 128 = g.val ∧ (512 * n.val ≤ B.val ∧ B.val < 512 * n.val + 512)
  · obtain ⟨hL, hB⟩ := h
    have e := View.read_writes_cons_unit_of_mem arg9.view f inb w Ls (ix2 B L) (ix2 (⟨B.val - 512 * n.val, by omega⟩ : Fin 512) (⟨L.val - 128 * g.val, by omega⟩ : Fin 128)) eo
      (fun a => by refine Fin.cases ?_ (fun a => Fin.cases ?_ (fun a => a.elim0) a) a <;> simp [ix2] <;> omega)
    rw [e, hw, if_pos ⟨hL, by omega⟩]
    have r1 : row n ⟨B.val - 512 * n.val, by omega⟩ = B := Fin.ext (by simp only [row]; omega)
    have r2 : gl g ⟨L.val - 128 * g.val, by omega⟩ = L := Fin.ext (by simp only [gl]; omega)
    rw [r1, r2, hz, if_neg (by omega), add_zero]
  · have e : arg9.view.read (Elt Ideal) (arg9.view.writes (Elt Ideal) f (⟨Rect.unit (s := S8192x256) off S512x128.size inb, w⟩ :: Ls)) (ix2 B L)
        = arg9.view.read (Elt Ideal) (arg9.view.writes (Elt Ideal) f Ls) (ix2 B L) := by
      by_cases hB : 512 * n.val ≤ B.val ∧ B.val < 512 * n.val + 512
      · refine View.read_writes_cons_unit_of_not_mem arg9.view f inb w Ls (ix2 B L) eo (1 : Fin 2) ?_
        simp [ix2]; omega
      · refine View.read_writes_cons_unit_of_not_mem arg9.view f inb w Ls (ix2 B L) eo (0 : Fin 2) ?_
        simp [ix2]; omega
    rw [e, hz]
    have : (L.val / 128 = g.val ∧ B.val < 512 * n.val) ↔ (L.val / 128 = g.val ∧ B.val < 512 * (n.val + 1)) := by omega
    simp only [this]

/-! ## What the loads read -/

/-- A load of a block of rows of one group. -/
theorem load_rows {e : EltTy} {m : Memref sig .tc .vmem S8192x256 e} (f : BufTy.Contents (Elt Ideal) m.view.ty)
    {off : Fin 2 → ℕ} (eo : off = ![512 * I.val, 128 * g.val]) (inb : ∀ a, off a + S512x128.size a ≤ S8192x256.size a) (b : Fin 512) (l : Fin 128) :
    View.readAt (Elt Ideal) m.view (Rect.unit (s := S8192x256) off S512x128.size inb).toLoadRect f (ix2 b l) = m.view.read (Elt Ideal) f (ix2 (row I b) (gl g l)) := by
  subst eo
  refine congrArg (m.view.read (Elt Ideal) f) (funext fun a => Fin.ext ?_)
  refine Fin.cases ?_ (fun a => Fin.cases ?_ (fun a => a.elim0) a) a <;> simp [ix2, row, gl]

/-- A load of one group's lanes of the key block. -/
theorem load_keys {e : EltTy} {m : Memref sig .tc .vmem S512x256 e} (f : BufTy.Contents (Elt Ideal) m.view.ty)
    {off : Fin 2 → ℕ} (eo : off = ![0, 128 * g.val]) (inb : ∀ a, off a + S512x128.size a ≤ S512x256.size a) (b : Fin 512) (l : Fin 128) :
    View.readAt (Elt Ideal) m.view (Rect.unit (s := S512x256) off S512x128.size inb).toLoadRect f (ix2 b l) = m.view.read (Elt Ideal) f (ix2 b (gl g l)) := by
  subst eo
  refine congrArg (m.view.read (Elt Ideal) f) (funext fun a => Fin.ext ?_)
  refine Fin.cases ?_ (fun a => Fin.cases ?_ (fun a => a.elim0) a) a <;> simp [ix2, gl]

/-- A load of one head's row of a block of positions. -/
theorem load_head {e : EltTy} {m : Memref sig .tc .vmem S8x8192 e} (f : BufTy.Contents (Elt Ideal) m.view.ty) {h : Fin 4}
    {off : Fin 2 → ℕ} (eo : off = ![h.val, 512 * I.val]) (inb : ∀ a, off a + S1x512.size a ≤ S8x8192.size a) (b : Fin 512) :
    View.readAt (Elt Ideal) m.view (Rect.unit (s := S8x8192) off S1x512.size inb).toLoadRect f (ix2 (0 : Fin 1) b) = m.view.read (Elt Ideal) f (ix2 (r8 h) (row I b)) := by
  subst eo
  refine congrArg (m.view.read (Elt Ideal) f) (funext fun a => Fin.ext ?_)
  refine Fin.cases ?_ (fun a => Fin.cases ?_ (fun a => a.elim0) a) a <;> simp [ix2, row, r8]

/-- What a memref held at the contents of `x` reads. -/
theorem rd {s : Shape} {e : EltTy} {m : Memref sig .tc .vmem s e} (h : m.IsWhole) (x : Vec Ideal s e) (j : s.Idx) :
    m.view.read (Elt Ideal) (h.unread x) j = x j := congrFun (h.read_unread x) j

/-- The query block's loads, together. -/
theorem blk_of {arg1 arg2 : Memref sig .tc .vmem S8192x256 .bf16} {arg6 arg7 arg8 : Memref sig .tc .vmem S8x8192 .f32}
    (harg1 : arg1.IsWhole) (harg2 : arg2.IsWhole) (harg6 : arg6.IsWhole) (harg7 : arg7.IsWhole) (harg8 : arg8.IsWhole)
    {o4 o5 o6 : Fin 2 → ℕ} (e4 : o4 = ![512 * I.val, 128 * g.val]) (e5 : o5 = ![(hh g 0).val, 512 * I.val]) (e6 : o6 = ![(hh g 1).val, 512 * I.val])
    (i4 : ∀ a, o4 a + S512x128.size a ≤ S8192x256.size a) (i5 : ∀ a, o5 a + S1x512.size a ≤ S8x8192.size a) (i6 : ∀ a, o6 a + S1x512.size a ≤ S8x8192.size a) :
    Blk x0 x1 x5 x6 x7 g I
      (View.readAt (Elt Ideal) arg1.view (Rect.unit (s := S8192x256) o4 S512x128.size i4).toLoadRect (harg1.unread x0))
      (View.readAt (Elt Ideal) arg2.view (Rect.unit (s := S8192x256) o4 S512x128.size i4).toLoadRect (harg2.unread x1))
      (View.readAt (Elt Ideal) arg6.view (Rect.unit (s := S8x8192) o5 S1x512.size i5).toLoadRect (harg6.unread x5))
      (View.readAt (Elt Ideal) arg7.view (Rect.unit (s := S8x8192) o5 S1x512.size i5).toLoadRect (harg7.unread x6))
      (View.readAt (Elt Ideal) arg8.view (Rect.unit (s := S8x8192) o5 S1x512.size i5).toLoadRect (harg8.unread x7))
      (View.readAt (Elt Ideal) arg6.view (Rect.unit (s := S8x8192) o6 S1x512.size i6).toLoadRect (harg6.unread x5))
      (View.readAt (Elt Ideal) arg7.view (Rect.unit (s := S8x8192) o6 S1x512.size i6).toLoadRect (harg7.unread x6))
      (View.readAt (Elt Ideal) arg8.view (Rect.unit (s := S8x8192) o6 S1x512.size i6).toLoadRect (harg8.unread x7)) where
  hQ b l := (load_rows _ e4 i4 b l).trans (rd harg1 x0 _)
  hO b l := (load_rows _ e4 i4 b l).trans (rd harg2 x1 _)
  hC0 b := (load_head _ e5 i5 b).trans (rd harg6 x5 _)
  hL0 b := (load_head _ e5 i5 b).trans (rd harg7 x6 _)
  hD0 b := (load_head _ e5 i5 b).trans (rd harg8 x7 _)
  hC1 b := (load_head _ e6 i6 b).trans (rd harg6 x5 _)
  hL1 b := (load_head _ e6 i6 b).trans (rd harg7 x6 _)
  hD1 b := (load_head _ e6 i6 b).trans (rd harg8 x7 _)

/-- One lane of the gate sums, taken by a sum over the lanes that are not cleared. -/
theorem lane_of (c : FVec Ideal S512x128 .f32) (a : Fin 512) (m : Fin 128) :
    (∑ x : Fin 128, Scalar.select (IntOp.cmpi .eq (BitVec.ofNat 32 x.val) (BitVec.ofNat 32 m.val)) (c (ix2 a x)) 0) = c (ix2 a m) := by
  rw [Finset.sum_eq_single m]
  · simp [Scalar.select, IntOp.cmpi]
  · intro x _ hx
    have : (BitVec.ofNat 32 x.val == BitVec.ofNat 32 m.val) = false := by
      simp only [beq_eq_false_iff_ne, ne_eq]
      intro e
      have := congrArg BitVec.toNat e
      simp only [BitVec.toNat_ofNat] at this
      exact hx (Fin.ext (by omega))
    simp [Scalar.select, IntOp.cmpi, this]
  · simp

theorem below64 (l : Fin 128) : IntOp.cmpi .slt (BitVec.ofNat 32 l.val) 64#32 = if l.val < 64 then 1#1 else 0#1 := by
  revert l; decide +kernel

theorem from64 (l : Fin 128) : IntOp.cmpi .sge (BitVec.ofNat 32 l.val) 64#32 = if l.val < 64 then 0#1 else 1#1 := by
  revert l; decide +kernel

theorem grp0 {V K : FVec Ideal S512x128 .bf16} {c : FVec Ideal S512x128 .f32} (hV : ∀ (a : Fin 512) (l : Fin 128), V (ix2 a l) = x3 (ix2 a (gl 0 l)))
    (hK : ∀ (a : Fin 512) (l : Fin 128), K (ix2 a l) = x2 (ix2 a (gl 0 l))) (hc : ∀ (a : Fin 512) (l : Fin 128), c (ix2 a l) = x4 (ix2 a l)) :
    Grp x2 x3 x4 0 (k0_pay91 (F := Ideal) V) (k0_pay92 (F := Ideal) K) (k0_pay93 (F := Ideal) K) (k0_pay94 (F := Ideal) c) (k0_pay95 (F := Ideal) c) where
  h17 a l := by unfold_payloads; pointwise; exact hV a l
  h21 a l := by
    unfold_payloads; pointwise; rw [below64, hK]; split_ifs <;> rfl
  h25 a l := by
    unfold_payloads; pointwise; rw [from64, hK]; split_ifs <;> rfl
  h31 a := by unfold_payloads; pointwise; exact (lane_of c a 0).trans (hc a 0)
  h37 a := by unfold_payloads; pointwise; exact (lane_of c a 1).trans (hc a 1)

theorem grp1 {V K : FVec Ideal S512x128 .bf16} {c : FVec Ideal S512x128 .f32} (hV : ∀ (a : Fin 512) (l : Fin 128), V (ix2 a l) = x3 (ix2 a (gl 1 l)))
    (hK : ∀ (a : Fin 512) (l : Fin 128), K (ix2 a l) = x2 (ix2 a (gl 1 l))) (hc : ∀ (a : Fin 512) (l : Fin 128), c (ix2 a l) = x4 (ix2 a l)) :
    Grp x2 x3 x4 1 (k0_pay124 (F := Ideal) V) (k0_pay125 (F := Ideal) k0_pay85 (k0_pay123 (F := Ideal) K)) (k0_pay126 (F := Ideal) k0_pay86 (k0_pay123 (F := Ideal) K))
      (k0_pay127 (F := Ideal) (iota .tc S512x128 32 [1] iota_S512x128_d1_w32) (k0_pay87 (F := Ideal) c))
      (k0_pay128 (F := Ideal) (iota .tc S512x128 32 [1] iota_S512x128_d1_w32) (k0_pay87 (F := Ideal) c)) where
  h17 a l := by unfold_payloads; pointwise; exact hV a l
  h21 a l := by
    unfold_payloads; pointwise; rw [below64, hK]; split_ifs <;> rfl
  h25 a l := by
    unfold_payloads; pointwise; rw [from64, hK]; split_ifs <;> rfl
  h31 a := by unfold_payloads; pointwise; exact (lane_of c a 2).trans (hc a 2)
  h37 a := by unfold_payloads; pointwise; exact (lane_of c a 3).trans (hc a 3)

end Cert.KernelIdeal.Attn

end
-- ==== Proof.AttnLoop.lean ====
module

public import proofs.«01_k».proof.Proof.AttnSum
public import proofs.«01_k».proof.Proof.Gen.KernelIdeal.Loops

@[expose] public section

set_option maxRecDepth 16384

noncomputable section

namespace Cert.KernelIdeal.Attn

open Idealize.ShloMosaic Idealize.ShloMosaic.TcCoe Idealize.SL.Sem
open Cert.KernelIdeal Cert.KernelIdeal.Gen

variable {x0 x1 : FVec Ideal S8192x256 .bf16} {x2 x3 : FVec Ideal S512x256 .bf16}
variable {x4 : FVec Ideal S512x128 .f32} {x5 x6 x7 : FVec Ideal S8x8192 .f32}
variable {g : Fin 2} {I : Fin 16} {v17 v21 v25 Q O : FVec Ideal S512x128 .bf16} {v31 v37 : FVec Ideal S512x1 .f32}
variable {C0 L0 D0 C1 L1 D1 : FVec Ideal S1x512 .f32} {v5 v7 : IVec S512x128 1} {v12 : IVec S512x512 1}

/-! ## The loops over the later query blocks -/

/-- The key block of a grid point. -/
def blkOf (i : grid0.Coords) : Fin 16 := ⟨(i 0).val, (i 0).isLt⟩

theorem trips1 : ∀ i : grid0.Coords, (k0_t1_loop i).trips = 15 - (i 0).val := by decide +kernel
theorem trips3 : ∀ i : grid0.Coords, (k0_t3_loop i).trips = 15 - (i 0).val := by decide +kernel
theorem trips2 : ∀ i : grid0.Coords, (k0_t2_loop i).trips = 0 := by decide +kernel
theorem add1 (r y : FVec Ideal S512x128 .f32) (b : Fin 512) (l : Fin 128) : k0_pay120 (F := Ideal) r (k0_pay23 y) (ix2 b l) = y (ix2 b l) + r (ix2 b l) := by
  unfold_payloads; pointwise
theorem add3 (r y : FVec Ideal S512x128 .f32) (b : Fin 512) (l : Fin 128) : k0_pay1 (F := Ideal) r (k0_pay63 y) (ix2 b l) = y (ix2 b l) + r (ix2 b l) := by
  unfold_payloads; pointwise
theorem trips4 : ∀ i : grid0.Coords, (k0_t4_loop i).trips = 0 := by decide +kernel

section
variable (c : Dev nD)
    (i : grid0.Coords)
    (arg1 : Memref sig .tc .vmem S8192x256 .bf16)
    (harg1 : arg1.IsWhole)
    (arg2 : Memref sig .tc .vmem S8192x256 .bf16)
    (harg2 : arg2.IsWhole)
    (arg3 : Memref sig .tc .vmem S512x256 .bf16)
    (harg3 : arg3.IsWhole)
    (arg4 : Memref sig .tc .vmem S512x256 .bf16)
    (harg4 : arg4.IsWhole)
    (arg5 : Memref sig .tc .vmem S512x128 .f32)
    (harg5 : arg5.IsWhole)
    (arg6 : Memref sig .tc .vmem S8x8192 .f32)
    (harg6 : arg6.IsWhole)
    (arg7 : Memref sig .tc .vmem S8x8192 .f32)
    (harg7 : arg7.IsWhole)
    (arg8 : Memref sig .tc .vmem S8x8192 .f32)
    (harg8 : arg8.IsWhole)
    (arg9 : Memref sig .tc .vmem S8192x256 .f32)
    (harg9 : arg9.IsWhole)
    (arg10 : Memref sig .tc .vmem S512x256 .f32)
    (harg10 : arg10.IsWhole)
    (arg11 : Memref sig .tc .vmem S512x256 .f32)
    (harg11 : arg11.IsWhole)
    (arg12 : Memref sig .tc .vmem S512x128 .f32)
    (harg12 : arg12.IsWhole)
    (arg0 : BitVec 32)
    (v3 : IVec S512x128 32)
    (v13 : FVec Ideal S512x128 .f32)
    (v17 : FVec Ideal S512x128 .bf16)
    (v21 : FVec Ideal S512x128 .bf16)
    (v25 : FVec Ideal S512x128 .bf16)
    (v31 : FVec Ideal S512x1 .f32)
    (v37 : FVec Ideal S512x1 .f32)
    (v41 : FVec Ideal S512x1 .f32)
    (v43 : BitVec 32)
    (v87 : FVec Ideal S512x128 .f32)
    (v90 : FVec Ideal S512x1 .f32)
    (v92 : FVec Ideal S512x128 .f32)
    (v115 : FVec Ideal S512x128 .f32)
    (v122 : FVec Ideal S512x512 .f32)
    (v123 : FVec Ideal S512x512 .bf16)
    (v128 : FVec Ideal S512x128 .f32)
    (v141 : BitVec 32)

set_option maxHeartbeats 2000000 in
/-- One trip: a later query block joins what is carried and the array of query gradients. -/
theorem step1 (G : Grp x2 x3 x4 0 v17 v21 v25 v31 v37) (k : Fin (k0_t1_loop i).trips)
    (acc : FVec Ideal S512x128 .f32 × FVec Ideal S512x128 .f32 × FVec Ideal S512x1 .f32 × FVec Ideal S512x1 .f32)
    (f : BufTy.Contents (Elt Ideal) arg9.view.ty) (y : FVec Ideal S8192x256 .f32)
    (hA : Acc x0 x1 x2 x3 x4 x5 x6 x7 0 (blkOf i) ((blkOf i).val + 1 + k.val) acc.1 acc.2.1 acc.2.2.1 acc.2.2.2)
    (hD : Dq x0 x1 x2 x3 x4 x5 x6 x7 0 (blkOf i) ((blkOf i).val + 1 + k.val) y (arg9.view.read (Elt Ideal) f)) :
    Acc x0 x1 x2 x3 x4 x5 x6 x7 0 (blkOf i) ((blkOf i).val + 1 + (k.val + 1))
        (tripR_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) k acc f).1
        (tripR_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) k acc f).2.1
        (tripR_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) k acc f).2.2.1
        (tripR_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) k acc f).2.2.2
      ∧ Dq x0 x1 x2 x3 x4 x5 x6 x7 0 (blkOf i) ((blkOf i).val + 1 + (k.val + 1)) y (arg9.view.read (Elt Ideal) (arg9.view.writes (Elt Ideal) f
          (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) k acc f))) := by
  have hk : (i 0).val + 1 + k.val < 16 := by have := trips1 i; have := k.isLt; omega
  obtain ⟨n, hn⟩ : ∃ n : Fin 16, n.val = (blkOf i).val + 1 + k.val := ⟨⟨(i 0).val + 1 + k.val, hk⟩, rfl⟩
  have hJn : (blkOf i).val < n.val := by omega
  have e4 : k0_off4 i k = ![512 * n.val, 128 * (0 : Fin 2).val] := by
    rw [k0_off4_eq, hn]; simp only [blkOf]; congr 1; omega
  have e5 : k0_off5 i k = ![(hh 0 0).val, 512 * n.val] := by
    rw [k0_off5_eq, hn]; simp only [blkOf]; congr 2; omega
  have e6 : k0_off6 i k = ![(hh 0 1).val, 512 * n.val] := by
    rw [k0_off6_eq, hn]; simp only [blkOf]; congr 2; omega
  have H := blk_of (x0 := x0) (x1 := x1) (x5 := x5) (x6 := x6) (x7 := x7) harg1 harg2 harg6 harg7 harg8 e4 e5 e6
    (k0_off4_inb i k) (k0_off5_inb i k) (k0_off6_inb i k)
  rw [show (blkOf i).val + 1 + (k.val + 1) = n.val + 1 by omega]
  rw [← hn] at hA hD
  refine ⟨⟨fun a l => ?_, fun a l => ?_, fun a => ?_, fun a => ?_⟩, ?_⟩
  · rw [psum_succ, ← hA.dk a l]
    simp only [mS_later x0 x1 x2 x3 x4 x5 x6 x7 hJn]
    unfold tripR_k0_t1 trip_k0_t1
    exact t1_dk G H rfl rfl acc.1 a l
  · rw [psum_succ, ← hA.dv a l]
    simp only [mP_later x0 x2 x4 x5 x6 hJn]
    unfold tripR_k0_t1 trip_k0_t1
    exact t1_dv G H rfl rfl acc.2.1 a l
  · rw [psum_succ, ← hA.dc0 a]
    simp only [mS_later x0 x1 x2 x3 x4 x5 x6 x7 hJn]
    unfold tripR_k0_t1 trip_k0_t1
    exact t1_dc0 G H rfl rfl acc.2.2.1 a
  · rw [psum_succ, ← hA.dc1 a]
    simp only [mS_later x0 x1 x2 x3 x4 x5 x6 x7 hJn]
    unfold tripR_k0_t1 trip_k0_t1
    exact t1_dc1 G H rfl rfl acc.2.2.2 a
  · unfold tripL_k0_t1 trip_k0_t1
    refine Dq_store (Ls := []) hD e4 (k0_off4_inb i k) _ fun b l => ?_
    have hq := t1_dq G H rfl rfl b l
    have hy := load_rows (g := 0) (I := n) f e4 (k0_off4_inb i k) b l
    simp only [cQ, mS_later x0 x1 x2 x3 x4 x5 x6 x7 hJn]
    rw [← hq]
    exact (add1 _ _ b l).trans (congrArg (· + _) hy)

theorem loop1 (G : Grp x2 x3 x4 0 v17 v21 v25 v31 v37) (G_arg9 : BufTy.Contents (Elt Ideal) arg9.view.ty)
    (init : FVec Ideal S512x128 .f32 × FVec Ideal S512x128 .f32 × FVec Ideal S512x1 .f32 × FVec Ideal S512x1 .f32) (y : FVec Ideal S8192x256 .f32)
    (hA : Acc x0 x1 x2 x3 x4 x5 x6 x7 0 (blkOf i) ((blkOf i).val + 1) init.1 init.2.1 init.2.2.1 init.2.2.2)
    (hD : Dq x0 x1 x2 x3 x4 x5 x6 x7 0 (blkOf i) ((blkOf i).val + 1) y (arg9.view.read (Elt Ideal) G_arg9)) (n : ℕ) (hn : n ≤ (k0_t1_loop i).trips) :
    Acc x0 x1 x2 x3 x4 x5 x6 x7 0 (blkOf i) ((blkOf i).val + 1 + n)
        (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).1.1
        (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).1.2.1
        (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).1.2.2.1
        (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).1.2.2.2
      ∧ Dq x0 x1 x2 x3 x4 x5 x6 x7 0 (blkOf i) ((blkOf i).val + 1 + n) y (arg9.view.read (Elt Ideal) (arg9.view.writes (Elt Ideal) G_arg9
          (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).2)) := by
  induction n with
  | zero => exact ⟨hA, hD⟩
  | succ n ih =>
    obtain ⟨iA, iD⟩ := ih (by omega)
    have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init ⟨n, hn⟩
    rw [e]
    have := step1 (x0 := x0) (x1 := x1) (x2 := x2) (x3 := x3) (x4 := x4) (x5 := x5) (x6 := x6) (x7 := x7) (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg0 := arg0) (v3 := v3) (v13 := v13) (v17 := v17) (v21 := v21) (v25 := v25) (v31 := v31) (v37 := v37) (v41 := v41) (v43 := v43) (v87 := v87) (v90 := v90) (v92 := v92) (v115 := v115) (v122 := v122) (v123 := v123) (v128 := v128) (v141 := v141) G ⟨n, hn⟩ _ _ y iA iD
    refine ⟨this.1, ?_⟩
    rw [View.writes_append]
    exact this.2

end

section
variable (c : Dev nD)
    (i : grid0.Coords)
    (arg1 : Memref sig .tc .vmem S8192x256 .bf16)
    (harg1 : arg1.IsWhole)
    (arg2 : Memref sig .tc .vmem S8192x256 .bf16)
    (harg2 : arg2.IsWhole)
    (arg3 : Memref sig .tc .vmem S512x256 .bf16)
    (harg3 : arg3.IsWhole)
    (arg4 : Memref sig .tc .vmem S512x256 .bf16)
    (harg4 : arg4.IsWhole)
    (arg5 : Memref sig .tc .vmem S512x128 .f32)
    (harg5 : arg5.IsWhole)
    (arg6 : Memref sig .tc .vmem S8x8192 .f32)
    (harg6 : arg6.IsWhole)
    (arg7 : Memref sig .tc .vmem S8x8192 .f32)
    (harg7 : arg7.IsWhole)
    (arg8 : Memref sig .tc .vmem S8x8192 .f32)
    (harg8 : arg8.IsWhole)
    (arg9 : Memref sig .tc .vmem S8192x256 .f32)
    (harg9 : arg9.IsWhole)
    (arg10 : Memref sig .tc .vmem S512x256 .f32)
    (harg10 : arg10.IsWhole)
    (arg11 : Memref sig .tc .vmem S512x256 .f32)
    (harg11 : arg11.IsWhole)
    (arg12 : Memref sig .tc .vmem S512x128 .f32)
    (harg12 : arg12.IsWhole)
    (v168 : FVec Ideal S512x128 .bf16)
    (v172 : FVec Ideal S512x128 .bf16)
    (v176 : FVec Ideal S512x128 .bf16)
    (v182 : FVec Ideal S512x1 .f32)
    (v188 : FVec Ideal S512x1 .f32)
    (v292 : BitVec 32)
    (c1_i32_102 : BitVec 32)

set_option maxHeartbeats 2000000 in
/-- One trip: a later query block joins what is carried and the array of query gradients. -/
theorem step3 (G : Grp x2 x3 x4 1 v168 v172 v176 v182 v188) (k : Fin (k0_t3_loop i).trips)
    (acc : FVec Ideal S512x128 .f32 × FVec Ideal S512x128 .f32 × FVec Ideal S512x1 .f32 × FVec Ideal S512x1 .f32)
    (f : BufTy.Contents (Elt Ideal) arg9.view.ty) (y : FVec Ideal S8192x256 .f32)
    (hA : Acc x0 x1 x2 x3 x4 x5 x6 x7 1 (blkOf i) ((blkOf i).val + 1 + k.val) acc.1 acc.2.1 acc.2.2.1 acc.2.2.2)
    (hD : Dq x0 x1 x2 x3 x4 x5 x6 x7 1 (blkOf i) ((blkOf i).val + 1 + k.val) y (arg9.view.read (Elt Ideal) f)) :
    Acc x0 x1 x2 x3 x4 x5 x6 x7 1 (blkOf i) ((blkOf i).val + 1 + (k.val + 1))
        (tripR_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) k acc f).1
        (tripR_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) k acc f).2.1
        (tripR_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) k acc f).2.2.1
        (tripR_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) k acc f).2.2.2
      ∧ Dq x0 x1 x2 x3 x4 x5 x6 x7 1 (blkOf i) ((blkOf i).val + 1 + (k.val + 1)) y (arg9.view.read (Elt Ideal) (arg9.view.writes (Elt Ideal) f
          (tripL_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) k acc f))) := by
  have hk : (i 0).val + 1 + k.val < 16 := by have := trips3 i; have := k.isLt; omega
  obtain ⟨n, hn⟩ : ∃ n : Fin 16, n.val = (blkOf i).val + 1 + k.val := ⟨⟨(i 0).val + 1 + k.val, hk⟩, rfl⟩
  have hJn : (blkOf i).val < n.val := by omega
  have e4 : k0_off13 i k = ![512 * n.val, 128 * (1 : Fin 2).val] := by
    rw [k0_off13_eq, hn]; simp only [blkOf]; congr 1; omega
  have e5 : k0_off14 i k = ![(hh 1 0).val, 512 * n.val] := by
    rw [k0_off14_eq, hn]; simp only [blkOf]; congr 2; omega
  have e6 : k0_off15 i k = ![(hh 1 1).val, 512 * n.val] := by
    rw [k0_off15_eq, hn]; simp only [blkOf]; congr 2; omega
  have H := blk_of (x0 := x0) (x1 := x1) (x5 := x5) (x6 := x6) (x7 := x7) harg1 harg2 harg6 harg7 harg8 e4 e5 e6
    (k0_off13_inb i k) (k0_off14_inb i k) (k0_off15_inb i k)
  rw [show (blkOf i).val + 1 + (k.val + 1) = n.val + 1 by omega]
  rw [← hn] at hA hD
  refine ⟨⟨fun a l => ?_, fun a l => ?_, fun a => ?_, fun a => ?_⟩, ?_⟩
  · rw [psum_succ, ← hA.dk a l]
    simp only [mS_later x0 x1 x2 x3 x4 x5 x6 x7 hJn]
    unfold tripR_k0_t3 trip_k0_t3
    exact t3_dk G H rfl rfl acc.1 a l
  · rw [psum_succ, ← hA.dv a l]
    simp only [mP_later x0 x2 x4 x5 x6 hJn]
    unfold tripR_k0_t3 trip_k0_t3
    exact t3_dv G H rfl rfl acc.2.1 a l
  · rw [psum_succ, ← hA.dc0 a]
    simp only [mS_later x0 x1 x2 x3 x4 x5 x6 x7 hJn]
    unfold tripR_k0_t3 trip_k0_t3
    exact t3_dc0 G H rfl rfl acc.2.2.1 a
  · rw [psum_succ, ← hA.dc1 a]
    simp only [mS_later x0 x1 x2 x3 x4 x5 x6 x7 hJn]
    unfold tripR_k0_t3 trip_k0_t3
    exact t3_dc1 G H rfl rfl acc.2.2.2 a
  · unfold tripL_k0_t3 trip_k0_t3
    refine Dq_store (Ls := []) hD e4 (k0_off13_inb i k) _ fun b l => ?_
    have hq := t3_dq G H rfl rfl b l
    have hy := load_rows (g := 1) (I := n) f e4 (k0_off13_inb i k) b l
    simp only [cQ, mS_later x0 x1 x2 x3 x4 x5 x6 x7 hJn]
    rw [← hq]
    exact (add3 _ _ b l).trans (congrArg (· + _) hy)

theorem loop3 (G : Grp x2 x3 x4 1 v168 v172 v176 v182 v188) (G_arg9 : BufTy.Contents (Elt Ideal) arg9.view.ty)
    (init : FVec Ideal S512x128 .f32 × FVec Ideal S512x128 .f32 × FVec Ideal S512x1 .f32 × FVec Ideal S512x1 .f32) (y : FVec Ideal S8192x256 .f32)
    (hA : Acc x0 x1 x2 x3 x4 x5 x6 x7 1 (blkOf i) ((blkOf i).val + 1) init.1 init.2.1 init.2.2.1 init.2.2.2)
    (hD : Dq x0 x1 x2 x3 x4 x5 x6 x7 1 (blkOf i) ((blkOf i).val + 1) y (arg9.view.read (Elt Ideal) G_arg9)) (n : ℕ) (hn : n ≤ (k0_t3_loop i).trips) :
    Acc x0 x1 x2 x3 x4 x5 x6 x7 1 (blkOf i) ((blkOf i).val + 1 + n)
        (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).1.1
        (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).1.2.1
        (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).1.2.2.1
        (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).1.2.2.2
      ∧ Dq x0 x1 x2 x3 x4 x5 x6 x7 1 (blkOf i) ((blkOf i).val + 1 + n) y (arg9.view.read (Elt Ideal) (arg9.view.writes (Elt Ideal) G_arg9
          (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).2)) := by
  induction n with
  | zero => exact ⟨hA, hD⟩
  | succ n ih =>
    obtain ⟨iA, iD⟩ := ih (by omega)
    have e := st_k0_t3_succ (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init ⟨n, hn⟩
    rw [e]
    have := step3 (x0 := x0) (x1 := x1) (x2 := x2) (x3 := x3) (x4 := x4) (x5 := x5) (x6 := x6) (x7 := x7) (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (v168 := v168) (v172 := v172) (v176 := v176) (v182 := v182) (v188 := v188) (v292 := v292) (c1_i32_102 := c1_i32_102) G ⟨n, hn⟩ _ _ y iA iD
    refine ⟨this.1, ?_⟩
    rw [View.writes_append]
    exact this.2

end

end Cert.KernelIdeal.Attn

end
-- ==== Proof.AttnDone.lean ====
module

public import proofs.«01_k».proof.Proof.AttnLoop
public import proofs.«01_k».proof.Proof.AttnLater

@[expose] public section

set_option maxRecDepth 16384

noncomputable section

namespace Cert.KernelIdeal.Attn

open Idealize.ShloMosaic Idealize.ShloMosaic.TcCoe Idealize.SL.Sem
open Cert.KernelIdeal Cert.KernelIdeal.Gen

variable {x0 x1 : FVec Ideal S8192x256 .bf16} {x2 x3 : FVec Ideal S512x256 .bf16}
variable {x4 : FVec Ideal S512x128 .f32} {x5 x6 x7 : FVec Ideal S8x8192 .f32}
variable {g : Fin 2} {I : Fin 16} {v17 v21 v25 Q O : FVec Ideal S512x128 .bf16} {v31 v37 : FVec Ideal S512x1 .f32}
variable {C0 L0 D0 C1 L1 D1 : FVec Ideal S1x512 .f32} {v5 v7 : IVec S512x128 1} {v12 : IVec S512x512 1}

/-! ## What the whole body leaves -/

theorem acc_start {J : Fin 16} {dk dv : FVec Ideal S512x128 .f32} {c0 c1 : FVec Ideal S512x1 .f32}
    (h1 : ∀ (a : Fin 512) (l : Fin 128), dk (ix2 a l) = ∑ b, dS x0 x1 x2 x3 x4 x5 x6 x7 J (hd (gl g l)) a b * x0 (ix2 (row J b) (gl g l)))
    (h2 : ∀ (a : Fin 512) (l : Fin 128), dv (ix2 a l) = ∑ b, dP x0 x2 x4 x5 x6 J (hd (gl g l)) a b * x1 (ix2 (row J b) (gl g l)))
    (h3 : ∀ a : Fin 512, c0 (ix2 a 0) = ∑ b, dS x0 x1 x2 x3 x4 x5 x6 x7 J (hh g 0) a b)
    (h4 : ∀ a : Fin 512, c1 (ix2 a 0) = ∑ b, dS x0 x1 x2 x3 x4 x5 x6 x7 J (hh g 1) a b) :
    Acc x0 x1 x2 x3 x4 x5 x6 x7 g J (J.val + 1) dk dv c0 c1 where
  dk a l := by
    rw [psum_succ, psum_none _ _ fun B hB => by rw [mS_before x0 x1 x2 x3 x4 x5 x6 x7 J _ a hB, zero_mul], zero_add, h1]
    simp only [mS_diag]
  dv a l := by
    rw [psum_succ, psum_none _ _ fun B hB => by rw [mP_before x0 x2 x4 x5 x6 J _ a hB, zero_mul], zero_add, h2]
    simp only [mP_diag]
  dc0 a := by
    rw [psum_succ, psum_none _ _ fun B hB => mS_before x0 x1 x2 x3 x4 x5 x6 x7 J _ a hB, zero_add, h3]
    simp only [mS_diag]
  dc1 a := by
    rw [psum_succ, psum_none _ _ fun B hB => mS_before x0 x1 x2 x3 x4 x5 x6 x7 J _ a hB, zero_add, h4]
    simp only [mS_diag]

theorem Dq_both {J : Fin 16} {y z1 z2 : FVec Ideal S8192x256 .f32} (h1 : Dq x0 x1 x2 x3 x4 x5 x6 x7 1 J 16 z1 z2) (h0 : Dq x0 x1 x2 x3 x4 x5 x6 x7 0 J 16 y z1)
    (B : Fin 8192) (L : Fin 256) : z2 (ix2 B L) = y (ix2 B L) + cQ x0 x1 x2 x3 x4 x5 x6 x7 J B L := by
  rw [h1, h0]
  have hB : B.val < 512 * 16 := by omega
  by_cases h : L.val / 128 = 0
  · rw [if_pos ⟨h, hB⟩, if_neg (by simp [h]), add_zero]
  · have h' : L.val / 128 = 1 := by omega
    rw [if_neg (by simp [h]), if_pos ⟨h', hB⟩, add_zero]

/-- An array stored as its two halves of lanes. -/
theorem halves {m : Memref sig .tc .vmem S512x256 .f32} (f : BufTy.Contents (Elt Ideal) m.view.ty)
    (i0 : ∀ a, (![0, 0] : Fin 2 → ℕ) a + S512x128.size a ≤ S512x256.size a) (i1 : ∀ a, (![0, 128] : Fin 2 → ℕ) a + S512x128.size a ≤ S512x256.size a)
    (w0 w1 : FVec Ideal S512x128 .f32) (k : Fin 512 → Fin 256 → EReal)
    (h0 : ∀ (a : Fin 512) (l : Fin 128), w0 (ix2 a l) = k a (gl 0 l)) (h1 : ∀ (a : Fin 512) (l : Fin 128), w1 (ix2 a l) = k a (gl 1 l)) (a : Fin 512) (L : Fin 256) :
    m.view.read (Elt Ideal) (m.view.writes (Elt Ideal) f [⟨Rect.unit (s := S512x256) ![0, 128] S512x128.size i1, w1⟩, ⟨Rect.unit (s := S512x256) ![0, 0] S512x128.size i0, w0⟩]) (ix2 a L)
      = k a L := by
  by_cases h : L.val < 128
  · have e1 := View.read_writes_cons_unit_of_not_mem m.view f i1 w1 [⟨Rect.unit (s := S512x256) ![0, 0] S512x128.size i0, w0⟩] (ix2 a L) rfl (1 : Fin 2) (by simp [ix2]; omega)
    have e0 := View.read_writes_cons_unit_of_mem m.view f i0 w0 [] (ix2 a L) (ix2 a (⟨L.val, h⟩ : Fin 128)) rfl
      (fun a => by refine Fin.cases ?_ (fun a => Fin.cases ?_ (fun a => a.elim0) a) a <;> simp [ix2])
    rw [e1, e0, h0]
    congr 1
    apply Fin.ext; simp [gl]
  · have e1 := View.read_writes_cons_unit_of_mem m.view f i1 w1 [⟨Rect.unit (s := S512x256) ![0, 0] S512x128.size i0, w0⟩] (ix2 a L) (ix2 a (⟨L.val - 128, by omega⟩ : Fin 128)) rfl
      (fun a => by refine Fin.cases ?_ (fun a => Fin.cases ?_ (fun a => a.elim0) a) a <;> simp [ix2] <;> omega)
    rw [e1, h1]
    congr 1
    apply Fin.ext; simp [gl]; omega

theorem lane_eq (l : Fin 128) (m : Fin 4) : IntOp.cmpi .eq (BitVec.ofNat 32 l.val) (BitVec.ofNat 32 m.val) = if l.val = m.val then 1#1 else 0#1 := by
  revert l m; decide +kernel

/-- The gradients of the gate sums, put into the first four lanes. -/
theorem lanes_dc (v3 : IVec S512x128 32) (h3 : v3 = iota .tc S512x128 32 [1] iota_S512x128_d1_w32) (s : Fin 4 → Fin 512 → EReal)
    (c0 c1 c2 c3 : FVec Ideal S512x1 .f32) (h0 : ∀ a, c0 (ix2 a 0) = s 0 a) (h1 : ∀ a, c1 (ix2 a 0) = s 1 a) (h2 : ∀ a, c2 (ix2 a 0) = s 2 a) (h4 : ∀ a, c3 (ix2 a 0) = s 3 a)
    (a : Fin 512) (l : Fin 128) :
    k0_pay3 (F := Ideal) v3 (k0_pay122 v3 k0_pay89 c0 c1) c2 c3 (ix2 a l) = if h : l.val < 4 then 0 - s ⟨l.val, h⟩ a else 0 := by
  subst h3
  unfold_payloads
  pointwise
  have e0 := lane_eq l 0
  have e1 := lane_eq l 1
  have e2 := lane_eq l 2
  have e3 := lane_eq l 3
  simp only [Fin.val_zero, Fin.val_one, show ((2 : Fin 4) : ℕ) = 2 from rfl, show ((3 : Fin 4) : ℕ) = 3 from rfl] at e0 e1 e2 e3
  simp only [e0, e1, e2, e3, h0, h1, h2, h4]
  rcases l with ⟨l, hl⟩
  by_cases q3 : l = 3
  · subst q3; simp [Scalar.select]
  by_cases q2 : l = 2
  · subst q2; simp [Scalar.select]
  by_cases q1 : l = 1
  · subst q1; simp [Scalar.select]
  by_cases q0 : l = 0
  · subst q0; simp [Scalar.select]
  · have : ¬ l < 4 := by omega
    simp [Scalar.select, q0, q1, q2, q3, this]

/-- A store of the whole array. -/
theorem one_piece {m : Memref sig .tc .vmem S512x128 .f32} (f : BufTy.Contents (Elt Ideal) m.view.ty)
    (i0 : ∀ a, (![0, 0] : Fin 2 → ℕ) a + S512x128.size a ≤ S512x128.size a) (w : FVec Ideal S512x128 .f32) (a : Fin 512) (l : Fin 128) :
    m.view.read (Elt Ideal) (m.view.writes (Elt Ideal) f [⟨Rect.unit (s := S512x128) ![0, 0] S512x128.size i0, w⟩]) (ix2 a l) = w (ix2 a l) :=
  View.read_writes_cons_unit_of_mem m.view f i0 w [] (ix2 a l) (ix2 a l) rfl
    (fun a => by refine Fin.cases ?_ (fun a => Fin.cases ?_ (fun a => a.elim0) a) a <;> simp [ix2])

theorem loop1_all {c : Dev nD} {i : grid0.Coords} {arg1 : Memref sig .tc .vmem S8192x256 .bf16} {harg1 : arg1.IsWhole} {arg2 : Memref sig .tc .vmem S8192x256 .bf16} {harg2 : arg2.IsWhole} {arg3 : Memref sig .tc .vmem S512x256 .bf16} {harg3 : arg3.IsWhole} {arg4 : Memref sig .tc .vmem S512x256 .bf16} {harg4 : arg4.IsWhole} {arg5 : Memref sig .tc .vmem S512x128 .f32} {harg5 : arg5.IsWhole} {arg6 : Memref sig .tc .vmem S8x8192 .f32} {harg6 : arg6.IsWhole} {arg7 : Memref sig .tc .vmem S8x8192 .f32} {harg7 : arg7.IsWhole} {arg8 : Memref sig .tc .vmem S8x8192 .f32} {harg8 : arg8.IsWhole} {arg9 : Memref sig .tc .vmem S8192x256 .f32} {harg9 : arg9.IsWhole} {arg10 : Memref sig .tc .vmem S512x256 .f32} {harg10 : arg10.IsWhole} {arg11 : Memref sig .tc .vmem S512x256 .f32} {harg11 : arg11.IsWhole} {arg12 : Memref sig .tc .vmem S512x128 .f32} {harg12 : arg12.IsWhole} {arg0 : BitVec 32} {v3 : IVec S512x128 32} {v13 : FVec Ideal S512x128 .f32} {v17 : FVec Ideal S512x128 .bf16} {v21 : FVec Ideal S512x128 .bf16} {v25 : FVec Ideal S512x128 .bf16} {v31 : FVec Ideal S512x1 .f32} {v37 : FVec Ideal S512x1 .f32} {v41 : FVec Ideal S512x1 .f32} {v43 : BitVec 32} {v87 : FVec Ideal S512x128 .f32} {v90 : FVec Ideal S512x1 .f32} {v92 : FVec Ideal S512x128 .f32} {v115 : FVec Ideal S512x128 .f32} {v122 : FVec Ideal S512x512 .f32} {v123 : FVec Ideal S512x512 .bf16} {v128 : FVec Ideal S512x128 .f32} {v141 : BitVec 32}
    (G : Grp x2 x3 x4 0 v17 v21 v25 v31 v37) (G_arg9 : BufTy.Contents (Elt Ideal) arg9.view.ty)
    (init : FVec Ideal S512x128 .f32 × FVec Ideal S512x128 .f32 × FVec Ideal S512x1 .f32 × FVec Ideal S512x1 .f32) (y : FVec Ideal S8192x256 .f32)
    (hA : Acc x0 x1 x2 x3 x4 x5 x6 x7 0 (blkOf i) ((blkOf i).val + 1) init.1 init.2.1 init.2.2.1 init.2.2.2)
    (hD : Dq x0 x1 x2 x3 x4 x5 x6 x7 0 (blkOf i) ((blkOf i).val + 1) y (arg9.view.read (Elt Ideal) G_arg9))
    {m n : ℕ} (hm : m = (blkOf i).val + 1 + n) (hn : n ≤ (k0_t1_loop i).trips) :
    Acc x0 x1 x2 x3 x4 x5 x6 x7 0 (blkOf i) m
        (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).1.1
        (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).1.2.1
        (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).1.2.2.1
        (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).1.2.2.2
      ∧ Dq x0 x1 x2 x3 x4 x5 x6 x7 0 (blkOf i) m y (arg9.view.read (Elt Ideal) (arg9.view.writes (Elt Ideal) G_arg9
          (st_k0_t1 (F := Ideal) Variants.none c none i arg1 harg1 arg2 harg2 arg3 harg3 arg4 harg4 arg5 harg5 arg6 harg6 arg7 harg7 arg8 harg8 arg9 harg9 arg10 harg10 arg11 harg11 arg12 harg12 arg0 v3 k0_pay85 k0_pay86 v13 v17 v21 v25 v31 v37 v41 v43 v87 v90 v92 v115 v122 v123 v128 v141 (harg1.unread x0) (harg2.unread x1) (harg6.unread x5) (harg7.unread x6) (harg8.unread x7) G_arg9 init n).2)) := by
  subst hm
  exact loop1 (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg0 := arg0) (v3 := v3) (v13 := v13) (v17 := v17) (v21 := v21) (v25 := v25) (v31 := v31) (v37 := v37) (v41 := v41) (v43 := v43) (v87 := v87) (v90 := v90) (v92 := v92) (v115 := v115) (v122 := v122) (v123 := v123) (v128 := v128) (v141 := v141) G G_arg9 init y hA hD n hn

theorem loop3_all {c : Dev nD} {i : grid0.Coords} {arg1 : Memref sig .tc .vmem S8192x256 .bf16} {harg1 : arg1.IsWhole} {arg2 : Memref sig .tc .vmem S8192x256 .bf16} {harg2 : arg2.IsWhole} {arg3 : Memref sig .tc .vmem S512x256 .bf16} {harg3 : arg3.IsWhole} {arg4 : Memref sig .tc .vmem S512x256 .bf16} {harg4 : arg4.IsWhole} {arg5 : Memref sig .tc .vmem S512x128 .f32} {harg5 : arg5.IsWhole} {arg6 : Memref sig .tc .vmem S8x8192 .f32} {harg6 : arg6.IsWhole} {arg7 : Memref sig .tc .vmem S8x8192 .f32} {harg7 : arg7.IsWhole} {arg8 : Memref sig .tc .vmem S8x8192 .f32} {harg8 : arg8.IsWhole} {arg9 : Memref sig .tc .vmem S8192x256 .f32} {harg9 : arg9.IsWhole} {arg10 : Memref sig .tc .vmem S512x256 .f32} {harg10 : arg10.IsWhole} {arg11 : Memref sig .tc .vmem S512x256 .f32} {harg11 : arg11.IsWhole} {arg12 : Memref sig .tc .vmem S512x128 .f32} {harg12 : arg12.IsWhole} {v168 : FVec Ideal S512x128 .bf16} {v172 : FVec Ideal S512x128 .bf16} {v176 : FVec Ideal S512x128 .bf16} {v182 : FVec Ideal S512x1 .f32} {v188 : FVec Ideal S512x1 .f32} {v292 : BitVec 32} {c1_i32_102 : BitVec 32}
    (G : Grp x2 x3 x4 1 v168 v172 v176 v182 v188) (G_arg9 : BufTy.Contents (Elt Ideal) arg9.view.ty)
    (init : FVec Ideal S512x128 .f32 × FVec Ideal S512x128 .f32 × FVec Ideal S512x1 .f32 × FVec Ideal S512x1 .f32) (y : FVec Ideal S8192x256 .f32)
    (hA : Acc x0 x1 x2 x3 x4 x5 x6 x7 1 (blkOf i) ((blkOf i).val + 1) init.1 init.2.1 init.2.2.1 init.2.2.2)
    (hD : Dq x0 x1 x2 x3 x4 x5 x6 x7 1 (blkOf i) ((blkOf i).val + 1) y (arg9.view.read (Elt Ideal) G_arg9))
    {m n : ℕ} (hm : m = (blkOf i).val + 1 + n) (hn : n ≤ (k0_t3_loop i).trips) :
    Acc x0 x1 x2 x3 x4 x5 x6 x7 1 (blkOf i) m
        (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).1.1
        (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).1.2.1
        (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).1.2.2.1
        (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).1.2.2.2
      ∧ Dq x0 x1 x2 x3 x4 x5 x6 x7 1 (blkOf i) m y (arg9.view.read (Elt Ideal) (arg9.view.writes (Elt Ideal) G_arg9
          (st_k0_t3 (F := Ideal) Variants.none c none i arg1 harg1 arg2 harg2 arg3 harg3 arg4 harg4 arg5 harg5 arg6 harg6 arg7 harg7 arg8 harg8 arg9 harg9 arg10 harg10 arg11 harg11 arg12 harg12 k0_pay85 k0_pay86 v168 v172 v176 v182 v188 v292 c1_i32_102 (harg1.unread x0) (harg2.unread x1) (harg6.unread x5) (harg7.unread x6) (harg8.unread x7) G_arg9 init n).2)) := by
  subst hm
  exact loop3 (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (v168 := v168) (v172 := v172) (v176 := v176) (v182 := v182) (v188 := v188) (v292 := v292) (c1_i32_102 := c1_i32_102) G G_arg9 init y hA hD n hn

theorem tripsA (i : grid0.Coords) : Scf.trips (Scalar.addi (BitVec.ofNat 32 (i 0).val) 1#32) (Scalar.addi (Scalar.addi (BitVec.ofNat 32 (i 0).val) 1#32) (Scalar.muli (Scalar.divsi (Scalar.subi 16#32 (Scalar.addi (BitVec.ofNat 32 (i 0).val) 1#32)) 1#32) 1#32)) 1#32 = 15 - (i 0).val := trips1 i

theorem rest2 (𝒱 : Variants) (c : Dev nD) (bd : Option 𝒱.V) (i : grid0.Coords) (arg1 : Memref sig .tc .vmem S8192x256 .bf16) (harg1 : arg1.IsWhole) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x128 .f32) (harg5 : arg5.IsWhole) (arg6 : Memref sig .tc .vmem S8x8192 .f32) (harg6 : arg6.IsWhole) (arg7 : Memref sig .tc .vmem S8x8192 .f32) (harg7 : arg7.IsWhole) (arg8 : Memref sig .tc .vmem S8x8192 .f32) (harg8 : arg8.IsWhole) (arg9 : Memref sig .tc .vmem S8192x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x128 .f32) (harg12 : arg12.IsWhole) (arg0 : BitVec 32) (v3 : IVec S512x128 32) (v5 : IVec S512x128 1) (v7 : IVec S512x128 1) (v13 : FVec Ideal S512x128 .f32) (v17 : FVec Ideal S512x128 .bf16) (v21 : FVec Ideal S512x128 .bf16) (v25 : FVec Ideal S512x128 .bf16) (v31 : FVec Ideal S512x1 .f32) (v37 : FVec Ideal S512x1 .f32) (v41 : FVec Ideal S512x1 .f32) (v43 : BitVec 32) (v87 : FVec Ideal S512x128 .f32) (v90 : FVec Ideal S512x1 .f32) (v92 : FVec Ideal S512x128 .f32) (v115 : FVec Ideal S512x128 .f32) (v122 : FVec Ideal S512x512 .f32) (v123 : FVec Ideal S512x512 .bf16) (v128 : FVec Ideal S512x128 .f32) (v146 : BitVec 32) (X_arg1 : BufTy.Contents (Elt Ideal) arg1.view.ty) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S512x128 .f32 × FVec Ideal S512x128 .f32 × FVec Ideal S512x1 .f32 × FVec Ideal S512x1 .f32) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v3 v5 v7 v13 v17 v21 v25 v31 v37 v41 v43 v87 v90 v92 v115 v122 v123 v128 v146 X_arg1 X_arg2 X_arg6 X_arg7 X_arg8 G_arg9 init (Scf.trips (Scalar.addi (Scalar.addi (BitVec.ofNat 32 (i 0).val) 1#32) (Scalar.muli (Scalar.divsi (Scalar.subi 16#32 (Scalar.addi (BitVec.ofNat 32 (i 0).val) 1#32)) 1#32) 1#32)) (Scalar.addi (Scalar.addi (BitVec.ofNat 32 (i 0).val) 1#32) (Scalar.subi 16#32 (Scalar.addi (BitVec.ofNat 32 (i 0).val) 1#32))) 1#32) = (init, []) := by
  have e : Scf.trips (Scalar.addi (Scalar.addi (BitVec.ofNat 32 (i 0).val) 1#32) (Scalar.muli (Scalar.divsi (Scalar.subi 16#32 (Scalar.addi (BitVec.ofNat 32 (i 0).val) 1#32)) 1#32) 1#32)) (Scalar.addi (Scalar.addi (BitVec.ofNat 32 (i 0).val) 1#32) (Scalar.subi 16#32 (Scalar.addi (BitVec.ofNat 32 (i 0).val) 1#32))) 1#32 = 0 := trips2 i
  rw [e]; rfl

theorem rest4 (𝒱 : Variants) (c : Dev nD) (bd : Option 𝒱.V) (i : grid0.Coords) (arg1 : Memref sig .tc .vmem S8192x256 .bf16) (harg1 : arg1.IsWhole) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x128 .f32) (harg5 : arg5.IsWhole) (arg6 : Memref sig .tc .vmem S8x8192 .f32) (harg6 : arg6.IsWhole) (arg7 : Memref sig .tc .vmem S8x8192 .f32) (harg7 : arg7.IsWhole) (arg8 : Memref sig .tc .vmem S8x8192 .f32) (harg8 : arg8.IsWhole) (arg9 : Memref sig .tc .vmem S8192x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x128 .f32) (harg12 : arg12.IsWhole) (v5 : IVec S512x128 1) (v7 : IVec S512x128 1) (v168 : FVec Ideal S512x128 .bf16) (v172 : FVec Ideal S512x128 .bf16) (v176 : FVec Ideal S512x128 .bf16) (v182 : FVec Ideal S512x1 .f32) (v188 : FVec Ideal S512x1 .f32) (v297 : BitVec 32) (X_arg1 : BufTy.Contents (Elt Ideal) arg1.view.ty) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S512x128 .f32 × FVec Ideal S512x128 .f32 × FVec Ideal S512x1 .f32 × FVec Ideal S512x1 .f32) :
    st_k0_t4 (F := Ideal) 𝒱 c bd i arg1 harg1 arg2 harg2 arg3 harg3 arg4 harg4 arg5 harg5 arg6 harg6 arg7 harg7 arg8 harg8 arg9 harg9 arg10 harg10 arg11 harg11 arg12 harg12 v5 v7 v168 v172 v176 v182 v188 v297 X_arg1 X_arg2 X_arg6 X_arg7 X_arg8 G_arg9 init (Scf.trips (Scalar.addi (Scalar.addi (BitVec.ofNat 32 (i 0).val) 1#32) (Scalar.muli (Scalar.divsi (Scalar.subi 16#32 (Scalar.addi (BitVec.ofNat 32 (i 0).val) 1#32)) 1#32) 1#32)) (Scalar.addi (Scalar.addi (BitVec.ofNat 32 (i 0).val) 1#32) (Scalar.subi 16#32 (Scalar.addi (BitVec.ofNat 32 (i 0).val) 1#32))) 1#32) = (init, []) := by
  have e : Scf.trips (Scalar.addi (Scalar.addi (BitVec.ofNat 32 (i 0).val) 1#32) (Scalar.muli (Scalar.divsi (Scalar.subi 16#32 (Scalar.addi (BitVec.ofNat 32 (i 0).val) 1#32)) 1#32) 1#32)) (Scalar.addi (Scalar.addi (BitVec.ofNat 32 (i 0).val) 1#32) (Scalar.subi 16#32 (Scalar.addi (BitVec.ofNat 32 (i 0).val) 1#32))) 1#32 = 0 := trips4 i
  rw [e]; rfl

end Cert.KernelIdeal.Attn

end
-- ==== Proof.AttnSpec.lean ====
module

public import proofs.«01_k».proof.Proof.AttnDone
public import Idealize.ShloMosaic.Lib.VecWindow

@[expose] public section

set_option maxRecDepth 16384

noncomputable section

namespace Cert.KernelIdeal.Attn

open Idealize.ShloMosaic Idealize.ShloMosaic.TcCoe Idealize.SL.Sem
open Cert.KernelIdeal Cert.KernelIdeal.Gen

/-- A load of the whole block of gate sums. -/
theorem load_c {m : Memref sig .tc .vmem S512x128 .f32} (f : BufTy.Contents (Elt Ideal) m.view.ty)
    (inb : ∀ a, (![0, 0] : Fin 2 → ℕ) a + S512x128.size a ≤ S512x128.size a) (b : Fin 512) (l : Fin 128) :
    View.readAt (Elt Ideal) m.view (Rect.unit (s := S512x128) ![0, 0] S512x128.size inb).toLoadRect f (ix2 b l) = m.view.read (Elt Ideal) f (ix2 b l) := by
  refine congrArg (m.view.read (Elt Ideal) f) (funext fun a => Fin.ext ?_)
  refine Fin.cases ?_ (fun a => Fin.cases ?_ (fun a => a.elim0) a) a <;> simp [ix2]

theorem cQ_diag (x0 x1 : FVec Ideal S8192x256 .bf16) (x2 x3 : FVec Ideal S512x256 .bf16)
    (x4 : FVec Ideal S512x128 .f32) (x5 x6 x7 : FVec Ideal S8x8192 .f32) (J : Fin 16) (b : Fin 512) (L : Fin 256) :
    cQ x0 x1 x2 x3 x4 x5 x6 x7 J (row J b) L = ∑ a, dS x0 x1 x2 x3 x4 x5 x6 x7 J (hd L) a b * x2 (ix2 a L) := by
  simp only [cQ, mS_diag]

theorem full_mem (y : S8192x256.Idx) : y ∈ (Rect.unit (s := S8192x256) ![0, 0] S8192x256.size inb_S8192x256_S8192x256_0_0).set := by
  rw [Rect.mem_set_unit]
  intro a
  have := (y a).isLt
  revert this
  refine Fin.cases ?_ (fun a => Fin.cases ?_ (fun a => a.elim0) a) a <;> simp

theorem mem_H8 : (⟨Rect.unit (s := S8192x256) ![0, 0] S8192x256.size inb_S8192x256_S8192x256_0_0, k0_pay84 (F := Ideal)⟩ : View.Piece (Elt Ideal) S8192x256 .f32)
    ∈ runFirst.sl.H8_1 (F := Ideal) := List.mem_singleton_self _

theorem zero_apply (B : Fin 8192) (L : Fin 256) : k0_pay84 (F := Ideal) (ix2 B L) = 0 := by
  unfold_payloads; pointwise

theorem Acc_dk {x0 x1 : FVec Ideal S8192x256 .bf16} {x2 x3 : FVec Ideal S512x256 .bf16}
    {x4 : FVec Ideal S512x128 .f32} {x5 x6 x7 : FVec Ideal S8x8192 .f32} {g : Fin 2} {J : Fin 16} {dk dv : FVec Ideal S512x128 .f32} {dc0 dc1 : FVec Ideal S512x1 .f32}
    (h : Acc x0 x1 x2 x3 x4 x5 x6 x7 g J 16 dk dv dc0 dc1) (a : Fin 512) (l : Fin 128) :
    dk (ix2 a l) = ∑ B, mS x0 x1 x2 x3 x4 x5 x6 x7 J (hd (gl g l)) a B * x0 (ix2 B (gl g l)) := (Acc.dk h a l).trans (psum_all _)

theorem Acc_dv {x0 x1 : FVec Ideal S8192x256 .bf16} {x2 x3 : FVec Ideal S512x256 .bf16}
    {x4 : FVec Ideal S512x128 .f32} {x5 x6 x7 : FVec Ideal S8x8192 .f32} {g : Fin 2} {J : Fin 16} {dk dv : FVec Ideal S512x128 .f32} {dc0 dc1 : FVec Ideal S512x1 .f32}
    (h : Acc x0 x1 x2 x3 x4 x5 x6 x7 g J 16 dk dv dc0 dc1) (a : Fin 512) (l : Fin 128) :
    dv (ix2 a l) = ∑ B, mP x0 x2 x4 x5 x6 J (hd (gl g l)) a B * x1 (ix2 B (gl g l)) := (Acc.dv h a l).trans (psum_all _)

theorem Acc_dc0 {x0 x1 : FVec Ideal S8192x256 .bf16} {x2 x3 : FVec Ideal S512x256 .bf16}
    {x4 : FVec Ideal S512x128 .f32} {x5 x6 x7 : FVec Ideal S8x8192 .f32} {g : Fin 2} {J : Fin 16} {dk dv : FVec Ideal S512x128 .f32} {dc0 dc1 : FVec Ideal S512x1 .f32}
    (h : Acc x0 x1 x2 x3 x4 x5 x6 x7 g J 16 dk dv dc0 dc1) (a : Fin 512) :
    dc0 (ix2 a 0) = ∑ B, mS x0 x1 x2 x3 x4 x5 x6 x7 J (hh g 0) a B := (Acc.dc0 h a).trans (psum_all _)

theorem Acc_dc1 {x0 x1 : FVec Ideal S8192x256 .bf16} {x2 x3 : FVec Ideal S512x256 .bf16}
    {x4 : FVec Ideal S512x128 .f32} {x5 x6 x7 : FVec Ideal S8x8192 .f32} {g : Fin 2} {J : Fin 16} {dk dv : FVec Ideal S512x128 .f32} {dc0 dc1 : FVec Ideal S512x1 .f32}
    (h : Acc x0 x1 x2 x3 x4 x5 x6 x7 g J 16 dk dv dc0 dc1) (a : Fin 512) :
    dc1 (ix2 a 0) = ∑ B, mS x0 x1 x2 x3 x4 x5 x6 x7 J (hh g 1) a B := (Acc.dc1 h a).trans (psum_all _)

theorem Dq_both_to {x0 x1 : FVec Ideal S8192x256 .bf16} {x2 x3 : FVec Ideal S512x256 .bf16}
    {x4 : FVec Ideal S512x128 .f32} {x5 x6 x7 : FVec Ideal S8x8192 .f32} {J : Fin 16} {y z1 z2 : FVec Ideal S8192x256 .f32} {B : Fin 8192} {L : Fin 256} {r : EReal}
    (d1 : Dq x0 x1 x2 x3 x4 x5 x6 x7 1 J 16 z1 z2) (d0 : Dq x0 x1 x2 x3 x4 x5 x6 x7 0 J 16 y z1)
    (last : y (ix2 B L) = r) :
    z2 (ix2 B L) = r + cQ x0 x1 x2 x3 x4 x5 x6 x7 J B L := by
  rw [Dq_both d1 d0, last]

theorem pay123_apply (K : FVec Ideal S512x128 .bf16) (a : Fin 512) (l : Fin 128) : k0_pay123 (F := Ideal) K (ix2 a l) = K (ix2 a l) := by
  unfold_payloads; pointwise

set_option maxHeartbeats 4000000 in
/-- What `runLater` leaves in the four arrays. -/
theorem runLater_spec (c : Dev nD) (i : grid0.Coords) (arg1 : Memref sig .tc .vmem S8192x256 .bf16) (harg1 : arg1.IsWhole) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x128 .f32) (harg5 : arg5.IsWhole) (arg6 : Memref sig .tc .vmem S8x8192 .f32) (harg6 : arg6.IsWhole) (arg7 : Memref sig .tc .vmem S8x8192 .f32) (harg7 : arg7.IsWhole) (arg8 : Memref sig .tc .vmem S8x8192 .f32) (harg8 : arg8.IsWhole) (arg9 : Memref sig .tc .vmem S8192x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x128 .f32) (harg12 : arg12.IsWhole)
    (hc : ¬ first i) (x0 : Vec Ideal S8192x256 .bf16) (x1 : Vec Ideal S8192x256 .bf16) (x2 : Vec Ideal S512x256 .bf16) (x3 : Vec Ideal S512x256 .bf16) (x4 : Vec Ideal S512x128 .f32) (x5 : Vec Ideal S8x8192 .f32) (x6 : Vec Ideal S8x8192 .f32) (x7 : Vec Ideal S8x8192 .f32) (y8 : Vec Ideal S8192x256 .f32) :
    (∀ (f9 : BufTy.Contents (Elt Ideal) arg9.view.ty) (B : Fin 8192) (L : Fin 256), arg9.view.read (Elt Ideal) (arg9.view.writes (Elt Ideal) (harg9.unread y8) (runLater (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 y8).1) (ix2 B L) = y8 (ix2 B L) + cQ x0 x1 x2 x3 x4 x5 x6 x7 (blkOf i) B L)
    ∧ (∀ (f : BufTy.Contents (Elt Ideal) arg10.view.ty) (a : Fin 512) (L : Fin 256), arg10.view.read (Elt Ideal) (arg10.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 y8).2.1) (ix2 a L)
        = ∑ B, mS x0 x1 x2 x3 x4 x5 x6 x7 (blkOf i) (hd L) a B * x0 (ix2 B L))
    ∧ (∀ (f : BufTy.Contents (Elt Ideal) arg11.view.ty) (a : Fin 512) (L : Fin 256), arg11.view.read (Elt Ideal) (arg11.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 y8).2.2.1) (ix2 a L)
        = ∑ B, mP x0 x2 x4 x5 x6 (blkOf i) (hd L) a B * x1 (ix2 B L))
    ∧ (∀ (f : BufTy.Contents (Elt Ideal) arg12.view.ty) (a : Fin 512) (l : Fin 128), arg12.view.read (Elt Ideal) (arg12.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 y8).2.2.2.val) (ix2 a l)
        = if h : l.val < 4 then 0 - ∑ B, mS x0 x1 x2 x3 x4 x5 x6 x7 (blkOf i) ⟨l.val, h⟩ a B else 0) := by
  have hc4 : ∀ (a : Fin 512) (l : Fin 128), (View.readAt (Elt Ideal) arg5.view (Rect.unit (s := S512x128) ![0, 0] S512x128.size inb_S512x128_S512x128_0_0).toLoadRect (harg5.unread x4)) (ix2 a l) = x4 (ix2 a l) :=
    fun a l => (load_c _ _ a l).trans (rd harg5 x4 _)
  have hK0 : ∀ (a : Fin 512) (l : Fin 128), (View.readAt (Elt Ideal) arg3.view (Rect.unit (s := S512x256) ![0, 0] S512x128.size inb_S512x256_S512x128_0_0).toLoadRect (harg3.unread x2)) (ix2 a l) = x2 (ix2 a (gl 0 l)) :=
    fun a l => (load_keys (g := 0) _ rfl _ a l).trans (rd harg3 x2 (ix2 a (gl 0 l)))
  have hV0 : ∀ (a : Fin 512) (l : Fin 128), (View.readAt (Elt Ideal) arg4.view (Rect.unit (s := S512x256) ![0, 0] S512x128.size inb_S512x256_S512x128_0_0).toLoadRect (harg4.unread x3)) (ix2 a l) = x3 (ix2 a (gl 0 l)) :=
    fun a l => (load_keys (g := 0) _ rfl _ a l).trans (rd harg4 x3 (ix2 a (gl 0 l)))
  have hK1 : ∀ (a : Fin 512) (l : Fin 128), (View.readAt (Elt Ideal) arg3.view (Rect.unit (s := S512x256) ![0, 128] S512x128.size inb_S512x256_S512x128_0_128).toLoadRect (harg3.unread x2)) (ix2 a l) = x2 (ix2 a (gl 1 l)) :=
    fun a l => (load_keys (g := 1) _ rfl _ a l).trans (rd harg3 x2 (ix2 a (gl 1 l)))
  have hV1 : ∀ (a : Fin 512) (l : Fin 128), (View.readAt (Elt Ideal) arg4.view (Rect.unit (s := S512x256) ![0, 128] S512x128.size inb_S512x256_S512x128_0_128).toLoadRect (harg4.unread x3)) (ix2 a l) = x3 (ix2 a (gl 1 l)) :=
    fun a l => (load_keys (g := 1) _ rfl _ a l).trans (rd harg4 x3 (ix2 a (gl 1 l)))
  have h166 : ∀ (a : Fin 512) (l : Fin 128), k0_pay123 (F := Ideal) (View.readAt (Elt Ideal) arg3.view (Rect.unit (s := S512x256) ![0, 128] S512x128.size inb_S512x256_S512x128_0_128).toLoadRect (harg3.unread x2)) (ix2 a l) = x2 (ix2 a (gl 1 l)) :=
    fun a l => (pay123_apply _ a l).trans (hK1 a l)
  have G0 := grp0 hV0 hK0 hc4
  have G1 := grp1 hV1 hK1 hc4
  have e1 : k0_off1 i = ![512 * (blkOf i).val, 128 * (0 : Fin 2).val] := k0_off1_eq i
  have e2 : k0_off2 i = ![(hh 0 0).val, 512 * (blkOf i).val] := k0_off2_eq i
  have e3 : k0_off3 i = ![(hh 0 1).val, 512 * (blkOf i).val] := k0_off3_eq i
  have e10 : k0_off10 i = ![512 * (blkOf i).val, 128 * (1 : Fin 2).val] := k0_off10_eq i
  have e11 : k0_off11 i = ![(hh 1 0).val, 512 * (blkOf i).val] := k0_off11_eq i
  have e12 : k0_off12 i = ![(hh 1 1).val, 512 * (blkOf i).val] := k0_off12_eq i
  have H0 := blk_of (x0 := x0) (x1 := x1) (x5 := x5) (x6 := x6) (x7 := x7) harg1 harg2 harg6 harg7 harg8 e1 e2 e3 (k0_off1_inb i) (k0_off2_inb i) (k0_off3_inb i)
  have H1 := blk_of (x0 := x0) (x1 := x1) (x5 := x5) (x6 := x6) (x7 := x7) harg1 harg2 harg6 harg7 harg8 e10 e11 e12 (k0_off10_inb i) (k0_off11_inb i) (k0_off12_inb i)
  have hJ := (blkOf i).isLt
  have t1 : 15 - (i 0).val ≤ (k0_t1_loop i).trips := (trips1 i).ge
  have t3 : 15 - (i 0).val ≤ (k0_t3_loop i).trips := (trips3 i).ge
  have h16 : 16 = (blkOf i).val + 1 + (15 - (i 0).val) := by simp only [blkOf] at *; omega
  unfold runLater
  dsimp only
  unfold runLater.sl.v287
  try unfold runLater.sl.r_20
  simp only [rest2, rest4, tripsA, List.nil_append]
  refine ⟨?_, ?_, ?_, ?_⟩
  · intro f9 B L
    apply Dq_both_to
    case d1 =>
      rw [View.writes_append]
      apply And.right; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)
    case d0 =>
      rw [View.writes_append]
      apply And.right; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := []) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    case last =>
      exact rd harg9 y8 _
  · intro f a L
    refine halves f _ _ _ _ (fun a L => ∑ B, mS x0 x1 x2 x3 x4 x5 x6 x7 (blkOf i) (hd L) a B * x0 (ix2 B L)) (fun a l => ?_) (fun a l => ?_) a L
    · apply Acc_dk (x0 := x0) (x1 := x1) (x2 := x2) (x3 := x3) (x4 := x4) (x5 := x5) (x6 := x6) (x7 := x7) (g := 0)
      apply And.left; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := []) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    · apply Acc_dk (x0 := x0) (x1 := x1) (x2 := x2) (x3 := x3) (x4 := x4) (x5 := x5) (x6 := x6) (x7 := x7) (g := 1)
      apply And.left; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)
  · intro f a L
    refine halves f _ _ _ _ (fun a L => ∑ B, mP x0 x2 x4 x5 x6 (blkOf i) (hd L) a B * x1 (ix2 B L)) (fun a l => ?_) (fun a l => ?_) a L
    · apply Acc_dv (x0 := x0) (x1 := x1) (x2 := x2) (x3 := x3) (x4 := x4) (x5 := x5) (x6 := x6) (x7 := x7) (g := 0)
      apply And.left; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := []) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    · apply Acc_dv (x0 := x0) (x1 := x1) (x2 := x2) (x3 := x3) (x4 := x4) (x5 := x5) (x6 := x6) (x7 := x7) (g := 1)
      apply And.left; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)
  · intro f a l
    refine (one_piece f _ _ a l).trans ?_
    refine lanes_dc _ rfl (fun h a => ∑ B, mS x0 x1 x2 x3 x4 x5 x6 x7 (blkOf i) h a B) _ _ _ _ ?_ ?_ ?_ ?_ a l
    · intro a; apply Acc_dc0 (x0 := x0) (x1 := x1) (x2 := x2) (x3 := x3) (x4 := x4) (x5 := x5) (x6 := x6) (x7 := x7) (g := 0) (J := blkOf i)
      apply And.left; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := []) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    · intro a; apply Acc_dc1 (x0 := x0) (x1 := x1) (x2 := x2) (x3 := x3) (x4 := x4) (x5 := x5) (x6 := x6) (x7 := x7) (g := 0) (J := blkOf i)
      apply And.left; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := []) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    · intro a; apply Acc_dc0 (x0 := x0) (x1 := x1) (x2 := x2) (x3 := x3) (x4 := x4) (x5 := x5) (x6 := x6) (x7 := x7) (g := 1) (J := blkOf i)
      apply And.left; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)
    · intro a; apply Acc_dc1 (x0 := x0) (x1 := x1) (x2 := x2) (x3 := x3) (x4 := x4) (x5 := x5) (x6 := x6) (x7 := x7) (g := 1) (J := blkOf i)
      apply And.left; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)

set_option maxHeartbeats 4000000 in
/-- What `runFirst` leaves in the four arrays. -/
theorem runFirst_spec (c : Dev nD) (i : grid0.Coords) (arg1 : Memref sig .tc .vmem S8192x256 .bf16) (harg1 : arg1.IsWhole) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x128 .f32) (harg5 : arg5.IsWhole) (arg6 : Memref sig .tc .vmem S8x8192 .f32) (harg6 : arg6.IsWhole) (arg7 : Memref sig .tc .vmem S8x8192 .f32) (harg7 : arg7.IsWhole) (arg8 : Memref sig .tc .vmem S8x8192 .f32) (harg8 : arg8.IsWhole) (arg9 : Memref sig .tc .vmem S8192x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x128 .f32) (harg12 : arg12.IsWhole)
    (hc : first i) (x0 : Vec Ideal S8192x256 .bf16) (x1 : Vec Ideal S8192x256 .bf16) (x2 : Vec Ideal S512x256 .bf16) (x3 : Vec Ideal S512x256 .bf16) (x4 : Vec Ideal S512x128 .f32) (x5 : Vec Ideal S8x8192 .f32) (x6 : Vec Ideal S8x8192 .f32) (x7 : Vec Ideal S8x8192 .f32) (y8 : Vec Ideal S8192x256 .f32) :
    (∀ (f9 : BufTy.Contents (Elt Ideal) arg9.view.ty) (B : Fin 8192) (L : Fin 256), arg9.view.read (Elt Ideal) (arg9.view.writes (Elt Ideal) f9 (runFirst (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 y8).1) (ix2 B L) = 0 + cQ x0 x1 x2 x3 x4 x5 x6 x7 (blkOf i) B L)
    ∧ (∀ (f : BufTy.Contents (Elt Ideal) arg10.view.ty) (a : Fin 512) (L : Fin 256), arg10.view.read (Elt Ideal) (arg10.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 y8).2.1) (ix2 a L)
        = ∑ B, mS x0 x1 x2 x3 x4 x5 x6 x7 (blkOf i) (hd L) a B * x0 (ix2 B L))
    ∧ (∀ (f : BufTy.Contents (Elt Ideal) arg11.view.ty) (a : Fin 512) (L : Fin 256), arg11.view.read (Elt Ideal) (arg11.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 y8).2.2.1) (ix2 a L)
        = ∑ B, mP x0 x2 x4 x5 x6 (blkOf i) (hd L) a B * x1 (ix2 B L))
    ∧ (∀ (f : BufTy.Contents (Elt Ideal) arg12.view.ty) (a : Fin 512) (l : Fin 128), arg12.view.read (Elt Ideal) (arg12.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 y8).2.2.2.val) (ix2 a l)
        = if h : l.val < 4 then 0 - ∑ B, mS x0 x1 x2 x3 x4 x5 x6 x7 (blkOf i) ⟨l.val, h⟩ a B else 0) := by
  have hc4 : ∀ (a : Fin 512) (l : Fin 128), (View.readAt (Elt Ideal) arg5.view (Rect.unit (s := S512x128) ![0, 0] S512x128.size inb_S512x128_S512x128_0_0).toLoadRect (harg5.unread x4)) (ix2 a l) = x4 (ix2 a l) :=
    fun a l => (load_c _ _ a l).trans (rd harg5 x4 _)
  have hK0 : ∀ (a : Fin 512) (l : Fin 128), (View.readAt (Elt Ideal) arg3.view (Rect.unit (s := S512x256) ![0, 0] S512x128.size inb_S512x256_S512x128_0_0).toLoadRect (harg3.unread x2)) (ix2 a l) = x2 (ix2 a (gl 0 l)) :=
    fun a l => (load_keys (g := 0) _ rfl _ a l).trans (rd harg3 x2 (ix2 a (gl 0 l)))
  have hV0 : ∀ (a : Fin 512) (l : Fin 128), (View.readAt (Elt Ideal) arg4.view (Rect.unit (s := S512x256) ![0, 0] S512x128.size inb_S512x256_S512x128_0_0).toLoadRect (harg4.unread x3)) (ix2 a l) = x3 (ix2 a (gl 0 l)) :=
    fun a l => (load_keys (g := 0) _ rfl _ a l).trans (rd harg4 x3 (ix2 a (gl 0 l)))
  have hK1 : ∀ (a : Fin 512) (l : Fin 128), (View.readAt (Elt Ideal) arg3.view (Rect.unit (s := S512x256) ![0, 128] S512x128.size inb_S512x256_S512x128_0_128).toLoadRect (harg3.unread x2)) (ix2 a l) = x2 (ix2 a (gl 1 l)) :=
    fun a l => (load_keys (g := 1) _ rfl _ a l).trans (rd harg3 x2 (ix2 a (gl 1 l)))
  have hV1 : ∀ (a : Fin 512) (l : Fin 128), (View.readAt (Elt Ideal) arg4.view (Rect.unit (s := S512x256) ![0, 128] S512x128.size inb_S512x256_S512x128_0_128).toLoadRect (harg4.unread x3)) (ix2 a l) = x3 (ix2 a (gl 1 l)) :=
    fun a l => (load_keys (g := 1) _ rfl _ a l).trans (rd harg4 x3 (ix2 a (gl 1 l)))
  have h166 : ∀ (a : Fin 512) (l : Fin 128), k0_pay123 (F := Ideal) (View.readAt (Elt Ideal) arg3.view (Rect.unit (s := S512x256) ![0, 128] S512x128.size inb_S512x256_S512x128_0_128).toLoadRect (harg3.unread x2)) (ix2 a l) = x2 (ix2 a (gl 1 l)) :=
    fun a l => (pay123_apply _ a l).trans (hK1 a l)
  have G0 := grp0 hV0 hK0 hc4
  have G1 := grp1 hV1 hK1 hc4
  have e1 : k0_off1 i = ![512 * (blkOf i).val, 128 * (0 : Fin 2).val] := k0_off1_eq i
  have e2 : k0_off2 i = ![(hh 0 0).val, 512 * (blkOf i).val] := k0_off2_eq i
  have e3 : k0_off3 i = ![(hh 0 1).val, 512 * (blkOf i).val] := k0_off3_eq i
  have e10 : k0_off10 i = ![512 * (blkOf i).val, 128 * (1 : Fin 2).val] := k0_off10_eq i
  have e11 : k0_off11 i = ![(hh 1 0).val, 512 * (blkOf i).val] := k0_off11_eq i
  have e12 : k0_off12 i = ![(hh 1 1).val, 512 * (blkOf i).val] := k0_off12_eq i
  have H0 := blk_of (x0 := x0) (x1 := x1) (x5 := x5) (x6 := x6) (x7 := x7) harg1 harg2 harg6 harg7 harg8 e1 e2 e3 (k0_off1_inb i) (k0_off2_inb i) (k0_off3_inb i)
  have H1 := blk_of (x0 := x0) (x1 := x1) (x5 := x5) (x6 := x6) (x7 := x7) harg1 harg2 harg6 harg7 harg8 e10 e11 e12 (k0_off10_inb i) (k0_off11_inb i) (k0_off12_inb i)
  have hJ := (blkOf i).isLt
  have t1 : 15 - (i 0).val ≤ (k0_t1_loop i).trips := (trips1 i).ge
  have t3 : 15 - (i 0).val ≤ (k0_t3_loop i).trips := (trips3 i).ge
  have h16 : 16 = (blkOf i).val + 1 + (15 - (i 0).val) := by simp only [blkOf] at *; omega
  unfold runFirst
  dsimp only
  unfold runFirst.sl.v287
  try unfold runFirst.sl.r_20
  simp only [rest2, rest4, tripsA, List.nil_append]
  refine ⟨?_, ?_, ?_, ?_⟩
  · intro f9 B L
    refine (congrFun (View.read_writes_of_cover arg9.view f9 arg9.view arg9.view.junk _ fun y => ⟨_, List.mem_append_right _ (List.mem_cons_of_mem _
      (List.mem_append_right _ (List.mem_cons_of_mem _ mem_H8))), full_mem y⟩) _).trans ?_
    apply Dq_both_to
    case d1 =>
      rw [View.writes_append]
      apply And.right; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)
    case d0 =>
      rw [View.writes_append]
      apply And.right; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := runFirst.sl.H8_1) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    case last =>
      refine (congrFun (View.read_writes_full arg9.view arg9.view.junk _ _ _) _).trans ?_
      exact zero_apply B L
  · intro f a L
    refine halves f _ _ _ _ (fun a L => ∑ B, mS x0 x1 x2 x3 x4 x5 x6 x7 (blkOf i) (hd L) a B * x0 (ix2 B L)) (fun a l => ?_) (fun a l => ?_) a L
    · apply Acc_dk (x0 := x0) (x1 := x1) (x2 := x2) (x3 := x3) (x4 := x4) (x5 := x5) (x6 := x6) (x7 := x7) (g := 0)
      apply And.left; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := runFirst.sl.H8_1) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    · apply Acc_dk (x0 := x0) (x1 := x1) (x2 := x2) (x3 := x3) (x4 := x4) (x5 := x5) (x6 := x6) (x7 := x7) (g := 1)
      apply And.left; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)
  · intro f a L
    refine halves f _ _ _ _ (fun a L => ∑ B, mP x0 x2 x4 x5 x6 (blkOf i) (hd L) a B * x1 (ix2 B L)) (fun a l => ?_) (fun a l => ?_) a L
    · apply Acc_dv (x0 := x0) (x1 := x1) (x2 := x2) (x3 := x3) (x4 := x4) (x5 := x5) (x6 := x6) (x7 := x7) (g := 0)
      apply And.left; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := runFirst.sl.H8_1) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    · apply Acc_dv (x0 := x0) (x1 := x1) (x2 := x2) (x3 := x3) (x4 := x4) (x5 := x5) (x6 := x6) (x7 := x7) (g := 1)
      apply And.left; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)
  · intro f a l
    refine (one_piece f _ _ a l).trans ?_
    refine lanes_dc _ rfl (fun h a => ∑ B, mS x0 x1 x2 x3 x4 x5 x6 x7 (blkOf i) h a B) _ _ _ _ ?_ ?_ ?_ ?_ a l
    · intro a; apply Acc_dc0 (x0 := x0) (x1 := x1) (x2 := x2) (x3 := x3) (x4 := x4) (x5 := x5) (x6 := x6) (x7 := x7) (g := 0) (J := blkOf i)
      apply And.left; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := runFirst.sl.H8_1) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    · intro a; apply Acc_dc1 (x0 := x0) (x1 := x1) (x2 := x2) (x3 := x3) (x4 := x4) (x5 := x5) (x6 := x6) (x7 := x7) (g := 0) (J := blkOf i)
      apply And.left; apply loop1_all (x0 := x0) (x1 := x1) (x2 := x2) (x3 := x3) (x4 := x4) (x5 := x5) (x6 := x6) (x7 := x7) (hm := h16) (hn := t1)
      case G => exact G0
      case hA => exact (acc_start (fun a l => g0_dk G0 H0 rfl rfl rfl a l) (fun a l => g0_dv G0 H0 rfl rfl rfl a l) (fun a => g0_dc0 G0 H0 rfl rfl rfl a) (fun a => g0_dc1 G0 H0 rfl rfl rfl a))
      case hD => exact Dq_store (Ls := runFirst.sl.H8_1) (Dq_start x0 x1 x2 x3 x4 x5 x6 x7 0 (blkOf i) _) e1 (k0_off1_inb i) _ fun b l => (g0_dq G0 H0 rfl rfl rfl _ b l).trans (congrArg₂ (· + ·) (load_rows _ e1 (k0_off1_inb i) b l) (cQ_diag x0 x1 x2 x3 x4 x5 x6 x7 _ b _).symm)
    · intro a; apply Acc_dc0 (x0 := x0) (x1 := x1) (x2 := x2) (x3 := x3) (x4 := x4) (x5 := x5) (x6 := x6) (x7 := x7) (g := 1) (J := blkOf i)
      apply And.left; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)
    · intro a; apply Acc_dc1 (x0 := x0) (x1 := x1) (x2 := x2) (x3 := x3) (x4 := x4) (x5 := x5) (x6 := x6) (x7 := x7) (g := 1) (J := blkOf i)
      apply And.left; apply loop3_all (x0 := x0) (x1 := x1) (x2 := x2) (x3 := x3) (x4 := x4) (x5 := x5) (x6 := x6) (x7 := x7) (hm := h16) (hn := t3)
      case G => exact G1
      case hA => exact (acc_start (fun a l => g1_dk G1 H1 rfl rfl rfl h166 a l) (fun a l => g1_dv G1 H1 rfl rfl rfl h166 a l) (fun a => g1_dc0 G1 H1 rfl rfl rfl h166 a) (fun a => g1_dc1 G1 H1 rfl rfl rfl h166 a))
      case hD => exact Dq_store (Dq_start x0 x1 x2 x3 x4 x5 x6 x7 1 (blkOf i) _) e10 (k0_off10_inb i) _ fun b l => (g1_dq G1 H1 rfl rfl rfl h166 _ b l).trans (congrArg₂ (· + ·) (load_rows _ e10 (k0_off10_inb i) b l) (cQ_diag x0 x1 x2 x3 x4 x5 x6 x7 _ b _).symm)

end Cert.KernelIdeal.Attn

end
-- ==== Proof.AttnStage.lean ====
module

public import proofs.«01_k».proof.Proof.AttnFrame
public import proofs.«01_k».proof.Proof.AttnSum
public import proofs.«01_k».proof.Proof.AttnDiag
public import Idealize.ShloMosaic.Lib.Claim
public import Idealize.ShloMosaic.Lib.WordCmp
public import Idealize.ShloMosaic.Lib.StableHlo.ReadAt
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- A lane within its head. -/
def dl (L : Fin 256) : Fin 64 := ⟨L.val % 64, Nat.mod_lt _ (by decide)⟩

def logit (q k : Fin 8192 → Fin 256 → EReal) (g : Fin 8192 → Fin 4 → EReal) (h : Fin 4) (i j : Fin 8192) : EReal :=
  if j ≤ i then ∑ d : Fin 64, q i (lane h d) * k j (lane h d) + g i h - g j h else ⊥

/-- The rows of an array by head. -/
def heads (x : FVec Ideal S8192x256 .f32) : FVec Ideal S4x8192x64 .f32 :=
  transpose S4x8192x64 [1, 0, 2] (shapeCast S8192x4x64 x shapeCasts_S8192x256_S8192x4x64) transposes_S8192x4x64_S4x8192x64_1_0_2

/-- The position pairs that attention reads: the key is not after the query. -/
def seen : IVec S8192x8192 1 :=
  cmpi .sge (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The logits, with minus infinity where attention does not read. -/
def masked (q k : FVec Ideal S8192x256 .f32) (g : FVec Ideal S8192x4 .f32) : FVec Ideal S4x8192x8192 .f32 :=
  select (broadcastInDim S4x8192x8192 ![1, 2] bcast_S8192x8192_S4x8192x8192_1_2 seen)
    (subf (addf (Host.dotGeneral dot_S4x8192x64_S4x8192x64_S4x8192x8192_2_2_1_1_0_0 none (heads q) (heads k))
        (broadcastInDim S4x8192x8192 ![0, 1, 2] bcast_S4x8192x1_S4x8192x8192_0_1_2 (broadcastInDim S4x8192x1 ![0, 1] bcast_S4x8192_S4x8192x1_0_1 (transpose S4x8192 [1, 0] g transposes_S8192x4_S4x8192_1_0))))
      (broadcastInDim S4x8192x8192 ![0, 1, 2] bcast_S4x1x8192_S4x8192x8192_0_1_2 (broadcastInDim S4x1x8192 ![0, 2] bcast_S4x8192_S4x1x8192_0_2 (transpose S4x8192 [1, 0] g transposes_S8192x4_S4x8192_1_0))))
    (broadcastInDim S4x8192x8192 ![] bcast_S_S4x8192x8192 (id (constant S_ .f32 0xFF800000#32)))

/-- The greatest of each row. -/
def rowMax (x : FVec Ideal S4x8192x8192 .f32) : FVec Ideal S4x8192 .f32 :=
  Host.reduce FloatOps.maximumf x (constant S_ .f32 0xFF800000#32) reducesTo_S4x8192x8192_S4x8192_d2 h_S_

/-- A value of each row, against minus infinity. -/
def again (y : FVec Ideal S4x8192 .f32) : FVec Ideal S4x8192 .f32 :=
  maximumf (broadcastInDim S4x8192 ![] bcast_S_S4x8192 (constant S_ .f32 0xFF800000#32)) y

/-- A value of each row along the row. -/
def along (y : FVec Ideal S4x8192 .f32) : FVec Ideal S4x8192x8192 .f32 :=
  broadcastInDim S4x8192x8192 ![0, 1, 2] bcast_S4x8192x1_S4x8192x8192_0_1_2 (broadcastInDim S4x8192x1 ![0, 1] bcast_S4x8192_S4x8192x1_0_1 y)

/-- The exponentials of what is left over `y`. -/
def expOver (x : FVec Ideal S4x8192x8192 .f32) (y : FVec Ideal S4x8192 .f32) : FVec Ideal S4x8192x8192 .f32 :=
  Host.exp (subf x (along y))

/-- The sum of each row. -/
def rowSum (x : FVec Ideal S4x8192x8192 .f32) : FVec Ideal S4x8192 .f32 :=
  Host.reduceAdd x (constant S_ .f32 0x00000000#32) reducesTo_S4x8192x8192_S4x8192_d2 h_S_

/-- The probabilities. -/
def probs (e : FVec Ideal S4x8192x8192 .f32) (y : FVec Ideal S4x8192 .f32) : FVec Ideal S4x8192x8192 .f32 := Host.divf e (along y)

/-- The weighted sums of the values. -/
def values (p : FVec Ideal S4x8192x8192 .f32) (v : FVec Ideal S4x8192x64 .f32) : FVec Ideal S4x8192x64 .f32 :=
  Host.dotGeneral dot_S4x8192x8192_S4x8192x64_S4x8192x64_2_1_1_2_0_0 none p v

/-- The rows of all heads side by side again. -/
def joined (x : FVec Ideal S4x8192x64 .f32) : FVec Ideal S8192x256 .f32 :=
  shapeCast S8192x256 (transpose S8192x4x64 [1, 0, 2] x transposes_S4x8192x64_S8192x4x64_1_0_2) shapeCasts_S8192x4x64_S8192x256

theorem heads_at (x : FVec Ideal S8192x256 .f32) (h : Fin 4) (B : Fin 8192) (d : Fin 64) : heads x (ix3 h B d) = x (ix2 B (lane h d)) := by
  unfold heads
  pointwise
  simp only [lane, Nat.mul_comm]

theorem masked_at (q k : FVec Ideal S8192x256 .f32) (g : FVec Ideal S8192x4 .f32) (h : Fin 4) (i j : Fin 8192) :
    masked q k g (ix3 h i j) = logit (fun B L => q (ix2 B L)) (fun B L => k (ix2 B L)) (fun B H => g (ix2 B H)) h i j := by
  unfold masked seen
  pointwise
  simp (disch := omega) only [hlo_ix]
  simp only [logit, heads_at, id, constant, Ideal.ofBits_def, neg_inf, Fin.le_def]

theorem rowMax_at (x : FVec Ideal S4x8192x8192 .f32) (h : Fin 4) (i : Fin 8192) :
    rowMax x (ix2 h i) = Finset.univ.fold max ⊥ fun j => x (ix3 h i j) := by
  unfold rowMax
  pointwise
  rw [neg_inf]

theorem again_at (y : FVec Ideal S4x8192 .f32) (h : Fin 4) (i : Fin 8192) : again y (ix2 h i) = y (ix2 h i) := by
  unfold again
  pointwise
  rw [neg_inf]; exact max_eq_right bot_le

theorem expOver_at (x : FVec Ideal S4x8192x8192 .f32) (y : FVec Ideal S4x8192 .f32) (h : Fin 4) (i j : Fin 8192) :
    expOver x y (ix3 h i j) = Ideal.exp (x (ix3 h i j) - y (ix2 h i)) := by
  unfold expOver along
  pointwise

theorem rowSum_at (x : FVec Ideal S4x8192x8192 .f32) (h : Fin 4) (i : Fin 8192) :
    rowSum x (ix2 h i) = ∑ j, x (ix3 h i j) := by
  unfold rowSum
  pointwise

theorem probs_at (e : FVec Ideal S4x8192x8192 .f32) (y : FVec Ideal S4x8192 .f32) (h : Fin 4) (i j : Fin 8192) :
    probs e y (ix3 h i j) = Ideal.div (e (ix3 h i j)) (y (ix2 h i)) := by
  unfold probs along
  pointwise

theorem joined_at (x : FVec Ideal S4x8192x64 .f32) (B : Fin 8192) (L : Fin 256) :
    joined x (ix2 B L) = x (ix3 (hd L) B (dl L)) := by
  unfold joined
  pointwise
  rfl

theorem values_at (p : FVec Ideal S4x8192x8192 .f32) (v : FVec Ideal S4x8192x64 .f32) (h : Fin 4) (i : Fin 8192) (d : Fin 64) :
    values p v (ix3 h i d) = ∑ j, p (ix3 h i j) * v (ix3 h j d) := by
  unfold values
  pointwise

/-- The sums kept by head, padded to eight rows. -/
def padded (x : FVec Ideal S4x8192 .f32) : FVec Ideal S8x8192 .f32 :=
  pad S8x8192 ![0, 0] ![4, 0] ![0, 0] x (sitofp .f32 (constantI S_ 32 0#32) : FVec Ideal S_ .f32) pads_S4x8192_S8x8192_040_000 h_S_

theorem padded_at (x : FVec Ideal S4x8192 .f32) (h : Fin 4) (B : Fin 8192) : padded x (ix2 (r8 h) B) = x (ix2 h B) := by
  unfold padded
  pointwise
  exact dif_pos h.isLt

def logsum (y s : FVec Ideal S4x8192 .f32) : FVec Ideal S4x8192 .f32 := addf y (Host.log s)

theorem logsum_at (y s : FVec Ideal S4x8192 .f32) (h : Fin 4) (B : Fin 8192) : logsum y s (ix2 h B) = y (ix2 h B) + Ideal.log (s (ix2 h B)) := by
  unfold logsum
  pointwise

def inner (o g : FVec Ideal S8192x256 .f32) : FVec Ideal S4x8192 .f32 :=
  transpose S4x8192 [1, 0] (Host.reduceAdd (shapeCast S8192x4x64 (mulf g o) shapeCasts_S8192x256_S8192x4x64) (constant S_ .f32 0x00000000#32) reducesTo_S8192x4x64_S8192x4_d2 h_S_) transposes_S8192x4_S4x8192_1_0

theorem inner_at (o g : FVec Ideal S8192x256 .f32) (h : Fin 4) (B : Fin 8192) : inner o g (ix2 h B) = ∑ d : Fin 64, g (ix2 B (lane h d)) * o (ix2 B (lane h d)) := by
  unfold inner
  pointwise
  simp only [lane, Nat.mul_comm]

end Cert.KernelIdeal.Attn
-- ==== Proof.AttnPrep.lean ====
module

public import proofs.«01_k».proof.Proof.AttnFrame
public import proofs.«01_k».proof.Proof.AttnStage
public import Idealize.ShloMosaic.Lib.Claim
public import Idealize.ShloMosaic.Lib.StableHlo.ReadAt
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ) (c : Dev nD)
/-- The arguments. -/
abbrev aq : FVec Ideal S8192x256 .f32 := m (c, Proc.devRef .tc main_arg0)
abbrev ak : FVec Ideal S8192x256 .f32 := m (c, Proc.devRef .tc main_arg1)
abbrev av : FVec Ideal S8192x256 .f32 := m (c, Proc.devRef .tc main_arg2)
abbrev ac : FVec Ideal S8192x4 .f32 := m (c, Proc.devRef .tc main_arg3)
abbrev ad : FVec Ideal S8192x256 .f32 := m (c, Proc.devRef .tc main_arg4)

/-- The masked logits of the arguments. -/
abbrev am : FVec Ideal S4x8192x8192 .f32 := masked (aq m c) (ak m c) (ac m c)
/-- Their exponentials, over the greatest of the row. -/
abbrev ae : FVec Ideal S4x8192x8192 .f32 := expOver (am m c) (again (rowMax (am m c)))

set_option maxHeartbeats 1600000 in
theorem V_lse : V m c main_v52 = padded (logsum (rowMax (am m c)) (rowSum (expOver (am m c) (rowMax (am m c))))) := by
  unfold V
  after_reads_simp
  simp -implicitDefEqProofs only [StableHlo.TRef.toBuf, StableHlo.TRef.ofBuf, cast_cast, cast_eq]
  rfl

set_option maxHeartbeats 1600000 in
theorem V_dt : V m c main_v53 = padded (inner (joined (values (probs (ae m c) (rowSum (ae m c))) (heads (av m c)))) (ad m c)) := by
  unfold V
  after_reads_simp
  simp -implicitDefEqProofs only [StableHlo.TRef.toBuf, StableHlo.TRef.ofBuf, cast_cast, cast_eq]
  rfl

theorem hd_lane (h : Fin 4) (d : Fin 64) : hd (lane h d) = h := Fin.ext (by have := d.isLt; simp only [hd, lane]; omega)
theorem dl_lane (h : Fin 4) (d : Fin 64) : dl (lane h d) = d := Fin.ext (by have := d.isLt; simp only [dl, lane]; omega)

theorem V_do_at (B : Fin 8192) (L : Fin 256) : V m c main_v54 (ix2 B L) = ad m c (ix2 B L) := by
  unfold V
  after_reads_at

theorem V_c_at (B : Fin 8192) (h : Fin 4) : V m c main_v49 (ix2 B (c128 h)) = ac m c (ix2 B h) := by
  unfold V
  after_reads_at
  exact dif_pos h.isLt

theorem V_ct_at (B : Fin 8192) (h : Fin 4) : V m c main_v51 (ix2 (r8 h) B) = ac m c (ix2 B h) := by
  unfold V
  after_reads_at
  exact dif_pos h.isLt

theorem V_qkv_at (B : Fin 8192) (L : Fin 768) : V m c main_v48 (ix2 B L) = if h : L.val < 256 then aq m c (ix2 B ⟨L.val, h⟩) else
    if h' : L.val - 256 < 256 then ak m c (ix2 B ⟨L.val - 256, h'⟩) else av m c (ix2 B ⟨L.val - 256 - 256, by omega⟩) := by
  unfold V
  after_reads_at
  after_reads_simp

theorem lse_at (h : Fin 4) (B : Fin 8192) : V m c main_v52 (ix2 (r8 h) B) = rowMax (am m c) (ix2 h B) + Ideal.log (∑ j, Ideal.exp (am m c (ix3 h B j) - rowMax (am m c) (ix2 h B))) := by
  rw [V_lse, padded_at, logsum_at, rowSum_at]
  simp only [expOver_at]

theorem dt_at (h : Fin 4) (B : Fin 8192) : V m c main_v53 (ix2 (r8 h) B) = ∑ d : Fin 64, ad m c (ix2 B (lane h d)) *
    ∑ j, Ideal.div (Ideal.exp (am m c (ix3 h B j) - rowMax (am m c) (ix2 h B))) (∑ j', Ideal.exp (am m c (ix3 h B j') - rowMax (am m c) (ix2 h B))) * av m c (ix2 j (lane h d)) := by
  rw [V_dt, padded_at, inner_at]
  simp only [joined_at, values_at, probs_at, rowSum_at, expOver_at, again_at, heads_at, hd_lane, dl_lane]

end Cert.KernelIdeal.Attn
-- ==== Proof.AttnBlocks.lean ====
module

public import proofs.«01_k».proof.Proof.AttnFrame
public import proofs.«01_k».proof.Proof.AttnSpec
public import proofs.«01_k».proof.Proof.AttnPrep
public import Idealize.ShloMosaic.Lib.Claim
public import Idealize.ShloMosaic.Lib.Pipeline.ValueKit.Point
public import Idealize.ShloMosaic.Lib.Pipeline.ValueKit.Geometry
public import Idealize.ShloMosaic.Lib.StableHlo.ReadAt
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

theorem idx : ∀ t : Fin cfg0.N, win0_0.index t = ![0, 0] ∧ win0_1.index t = ![0, 0] ∧ win0_2.index t = ![t.val, 1] ∧ win0_3.index t = ![t.val, 2]
    ∧ win0_4.index t = ![t.val, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ t.val < 16 :=
  (by decide +kernel : ∀ t : Fin grid0.N, win0_0.index t = ![0, 0] ∧ win0_1.index t = ![0, 0] ∧ win0_2.index t = ![t.val, 1] ∧ win0_3.index t = ![t.val, 2]
    ∧ win0_4.index t = ![t.val, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ t.val < 16)

theorem blk_val : ∀ t : Fin cfg0.N, (blkOf (grid0.coords t)).val = t.val :=
  (by decide +kernel : ∀ t : Fin grid0.N, (blkOf (grid0.coords t)).val = t.val)

/-- The position of a key of a point's block. -/
abbrev key (t : Fin cfg0.N) (a : Fin 512) : Fin 8192 := row (blkOf (grid0.coords t)) a

theorem in0 (t : Fin cfg0.N) (B : Fin 8192) (L : Fin 256) : iblk m c 0 t (ix2 B L) = V m c main_v48 (ix2 B ⟨L.val, by omega⟩) := by
  blk_ext [iblk, idx t]
theorem in1 (t : Fin cfg0.N) (B : Fin 8192) (L : Fin 256) : iblk m c 1 t (ix2 B L) = V m c main_v54 (ix2 B L) := by
  blk_ext [iblk, idx t]
theorem in2 (t : Fin cfg0.N) (a : Fin 512) (L : Fin 256) : iblk m c 2 t (ix2 a L) = V m c main_v48 (ix2 (key t a) ⟨L.val + 256, by omega⟩) := by
  have := blk_val t
  blk_ext [iblk, idx t, row]
theorem in3 (t : Fin cfg0.N) (a : Fin 512) (L : Fin 256) : iblk m c 3 t (ix2 a L) = V m c main_v48 (ix2 (key t a) ⟨L.val + 512, by omega⟩) := by
  have := blk_val t
  blk_ext [iblk, idx t, row]
theorem in4 (t : Fin cfg0.N) (a : Fin 512) (l : Fin 128) : iblk m c 4 t (ix2 a l) = V m c main_v49 (ix2 (key t a) l) := by
  have := blk_val t
  blk_ext [iblk, idx t, row]
theorem in5 (t : Fin cfg0.N) (r : Fin 8) (B : Fin 8192) : iblk m c 5 t (ix2 r B) = V m c main_v51 (ix2 r B) := by
  blk_ext [iblk, idx t]
theorem in6 (t : Fin cfg0.N) (r : Fin 8) (B : Fin 8192) : iblk m c 6 t (ix2 r B) = V m c main_v52 (ix2 r B) := by
  blk_ext [iblk, idx t]
theorem in7 (t : Fin cfg0.N) (r : Fin 8) (B : Fin 8192) : iblk m c 7 t (ix2 r B) = V m c main_v53 (ix2 r B) := by
  blk_ext [iblk, idx t]

/-- The logarithm of the sum of the exponentials, and the inner product with the output, of query `i`. -/
abbrev lse (h : Fin 4) (i : Fin 8192) : EReal := V m c main_v52 (ix2 (r8 h) i)
abbrev dt (h : Fin 4) (i : Fin 8192) : EReal := V m c main_v53 (ix2 (r8 h) i)

/-- The probability that the kernel makes of key `j` and query `i`. -/
def gP (h : Fin 4) (j i : Fin 8192) : EReal :=
  if j ≤ i then Ideal.exp (∑ d : Fin 64, ak m c (ix2 j (lane h d)) * aq m c (ix2 i (lane h d)) + (ac m c (ix2 i h) - ac m c (ix2 j h)) - lse m c h i) else 0

/-- The gradient of the logit that the kernel makes of key `j` and query `i`. -/
def gS (h : Fin 4) (j i : Fin 8192) : EReal :=
  gP m c h j i * (∑ d : Fin 64, av m c (ix2 j (lane h d)) * ad m c (ix2 i (lane h d)) - dt m c h i)

theorem in0' (t : Fin cfg0.N) (B : Fin 8192) (L : Fin 256) : iblk m c 0 t (ix2 B L) = aq m c (ix2 B L) := by
  rw [in0, V_qkv_at, dif_pos L.isLt]
theorem in1' (t : Fin cfg0.N) (B : Fin 8192) (L : Fin 256) : iblk m c 1 t (ix2 B L) = ad m c (ix2 B L) := by
  rw [in1, V_do_at]
theorem in2' (t : Fin cfg0.N) (a : Fin 512) (L : Fin 256) : iblk m c 2 t (ix2 a L) = ak m c (ix2 (key t a) L) := by
  rw [in2, V_qkv_at, dif_neg (by simp), dif_pos (by simpa using L.isLt)]
  simp only [Nat.add_sub_cancel]
theorem in3' (t : Fin cfg0.N) (a : Fin 512) (L : Fin 256) : iblk m c 3 t (ix2 a L) = av m c (ix2 (key t a) L) := by
  rw [in3, V_qkv_at, dif_neg (by simp), dif_neg (by simp)]
  exact congrArg (fun x => av m c (ix2 _ x)) (Fin.ext (by simp only; omega))

theorem in4' (t : Fin cfg0.N) (a : Fin 512) (h : Fin 4) : iblk m c 4 t (ix2 a (c128 h)) = ac m c (ix2 (key t a) h) := by
  rw [in4, V_c_at]
theorem in5' (t : Fin cfg0.N) (h : Fin 4) (B : Fin 8192) : iblk m c 5 t (ix2 (r8 h) B) = ac m c (ix2 B h) := by
  rw [in5, V_ct_at]

theorem mP_eq (t : Fin cfg0.N) (h : Fin 4) (a : Fin 512) (B : Fin 8192) :
    mP (iblk m c 0 t) (iblk m c 2 t) (iblk m c 4 t) (iblk m c 5 t) (iblk m c 6 t) (blkOf (grid0.coords t)) h a B = gP m c h (key t a) B := by
  unfold mP kP gP lse
  simp only [in0', in2', in4', in5', in6, Fin.le_def, row]

theorem mS_eq (t : Fin cfg0.N) (h : Fin 4) (a : Fin 512) (B : Fin 8192) :
    mS (iblk m c 0 t) (iblk m c 1 t) (iblk m c 2 t) (iblk m c 3 t) (iblk m c 4 t) (iblk m c 5 t) (iblk m c 6 t) (iblk m c 7 t) (blkOf (grid0.coords t)) h a B = gS m c h (key t a) B := by
  unfold mS gS dt
  rw [mP_eq]
  unfold kD
  simp only [in1', in3', in7]

theorem cQ_eq (t : Fin cfg0.N) (B : Fin 8192) (L : Fin 256) :
    cQ (iblk m c 0 t) (iblk m c 1 t) (iblk m c 2 t) (iblk m c 3 t) (iblk m c 4 t) (iblk m c 5 t) (iblk m c 6 t) (iblk m c 7 t) (blkOf (grid0.coords t)) B L
      = ∑ a, gS m c (hd L) (key t a) B * ak m c (ix2 (key t a) L) := by
  unfold cQ
  simp only [mS_eq, in2']

end Cert.KernelIdeal.Attn
-- ==== Proof.AttnResult.lean ====
module

public import proofs.«01_k».proof.Proof.AttnBlocks
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- What block `J` adds to the gradient of a query. -/
def part (B : Fin 8192) (L : Fin 256) (J : Fin 16) : EReal := ∑ a, gS m c (hd L) (row J a) B * ak m c (ix2 (row J a) L)

theorem first8 (t : Fin cfg0.N) (h : t.val = 0) (B : Fin 8192) (L : Fin 256) :
    (outs m c t.val t.isLt).1 (ix2 B L) = 0 + part m c B L (blkOf (grid0.coords t)) := by
  rw [outs_first m c t h]
  unfold out0
  dsimp only
  rw [← View.read_writes_of_cover (ms8 t).view (ms8 t).view.junk VO8 VO8.junk _ (cover8 m c t h _)]
  refine ((runFirst_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
    ((first_iff t).mpr h) (iblk m c 0 t) (iblk m c 1 t) (iblk m c 2 t) (iblk m c 3 t) (iblk m c 4 t) (iblk m c 5 t) (iblk m c 6 t) (iblk m c 7 t) any8).1 _ B L).trans ?_
  exact congrArg (0 + ·) (cQ_eq m c t B L)

theorem later8 (t : Fin cfg0.N) (h : t.val ≠ 0) (B : Fin 8192) (L : Fin 256) :
    (outs m c t.val t.isLt).1 (ix2 B L) = (outs m c (t.val - 1) (Nat.lt_of_le_of_lt (Nat.sub_le _ _) t.isLt)).1 (ix2 B L) + part m c B L (blkOf (grid0.coords t)) := by
  rw [outs_later m c t h]
  unfold outN
  dsimp only
  refine ((runLater_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
    (fun k => h ((first_iff t).mp k)) (iblk m c 0 t) (iblk m c 1 t) (iblk m c 2 t) (iblk m c 3 t) (iblk m c 4 t) (iblk m c 5 t) (iblk m c 6 t) (iblk m c 7 t) _).1 (ms8 t).view.junk B L).trans ?_
  exact congrArg (_ + ·) (cQ_eq m c t B L)

/-- After the point at position `n` the gradient of a query has what the blocks up to it add. -/
theorem sum8 (n : ℕ) (hn : n < cfg0.N) (B : Fin 8192) (L : Fin 256) :
    (outs m c n hn).1 (ix2 B L) = ∑ J : Fin 16, if J.val ≤ n then part m c B L J else 0 := by
  induction n with
  | zero =>
    have e : blkOf (grid0.coords ⟨0, hn⟩) = 0 := Fin.ext (blk_val ⟨0, hn⟩)
    have h := first8 m c ⟨0, hn⟩ rfl B L
    rw [e, zero_add] at h
    refine h.trans ?_
    rw [Finset.sum_eq_single (0 : Fin 16)]
    · rfl
    · intro J _ hJ
      exact if_neg fun h => hJ (Fin.ext (Nat.le_zero.mp h))
    · intro h; exact absurd (Finset.mem_univ _) h
  | succ n ih =>
    have h := later8 m c ⟨n + 1, hn⟩ (Nat.succ_ne_zero n) B L
    refine h.trans ?_
    have e := blk_val ⟨n + 1, hn⟩
    generalize blkOf (grid0.coords ⟨n + 1, hn⟩) = J at e
    refine (congrArg (· + part m c B L J) (ih (Nat.lt_of_succ_lt hn))).trans ?_
    rw [show part m c B L J = ∑ K : Fin 16, if K = J then part m c B L K else 0 by simp, ← Finset.sum_add_distrib]
    refine Finset.sum_congr rfl fun K _ => ?_
    have e' : J.val = n + 1 := e
    by_cases hK : K = J
    · subst hK
      rw [if_neg (by omega), if_pos rfl, if_pos (by omega), zero_add]
    · have : K.val ≠ n + 1 := fun h => hK (Fin.ext (h.trans e'.symm))
      rw [if_neg hK, add_zero]
      by_cases h : K.val ≤ n
      · rw [if_pos h, if_pos (by omega)]
      · rw [if_neg h, if_neg (by omega)]

theorem last8 (t : Fin cfg0.N) (h : t.val = 15) (B : Fin 8192) (L : Fin 256) :
    (outs m c t.val t.isLt).1 (ix2 B L) = ∑ j, gS m c (hd L) j B * ak m c (ix2 j L) := by
  rw [sum8, sum_blocks]
  refine Finset.sum_congr rfl fun J _ => ?_
  rw [if_pos (by omega)]
  rfl

theorem at9 (t : Fin cfg0.N) (a : Fin 512) (L : Fin 256) :
    (outs m c t.val t.isLt).2.1 (ix2 a L) = ∑ B, gS m c (hd L) (key t a) B * aq m c (ix2 B L) := by
  have e : (∑ B, mS (iblk m c 0 t) (iblk m c 1 t) (iblk m c 2 t) (iblk m c 3 t) (iblk m c 4 t) (iblk m c 5 t) (iblk m c 6 t) (iblk m c 7 t) (blkOf (grid0.coords t)) (hd L) a B * iblk m c 0 t (ix2 B L) : EReal)
      = ∑ B, gS m c (hd L) (key t a) B * aq m c (ix2 B L) := by simp only [mS_eq, in0']
  by_cases h : t.val = 0
  · rw [outs_first m c t h]
    unfold out0
    dsimp only
    rw [← View.read_writes_of_cover (ms9 t).view (ms9 t).view.junk VO9 VO9.junk _ (cover9_at0 m c t h _)]
    exact ((runFirst_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
      ((first_iff t).mpr h) (iblk m c 0 t) (iblk m c 1 t) (iblk m c 2 t) (iblk m c 3 t) (iblk m c 4 t) (iblk m c 5 t) (iblk m c 6 t) (iblk m c 7 t) any8).2.1 _ a L).trans e
  · rw [outs_later m c t h]
    unfold outN
    dsimp only
    rw [← View.read_writes_of_cover (ms9 t).view (ms9 t).view.junk VO9 VO9.junk _ (cover9_atN m c t h _)]
    exact ((runLater_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
      (fun k => h ((first_iff t).mp k)) (iblk m c 0 t) (iblk m c 1 t) (iblk m c 2 t) (iblk m c 3 t) (iblk m c 4 t) (iblk m c 5 t) (iblk m c 6 t) (iblk m c 7 t) _).2.1 _ a L).trans e

theorem at10 (t : Fin cfg0.N) (a : Fin 512) (L : Fin 256) :
    (outs m c t.val t.isLt).2.2.1 (ix2 a L) = ∑ B, gP m c (hd L) (key t a) B * ad m c (ix2 B L) := by
  have e : (∑ B, mP (iblk m c 0 t) (iblk m c 2 t) (iblk m c 4 t) (iblk m c 5 t) (iblk m c 6 t) (blkOf (grid0.coords t)) (hd L) a B * iblk m c 1 t (ix2 B L) : EReal)
      = ∑ B, gP m c (hd L) (key t a) B * ad m c (ix2 B L) := by simp only [mP_eq, in1']
  by_cases h : t.val = 0
  · rw [outs_first m c t h]
    unfold out0
    dsimp only
    rw [← View.read_writes_of_cover (ms10 t).view (ms10 t).view.junk VO10 VO10.junk _ (cover10_at0 m c t h _)]
    exact ((runFirst_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
      ((first_iff t).mpr h) (iblk m c 0 t) (iblk m c 1 t) (iblk m c 2 t) (iblk m c 3 t) (iblk m c 4 t) (iblk m c 5 t) (iblk m c 6 t) (iblk m c 7 t) any8).2.2.1 _ a L).trans e
  · rw [outs_later m c t h]
    unfold outN
    dsimp only
    rw [← View.read_writes_of_cover (ms10 t).view (ms10 t).view.junk VO10 VO10.junk _ (cover10_atN m c t h _)]
    exact ((runLater_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
      (fun k => h ((first_iff t).mp k)) (iblk m c 0 t) (iblk m c 1 t) (iblk m c 2 t) (iblk m c 3 t) (iblk m c 4 t) (iblk m c 5 t) (iblk m c 6 t) (iblk m c 7 t) _).2.2.1 _ a L).trans e

theorem at11 (t : Fin cfg0.N) (a : Fin 512) (l : Fin 128) :
    (outs m c t.val t.isLt).2.2.2 (ix2 a l) = if h : l.val < 4 then 0 - ∑ B, gS m c ⟨l.val, h⟩ (key t a) B else 0 := by
  have e : (if h : l.val < 4 then 0 - ∑ B, mS (iblk m c 0 t) (iblk m c 1 t) (iblk m c 2 t) (iblk m c 3 t) (iblk m c 4 t) (iblk m c 5 t) (iblk m c 6 t) (iblk m c 7 t) (blkOf (grid0.coords t)) ⟨l.val, h⟩ a B else 0 : EReal)
      = if h : l.val < 4 then 0 - ∑ B, gS m c ⟨l.val, h⟩ (key t a) B else 0 := by simp only [mS_eq]
  by_cases h : t.val = 0
  · rw [outs_first m c t h]
    unfold out0
    dsimp only
    rw [← View.read_writes_of_cover (ms11 t).view (ms11 t).view.junk VO11 VO11.junk _ (cover11_at0 m c t h _)]
    exact ((runFirst_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
      ((first_iff t).mpr h) (iblk m c 0 t) (iblk m c 1 t) (iblk m c 2 t) (iblk m c 3 t) (iblk m c 4 t) (iblk m c 5 t) (iblk m c 6 t) (iblk m c 7 t) any8).2.2.2 _ a l).trans e
  · rw [outs_later m c t h]
    unfold outN
    dsimp only
    rw [← View.read_writes_of_cover (ms11 t).view (ms11 t).view.junk VO11 VO11.junk _ (cover11_atN m c t h _)]
    exact ((runLater_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
      (fun k => h ((first_iff t).mp k)) (iblk m c 0 t) (iblk m c 1 t) (iblk m c 2 t) (iblk m c 3 t) (iblk m c 4 t) (iblk m c 5 t) (iblk m c 6 t) (iblk m c 7 t) _).2.2.2 _ a l).trans e

/-- The gradients of the queries, keys, values and gate sums as the kernel makes them. -/
def dQ : FVec Ideal S8192x256 .f32 := fun y => ∑ j, gS m c (hd (y 1)) j (y 0) * ak m c (ix2 j (y 1))
def dK : FVec Ideal S8192x256 .f32 := fun y => ∑ i, gS m c (hd (y 1)) (y 0) i * aq m c (ix2 i (y 1))
def dV : FVec Ideal S8192x256 .f32 := fun y => ∑ i, gP m c (hd (y 1)) (y 0) i * ad m c (ix2 i (y 1))
def dC : FVec Ideal S8192x128 .f32 := fun y => if h : (y 1).val < 4 then 0 - ∑ i, gS m c ⟨(y 1).val, h⟩ (y 0) i else 0

theorem final8 : (dats m 0 c).arrAt 8 cfg0.N = dQ m c := by
  refine (dats m 0 c).arrAt_eq_of_covers 8 _ (by decide +kernel) fun t hf y => ?_
  have h15 : t.val = 15 := by have := (flush0_8 t).mp hf; have := (idx t).2.2.2.2.2.2.2.2.2.2.2.2; omega
  blk_simp
  rw [after8]
  have hy : y = ix2 (y 0) (y 1) := by funext a; fin_cases a <;> rfl
  have he : (win0_8.blk t).view.emb (ix2 (y 0) (y 1)) = ix2 (y 0) (y 1) := by blk_ext [idx t]
  rw [hy]
  refine Eq.trans (last8 m c t h15 (y 0) (y 1)) ?_
  exact (congrArg (dQ m c) he).symm

theorem final9 : (dats m 0 c).arrAt 9 cfg0.N = dK m c := by
  refine (dats m 0 c).arrAt_eq_of_covers 9 _ (by decide +kernel) fun t hf y => ?_
  blk_simp
  rw [after9]
  have hy : y = ix2 (y 0) (y 1) := by funext a; fin_cases a <;> rfl
  have he : (win0_9.blk t).view.emb (ix2 (y 0) (y 1)) = ix2 (key t (y 0)) (y 1) := by
    have := blk_val t
    blk_ext [idx t, key, row]
  rw [hy]
  refine Eq.trans (at9 m c t (y 0) (y 1)) ?_
  exact (congrArg (dK m c) he).symm

theorem final10 : (dats m 0 c).arrAt 10 cfg0.N = dV m c := by
  refine (dats m 0 c).arrAt_eq_of_covers 10 _ (by decide +kernel) fun t hf y => ?_
  blk_simp
  rw [after10]
  have hy : y = ix2 (y 0) (y 1) := by funext a; fin_cases a <;> rfl
  have he : (win0_10.blk t).view.emb (ix2 (y 0) (y 1)) = ix2 (key t (y 0)) (y 1) := by
    have := blk_val t
    blk_ext [idx t, key, row]
  rw [hy]
  refine Eq.trans (at10 m c t (y 0) (y 1)) ?_
  exact (congrArg (dV m c) he).symm

theorem final11 : (dats m 0 c).arrAt 11 cfg0.N = dC m c := by
  refine (dats m 0 c).arrAt_eq_of_covers 11 _ (by decide +kernel) fun t hf y => ?_
  blk_simp
  rw [after11]
  have hy : y = ix2 (y 0) (y 1) := by funext a; fin_cases a <;> rfl
  have he : (win0_11.blk t).view.emb (ix2 (y 0) (y 1)) = ix2 (key t (y 0)) (y 1) := by
    have := blk_val t
    blk_ext [idx t, key, row]
  rw [hy]
  refine Eq.trans (at11 m c t (y 0) (y 1)) ?_
  exact (congrArg (dC m c) he).symm

end Cert.KernelIdeal.Attn
-- ==== Proof.AttnReal.lean ====
module

public import proofs.«01_k».proof.Proof.AttnStage

@[expose] public section

set_option maxRecDepth 16384

noncomputable section

namespace Cert.KernelIdeal.Attn

open Idealize.ShloMosaic Idealize.ShloMosaic.TcCoe Idealize.SL.Sem
open Cert.KernelIdeal Cert.KernelIdeal.Gen

variable (q k v d : Fin 8192 → Fin 256 → ℝ) (g : Fin 8192 → Fin 4 → ℝ)

/-- The sum of real numbers read as extended reals. -/
theorem coe_sum {n : ℕ} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ

/-- The logit of query `i` and key `j`, the mask aside. -/
def lg (h : Fin 4) (i j : Fin 8192) : ℝ := ∑ a : Fin 64, q i (lane h a) * k j (lane h a) + g i h - g j h

theorem logit_eq (h : Fin 4) (i j : Fin 8192) :
    logit (fun B L => (q B L : EReal)) (fun B L => (k B L : EReal)) (fun B H => (g B H : EReal)) h i j = if j ≤ i then (lg q k g h i j : EReal) else ⊥ := by
  unfold logit lg
  rw [EReal.coe_sub, EReal.coe_add, coe_sum]
  simp only [EReal.coe_mul]

/-- The greatest logit of query `i`. -/
def top (h : Fin 4) (i : Fin 8192) : ℝ :=
  (Finset.univ.fold max ⊥ fun j => logit (fun B L => (q B L : EReal)) (fun B L => (k B L : EReal)) (fun B H => (g B H : EReal)) h i j).toReal

theorem top_eq (h : Fin 4) (i : Fin 8192) :
    (Finset.univ.fold max ⊥ fun j => logit (fun B L => (q B L : EReal)) (fun B L => (k B L : EReal)) (fun B H => (g B H : EReal)) h i j) = (top q k g h i : EReal) := by
  refine (EReal.coe_toReal ?_ ?_).symm
  · refine ne_of_lt ?_
    rw [Finset.fold_max_lt]
    refine ⟨bot_lt_top, fun j _ => ?_⟩
    rw [logit_eq]
    split
    · exact EReal.coe_lt_top _
    · exact bot_lt_top
  · refine ne_of_gt ?_
    rw [Finset.lt_fold_max]
    refine Or.inr ⟨i, Finset.mem_univ _, ?_⟩
    rw [logit_eq, if_pos le_rfl]
    exact EReal.bot_lt_coe _

/-- The exponential of a logit below the greatest, zero where attention does not read. -/
def ex (h : Fin 4) (i j : Fin 8192) : ℝ := if j ≤ i then Real.exp (lg q k g h i j - top q k g h i) else 0

theorem ex_eq (h : Fin 4) (i j : Fin 8192) :
    Ideal.exp (logit (fun B L => (q B L : EReal)) (fun B L => (k B L : EReal)) (fun B H => (g B H : EReal)) h i j - (top q k g h i : EReal)) = (ex q k g h i j : EReal) := by
  rw [logit_eq]
  unfold ex
  split
  · rw [← EReal.coe_sub, Ideal.exp_coe]
  · rw [show (⊥ : EReal) - (top q k g h i : EReal) = ⊥ from EReal.bot_sub _, Ideal.exp_bot, EReal.coe_zero]

theorem ex_nonneg (h : Fin 4) (i j : Fin 8192) : 0 ≤ ex q k g h i j := by
  unfold ex; split
  · exact (Real.exp_pos _).le
  · exact le_rfl

/-- The sum of the exponentials of query `i`. -/
def tot (h : Fin 4) (i : Fin 8192) : ℝ := ∑ j, ex q k g h i j

theorem tot_pos (h : Fin 4) (i : Fin 8192) : 0 < tot q k g h i := by
  refine Finset.sum_pos' (fun j _ => ex_nonneg q k g h i j) ⟨i, Finset.mem_univ _, ?_⟩
  unfold ex
  rw [if_pos le_rfl]
  exact Real.exp_pos _

/-- The probability of key `j` for query `i`. -/
def pr (h : Fin 4) (i j : Fin 8192) : ℝ := ex q k g h i j / tot q k g h i

/-- The gradient of a probability. -/
def dp (h : Fin 4) (i j : Fin 8192) : ℝ := ∑ a : Fin 64, d i (lane h a) * v j (lane h a)

/-- The inner product of the gradients and the probabilities of query `i`. -/
def inn (h : Fin 4) (i : Fin 8192) : ℝ := ∑ j, pr q k g h i j * dp v d h i j

/-- The gradient of a logit. -/
def dl' (h : Fin 4) (i j : Fin 8192) : ℝ := pr q k g h i j * (dp v d h i j - inn q k v d g h i)

theorem pr_sum (h : Fin 4) (i : Fin 8192) : ∑ j, pr q k g h i j = 1 := by
  unfold pr
  rw [← Finset.sum_div]
  exact div_self (tot_pos q k g h i).ne'

/-- A row of the gradient of the logits sums to zero. -/
theorem dl'_sum (h : Fin 4) (i : Fin 8192) : ∑ j, dl' q k v d g h i j = 0 := by
  unfold dl'
  simp only [mul_sub]
  rw [Finset.sum_sub_distrib, ← Finset.sum_mul, pr_sum, one_mul]
  exact sub_self _

theorem div_eq (x y : ℝ) (hy : y ≠ 0) : Ideal.div (x : EReal) (y : EReal) = ((x / y : ℝ) : EReal) := by
  rw [Ideal.div_coe hy, ← EReal.coe_mul, mul_one_div]

/-- The logarithm of a query's sum: what the kernel reads in place of the greatest logit and the sum. -/
def ls (h : Fin 4) (i : Fin 8192) : ℝ := top q k g h i + Real.log (tot q k g h i)

theorem pr_eq (h : Fin 4) (i j : Fin 8192) : (if j ≤ i then Real.exp (lg q k g h i j - ls q k g h i) else 0) = pr q k g h i j := by
  unfold pr ex ls
  split
  · rw [← sub_sub, Real.exp_sub, Real.exp_log (tot_pos q k g h i)]
  · rw [zero_div]

theorem inn_eq (h : Fin 4) (i : Fin 8192) : (∑ a : Fin 64, d i (lane h a) * ∑ j, pr q k g h i j * v j (lane h a)) = inn q k v d g h i := by
  unfold inn dp
  simp only [Finset.mul_sum]
  rw [Finset.sum_comm]
  refine Finset.sum_congr rfl fun j _ => Finset.sum_congr rfl fun a _ => ?_
  ring

theorem dl'_eq (h : Fin 4) (i j : Fin 8192) :
    (if j ≤ i then (dp v d h i j / tot q k g h i + - ∑ j', dp v d h i j' * (1 / (tot q k g h i * tot q k g h i)) * ex q k g h i j') * ex q k g h i j else 0) = dl' q k v d g h i j := by
  have ht := (tot_pos q k g h i).ne'
  have e : (∑ j', dp v d h i j' * (1 / (tot q k g h i * tot q k g h i)) * ex q k g h i j') = inn q k v d g h i / tot q k g h i := by
    unfold inn pr
    rw [Finset.sum_div]
    refine Finset.sum_congr rfl fun j' _ => ?_
    field_simp
  rw [e]
  unfold dl' pr
  split
  · field_simp
    ring
  · rename_i hji
    rw [show ex q k g h i j = 0 from if_neg hji]
    ring

end Cert.KernelIdeal.Attn
-- ==== Proof.AttnRefer.lean ====
module

public import proofs.«01_k».proof.Proof.AttnStage
public import proofs.«01_k».proof.Proof.Gen.ReferenceIdeal.Run
public import Idealize.ShloMosaic.Lib.Claim
public import Idealize.ShloMosaic.Lib.WordCmp
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen
open Cert.KernelIdeal.Attn (lane hd dl logit c128 neg_inf)

variable (m : (ℓ : Loc nD τ sig) → Buf (Elt Ideal) ℓ) (c : Dev nD)

/-- The rows of an array by head. -/
def heads (x : FVec Ideal S8192x256 .f32) : FVec Ideal S4x8192x64 .f32 :=
  transpose S4x8192x64 [1, 0, 2] (shapeCast S8192x4x64 x shapeCasts_S8192x256_S8192x4x64) transposes_S8192x4x64_S4x8192x64_1_0_2

/-- The position pairs that attention reads: the key is not after the query. -/
def seen : IVec S8192x8192 1 :=
  cmpi .sge (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The logits, with minus infinity where attention does not read. -/
def masked (q k : FVec Ideal S8192x256 .f32) (g : FVec Ideal S8192x4 .f32) : FVec Ideal S4x8192x8192 .f32 :=
  select (broadcastInDim S4x8192x8192 ![1, 2] bcast_S8192x8192_S4x8192x8192_1_2 seen)
    (subf (addf (Host.dotGeneral dot_S4x8192x64_S4x8192x64_S4x8192x8192_2_2_1_1_0_0 none (heads q) (heads k))
        (broadcastInDim S4x8192x8192 ![0, 1, 2] bcast_S4x8192x1_S4x8192x8192_0_1_2 (broadcastInDim S4x8192x1 ![0, 1] bcast_S4x8192_S4x8192x1_0_1 (transpose S4x8192 [1, 0] g transposes_S8192x4_S4x8192_1_0))))
      (broadcastInDim S4x8192x8192 ![0, 1, 2] bcast_S4x1x8192_S4x8192x8192_0_1_2 (broadcastInDim S4x1x8192 ![0, 2] bcast_S4x8192_S4x1x8192_0_2 (transpose S4x8192 [1, 0] g transposes_S8192x4_S4x8192_1_0))))
    (broadcastInDim S4x8192x8192 ![] bcast_S_S4x8192x8192 (id (constant S_ .f32 0xFF800000#32)))

/-- The greatest of each row. -/
def rowMax (x : FVec Ideal S4x8192x8192 .f32) : FVec Ideal S4x8192 .f32 :=
  Host.reduce FloatOps.maximumf x (constant S_ .f32 0xFF800000#32) reducesTo_S4x8192x8192_S4x8192_d2 h_S_

/-- A value of each row, against minus infinity. -/
def again (y : FVec Ideal S4x8192 .f32) : FVec Ideal S4x8192 .f32 :=
  maximumf (broadcastInDim S4x8192 ![] bcast_S_S4x8192 (constant S_ .f32 0xFF800000#32)) y

/-- A value of each row along the row. -/
def along (y : FVec Ideal S4x8192 .f32) : FVec Ideal S4x8192x8192 .f32 :=
  broadcastInDim S4x8192x8192 ![0, 1, 2] bcast_S4x8192x1_S4x8192x8192_0_1_2 (broadcastInDim S4x8192x1 ![0, 1] bcast_S4x8192_S4x8192x1_0_1 y)

/-- The exponentials of what is left over `y`. -/
def expOver (x : FVec Ideal S4x8192x8192 .f32) (y : FVec Ideal S4x8192 .f32) : FVec Ideal S4x8192x8192 .f32 :=
  Host.exp (subf x (along y))

/-- The sum of each row. -/
def rowSum (x : FVec Ideal S4x8192x8192 .f32) : FVec Ideal S4x8192 .f32 :=
  Host.reduceAdd x (constant S_ .f32 0x00000000#32) reducesTo_S4x8192x8192_S4x8192_d2 h_S_

/-- The probabilities. -/
def probs (e : FVec Ideal S4x8192x8192 .f32) (y : FVec Ideal S4x8192 .f32) : FVec Ideal S4x8192x8192 .f32 := Host.divf e (along y)

/-- The weighted sums of the values. -/
def values (p : FVec Ideal S4x8192x8192 .f32) (v : FVec Ideal S4x8192x64 .f32) : FVec Ideal S4x8192x64 .f32 :=
  Host.dotGeneral dot_S4x8192x8192_S4x8192x64_S4x8192x64_2_1_1_2_0_0 none p v

/-- The rows of all heads side by side again. -/
def joined (x : FVec Ideal S4x8192x64 .f32) : FVec Ideal S8192x256 .f32 :=
  shapeCast S8192x256 (transpose S8192x4x64 [1, 0, 2] x transposes_S4x8192x64_S8192x4x64_1_0_2) shapeCasts_S8192x4x64_S8192x256

theorem heads_at (x : FVec Ideal S8192x256 .f32) (h : Fin 4) (B : Fin 8192) (d : Fin 64) : heads x (ix3 h B d) = x (ix2 B (lane h d)) := by
  unfold heads
  pointwise
  simp only [lane, Nat.mul_comm]

theorem masked_at (q k : FVec Ideal S8192x256 .f32) (g : FVec Ideal S8192x4 .f32) (h : Fin 4) (i j : Fin 8192) :
    masked q k g (ix3 h i j) = logit (fun B L => q (ix2 B L)) (fun B L => k (ix2 B L)) (fun B H => g (ix2 B H)) h i j := by
  unfold masked seen
  pointwise
  simp (disch := omega) only [hlo_ix]
  simp only [logit, heads_at, id, constant, Ideal.ofBits_def, neg_inf, Fin.le_def]

theorem rowMax_at (x : FVec Ideal S4x8192x8192 .f32) (h : Fin 4) (i : Fin 8192) :
    rowMax x (ix2 h i) = Finset.univ.fold max ⊥ fun j => x (ix3 h i j) := by
  unfold rowMax
  pointwise
  rw [neg_inf]

theorem again_at (y : FVec Ideal S4x8192 .f32) (h : Fin 4) (i : Fin 8192) : again y (ix2 h i) = y (ix2 h i) := by
  unfold again
  pointwise
  rw [neg_inf]; exact max_eq_right bot_le

theorem expOver_at (x : FVec Ideal S4x8192x8192 .f32) (y : FVec Ideal S4x8192 .f32) (h : Fin 4) (i j : Fin 8192) :
    expOver x y (ix3 h i j) = Ideal.exp (x (ix3 h i j) - y (ix2 h i)) := by
  unfold expOver along
  pointwise

theorem rowSum_at (x : FVec Ideal S4x8192x8192 .f32) (h : Fin 4) (i : Fin 8192) :
    rowSum x (ix2 h i) = ∑ j, x (ix3 h i j) := by
  unfold rowSum
  pointwise

theorem probs_at (e : FVec Ideal S4x8192x8192 .f32) (y : FVec Ideal S4x8192 .f32) (h : Fin 4) (i j : Fin 8192) :
    probs e y (ix3 h i j) = Ideal.div (e (ix3 h i j)) (y (ix2 h i)) := by
  unfold probs along
  pointwise

theorem joined_at (x : FVec Ideal S4x8192x64 .f32) (B : Fin 8192) (L : Fin 256) :
    joined x (ix2 B L) = x (ix3 (hd L) B (dl L)) := by
  unfold joined
  pointwise
  rfl

theorem values_at (p : FVec Ideal S4x8192x8192 .f32) (v : FVec Ideal S4x8192x64 .f32) (h : Fin 4) (i : Fin 8192) (d : Fin 64) :
    values p v (ix3 h i d) = ∑ j, p (ix3 h i j) * v (ix3 h j d) := by
  unfold values
  pointwise

/-- One over the square of each row's value. -/
def overSquare (y : FVec Ideal S4x8192 .f32) : FVec Ideal S4x8192x1 .f32 :=
  Host.divf (broadcastInDim S4x8192x1 ![] bcast_S_S4x8192x1 (constant S_ .f32 0x3F800000#32))
    (mulf (broadcastInDim S4x8192x1 ![0, 1] bcast_S4x8192_S4x8192x1_0_1 y) (broadcastInDim S4x8192x1 ![0, 1] bcast_S4x8192_S4x8192x1_0_1 y))

/-- The gradients of the probabilities. -/
def gradP (g v : FVec Ideal S8192x256 .f32) : FVec Ideal S4x8192x8192 .f32 :=
  Host.dotGeneral dot_S4x8192x64_S4x8192x64_S4x8192x8192_2_2_1_1_0_0 none (heads g) (heads v)

/-- What each row's sum receives. -/
def gradSum (p e : FVec Ideal S4x8192x8192 .f32) (y : FVec Ideal S4x8192x1 .f32) : FVec Ideal S4x8192 .f32 :=
  Host.reduceAdd (Host.negf (shapeCast S4x8192x1 (rowSum (mulf (mulf p (broadcastInDim S4x8192x8192 ![0, 1, 2] bcast_S4x8192x1_S4x8192x8192_0_1_2 y)) e)) shapeCasts_S4x8192_S4x8192x1))
    (constant S_ .f32 0x00000000#32) reducesTo_S4x8192x1_S4x8192_d2 h_S_

/-- The gradients of the logits. -/
def gradLogit (p e : FVec Ideal S4x8192x8192 .f32) (y s : FVec Ideal S4x8192 .f32) : FVec Ideal S4x8192x8192 .f32 :=
  select (broadcastInDim S4x8192x8192 ![1, 2] bcast_S8192x8192_S4x8192x8192_1_2 seen)
    (mulf (addf (Host.divf p (along y)) (broadcastInDim S4x8192x8192 ![0, 1] bcast_S4x8192_S4x8192x8192_0_1 s)) e)
    (broadcastInDim S4x8192x8192 ![] bcast_S_S4x8192x8192 (constant S_ .f32 0x00000000#32))

/-- The gradients of the keys. -/
def gradK (s : FVec Ideal S4x8192x8192 .f32) (q : FVec Ideal S4x8192x64 .f32) : FVec Ideal S4x8192x64 .f32 :=
  Host.dotGeneral dot_S4x8192x8192_S4x8192x64_S4x8192x64_1_1_2_2_0_0 none s q

/-- The gradients of the values. -/
def gradV (g : FVec Ideal S4x8192x64 .f32) (p : FVec Ideal S4x8192x8192 .f32) : FVec Ideal S4x8192x64 .f32 :=
  transpose S4x8192x64 [0, 2, 1] (Host.dotGeneral dot_S4x8192x64_S4x8192x8192_S4x64x8192_1_1_2_2_0_0 none g p) transposes_S4x64x8192_S4x8192x64_0_2_1

/-- The gradients of the gate sums. -/
def gradC (s : FVec Ideal S4x8192x8192 .f32) : FVec Ideal S8192x128 .f32 :=
  pad S8192x128 ![0, 0] ![0, 124] ![0, 0]
    (transpose S8192x4 [1, 0]
      (addf
        (Host.reduceAdd (shapeCast S4x1x8192 (Host.reduceAdd (Host.negf s) (constant S_ .f32 0x00000000#32) reducesTo_S4x8192x8192_S4x8192_d1 h_S_) shapeCasts_S4x8192_S4x1x8192)
          (constant S_ .f32 0x00000000#32) reducesTo_S4x1x8192_S4x8192_d1 h_S_)
        (Host.reduceAdd (shapeCast S4x8192x1 (rowSum s) shapeCasts_S4x8192_S4x8192x1) (constant S_ .f32 0x00000000#32) reducesTo_S4x8192x1_S4x8192_d2 h_S_))
      transposes_S4x8192_S8192x4_1_0)
    (sitofp .f32 (constantI S_ 32 0#32) : FVec Ideal S_ .f32) pads_S8192x4_S8192x128_000_01240 h_S_

theorem overSquare_at (y : FVec Ideal S4x8192 .f32) (h : Fin 4) (i : Fin 8192) : overSquare y (ix3 h i 0) = Ideal.div 1 (y (ix2 h i) * y (ix2 h i)) := by
  unfold overSquare
  pointwise

theorem gradP_at (g v : FVec Ideal S8192x256 .f32) (h : Fin 4) (i j : Fin 8192) :
    gradP g v (ix3 h i j) = ∑ d : Fin 64, g (ix2 i (lane h d)) * v (ix2 j (lane h d)) := by
  unfold gradP
  pointwise
  simp only [heads_at]

theorem gradSum_at (p e : FVec Ideal S4x8192x8192 .f32) (y : FVec Ideal S4x8192x1 .f32) (h : Fin 4) (i : Fin 8192) :
    gradSum p e y (ix2 h i) = - ∑ j, p (ix3 h i j) * y (ix3 h i 0) * e (ix3 h i j) := by
  unfold gradSum rowSum
  pointwise
  exact Fin.sum_univ_one _

theorem gradLogit_at (p e : FVec Ideal S4x8192x8192 .f32) (y s : FVec Ideal S4x8192 .f32) (h : Fin 4) (i j : Fin 8192) :
    gradLogit p e y s (ix3 h i j) = if j ≤ i then (Ideal.div (p (ix3 h i j)) (y (ix2 h i)) + s (ix2 h i)) * e (ix3 h i j) else 0 := by
  unfold gradLogit along seen
  pointwise
  simp (disch := omega) only [hlo_ix]
  rfl

theorem gradK_at (s : FVec Ideal S4x8192x8192 .f32) (q : FVec Ideal S4x8192x64 .f32) (h : Fin 4) (j : Fin 8192) (d : Fin 64) :
    gradK s q (ix3 h j d) = ∑ i, s (ix3 h i j) * q (ix3 h i d) := by
  unfold gradK
  pointwise

theorem gradV_at (g : FVec Ideal S4x8192x64 .f32) (p : FVec Ideal S4x8192x8192 .f32) (h : Fin 4) (j : Fin 8192) (d : Fin 64) :
    gradV g p (ix3 h j d) = ∑ i, g (ix3 h i d) * p (ix3 h i j) := by
  unfold gradV
  pointwise

theorem gradC_at (s : FVec Ideal S4x8192x8192 .f32) (j : Fin 8192) (l : Fin 128) :
    gradC s (ix2 j l) = if h : l.val < 4 then ∑ i, - s (ix3 ⟨l.val, h⟩ i j) + ∑ i, s (ix3 ⟨l.val, h⟩ j i) else 0 := by
  unfold gradC rowSum
  pointwise
  split
  · exact congrArg₂ _ (Fin.sum_univ_one _) (Fin.sum_univ_one _)
  · show ((((0#32 : BitVec 32).toInt : ℝ)) : EReal) = 0
    simp

/-- The arguments. -/
abbrev aq : FVec Ideal S8192x256 .f32 := m ((c.tc : Thread nD τ).loc main_arg0)
abbrev ak : FVec Ideal S8192x256 .f32 := m ((c.tc : Thread nD τ).loc main_arg1)
abbrev av : FVec Ideal S8192x256 .f32 := m ((c.tc : Thread nD τ).loc main_arg2)
abbrev ac : FVec Ideal S8192x4 .f32 := m ((c.tc : Thread nD τ).loc main_arg3)
abbrev ad : FVec Ideal S8192x256 .f32 := m ((c.tc : Thread nD τ).loc main_arg4)
/-- The masked logits, their exponentials, the sums of these, and the gradients of the logits. -/
abbrev am : FVec Ideal S4x8192x8192 .f32 := masked (aq m c) (ak m c) (ac m c)
abbrev ae : FVec Ideal S4x8192x8192 .f32 := expOver (am m c) (again (rowMax (am m c)))
abbrev al : FVec Ideal S4x8192 .f32 := rowSum (ae m c)
abbrev adl : FVec Ideal S4x8192x8192 .f32 := gradLogit (gradP (ad m c) (av m c)) (ae m c) (al m c) (gradSum (gradP (ad m c) (av m c)) (ae m c) (overSquare (al m c)))

theorem out0_eq : Cert.ReferenceIdeal.Value.res_out0 m c = joined (values (adl m c) (heads (ak m c))) := by
  unfold Cert.ReferenceIdeal.Value.res_out0 Cert.ReferenceIdeal.Value.res_main_v86
  rfl
theorem out1_eq : Cert.ReferenceIdeal.Value.res_out1 m c = joined (gradK (adl m c) (heads (aq m c))) := by
  unfold Cert.ReferenceIdeal.Value.res_out1 Cert.ReferenceIdeal.Value.res_main_v84
  rfl
theorem out2_eq : Cert.ReferenceIdeal.Value.res_out2 m c = joined (gradV (heads (ad m c)) (probs (ae m c) (al m c))) := by
  unfold Cert.ReferenceIdeal.Value.res_out2 Cert.ReferenceIdeal.Value.res_main_v82
  rfl
theorem out3_eq : Cert.ReferenceIdeal.Value.res_out3 m c = gradC (adl m c) := by
  unfold Cert.ReferenceIdeal.Value.res_out3 Cert.ReferenceIdeal.Value.res_main_v87
  rfl

end Cert.ReferenceIdeal.Attn
-- ==== Proof.AttnEqual.lean ====
module

public import proofs.«01_k».proof.Proof.AttnResult
public import proofs.«01_k».proof.Proof.AttnReal
public import proofs.«01_k».proof.Proof.AttnRefer

@[expose] public section

set_option maxRecDepth 16384

noncomputable section

namespace Cert.KernelIdeal.Attn

open Idealize.ShloMosaic Idealize.ShloMosaic.TcCoe Idealize.SL.Sem
open Cert.KernelIdeal Cert.KernelIdeal.Gen

theorem lane_hd (L : Fin 256) : lane (hd L) (dl L) = L := Fin.ext (by simp only [hd, dl, lane]; omega)

section Kernel

variable (m : (ℓ : Loc nD τ sig) → Buf (Elt Ideal) ℓ) (c : Dev nD)
variable (q k v d : Fin 8192 → Fin 256 → ℝ) (g : Fin 8192 → Fin 4 → ℝ)
variable (hq : ∀ B L, aq m c (ix2 B L) = (q B L : EReal)) (hk : ∀ B L, ak m c (ix2 B L) = (k B L : EReal))
variable (hv : ∀ B L, av m c (ix2 B L) = (v B L : EReal)) (hg : ∀ B H, ac m c (ix2 B H) = (g B H : EReal))
variable (hdo : ∀ B L, ad m c (ix2 B L) = (d B L : EReal))

include hq hk hg in
theorem top_at (h : Fin 4) (i : Fin 8192) : rowMax (am m c) (ix2 h i) = (top q k g h i : EReal) := by
  rw [rowMax_at]
  simp only [am, masked_at, hq, hk, hg]
  exact top_eq q k g h i

include hq hk hg in
theorem ex_at (h : Fin 4) (i j : Fin 8192) : Ideal.exp (am m c (ix3 h i j) - rowMax (am m c) (ix2 h i)) = (ex q k g h i j : EReal) := by
  rw [top_at m c q k g hq hk hg]
  simp only [am, masked_at, hq, hk, hg]
  exact ex_eq q k g h i j

include hq hk hg in
theorem lse_eq (h : Fin 4) (i : Fin 8192) : lse m c h i = (ls q k g h i : EReal) := by
  unfold lse
  rw [lse_at]
  simp only [ex_at m c q k g hq hk hg]
  rw [top_at m c q k g hq hk hg, ← coe_sum, Ideal.log_coe, if_neg (not_le.mpr (show 0 < ∑ j, ex q k g h i j from tot_pos q k g h i))]
  exact (EReal.coe_add _ _).symm

include hq hk hg in
theorem gP_eq (h : Fin 4) (j i : Fin 8192) : gP m c h j i = (pr q k g h i j : EReal) := by
  unfold gP
  rw [lse_eq m c q k g hq hk hg]
  simp only [hq, hk, hg, ← EReal.coe_mul, ← coe_sum, ← EReal.coe_sub, ← EReal.coe_add, Ideal.exp_coe]
  rw [← pr_eq q k g h i j]
  have e : (∑ a : Fin 64, k j (lane h a) * q i (lane h a)) + (g i h - g j h) = lg q k g h i j := by
    unfold lg
    rw [add_sub_assoc]
    exact congrArg (· + _) (Finset.sum_congr rfl fun a _ => mul_comm _ _)
  rw [e]
  split
  · rfl
  · exact EReal.coe_zero.symm

include hq hk hg hv hdo in
theorem dt_eq (h : Fin 4) (i : Fin 8192) : dt m c h i = (inn q k v d g h i : EReal) := by
  unfold dt
  rw [dt_at]
  simp only [ex_at m c q k g hq hk hg, ← coe_sum]
  rw [← inn_eq q k v d g h i]
  have ht : (∑ j, ex q k g h i j) ≠ 0 := (tot_pos q k g h i).ne'
  simp only [div_eq _ _ ht, hv, hdo, ← EReal.coe_mul, ← coe_sum]
  rfl

include hq hk hg hv hdo in
theorem gS_eq (h : Fin 4) (j i : Fin 8192) : gS m c h j i = (dl' q k v d g h i j : EReal) := by
  unfold gS
  rw [gP_eq m c q k g hq hk hg, dt_eq m c q k v d g hq hk hv hg hdo]
  simp only [hv, hdo, ← EReal.coe_mul, ← coe_sum, ← EReal.coe_sub]
  have e : (∑ a : Fin 64, v j (lane h a) * d i (lane h a)) = dp v d h i j := Finset.sum_congr rfl fun a _ => mul_comm _ _
  rw [e]
  rfl

end Kernel

end Cert.KernelIdeal.Attn

namespace Cert.ReferenceIdeal.Attn

open Idealize.ShloMosaic Idealize.ShloMosaic.TcCoe Idealize.SL.Sem
open Cert.ReferenceIdeal Cert.ReferenceIdeal.Gen
open Cert.KernelIdeal.Attn (lane hd dl logit coe_sum top top_eq ex ex_eq tot tot_pos pr dp dl' dl'_eq div_eq)

variable (m : (ℓ : Loc nD τ sig) → Buf (Elt Ideal) ℓ) (c : Dev nD)
variable (q k v d : Fin 8192 → Fin 256 → ℝ) (g : Fin 8192 → Fin 4 → ℝ)
variable (hq : ∀ B L, aq m c (ix2 B L) = (q B L : EReal)) (hk : ∀ B L, ak m c (ix2 B L) = (k B L : EReal))
variable (hv : ∀ B L, av m c (ix2 B L) = (v B L : EReal)) (hg : ∀ B H, ac m c (ix2 B H) = (g B H : EReal))
variable (hdo : ∀ B L, ad m c (ix2 B L) = (d B L : EReal))

include hq hk hg in
theorem ex_at (h : Fin 4) (i j : Fin 8192) : ae m c (ix3 h i j) = (ex q k g h i j : EReal) := by
  rw [ae, expOver_at, again_at, rowMax_at]
  simp only [am, masked_at, hq, hk, hg]
  rw [top_eq q k g h i]
  exact ex_eq q k g h i j

include hq hk hg in
theorem tot_at (h : Fin 4) (i : Fin 8192) : al m c (ix2 h i) = (tot q k g h i : EReal) := by
  rw [al, rowSum_at]
  simp only [ex_at m c q k g hq hk hg, ← coe_sum]
  rfl

include hq hk hg in
theorem pr_at (h : Fin 4) (i j : Fin 8192) : probs (ae m c) (al m c) (ix3 h i j) = (pr q k g h i j : EReal) := by
  rw [probs_at, ex_at m c q k g hq hk hg, tot_at m c q k g hq hk hg, div_eq _ _ (tot_pos q k g h i).ne']
  rfl

include hv hdo in
theorem dp_at (h : Fin 4) (i j : Fin 8192) : gradP (ad m c) (av m c) (ix3 h i j) = (dp v d h i j : EReal) := by
  rw [gradP_at]
  simp only [hv, hdo, ← EReal.coe_mul, ← coe_sum]
  rfl

include hq hk hg hv hdo in
theorem dl_at (h : Fin 4) (i j : Fin 8192) : adl m c (ix3 h i j) = (dl' q k v d g h i j : EReal) := by
  have ht := (tot_pos q k g h i).ne'
  rw [adl, gradLogit_at, gradSum_at, overSquare_at, tot_at m c q k g hq hk hg]
  simp only [ex_at m c q k g hq hk hg, dp_at m c v d hv hdo]
  rw [← EReal.coe_mul, ← EReal.coe_one, div_eq _ _ (mul_ne_zero ht ht), div_eq _ _ ht]
  simp only [← EReal.coe_mul, ← coe_sum, ← EReal.coe_neg, ← EReal.coe_add]
  rw [← dl'_eq q k v d g h i j]
  split
  · rfl
  · exact EReal.coe_zero.symm

end Cert.ReferenceIdeal.Attn
-- ==== Proof.AttnFinite.lean ====
module

public import proofs.«01_k».proof.Defs
public import proofs.«01_k».proof.Proof.Gen.Pre_finite
public import Idealize.ShloMosaic.Lib.ReduceAll
public import Idealize.ShloMosaic.Lib.Pointwise

@[expose] public section

set_option maxRecDepth 16384

noncomputable section

namespace Cert.Pre_finite

open Idealize.ShloMosaic Idealize.SL.Sem Cert.Pre_finite.Facts

variable [Cert.Pre_finite.Facts]

theorem inf_bits : Ideal.ofBits .f32 0x7F800000#32 = (⊤ : EReal) := by
  simp [Ideal.ofBits, Ideal.ieee]

/-- A value whose magnitude is below infinity is a real number. -/
theorem real_of (x : EReal) (h : max x (-x) < ⊤) : ∃ r : ℝ, x = (r : EReal) := by
  induction x with
  | bot => simp at h
  | top => simp at h
  | coe r => exact ⟨r, rfl⟩

/-- What the precondition says of one array. -/
theorem real_at {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32))) (constantI S_ 1 1#1) hr h_S_ j = 1#1)
    (y : s.Idx) : ∃ r : ℝ, x y = (r : EReal) := by
  haveI : Subsingleton S_.Idx := ⟨fun a b => funext fun i => i.elim0⟩
  have := Host.reduce_andi_all _ _ hr h_S_ j h y
  refine real_of _ ?_
  rw [← inf_bits]
  exact (Ideal.cmp_olt_eq_one (max (x y) (-(x y))) _).mp this

theorem five (x0 x1 x2 x3 x4 : IVec S_ 1) (j : S_.Idx)
    (h : concatenate S5 0 [⟨S1, broadcastInDim S1 ![] bcast_S_S1 x0⟩, ⟨S1, broadcastInDim S1 ![] bcast_S_S1 x1⟩, ⟨S1, broadcastInDim S1 ![] bcast_S_S1 x2⟩,
      ⟨S1, broadcastInDim S1 ![] bcast_S_S1 x3⟩, ⟨S1, broadcastInDim S1 ![] bcast_S_S1 x4⟩] concatenates_S1_S1_S1_S1_S1_S5_d0 = fun _ => 1#1) :
    x0 j = 1#1 ∧ x1 j = 1#1 ∧ x2 j = 1#1 ∧ x3 j = 1#1 ∧ x4 j = 1#1 := by
  have e : ∀ i : S_.Idx, i = j := fun i => funext fun a => a.elim0
  have h0 := congrFun h (ix1 (0 : Fin 5))
  have h1 := congrFun h (ix1 (1 : Fin 5))
  have h2 := congrFun h (ix1 (2 : Fin 5))
  have h3 := congrFun h (ix1 (3 : Fin 5))
  have h4 := congrFun h (ix1 (4 : Fin 5))
  refine ⟨?_, ?_, ?_, ?_, ?_⟩
  · exact (congrArg x0 (e _)).symm.trans h0
  · exact (congrArg x1 (e _)).symm.trans h1
  · exact (congrArg x2 (e _)).symm.trans h2
  · exact (congrArg x3 (e _)).symm.trans h3
  · exact (congrArg x4 (e _)).symm.trans h4

theorem reals (a0 a1 a2 : FVec Ideal S8192x256 .f32) (a3 : FVec Ideal S8192x4 .f32) (a4 : FVec Ideal S8192x256 .f32) (h : fn (F := Ideal) a0 a1 a2 a3 a4 = fun _ => 1#1) :
    (∀ y, ∃ r : ℝ, a0 y = (r : EReal)) ∧ (∀ y, ∃ r : ℝ, a1 y = (r : EReal)) ∧ (∀ y, ∃ r : ℝ, a2 y = (r : EReal)) ∧ (∀ y, ∃ r : ℝ, a3 y = (r : EReal)) ∧ (∀ y, ∃ r : ℝ, a4 y = (r : EReal)) := by
  unfold fn fn_part1 at h
  dsimp only at h
  obtain ⟨h0, h1, h2, h3, h4⟩ := five _ _ _ _ _ (fun a => a.elim0) h
  exact ⟨real_at _ _ _ _ h0, real_at _ _ _ _ h1, real_at _ _ _ _ h2, real_at _ _ _ _ h3, real_at _ _ _ _ h4⟩

end Cert.Pre_finite
-- ==== Proof.AttnClaim.lean ====
module

public import proofs.«01_k».proof.Defs
public import proofs.«01_k».proof.Proof.AttnEqual
public import proofs.«01_k».proof.Proof.AttnFinite
public import proofs.«01_k».proof.Proof.Gen.ReferenceIdeal.Run
public import Idealize.ShloMosaic.Lib.Claim

@[expose] public section

set_option maxRecDepth 16384

noncomputable section

namespace Cert.Proof.Attn

open Idealize.ShloMosaic Idealize.ShloMosaic.TcCoe Idealize.SL.Sem
open Cert.KernelIdeal.Attn (lane hd dl lane_hd gS gP gS_eq gP_eq dQ dK dV dC coe_sum dl' dl'_sum)
open Cert.ReferenceIdeal.Attn (joined_at values_at heads_at gradK_at gradV_at gradC_at dl_at pr_at)

/-- An array of two axes all of whose elements are real numbers is an array of real numbers. -/
theorem choose_real {n k : ℕ} (x : FVec Ideal ⟨2, ![n, k]⟩ .f32) (h : ∀ y, ∃ r : ℝ, x y = (r : EReal)) :
    ∃ f : Fin n → Fin k → ℝ, ∀ B L, x (ix2 B L) = (f B L : EReal) :=
  ⟨fun B L => (h (ix2 B L)).choose, fun B L => (h (ix2 B L)).choose_spec⟩

/-- A position of an array of two axes is a row and a column. -/
theorem pair {n k : ℕ} (y : Shape.Idx ⟨2, ![n, k]⟩) : ∃ (B : Fin n) (L : Fin k), y = ix2 B L :=
  ⟨y 0, y 1, by funext a; fin_cases a <;> rfl⟩

section Results

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (q k v d : Fin 8192 → Fin 256 → ℝ) (g : Fin 8192 → Fin 4 → ℝ)
variable (hq : ∀ B L, Cert.KernelIdeal.Attn.aq m c (ix2 B L) = (q B L : EReal)) (hk : ∀ B L, Cert.KernelIdeal.Attn.ak m c (ix2 B L) = (k B L : EReal))
variable (hv : ∀ B L, Cert.KernelIdeal.Attn.av m c (ix2 B L) = (v B L : EReal)) (hg : ∀ B H, Cert.KernelIdeal.Attn.ac m c (ix2 B H) = (g B H : EReal))
variable (hd' : ∀ B L, Cert.KernelIdeal.Attn.ad m c (ix2 B L) = (d B L : EReal))
variable (hq' : ∀ B L, Cert.ReferenceIdeal.Attn.aq m' c (ix2 B L) = (q B L : EReal)) (hk' : ∀ B L, Cert.ReferenceIdeal.Attn.ak m' c (ix2 B L) = (k B L : EReal))
variable (hv' : ∀ B L, Cert.ReferenceIdeal.Attn.av m' c (ix2 B L) = (v B L : EReal)) (hg' : ∀ B H, Cert.ReferenceIdeal.Attn.ac m' c (ix2 B H) = (g B H : EReal))
variable (hd'' : ∀ B L, Cert.ReferenceIdeal.Attn.ad m' c (ix2 B L) = (d B L : EReal))

include hq hk hv hg hd' hq' hk' hv' hg' hd''

theorem eq0 : Cert.ReferenceIdeal.Value.res_out0 m' c = dQ m c := by
  rw [Cert.ReferenceIdeal.Attn.out0_eq]
  funext y
  obtain ⟨B, L, rfl⟩ := pair y
  rw [joined_at, values_at]
  refine Finset.sum_congr rfl fun j _ => ?_
  show _ = gS m c (hd L) j B * Cert.KernelIdeal.Attn.ak m c (ix2 j L)
  rw [gS_eq m c q k v d g hq hk hv hg hd', dl_at m' c q k v d g hq' hk' hv' hg' hd'', heads_at, lane_hd, hk, hk']

theorem eq1 : Cert.ReferenceIdeal.Value.res_out1 m' c = dK m c := by
  rw [Cert.ReferenceIdeal.Attn.out1_eq]
  funext y
  obtain ⟨B, L, rfl⟩ := pair y
  rw [joined_at, gradK_at]
  refine Finset.sum_congr rfl fun i _ => ?_
  show _ = gS m c (hd L) B i * Cert.KernelIdeal.Attn.aq m c (ix2 i L)
  rw [gS_eq m c q k v d g hq hk hv hg hd', dl_at m' c q k v d g hq' hk' hv' hg' hd'', heads_at, lane_hd, hq, hq']

theorem eq2 : Cert.ReferenceIdeal.Value.res_out2 m' c = dV m c := by
  rw [Cert.ReferenceIdeal.Attn.out2_eq]
  funext y
  obtain ⟨B, L, rfl⟩ := pair y
  rw [joined_at, gradV_at]
  refine Finset.sum_congr rfl fun i _ => ?_
  show _ = gP m c (hd L) B i * Cert.KernelIdeal.Attn.ad m c (ix2 i L)
  rw [gP_eq m c q k g hq hk hg, pr_at m' c q k g hq' hk' hg', heads_at, lane_hd, hd', hd'']
  exact mul_comm _ _

theorem eq3 : Cert.ReferenceIdeal.Value.res_out3 m' c = dC m c := by
  rw [Cert.ReferenceIdeal.Attn.out3_eq]
  funext y
  obtain ⟨j, l, rfl⟩ := pair y
  rw [gradC_at]
  show _ = if h : l.val < 4 then 0 - ∑ i, gS m c ⟨l.val, h⟩ j i else 0
  split
  · rename_i h
    simp only [gS_eq m c q k v d g hq hk hv hg hd', dl_at m' c q k v d g hq' hk' hv' hg' hd'']
    simp only [← EReal.coe_neg]
    rw [← coe_sum, ← coe_sum, ← coe_sum, dl'_sum, Finset.sum_neg_distrib, EReal.coe_zero, add_zero, EReal.coe_neg, zero_sub]
  · rfl

end Results

open Cert.KernelIdeal Cert.KernelIdeal.Gen in
/-- The kernel runs to its gradients, its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v55_0) = dQ m c
      ∧ r.2.mem ((c.tc : Thread nD τ).loc main_v55_1) = dK m c
      ∧ r.2.mem ((c.tc : Thread nD τ).loc main_v55_2) = dV m c
      ∧ r.2.mem ((c.tc : Thread nD τ).loc main_v55_3) = dC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2 c).1 8).trans (Cert.KernelIdeal.Attn.final8 m c), ((h.2 c).1 9).trans (Cert.KernelIdeal.Attn.final9 m c),
      ((h.2 c).1 10).trans (Cert.KernelIdeal.Attn.final10 m c), ((h.2 c).1 11).trans (Cert.KernelIdeal.Attn.final11 m c), h.1 c⟩)
    (θ_run_and (frame_of m g (Cert.KernelIdeal.Attn.dats m) (Cert.KernelIdeal.Attn.A_eq m) (Cert.KernelIdeal.Attn.run m g)) (Cert.KernelIdeal.Attn.run m g))

/-- At the ideal instance, on finite arguments, the kernel's gradients are those of attention. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨dQ m, dK m, dV m, dC m, kernel_run m g, (θ_run Cert.ReferenceIdeal.defs _ _).mono (fun r h c => ?_) (Cert.ReferenceIdeal.Value.run m' g')⟩
  obtain ⟨r0, r1, r2, r3, r4⟩ := Cert.Pre_finite.reals _ _ _ _ _ (hpre c)
  obtain ⟨a0, a1, a2, a3, a4⟩ := hag c
  obtain ⟨q, hq⟩ := choose_real _ r0
  obtain ⟨k, hk⟩ := choose_real _ r1
  obtain ⟨v, hv⟩ := choose_real _ r2
  obtain ⟨s, hs⟩ := choose_real _ r3
  obtain ⟨d, hd⟩ := choose_real _ r4
  have hq' : ∀ B L, Cert.ReferenceIdeal.Attn.aq m' c (ix2 B L) = (q B L : EReal) := fun B L => (congrFun a0 _).trans (hq B L)
  have hk' : ∀ B L, Cert.ReferenceIdeal.Attn.ak m' c (ix2 B L) = (k B L : EReal) := fun B L => (congrFun a1 _).trans (hk B L)
  have hv' : ∀ B L, Cert.ReferenceIdeal.Attn.av m' c (ix2 B L) = (v B L : EReal) := fun B L => (congrFun a2 _).trans (hv B L)
  have hs' : ∀ B L, Cert.ReferenceIdeal.Attn.ac m' c (ix2 B L) = (s B L : EReal) := fun B L => (congrFun a3 _).trans (hs B L)
  have hd' : ∀ B L, Cert.ReferenceIdeal.Attn.ad m' c (ix2 B L) = (d B L : EReal) := fun B L => (congrFun a4 _).trans (hd B L)
  obtain ⟨h0, h1, h2, h3, h4⟩ := h c
  exact ⟨h0.trans (eq0 m m' c q k v d s hq hk hv hs hd hq' hk' hv' hs' hd'), h1.trans (eq1 m m' c q k v d s hq hk hv hs hd hq' hk' hv' hs' hd'),
    h2.trans (eq2 m m' c q k v d s hq hk hv hs hd hq' hk' hv' hs' hd'), h3.trans (eq3 m m' c q k v d s hq hk hv hs hd hq' hk' hv' hs' hd'), h4⟩

end Cert.Proof.Attn
-- ==== Proof.Tokens.lean ====
module

public import Idealize.ShloMosaic.Lib.Pointwise

@[expose] public section

noncomputable section

open Idealize.ShloMosaic

namespace Cert.Proof

/-- A position of an array of two axes is a row and a column. -/
theorem pair {n k : ℕ} (y : Shape.Idx ⟨2, ![n, k]⟩) : ∃ (B : Fin n) (L : Fin k), y = ix2 B L :=
  ⟨y 0, y 1, by funext a; fin_cases a <;> rfl⟩

/-- A position of an array of three axes. -/
theorem triple {n k l : ℕ} (y : Shape.Idx ⟨3, ![n, k, l]⟩) : ∃ (a : Fin n) (b : Fin k) (c : Fin l), y = ix3 a b c :=
  ⟨y 0, y 1, y 2, by funext a; fin_cases a <;> rfl⟩

/-- The position of a token of a block of 1024. -/
abbrev tok (k : ℕ) (q : Fin 1024) : Fin 8192 := ⟨(1024 * k + q.val) % 8192, Nat.mod_lt _ (by omega)⟩

/-- Eight blocks of 1024 positions are all 8192. -/
theorem sum_tok (f : Fin 8192 → EReal) : ∑ k ∈ Finset.range 8, ∑ q : Fin 1024, f (tok k q) = ∑ j, f j := by
  rw [Finset.sum_range, ← Fintype.sum_prod_type', ← (finProdFinEquiv (m := 8) (n := 1024)).sum_comp]
  refine Finset.sum_congr rfl fun p _ => congrArg f (Fin.ext ?_)
  obtain ⟨k, q⟩ := p
  have := k.isLt
  have := q.isLt
  simp only [finProdFinEquiv, Equiv.coe_fn_mk]
  omega

end Cert.Proof
-- ==== Proof.MlpBody.lean ====
module

public import proofs.«01_k».proof.Defs
public import proofs.«01_k».proof.Proof.Tokens
public import proofs.«01_k».proof.Proof.Gen.Kernel3Ideal.Value

public import Idealize.ShloMosaic.Lib.Claim
public import Idealize.ShloMosaic.Lib.Pipeline.ValueKit.Point
public import Idealize.ShloMosaic.Lib.Pipeline.ValueKit.Geometry
public import Idealize.ShloMosaic.Lib.Pointwise
public import Idealize.ShloMosaic.Lib.Pipeline.ReadBack

@[expose] public section

set_option maxRecDepth 16384

noncomputable section

/-! ## The forward pass of the MLP -/

namespace Cert.Kernel3Ideal.Value
open Idealize.ShloMosaic Idealize.ShloMosaic.TcCoe Idealize.SL.Sem
open Cert.Kernel3Ideal Cert.Kernel3Ideal.Gen Cert.Proof

theorem hz : (![0, 0] : Fin 2 → ℕ) = fun _ => 0 := by decide

/-- A row over the root of its mean square, times the gains. -/
def rms (x g : Fin 1024 → EReal) (k : Fin 1024) : EReal :=
  x k * Ideal.rsqrt (Ideal.div (∑ j, x j * x j) (Ideal.ofBits FTy.f32 1149239296#32) + Ideal.ofBits FTy.f32 897988541#32) * g k

/-- The square of what is above zero. -/
def act (u : EReal) : EReal := max u 0 * max u 0

/-- Lane `w` of run `j` of the 4096 lanes. -/
abbrev lane (j : Fin 8) (w : Fin 512) : Fin 4096 := ⟨512 * j.val + w.val, by omega⟩

/-- Eight runs of 512 lanes are all 4096. -/
theorem sum_lane (f : Fin 4096 → EReal) : ∑ j : Fin 8, ∑ w : Fin 512, f (lane j w) = ∑ n, f n := by
  rw [← Fintype.sum_prod_type', ← (finProdFinEquiv (m := 8) (n := 512)).sum_comp]
  refine Finset.sum_congr rfl fun p _ => congrArg f (Fin.ext ?_)
  obtain ⟨k, q⟩ := p
  simp only [finProdFinEquiv, Equiv.coe_fn_mk]
  omega

/-! ### What the body's operations compute, entry by entry -/

/-- One run of the first product. -/
def mm (h : FVec Ideal S512x1024 .bf16) (u : Vec Ideal S1x1024x512 .bf16) (r w : Fin 512) : EReal :=
  ∑ k : Fin 1024, h (ix2 r k) * u (ix3 0 k w)
/-- What one run of lanes adds to the second product. -/
def down (h : FVec Ideal S512x1024 .bf16) (u : Vec Ideal S1x1024x512 .bf16) (d : Vec Ideal S1x512x1024 .bf16) (r : Fin 512) (k : Fin 1024) : EReal :=
  ∑ w : Fin 512, act (mm h u r w) * d (ix3 0 w k)

theorem pay2 (x : Vec Ideal S512x1024 .f32) (g : Vec Ideal S1x1024 .f32) (r : Fin 512) (k : Fin 1024) :
    k0_pay2 x g (ix2 r k) = rms (fun j => x (ix2 r j)) (fun j => g (ix2 0 j)) k := by
  unfold k0_pay2
  unfold rms
  pointwise

theorem pay8 (h : FVec Ideal S512x1024 .bf16) (u : Vec Ideal S1x1024x512 .bf16) (r w : Fin 512) : k0_pay8 h u (ix2 r w) = mm h u r w := by
  unfold k0_pay8
  unfold mm
  pointwise
theorem pay11 (h : FVec Ideal S512x1024 .bf16) (u : Vec Ideal S1x1024x512 .bf16) (r w : Fin 512) : k0_pay11 h u (ix2 r w) = mm h u r w := by
  unfold k0_pay11
  unfold mm
  pointwise
theorem pay14 (h : FVec Ideal S512x1024 .bf16) (u : Vec Ideal S1x1024x512 .bf16) (r w : Fin 512) : k0_pay14 h u (ix2 r w) = mm h u r w := by
  unfold k0_pay14
  unfold mm
  pointwise
theorem pay16 (h : FVec Ideal S512x1024 .bf16) (u : Vec Ideal S1x1024x512 .bf16) (r w : Fin 512) : k0_pay16 h u (ix2 r w) = mm h u r w := by
  unfold k0_pay16
  unfold mm
  pointwise
theorem pay22 (h : FVec Ideal S512x1024 .bf16) (u : Vec Ideal S1x1024x512 .bf16) (r w : Fin 512) : k0_pay22 h u (ix2 r w) = mm h u r w := by
  unfold k0_pay22
  unfold mm
  pointwise
theorem pay20 (h : FVec Ideal S512x1024 .bf16) (u : Vec Ideal S1x1024x512 .bf16) (r w : Fin 512) : k0_pay20 h (k0_pay19 u) (ix2 r w) = mm h u r w := pay8 h u r w
theorem pay3 (x : Vec Ideal S512x1024 .f32) (g : Vec Ideal S1x1024 .f32) (u : Vec Ideal S1x1024x512 .bf16) (r w : Fin 512) :
    k0_pay3 x g u (ix2 r w) = mm (k0_pay2 x g) u r w := pay8 (k0_pay2 x g) u r w
theorem pay6 (x : Vec Ideal S512x1024 .f32) (g : Vec Ideal S1x1024 .f32) (u : Vec Ideal S1x1024x512 .bf16) (r w : Fin 512) :
    k0_pay6 x g u (ix2 r w) = mm (k0_pay2 x g) u r w := pay8 (k0_pay2 x g) u r w
theorem pay4 (x : Vec Ideal S512x1024 .f32) (g : Vec Ideal S1x1024 .f32) (u : Vec Ideal S1x1024x512 .bf16) (r w : Fin 512) :
    k0_pay4 x g u (ix2 r w) = mm (k0_pay2 x g) u r w := pay8 (k0_pay2 x g) u r w
theorem pay7 (x : Vec Ideal S512x1024 .f32) (g : Vec Ideal S1x1024 .f32) (u : Vec Ideal S1x1024x512 .bf16) (r w : Fin 512) :
    k0_pay7 x g u (ix2 r w) = mm (k0_pay2 x g) u r w := pay8 (k0_pay2 x g) u r w
theorem pay21 (h : FVec Ideal S512x1024 .bf16) (u : Vec Ideal S1x1024x512 .bf16) (r w : Fin 512) : k0_pay21 h (k0_pay19 u) (ix2 r w) = mm h u r w := pay8 h u r w
theorem pay9 (h : FVec Ideal S512x1024 .bf16) (u : Vec Ideal S1x1024x512 .bf16) (r w : Fin 512) : k0_pay9 h u (ix2 r w) = mm h u r w := pay8 h u r w
theorem pay12 (h : FVec Ideal S512x1024 .bf16) (u : Vec Ideal S1x1024x512 .bf16) (r w : Fin 512) : k0_pay12 h u (ix2 r w) = mm h u r w := pay8 h u r w
theorem pay15 (h : FVec Ideal S512x1024 .bf16) (u : Vec Ideal S1x1024x512 .bf16) (r w : Fin 512) : k0_pay15 h u (ix2 r w) = mm h u r w := pay8 h u r w
theorem pay17 (h : FVec Ideal S512x1024 .bf16) (u : Vec Ideal S1x1024x512 .bf16) (r w : Fin 512) : k0_pay17 h u (ix2 r w) = mm h u r w := pay8 h u r w
theorem pay23 (h : FVec Ideal S512x1024 .bf16) (u : Vec Ideal S1x1024x512 .bf16) (r w : Fin 512) : k0_pay23 h u (ix2 r w) = mm h u r w := pay8 h u r w
theorem pay13 (h : FVec Ideal S512x1024 .bf16) (u : Vec Ideal S1x1024x512 .bf16) (r w : Fin 512) : k0_pay13 h u (ix2 r w) = act (mm h u r w) := by
  unfold k0_pay13
  rw [← pay11]
  generalize k0_pay11 h u = z
  unfold act
  pointwise

theorem pay5 (x : Vec Ideal S512x1024 .f32) (g : Vec Ideal S1x1024 .f32) (u : Vec Ideal S1x1024x512 .bf16) (d : Vec Ideal S1x512x1024 .bf16)
    (r : Fin 512) (k : Fin 1024) : k0_pay5 x g u d (ix2 r k) = down (k0_pay2 x g) u d r k := by
  unfold k0_pay5 down
  simp only [← pay3]
  generalize k0_pay3 x g u = z
  unfold act
  pointwise

theorem pay10 (h : FVec Ideal S512x1024 .bf16) (s : FVec Ideal S512x1024 .f32) (z : FVec Ideal S512x512 .f32) (d : Vec Ideal S1x512x1024 .bf16)
    (u' : Vec Ideal S1x1024x512 .bf16) (d' : Vec Ideal S1x512x1024 .bf16) (r : Fin 512) (k : Fin 1024) :
    k0_pay10 h s z d u' d' (ix2 r k) = s (ix2 r k) + ∑ w : Fin 512, act (z (ix2 r w)) * d (ix3 0 w k) + down h u' d' r k := by
  unfold k0_pay10 down
  simp only [← pay8]
  generalize k0_pay8 h u' = z'
  unfold act
  pointwise

theorem pay18 (h : FVec Ideal S512x1024 .bf16) (s : FVec Ideal S512x1024 .f32) (z : FVec Ideal S512x512 .bf16) (d : Vec Ideal S1x512x1024 .bf16)
    (u' : Vec Ideal S1x1024x512 .bf16) (d' : Vec Ideal S1x512x1024 .bf16) (u'' : Vec Ideal S1x1024x512 .bf16) (d'' : Vec Ideal S1x512x1024 .bf16)
    (r : Fin 512) (k : Fin 1024) :
    k0_pay18 h s z d u' d' u'' d'' (ix2 r k)
      = s (ix2 r k) + ∑ w : Fin 512, z (ix2 r w) * d (ix3 0 w k) + down h u' d' r k + down h u'' d'' r k := by
  unfold k0_pay18 down
  simp only [← pay14 h u', ← pay16 h u'']
  generalize k0_pay14 h u' = z'
  generalize k0_pay16 h u'' = z''
  unfold act
  pointwise

theorem pay24 (h : FVec Ideal S512x1024 .bf16) (s : FVec Ideal S512x1024 .f32) (u : Vec Ideal S1x1024x512 .bf16) (d : Vec Ideal S1x512x1024 .bf16)
    (u' : Vec Ideal S1x1024x512 .bf16) (d' : Vec Ideal S1x512x1024 .bf16) (r : Fin 512) (k : Fin 1024) :
    k0_pay24 h s (k0_pay19 u) d u' d' (ix2 r k) = s (ix2 r k) + down h u d r k + down h u' d' r k := by
  unfold k0_pay24 down
  simp only [← pay20 h u, ← pay22 h u']
  generalize k0_pay20 h (k0_pay19 u) = z
  generalize k0_pay22 h u' = z'
  unfold act
  pointwise

theorem pay25 (h : FVec Ideal S512x1024 .bf16) (s : FVec Ideal S512x1024 .f32) (u : FVec Ideal S1024x512 .bf16) (d : Vec Ideal S1x512x1024 .bf16)
    (u' : Vec Ideal S1x1024x512 .bf16) (d' : Vec Ideal S1x512x1024 .bf16) (r : Fin 512) (k : Fin 1) :
    k0_pay25 h s u d u' d' (ix2 r k) = ∑ j : Fin 1024, k0_pay24 h s u d u' d' (ix2 r j) * k0_pay24 h s u d u' d' (ix2 r j) := by
  unfold k0_pay25
  generalize k0_pay24 h s u d u' d' = z
  pointwise

theorem pay1 (z x : FVec Ideal S512x1024 .f32) (g : Vec Ideal S1x1024 .f32) (q : FVec Ideal S512x1 .f32) (r : Fin 512) (k : Fin 1024) :
    k0_pay1 z x g q (Scalar.ofBits .f32 0x44800000#32) (ix2 r k) = x (ix2 r k)
      + z (ix2 r k) * Ideal.rsqrt (Ideal.div (q (ix2 r 0)) (Ideal.ofBits FTy.f32 1149239296#32) + Ideal.ofBits FTy.f32 897988541#32) * g (ix2 0 k) := by
  unfold k0_pay1
  pointwise

/-! ### One grid point -/

section Body

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S8x1024x512 .bf16) (h3 : a3.IsWhole)
  (a4 : Memref sig .tc .vmem S8x512x1024 .bf16) (h4 : a4.IsWhole) (a5 : Memref sig .tc .vmem S1x1024 .f32) (h5 : a5.IsWhole)
  (a6 : Memref sig .tc .vmem S512x4096 .bf16) (h6 : a6.IsWhole) (a7 : Memref sig .tc .vmem S512x1024 .f32) (h7 : a7.IsWhole)
  (a8 : Memref sig .tc .vmem S512x1024 .f32) (h8 : a8.IsWhole)
  (x0 : Vec Ideal S512x1024 .f32) (x1 : Vec Ideal S1x1024 .f32) (x2 : Vec Ideal S8x1024x512 .bf16) (x3 : Vec Ideal S8x512x1024 .bf16)
  (x4 : Vec Ideal S1x1024 .f32)

/-- The first product of the point's rows. -/
def uB (r : Fin 512) (j : Fin 8) (w : Fin 512) : EReal :=
  ∑ k : Fin 1024, rms (fun j => x0 (ix2 r j)) (fun j => x1 (ix2 0 j)) k * x2 (ix3 j k w)
/-- The second product of the point's rows. -/
def ffB (r : Fin 512) (k : Fin 1024) : EReal := ∑ j : Fin 8, ∑ w : Fin 512, act (uB x0 x1 x2 r j w) * x3 (ix3 j w k)
/-- The result of the point's rows. -/
def hB (r : Fin 512) (k : Fin 1024) : EReal := x0 (ix2 r k) + rms (fun j => ffB x0 x1 x2 x3 r j) (fun j => x4 (ix2 0 j)) k

theorem sliceU (j : Fin 8) (inb : ∀ a, (![j.val, 0, 0] : Fin 3 → ℕ) a + (![1, 1024, 512] : Fin 3 → ℕ) a ≤ S8x1024x512.size a) (k : Fin 1024) (w : Fin 512) :
    View.ld (S := S8x1024x512) x2 (Rect.unit ![j.val, 0, 0] ![1, 1024, 512] inb) (ix3 0 k w) = x2 (ix3 j k w) := by
  refine congrArg x2 ?_
  funext a
  match a with
  | ⟨0, _⟩ => exact Fin.ext (show j.val + 1 * 0 = j.val by omega)
  | ⟨1, _⟩ => exact Fin.ext (show 0 + 1 * k.val = k.val by omega)
  | ⟨2, _⟩ => exact Fin.ext (show 0 + 1 * w.val = w.val by omega)

theorem sliceD (j : Fin 8) (inb : ∀ a, (![j.val, 0, 0] : Fin 3 → ℕ) a + (![1, 512, 1024] : Fin 3 → ℕ) a ≤ S8x512x1024.size a) (w : Fin 512) (k : Fin 1024) :
    View.ld (S := S8x512x1024) x3 (Rect.unit ![j.val, 0, 0] ![1, 512, 1024] inb) (ix3 0 w k) = x3 (ix3 j w k) := by
  refine congrArg x3 ?_
  funext a
  match a with
  | ⟨0, _⟩ => exact Fin.ext (show j.val + 1 * 0 = j.val by omega)
  | ⟨1, _⟩ => exact Fin.ext (show 0 + 1 * w.val = w.val by omega)
  | ⟨2, _⟩ => exact Fin.ext (show 0 + 1 * k.val = k.val by omega)

theorem mm_ld (j : Fin 8) (inb : ∀ a, (![j.val, 0, 0] : Fin 3 → ℕ) a + (![1, 1024, 512] : Fin 3 → ℕ) a ≤ S8x1024x512.size a) (r w : Fin 512) :
    mm (k0_pay2 x0 x1) (View.ld (S := S8x1024x512) x2 (Rect.unit ![j.val, 0, 0] ![1, 1024, 512] inb)) r w = uB x0 x1 x2 r j w :=
  Finset.sum_congr rfl fun k _ => congrArg₂ (· * ·) (pay2 x0 x1 r k) (sliceU x2 j inb k w)

/-- What run `j` of lanes adds to the second product. -/
def dB (r : Fin 512) (k : Fin 1024) (j : Fin 8) : EReal := ∑ w : Fin 512, act (uB x0 x1 x2 r j w) * x3 (ix3 j w k)

theorem down_ld (j : Fin 8) (inb : ∀ a, (![j.val, 0, 0] : Fin 3 → ℕ) a + (![1, 1024, 512] : Fin 3 → ℕ) a ≤ S8x1024x512.size a)
    (inb' : ∀ a, (![j.val, 0, 0] : Fin 3 → ℕ) a + (![1, 512, 1024] : Fin 3 → ℕ) a ≤ S8x512x1024.size a) (r : Fin 512) (k : Fin 1024) :
    down (k0_pay2 x0 x1) (View.ld (S := S8x1024x512) x2 (Rect.unit ![j.val, 0, 0] ![1, 1024, 512] inb))
      (View.ld (S := S8x512x1024) x3 (Rect.unit ![j.val, 0, 0] ![1, 512, 1024] inb')) r k = dB x0 x1 x2 x3 r k j :=
  Finset.sum_congr rfl fun w _ => congrArg₂ (fun a b => act a * b) (mm_ld x0 x1 x2 j inb r w) (sliceD x3 j inb' w k)

/-- The kernel's running sum after all eight runs. -/
abbrev acc : FVec Ideal S512x1024 .f32 :=
  k0_pay24 (k0_pay2 x0 x1)
      (k0_pay18 (k0_pay2 x0 x1)
        (k0_pay10 (k0_pay2 x0 x1)
          (k0_pay5 x0 x1 (View.ld x2 (Rect.unit ![0, 0, 0] ![1, 1024, 512] inb_S8x1024x512_S1x1024x512_0_0_0))
            (View.ld x3 (Rect.unit ![0, 0, 0] ![1, 512, 1024] inb_S8x512x1024_S1x512x1024_0_0_0)))
          (k0_pay6 x0 x1 (View.ld x2 (Rect.unit ![1, 0, 0] ![1, 1024, 512] inb_S8x1024x512_S1x1024x512_1_0_0)))
          (View.ld x3 (Rect.unit ![1, 0, 0] ![1, 512, 1024] inb_S8x512x1024_S1x512x1024_1_0_0))
          (View.ld x2 (Rect.unit ![2, 0, 0] ![1, 1024, 512] inb_S8x1024x512_S1x1024x512_2_0_0))
          (View.ld x3 (Rect.unit ![2, 0, 0] ![1, 512, 1024] inb_S8x512x1024_S1x512x1024_2_0_0)))
        (k0_pay13 (k0_pay2 x0 x1) (View.ld x2 (Rect.unit ![3, 0, 0] ![1, 1024, 512] inb_S8x1024x512_S1x1024x512_3_0_0)))
        (View.ld x3 (Rect.unit ![3, 0, 0] ![1, 512, 1024] inb_S8x512x1024_S1x512x1024_3_0_0))
        (View.ld x2 (Rect.unit ![4, 0, 0] ![1, 1024, 512] inb_S8x1024x512_S1x1024x512_4_0_0))
        (View.ld x3 (Rect.unit ![4, 0, 0] ![1, 512, 1024] inb_S8x512x1024_S1x512x1024_4_0_0))
        (View.ld x2 (Rect.unit ![5, 0, 0] ![1, 1024, 512] inb_S8x1024x512_S1x1024x512_5_0_0))
        (View.ld x3 (Rect.unit ![5, 0, 0] ![1, 512, 1024] inb_S8x512x1024_S1x512x1024_5_0_0)))
      (k0_pay19 (View.ld x2 (Rect.unit ![6, 0, 0] ![1, 1024, 512] inb_S8x1024x512_S1x1024x512_6_0_0)))
      (View.ld x3 (Rect.unit ![6, 0, 0] ![1, 512, 1024] inb_S8x512x1024_S1x512x1024_6_0_0))
      (View.ld x2 (Rect.unit ![7, 0, 0] ![1, 1024, 512] inb_S8x1024x512_S1x1024x512_7_0_0))
      (View.ld x3 (Rect.unit ![7, 0, 0] ![1, 512, 1024] inb_S8x512x1024_S1x512x1024_7_0_0))

theorem acc_eq (r : Fin 512) (k : Fin 1024) : acc x0 x1 x2 x3 (ix2 r k) = ffB x0 x1 x2 x3 r k := by
  have e1 : ∑ w : Fin 512, act (k0_pay6 x0 x1 (View.ld x2 (Rect.unit ![1, 0, 0] ![1, 1024, 512] inb_S8x1024x512_S1x1024x512_1_0_0)) (ix2 r w))
      * View.ld x3 (Rect.unit ![1, 0, 0] ![1, 512, 1024] inb_S8x512x1024_S1x512x1024_1_0_0) (ix3 0 w k) = dB x0 x1 x2 x3 r k 1 :=
    Finset.sum_congr rfl fun w _ => congrArg₂ (fun a b => act a * b)
      ((pay6 x0 x1 _ r w).trans (mm_ld x0 x1 x2 1 inb_S8x1024x512_S1x1024x512_1_0_0 r w)) (sliceD x3 1 inb_S8x512x1024_S1x512x1024_1_0_0 w k)
  have e3 : ∑ w : Fin 512, k0_pay13 (k0_pay2 x0 x1) (View.ld x2 (Rect.unit ![3, 0, 0] ![1, 1024, 512] inb_S8x1024x512_S1x1024x512_3_0_0)) (ix2 r w)
      * View.ld x3 (Rect.unit ![3, 0, 0] ![1, 512, 1024] inb_S8x512x1024_S1x512x1024_3_0_0) (ix3 0 w k) = dB x0 x1 x2 x3 r k 3 :=
    Finset.sum_congr rfl fun w _ => congrArg₂ (fun a b => a * b)
      ((pay13 _ _ r w).trans (congrArg act (mm_ld x0 x1 x2 3 inb_S8x1024x512_S1x1024x512_3_0_0 r w))) (sliceD x3 3 inb_S8x512x1024_S1x512x1024_3_0_0 w k)
  refine (pay24 _ _ _ _ _ _ r k).trans ?_
  rw [pay18, pay10, pay5, e1, e3]
  refine Eq.trans ?_ (Fin.sum_univ_eight (dB x0 x1 x2 x3 r k)).symm
  refine congrArg₂ (· + ·) (congrArg₂ (· + ·) (congrArg₂ (· + ·) (congrArg₂ (· + ·) (congrArg (· + _) (congrArg₂ (· + ·) (congrArg (· + _) (down_ld x0 x1 x2 x3 0 inb_S8x1024x512_S1x1024x512_0_0_0 inb_S8x512x1024_S1x512x1024_0_0_0 r k)) (down_ld x0 x1 x2 x3 2 inb_S8x1024x512_S1x1024x512_2_0_0 inb_S8x512x1024_S1x512x1024_2_0_0 r k)))
    (down_ld x0 x1 x2 x3 4 inb_S8x1024x512_S1x1024x512_4_0_0 inb_S8x512x1024_S1x512x1024_4_0_0 r k)) (down_ld x0 x1 x2 x3 5 inb_S8x1024x512_S1x1024x512_5_0_0 inb_S8x512x1024_S1x512x1024_5_0_0 r k)) (down_ld x0 x1 x2 x3 6 inb_S8x1024x512_S1x1024x512_6_0_0 inb_S8x512x1024_S1x512x1024_6_0_0 r k)) (down_ld x0 x1 x2 x3 7 inb_S8x1024x512_S1x1024x512_7_0_0 inb_S8x512x1024_S1x512x1024_7_0_0 r k)

theorem out6 (r : Fin 512) (k : Fin 1024) :
    out0_A_6 c i a1 h1 a2 h2 a3 h3 a4 h4 a5 h5 a6 h6 a7 h7 a8 h8 x0 x1 x2 x3 x4 (ix2 r k) = ffB x0 x1 x2 x3 r k := by
  refine Eq.trans (congrFun ?_ _) (acc_eq x0 x1 x2 x3 r k)
  unfold out0_A_6
  rw [View.read_writes_eq_canon _ _ _ (cover0_A_6 c i a1 h1 a2 h2 a3 h3 a4 h4 a5 h5 a6 h6 a7 h7 a8 h8 x0 x1 x2 x3 x4)]
  unfold kernelRun0_A
  dsimp only
  sl_unfold_words
  rw [View.canon_cons_unit_zero (S := S512x1024) hz]
  simp only [View.readAt_eq_ld, h1.read_unread, h2.read_unread, h3.read_unread, h4.read_unread, h5.read_unread, View.ld_unit_zero (S := S512x1024) hz,
    View.ld_unit_zero (S := S1x1024) hz]

theorem out7 (r : Fin 512) (k : Fin 1024) :
    out0_A_7 c i a1 h1 a2 h2 a3 h3 a4 h4 a5 h5 a6 h6 a7 h7 a8 h8 x0 x1 x2 x3 x4 (ix2 r k) = hB x0 x1 x2 x3 x4 r k := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  sl_unfold_words
  rw [View.canon_cons_unit_zero (S := S512x1024) hz]
  simp only [View.readAt_eq_ld, h1.read_unread, h2.read_unread, h3.read_unread, h4.read_unread, h5.read_unread, View.ld_unit_zero (S := S512x1024) hz,
    View.ld_unit_zero (S := S1x1024) hz]
  refine (pay1 (acc x0 x1 x2 x3) _ _ _ r k).trans ?_
  rw [pay25]
  unfold hB rms
  simp only [acc_eq x0 x1 x2 x3]

/-- The eight runs of the first product, one after the other. -/
abbrev lanes : Vec Ideal S512x4096 .bf16 := fun y =>
  uB x0 x1 x2 ⟨(y 0).val, (y 0).isLt⟩ (⟨(y 1).val / 512 % 8, Nat.mod_lt _ (by omega)⟩ : Fin 8) (⟨(y 1).val % 512, Nat.mod_lt _ (by omega)⟩ : Fin 512)

theorem lanes_eq (j : Fin 8) (r w : Fin 512) (y : S512x4096.Idx) (e0 : (y 0).val = r.val) (e1 : (y 1).val = 512 * j.val + w.val) :
    uB x0 x1 x2 r j w = lanes x0 x1 x2 y := by
  have hw := w.isLt
  have hj := j.isLt
  show _ = uB x0 x1 x2 _ _ _
  congr 1
  · exact Fin.ext e0.symm
  · exact Fin.ext (show j.val = (y 1).val / 512 % 8 by omega)
  · exact Fin.ext (show w.val = (y 1).val % 512 by omega)

theorem out5 (y : S512x4096.Idx) :
    out0_A_5 c i a1 h1 a2 h2 a3 h3 a4 h4 a5 h5 a6 h6 a7 h7 a8 h8 x0 x1 x2 x3 x4 y = lanes x0 x1 x2 y := by
  unfold out0_A_5
  refine View.read_writes_apply_of_pieces (Val := Elt Ideal) _ _ (lanes x0 x1 x2) _ ?_ y (cover0_A_5 c i a1 h1 a2 h2 a3 h3 a4 h4 a5 h5 a6 h6 a7 h7 a8 h8 x0 x1 x2 x3 x4 y)
  unfold kernelRun0_A
  dsimp only
  sl_unfold_words
  simp only [List.forall_mem_cons, View.readAt_eq_ld, h1.read_unread, h2.read_unread, h3.read_unread, h4.read_unread, View.ld_unit_zero (S := S512x1024) hz,
    View.ld_unit_zero (S := S1x1024) hz]
  refine ⟨fun q => ?_, fun q => ?_, fun q => ?_, fun q => ?_, fun q => ?_, fun q => ?_, fun q => ?_, fun q => ?_, by simp⟩ <;>
    obtain ⟨r, w, rfl⟩ := pair (n := 512) (k := 512) q
  · refine ((pay23 _ _ r w).trans (mm_ld x0 x1 x2 7 inb_S8x1024x512_S1x1024x512_7_0_0 r w)).trans (lanes_eq x0 x1 x2 7 r w _ ?_ ?_)
    · show 0 + 1 * r.val = r.val
      omega
    · show 3584 + 1 * w.val = 512 * 7 + w.val
      omega
  · refine ((pay21 _ _ r w).trans (mm_ld x0 x1 x2 6 inb_S8x1024x512_S1x1024x512_6_0_0 r w)).trans (lanes_eq x0 x1 x2 6 r w _ ?_ ?_)
    · show 0 + 1 * r.val = r.val
      omega
    · show 3072 + 1 * w.val = 512 * 6 + w.val
      omega
  · refine ((pay17 _ _ r w).trans (mm_ld x0 x1 x2 5 inb_S8x1024x512_S1x1024x512_5_0_0 r w)).trans (lanes_eq x0 x1 x2 5 r w _ ?_ ?_)
    · show 0 + 1 * r.val = r.val
      omega
    · show 2560 + 1 * w.val = 512 * 5 + w.val
      omega
  · refine ((pay15 _ _ r w).trans (mm_ld x0 x1 x2 4 inb_S8x1024x512_S1x1024x512_4_0_0 r w)).trans (lanes_eq x0 x1 x2 4 r w _ ?_ ?_)
    · show 0 + 1 * r.val = r.val
      omega
    · show 2048 + 1 * w.val = 512 * 4 + w.val
      omega
  · refine ((pay12 _ _ r w).trans (mm_ld x0 x1 x2 3 inb_S8x1024x512_S1x1024x512_3_0_0 r w)).trans (lanes_eq x0 x1 x2 3 r w _ ?_ ?_)
    · show 0 + 1 * r.val = r.val
      omega
    · show 1536 + 1 * w.val = 512 * 3 + w.val
      omega
  · refine ((pay9 _ _ r w).trans (mm_ld x0 x1 x2 2 inb_S8x1024x512_S1x1024x512_2_0_0 r w)).trans (lanes_eq x0 x1 x2 2 r w _ ?_ ?_)
    · show 0 + 1 * r.val = r.val
      omega
    · show 1024 + 1 * w.val = 512 * 2 + w.val
      omega
  · refine ((pay7 _ _ _ r w).trans (mm_ld x0 x1 x2 1 inb_S8x1024x512_S1x1024x512_1_0_0 r w)).trans (lanes_eq x0 x1 x2 1 r w _ ?_ ?_)
    · show 0 + 1 * r.val = r.val
      omega
    · show 512 + 1 * w.val = 512 * 1 + w.val
      omega
  · refine ((pay4 _ _ _ r w).trans (mm_ld x0 x1 x2 0 inb_S8x1024x512_S1x1024x512_0_0_0 r w)).trans (lanes_eq x0 x1 x2 0 r w _ ?_ ?_)
    · show 0 + 1 * r.val = r.val
      omega
    · show 0 + 1 * w.val = 512 * 0 + w.val
      omega

end Body

end Cert.Kernel3Ideal.Value
-- ==== Proof.MlpForward.lean ====
module

public import proofs.«01_k».proof.Defs
public import proofs.«01_k».proof.Proof.MlpBody
public import proofs.«01_k».proof.Proof.Gen.Kernel3Ideal.Value
public import proofs.«01_k».proof.Proof.Gen.Reference3Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise
public import Idealize.ShloMosaic.Lib.Pipeline.ReadBack

@[expose] public section

set_option maxRecDepth 16384

noncomputable section

/-! ## The forward pass of the MLP -/

namespace Cert.Kernel3Ideal.Value
open Idealize.ShloMosaic Idealize.ShloMosaic.TcCoe Idealize.SL.Sem
open Cert.Kernel3Ideal Cert.Kernel3Ideal.Gen Cert.Proof

/-! ### The arrays -/

section Arrays

variable (m : (ℓ : Loc nD τ sig) → Buf (Elt Ideal) ℓ) (c : Dev nD)

/-- The tokens, the gains before, the first weights by run, the packed rows, the gains after. -/
abbrev aH : Vec Ideal S8192x1024 .f32 := V m c main_arg0
abbrev aG : Vec Ideal S1x1024 .f32 := V m c main_arg1
abbrev aU : Vec Ideal S8x1024x512 .bf16 := V m c main_arg2
abbrev aD : Vec Ideal S8x768x1024 .bf16 := V m c main_arg3
abbrev aP : Vec Ideal S1x1024 .f32 := V m c main_arg4

theorem idx : ∀ t : Fin cfg0.N, (win0_0.index t = ![t.val, 0] ∧ win0_1.index t = ![0, 0] ∧ win0_2.index t = ![0, 0, 0] ∧ win0_3.index t = ![0, 0, 0]
    ∧ win0_4.index t = ![0, 0]) ∧ (win0_5.index t = ![t.val, 0] ∧ win0_6.index t = ![t.val, 0] ∧ win0_7.index t = ![t.val, 0]) ∧ t.val < 16 :=
  (by decide +kernel : ∀ t : Fin grid0.N, (win0_0.index t = ![t.val, 0] ∧ win0_1.index t = ![0, 0] ∧ win0_2.index t = ![0, 0, 0] ∧ win0_3.index t = ![0, 0, 0]
    ∧ win0_4.index t = ![0, 0]) ∧ (win0_5.index t = ![t.val, 0] ∧ win0_6.index t = ![t.val, 0] ∧ win0_7.index t = ![t.val, 0]) ∧ t.val < 16)

/-- Row `r` of the block of tokens that point `n` works on. -/
abbrev row (n : ℕ) (r : Fin 512) : Fin 8192 := ⟨(512 * n + r.val) % 8192, Nat.mod_lt _ (by omega)⟩

theorem in0 (t : Fin cfg0.N) (r : Fin 512) (k : Fin 1024) : iblk m c 0 t (ix2 r k) = aH m c (ix2 (row t.val r) k) := by
  have := (idx t).2.2
  blk_ext [iblk, (idx t).1]
theorem in1 (t : Fin cfg0.N) (k : Fin 1024) : iblk m c 1 t (ix2 0 k) = aG m c (ix2 0 k) := by
  blk_ext [iblk, (idx t).1]
theorem in2 (t : Fin cfg0.N) (j : Fin 8) (k : Fin 1024) (w : Fin 512) : iblk m c 2 t (ix3 j k w) = aU m c (ix3 j k w) := by
  blk_ext [iblk, (idx t).1]
theorem in3 (t : Fin cfg0.N) (j : Fin 8) (w : Fin 512) (k : Fin 1024) : X0_3 m c t (ix3 j w k) = aD m c (ix3 j (⟨w.val, by omega⟩ : Fin 768) k) := by
  unfold X0_3 Pipeline.Window.fill
  rw [dif_pos (moved0_3 t _)]
  blk_ext [iblk, (idx t).1]
theorem in4 (t : Fin cfg0.N) (k : Fin 1024) : iblk m c 4 t (ix2 0 k) = aP m c (ix2 0 k) := by
  blk_ext [iblk, (idx t).1]

/-- The first product. -/
def U (i : Fin 8192) (j : Fin 8) (w : Fin 512) : EReal :=
  ∑ k : Fin 1024, rms (fun j => aH m c (ix2 i j)) (fun j => aG m c (ix2 0 j)) k * aU m c (ix3 j k w)
/-- The second product. -/
def FF (i : Fin 8192) (k : Fin 1024) : EReal := ∑ j : Fin 8, ∑ w : Fin 512, act (U m c i j w) * aD m c (ix3 j (⟨w.val, by omega⟩ : Fin 768) k)

/-- The three results. -/
def outU : FVec Ideal S8192x4096 .bf16 := fun y =>
  U m c ⟨(y 0).val, (y 0).isLt⟩ (⟨(y 1).val / 512 % 8, Nat.mod_lt _ (by omega)⟩ : Fin 8) (⟨(y 1).val % 512, Nat.mod_lt _ (by omega)⟩ : Fin 512)
def outF : FVec Ideal S8192x1024 .f32 := fun y => FF m c ⟨(y 0).val, (y 0).isLt⟩ ⟨(y 1).val, (y 1).isLt⟩
def outH : FVec Ideal S8192x1024 .f32 := fun y =>
  aH m c (ix2 ⟨(y 0).val, (y 0).isLt⟩ ⟨(y 1).val, (y 1).isLt⟩)
    + rms (fun j => FF m c ⟨(y 0).val, (y 0).isLt⟩ j) (fun j => aP m c (ix2 0 j)) ⟨(y 1).val, (y 1).isLt⟩

theorem uB_eq (t : Fin cfg0.N) (r : Fin 512) (j : Fin 8) (w : Fin 512) :
    uB (iblk m c 0 t) (iblk m c 1 t) (iblk m c 2 t) r j w = U m c (row t.val r) j w := by
  unfold uB U
  simp only [in0 m c t, in1 m c t, in2 m c t]
theorem ffB_eq (t : Fin cfg0.N) (r : Fin 512) (k : Fin 1024) :
    ffB (iblk m c 0 t) (iblk m c 1 t) (iblk m c 2 t) (X0_3 m c t) r k = FF m c (row t.val r) k := by
  unfold ffB FF
  simp only [uB_eq m c t, in3 m c t]
theorem hB_eq (t : Fin cfg0.N) (r : Fin 512) (k : Fin 1024) :
    hB (iblk m c 0 t) (iblk m c 1 t) (iblk m c 2 t) (X0_3 m c t) (iblk m c 4 t) r k
      = aH m c (ix2 (row t.val r) k) + rms (fun j => FF m c (row t.val r) j) (fun j => aP m c (ix2 0 j)) k := by
  unfold hB
  simp only [ffB_eq m c t, in0 m c t, in4 m c t]

theorem left5 (t : Fin cfg0.N) (r : Fin 512) (n : Fin 4096) : (outsAt0 m c t).1 (ix2 r n) = outU m c (ix2 (row t.val r) n) := by
  unfold outsAt0
  dsimp only
  rw [out5]
  exact uB_eq m c t r _ _
theorem left6 (t : Fin cfg0.N) (r : Fin 512) (k : Fin 1024) : (outsAt0 m c t).2.1 (ix2 r k) = outF m c (ix2 (row t.val r) k) := by
  unfold outsAt0
  dsimp only
  rw [out6]
  exact ffB_eq m c t r k
theorem left7 (t : Fin cfg0.N) (r : Fin 512) (k : Fin 1024) : (outsAt0 m c t).2.2 (ix2 r k) = outH m c (ix2 (row t.val r) k) := by
  unfold outsAt0
  dsimp only
  rw [out7]
  exact hB_eq m c t r k

theorem place5 (t : Fin cfg0.N) (r : Fin 512) (n : Fin 4096) : (win0_5.blk t).view.emb (ix2 r n) = ix2 (row t.val r) n := by
  have hN := (idx t).2.2
  blk_ext [(idx t).2.1]

theorem final5 : (dats m 0 c).arrAt 5 cfg0.N = outU m c := by
  refine (dats m 0 c).arrAt_eq_of_covers 5 _ (by decide +kernel) fun t hf y => ?_
  blk_simp
  rw [after0_5]
  obtain ⟨r, n, rfl⟩ := pair (n := 512) (k := 4096) y
  exact (left5 m c t r n).trans (congrArg (outU m c) (place5 t r n)).symm

theorem place6 (t : Fin cfg0.N) (r : Fin 512) (n : Fin 1024) : (win0_6.blk t).view.emb (ix2 r n) = ix2 (row t.val r) n := by
  have hN := (idx t).2.2
  blk_ext [(idx t).2.1]

theorem final6 : (dats m 0 c).arrAt 6 cfg0.N = outF m c := by
  refine (dats m 0 c).arrAt_eq_of_covers 6 _ (by decide +kernel) fun t hf y => ?_
  blk_simp
  rw [after0_6]
  obtain ⟨r, n, rfl⟩ := pair (n := 512) (k := 1024) y
  exact (left6 m c t r n).trans (congrArg (outF m c) (place6 t r n)).symm

theorem place7 (t : Fin cfg0.N) (r : Fin 512) (n : Fin 1024) : (win0_7.blk t).view.emb (ix2 r n) = ix2 (row t.val r) n := by
  have hN := (idx t).2.2
  blk_ext [(idx t).2.1]

theorem final7 : (dats m 0 c).arrAt 7 cfg0.N = outH m c := by
  refine (dats m 0 c).arrAt_eq_of_covers 7 _ (by decide +kernel) fun t hf y => ?_
  blk_simp
  rw [after0_7]
  obtain ⟨r, n, rfl⟩ := pair (n := 512) (k := 1024) y
  exact (left7 m c t r n).trans (congrArg (outH m c) (place7 t r n)).symm

end Arrays

end Cert.Kernel3Ideal.Value

namespace Cert.Reference3Ideal.Mlp

open Idealize.ShloMosaic Idealize.ShloMosaic.TcCoe Idealize.SL.Sem
open Cert.Reference3Ideal Cert.Reference3Ideal.Gen Cert.Proof
open Cert.Kernel3Ideal.Value (rms act lane sum_lane)

/-- Each row over the root of its mean square, times the gains. -/
def normed (a : FVec Ideal S8192x1024 .f32) (g : FVec Ideal S1x1024 .f32) : FVec Ideal S8192x1024 .f32 :=
  mulf (mulf a (broadcastInDim S8192x1024 ![0, 1] bcast_S8192x1_S8192x1024_0_1 (Host.rsqrt (addf (Host.divf (broadcastInDim S8192x1 ![0] bcast_S8192_S8192x1_0
    (Host.reduceAdd (mulf a a) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast _ g shapeCasts_S1x1024_S1024)))

theorem normed_at (a : FVec Ideal S8192x1024 .f32) (g : FVec Ideal S1x1024 .f32) (i : Fin 8192) (k : Fin 1024) :
    normed a g (ix2 i k) = rms (fun j => a (ix2 i j)) (fun j => g (ix2 0 j)) k := by
  unfold normed rms
  pointwise

/-- The first product. -/
def first (h : FVec Ideal S8192x1024 .f32) (u : FVec Ideal S8x1024x512 .bf16) : FVec Ideal S8192x4096 .f32 :=
  Host.dotGeneral dot_S8192x1024_S1024x4096_S8192x4096_1_0_0_1_n_n none h
    (shapeCast _ (transpose S1024x8x512 [1, 0, 2] (extf .f32 u bitsLt_bf16_f32) transposes_S8x1024x512_S1024x8x512_1_0_2) shapeCasts_S1024x8x512_S1024x4096)

theorem first_at (h : FVec Ideal S8192x1024 .f32) (u : FVec Ideal S8x1024x512 .bf16) (i : Fin 8192) (j : Fin 8) (w : Fin 512) :
    first h u (ix2 i (lane j w)) = ∑ k : Fin 1024, h (ix2 i k) * u (ix3 j k w) := by
  have e : ∀ k : Fin 1024, u (ix3 j k w) = u (ix3 (⟨(512 * j.val + w.val) / 512, by omega⟩ : Fin 8) k (⟨(512 * j.val + w.val) % 512, by omega⟩ : Fin 512)) := fun k => by
    have e0 : (⟨(512 * j.val + w.val) / 512, by omega⟩ : Fin 8) = j := Fin.ext (show (512 * j.val + w.val) / 512 = j.val by omega)
    have e1 : (⟨(512 * j.val + w.val) % 512, by omega⟩ : Fin 512) = w := Fin.ext (show (512 * j.val + w.val) % 512 = w.val by omega)
    rw [e0, e1]
  simp only [e]
  unfold first
  pointwise

/-- The second product. -/
def second (x : FVec Ideal S8192x4096 .f32) (d : FVec Ideal S8x768x1024 .bf16) : FVec Ideal S8192x1024 .f32 :=
  Host.dotGeneral dot_S8192x4096_S4096x1024_S8192x1024_1_0_0_1_n_n none
    (mulf (maximumf x (broadcastInDim S8192x4096 ![] bcast_S_S8192x4096 (constant S_ .f32 0x00000000#32)))
      (maximumf x (broadcastInDim S8192x4096 ![] bcast_S_S8192x4096 (constant S_ .f32 0x00000000#32))))
    (shapeCast _ (extf .f32 (extractStridedSlice S8x512x1024 ![0, 0, 0] d slices_S8x768x1024_S8x512x1024_0_0_0) bitsLt_bf16_f32) shapeCasts_S8x512x1024_S4096x1024)

theorem second_at (x : FVec Ideal S8192x4096 .f32) (d : FVec Ideal S8x768x1024 .bf16) (i : Fin 8192) (k : Fin 1024) :
    second x d (ix2 i k) = ∑ j : Fin 8, ∑ w : Fin 512, act (x (ix2 i (lane j w))) * d (ix3 j (⟨w.val, by omega⟩ : Fin 768) k) := by
  have h : ∀ (j : Fin 8) (w : Fin 512), d (ix3 j (⟨w.val, by omega⟩ : Fin 768) k)
      = d (ix3 (⟨(lane j w).val / 512, by omega⟩ : Fin 8) (⟨(lane j w).val % 512, by omega⟩ : Fin 768) k) := fun j w => by
    have e0 : (⟨(lane j w).val / 512, by omega⟩ : Fin 8) = j := Fin.ext (show (512 * j.val + w.val) / 512 = j.val by omega)
    have e1 : (⟨(lane j w).val % 512, by omega⟩ : Fin 768) = ⟨w.val, by omega⟩ := Fin.ext (show (512 * j.val + w.val) % 512 = w.val by omega)
    rw [e0, e1]
  simp only [h]
  rw [sum_lane fun n => act (x (ix2 i n)) * d (ix3 (⟨n.val / 512, by omega⟩ : Fin 8) (⟨n.val % 512, by omega⟩ : Fin 768) k)]
  unfold second act
  pointwise

variable (m : (ℓ : Loc nD τ sig) → Buf (Elt Ideal) ℓ) (c : Dev nD)

/-- The tokens, the gains before, the first weights by run, the packed rows, the gains after. -/
abbrev aH : FVec Ideal S8192x1024 .f32 := m ((c.tc : Thread nD τ).loc main_arg0)
abbrev aG : FVec Ideal S1x1024 .f32 := m ((c.tc : Thread nD τ).loc main_arg1)
abbrev aU : FVec Ideal S8x1024x512 .bf16 := m ((c.tc : Thread nD τ).loc main_arg2)
abbrev aD : FVec Ideal S8x768x1024 .bf16 := m ((c.tc : Thread nD τ).loc main_arg3)
abbrev aP : FVec Ideal S1x1024 .f32 := m ((c.tc : Thread nD τ).loc main_arg4)

/-- The reference's run, its results by name. -/
theorem run (ρ : Dev nD → PrngReg) :
    θ_run defs (onTc (τ := τ) (main (F := Ideal))) ⟨m, fun _ => 0, ρ⟩ fun r => ∀ c : Dev nD,
      r.2.mem ((c.tc : Thread nD τ).loc main_v24) = truncf .bf16 (first (normed (aH m c) (aG m c)) (aU m c)) bitsLt_bf16_f32
      ∧ r.2.mem ((c.tc : Thread nD τ).loc main_v23) = second (first (normed (aH m c) (aG m c)) (aU m c)) (aD m c)
      ∧ r.2.mem ((c.tc : Thread nD τ).loc main_v39) = addf (aH m c) (normed (second (first (normed (aH m c) (aG m c)) (aU m c)) (aD m c)) (aP m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference3Ideal.Value.run m ρ

/-- The first product of two arrays of operands: each run of lanes. -/
theorem u_at (a : FVec Ideal S8192x1024 .f32) (g : FVec Ideal S1x1024 .f32) (u : FVec Ideal S8x1024x512 .bf16) (i : Fin 8192) (j : Fin 8) (w : Fin 512) :
    first (normed a g) u (ix2 i (lane j w)) = ∑ k : Fin 1024, rms (fun j => a (ix2 i j)) (fun j => g (ix2 0 j)) k * u (ix3 j k w) := by
  rw [first_at]
  simp only [normed_at]

theorem trunc_at (x : FVec Ideal S8192x4096 .f32) (y : S8192x4096.Idx) : truncf .bf16 x bitsLt_bf16_f32 y = x y := rfl
theorem add_at (x z : FVec Ideal S8192x1024 .f32) (y : S8192x1024.Idx) : addf x z y = x y + z y := rfl

end Cert.Reference3Ideal.Mlp

namespace Cert.Proof.MlpForward

open Idealize.ShloMosaic Idealize.ShloMosaic.TcCoe Idealize.SL.Sem
open Cert.Kernel3Ideal.Value (rms act lane)
open Cert.Reference3Ideal.Mlp (first second normed u_at second_at normed_at trunc_at add_at)

section Equal

variable (m : (ℓ : Loc Cert.Kernel3Ideal.nD Cert.Kernel3Ideal.τ Cert.Kernel3Ideal.sig) → Buf (Elt Ideal) ℓ) (c : Dev Cert.Kernel3Ideal.nD)
  (a : FVec Ideal Cert.Reference3Ideal.S8192x1024 .f32) (g : FVec Ideal Cert.Reference3Ideal.S1x1024 .f32) (u : FVec Ideal Cert.Reference3Ideal.S8x1024x512 .bf16)
  (d : FVec Ideal Cert.Reference3Ideal.S8x768x1024 .bf16) (p : FVec Ideal Cert.Reference3Ideal.S1x1024 .f32)
  (ea : a = Cert.Kernel3Ideal.Value.aH m c) (eg : g = Cert.Kernel3Ideal.Value.aG m c) (eu : u = Cert.Kernel3Ideal.Value.aU m c)
  (ed : d = Cert.Kernel3Ideal.Value.aD m c) (ep : p = Cert.Kernel3Ideal.Value.aP m c)

include ea eg eu in
theorem first_eq (i : Fin 8192) (j : Fin 8) (w : Fin 512) : first (normed a g) u (ix2 i (lane j w)) = Cert.Kernel3Ideal.Value.U m c i j w := by
  subst ea eg eu
  exact u_at _ _ _ i j w

include ea eg eu in
theorem u_eq (y : Cert.Reference3Ideal.S8192x4096.Idx) : first (normed a g) u y = Cert.Kernel3Ideal.Value.outU m c y := by
  obtain ⟨i, n, rfl⟩ := pair (n := 8192) (k := 4096) y
  have hn := n.isLt
  have e : n = lane (⟨n.val / 512 % 8, Nat.mod_lt _ (by omega)⟩ : Fin 8) (⟨n.val % 512, Nat.mod_lt _ (by omega)⟩ : Fin 512) :=
    Fin.ext (show n.val = 512 * (n.val / 512 % 8) + n.val % 512 by omega)
  exact (congrArg (fun l => first (normed a g) u (ix2 i l)) e).trans (first_eq m c a g u ea eg eu i _ _)

include ea eg eu ed in
theorem second_eq (i : Fin 8192) (k : Fin 1024) : second (first (normed a g) u) d (ix2 i k) = Cert.Kernel3Ideal.Value.FF m c i k := by
  rw [second_at]
  unfold Cert.Kernel3Ideal.Value.FF
  simp only [first_eq m c a g u ea eg eu, ed]

include ea eg eu ed in
theorem f_eq (y : Cert.Reference3Ideal.S8192x1024.Idx) : second (first (normed a g) u) d y = Cert.Kernel3Ideal.Value.outF m c y := by
  obtain ⟨i, n, rfl⟩ := pair (n := 8192) (k := 1024) y
  exact second_eq m c a g u d ea eg eu ed i n

include ea eg eu ed ep in
theorem h_eq (y : Cert.Reference3Ideal.S8192x1024.Idx) :
    addf a (normed (second (first (normed a g) u) d) p) y = Cert.Kernel3Ideal.Value.outH m c y := by
  obtain ⟨i, n, rfl⟩ := pair (n := 8192) (k := 1024) y
  rw [add_at, normed_at]
  simp only [second_eq m c a g u d ea eg eu ed]
  rw [ea, ep]
  rfl

end Equal

/-- At the ideal instance the kernel's forward pass of the MLP is the reference's: the rows over their root mean square, the first
   product in runs of lanes, and the second one as the sum over the runs. -/
theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Kernel3Ideal.Value.outU m c, fun c => Cert.Kernel3Ideal.Value.outF m c, fun c => Cert.Kernel3Ideal.Value.outH m c,
    (θ_run Cert.Kernel3Ideal.defs _ _).mono (fun r h c => ⟨(h c).1.trans (Cert.Kernel3Ideal.Value.final5 m c), (h c).2.1.trans (Cert.Kernel3Ideal.Value.final6 m c),
      (h c).2.2.1.trans (Cert.Kernel3Ideal.Value.final7 m c), (h c).2.2.2⟩) (Cert.Kernel3Ideal.Value.run_blocks m g),
    (θ_run Cert.Reference3Ideal.defs _ _).mono (fun r h c => ?_) (Cert.Reference3Ideal.Mlp.run m' g')⟩
  obtain ⟨a0, a1, a2, a3, a4⟩ := hag c
  refine ⟨(h c).1.trans (funext fun y => (trunc_at _ y).trans (u_eq m c _ _ _ a0 a1 a2 y)), (h c).2.1.trans (funext fun y => f_eq m c _ _ _ _ a0 a1 a2 a3 y),
    (h c).2.2.1.trans (funext fun y => h_eq m c _ _ _ _ _ a0 a1 a2 a3 a4 y), (h c).2.2.2⟩

end Cert.Proof.MlpForward
-- ==== Proof.WgradDown.lean ====
module

public import proofs.«01_k».proof.Defs
public import proofs.«01_k».proof.Proof.Tokens
public import proofs.«01_k».proof.Proof.Gen.Kernel4Ideal.Value
public import proofs.«01_k».proof.Proof.Gen.Reference4Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

/-! ## The weight gradient of the second product: a sum over the tokens, taken in eight blocks -/

namespace Cert.Kernel4Ideal.Value

open Idealize.ShloMosaic Idealize.ShloMosaic.TcCoe Idealize.SL.Sem
open Cert.Kernel4Ideal Cert.Kernel4Ideal.Gen Cert.Proof

variable (m : (ℓ : Loc nD τ sig) → Buf (Elt Ideal) ℓ) (c : Dev nD)

theorem hz : (![0, 0] : Fin 2 → Nat) = fun _ => 0 := funext fun a => by fin_cases a <;> rfl

/-- One block's product, at an entry. -/
theorem pay2 (x : Vec Ideal S2048x1024 .f32) (a : Vec Ideal S1024x2048 .bf16) (b : Vec Ideal S1024x1024 .bf16) (r : Fin 2048) (s : Fin 1024) :
    k0_pay2 x a b (ix2 r s) = x (ix2 r s) + ∑ q : Fin 1024, a (ix2 q r) * b (ix2 q s) := by
  unfold k0_pay2
  pointwise

theorem pay1 (r : Fin 2048) (s : Fin 1024) : k0_pay1 (F := Ideal) (ix2 r s) = 0 := by
  unfold k0_pay1
  pointwise

section Cases

variable (i : grid0.Coords) (a3 : Memref sig .tc .vmem S1024x2048 .bf16) (h3 : a3.IsWhole) (a4 : Memref sig .tc .vmem S1024x1024 .bf16) (h4 : a4.IsWhole)
variable (a5 : Memref sig .tc .vmem S2048x1024 .bf16) (h5 : a5.IsWhole) (a6 : Memref sig .tc .vmem S2048x1024 .f32) (h6 : a6.IsWhole)
variable (x0 : Vec Ideal S1024x2048 .bf16) (x1 : Vec Ideal S1024x1024 .bf16) (xs : Vec Ideal S2048x1024 .f32)

theorem sout_A (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S1024x2048) hz, View.ld_unit_zero (S := S1024x1024) hz]

theorem sout_B (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_cons_unit_zero (S := S2048x1024) hz]
  simp only [View.readAt_eq_ld, h3.read_unread, h4.read_unread, h6.read_unread, View.ld_unit_zero (S := S1024x2048) hz, View.ld_unit_zero (S := S1024x1024) hz,
    View.ld_unit_zero (S := S2048x1024) hz]

theorem sout_C (hc0 : ¬cond0_0 i) (hc1 : cond0_1 i) : sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_cons_unit_zero (S := S2048x1024) hz]
  simp only [View.readAt_eq_ld, h3.read_unread, h4.read_unread, h6.read_unread, View.ld_unit_zero (S := S1024x2048) hz, View.ld_unit_zero (S := S1024x1024) hz,
    View.ld_unit_zero (S := S2048x1024) hz]

theorem out_C (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_cons_unit_zero (S := S2048x1024) hz, View.readCov_unit_zero (S := S2048x1024) _ hz]
  simp only [View.readAt_eq_ld, h3.read_unread, h4.read_unread, h6.read_unread, View.ld_unit_zero (S := S1024x2048) hz, View.ld_unit_zero (S := S1024x1024) hz,
    View.ld_unit_zero (S := S2048x1024) hz]

end Cases

/-- The left operand (one column an entry of the hidden layer) and the right one, by token. -/
abbrev A : Vec Ideal S8192x4096 .bf16 := V m c main_arg0
abbrev B : Vec Ideal S8192x1024 .bf16 := V m c main_arg1

theorem idx : ∀ t : Fin cfg0.N, win0_0.index t = ![t.val % 8, t.val / 8] ∧ win0_1.index t = ![t.val % 8, 0] ∧ t.val < 16 :=
  (by decide +kernel : ∀ t : Fin grid0.N, win0_0.index t = ![t.val % 8, t.val / 8] ∧ win0_1.index t = ![t.val % 8, 0] ∧ t.val < 16)

/-- Row `r` of the block of rows that point `n` works on. -/
abbrev col (n : ℕ) (r : Fin 2048) : Fin 4096 := ⟨(2048 * (n / 8) + r.val) % 4096, Nat.mod_lt _ (by omega)⟩

theorem in0 (t : Fin cfg0.N) (q : Fin 1024) (r : Fin 2048) : iblk m c 0 t (ix2 q r) = A m c (ix2 (tok (t.val % 8) q) (col t.val r)) := by
  have := (idx t).2.2
  blk_ext [iblk, idx t]
theorem in1 (t : Fin cfg0.N) (q : Fin 1024) (s : Fin 1024) : iblk m c 1 t (ix2 q s) = B m c (ix2 (tok (t.val % 8) q) s) := by
  have := (idx t).2.2
  blk_ext [iblk, idx t]

/-- What block `k` of the tokens adds to an entry. -/
def part (k : ℕ) (r : Fin 4096) (s : Fin 1024) : EReal := ∑ q : Fin 1024, A m c (ix2 (tok k q) r) * B m c (ix2 (tok k q) s)

theorem step (t : Fin cfg0.N) (x : Vec Ideal S2048x1024 .f32) (r : Fin 2048) (s : Fin 1024) :
    k0_pay2 x (iblk m c 0 t) (iblk m c 1 t) (ix2 r s) = x (ix2 r s) + part m c (t.val % 8) (col t.val r) s := by
  rw [pay2]
  exact congrArg (x (ix2 r s) + ·) (Finset.sum_congr rfl fun q _ => by rw [in0, in1])

/-- The scratch after point `n` holds the sum over the blocks of tokens up to the point's own. -/
theorem acc_eq : ∀ (n : ℕ) (h : n < cfg0.N) (r : Fin 2048) (s : Fin 1024),
    (outsAt0 m c n h).2 (ix2 r s) = ∑ k ∈ Finset.range (n % 8 + 1), part m c k (col n r) s := by
  intro n
  induction n with
  | zero =>
    intro h r s
    rw [outsAt0_A m c ⟨0, h⟩ rfl (by dsimp only; omega)]
    dsimp only
    rw [sout_A, step, pay1, zero_add]
    simp
  | succ n ih =>
    intro h r s
    by_cases h0 : (n + 1) % 8 = 0
    · rw [outsAt0_A m c ⟨n + 1, h⟩ h0 (by dsimp only; omega)]
      dsimp only
      rw [sout_A, step, pay1, zero_add]
      dsimp only
      rw [h0]
      simp
    · have e : (outsAt0 m c (n + 1) h).2 (ix2 r s) = (outsAt0 m c n (Nat.lt_of_succ_lt h)).2 (ix2 r s) + part m c ((n + 1) % 8) (col (n + 1) r) s := by
        by_cases h1 : (n + 1) % 8 = 7
        · rw [outsAt0_C m c ⟨n + 1, h⟩ h0 h1]
          dsimp only
          rw [sout_C, step]
          rfl
        · rw [outsAt0_B m c ⟨n + 1, h⟩ h0 h1]
          dsimp only
          rw [sout_B, step]
          rfl
      have hq : (n + 1) % 8 = n % 8 + 1 := by omega
      have hc : col (n + 1) r = col n r := Fin.ext (by
        show (2048 * ((n + 1) / 8) + r.val) % 4096 = (2048 * (n / 8) + r.val) % 4096
        rw [show (n + 1) / 8 = n / 8 by omega])
      rw [e, ih, hc, hq, Finset.sum_range_succ _ (n % 8 + 1)]

/-- The result: the product summed over all tokens. -/
def W : Vec Ideal S4096x1024 .bf16 := fun i =>
  ∑ j : Fin 8192, A m c (ix2 j ⟨(i 0).val, (i 0).isLt⟩) * B m c (ix2 j ⟨(i 1).val, (i 1).isLt⟩)

theorem pay3 (x : Vec Ideal S2048x1024 .f32) (y : S2048x1024.Idx) : k0_pay3 x y = x y := rfl

theorem result (i : S4096x1024.Idx) : G2 m c i = W m c i := by
  obtain ⟨r, s, rfl⟩ := pair i
  have hr := r.isLt
  have hs := s.isLt
  have hN : cfg0.N = 16 := N_0
  have hp : pt2Of (ix2 r s) = 8 * (r.val / 2048) + 7 := by
    show 8 * (1 * (r.val / 2048 - 0) + 1 * (s.val / 1024 - 0)) + 7 = _
    omega
  have hl : loc2Of (ix2 r s) = ix2 (⟨r.val % 2048, Nat.mod_lt _ (by omega)⟩ : Fin 2048) (⟨s.val % 1024, Nat.mod_lt _ (by omega)⟩ : Fin 1024) := by
    funext a; match a with | ⟨0, _⟩ => rfl | ⟨1, _⟩ => rfl
  have hlt : pt2Of (ix2 r s) < cfg0.N := by rw [hp, hN]; omega
  unfold G2
  rw [dif_pos hlt, ← outsAt0_sweep m c _ hlt, hl]
  have h7 : (⟨pt2Of (ix2 r s), hlt⟩ : Fin cfg0.N).val % 8 = 7 := by dsimp only; omega
  have key := acc_eq m c _ hlt ⟨r.val % 2048, Nat.mod_lt _ (by omega)⟩ ⟨s.val % 1024, Nat.mod_lt _ (by omega)⟩
  have e : ∀ y, (outsAt0 m c _ hlt).1 y = (outsAt0 m c _ hlt).2 y := fun y => by
    rw [outsAt0_C m c ⟨pt2Of (ix2 r s), hlt⟩ (by omega) h7]
    dsimp only
    rw [out_C, sout_C]
    rfl
  rw [e, key]
  have hc : col (pt2Of (ix2 r s)) ⟨r.val % 2048, Nat.mod_lt _ (by omega)⟩ = r := Fin.ext (by
    show (2048 * (pt2Of (ix2 r s) / 8) + r.val % 2048) % 4096 = r.val
    rw [hp]; omega)
  have hs' : (⟨s.val % 1024, Nat.mod_lt _ (by omega)⟩ : Fin 1024) = s := Fin.ext (by show s.val % 1024 = s.val; omega)
  rw [hc, hs', show pt2Of (ix2 r s) % 8 + 1 = 8 from by have := h7; dsimp only at this; omega]
  exact sum_tok fun j => A m c (ix2 j r) * B m c (ix2 j s)

end Cert.Kernel4Ideal.Value

namespace Cert.Proof.WgradDown

open Idealize.ShloMosaic Idealize.ShloMosaic.TcCoe Idealize.SL.Sem

theorem refer (a : FVec Ideal Cert.Reference4Ideal.S8192x4096 .bf16) (b : FVec Ideal Cert.Reference4Ideal.S8192x1024 .bf16) (r : Fin 4096) (s : Fin 1024) :
    truncf .bf16 (transpose Cert.Reference4Ideal.S4096x1024 [1, 0] (Host.dotGeneral Cert.Reference4Ideal.dot_S8192x1024_S8192x4096_S1024x4096_0_0_1_1_n_n none
      (extf .f32 b Cert.Reference4Ideal.Gen.facts.bitsLt_bf16_f32) (extf .f32 a Cert.Reference4Ideal.Gen.facts.bitsLt_bf16_f32))
      Cert.Reference4Ideal.Gen.facts.transposes_S1024x4096_S4096x1024_1_0) Cert.Reference4Ideal.Gen.facts.bitsLt_bf16_f32 (ix2 r s)
      = ∑ j : Fin 8192, a (ix2 j r) * b (ix2 j s) := by
  have : ∀ j : Fin 8192, a (ix2 j r) * b (ix2 j s) = b (ix2 j s) * a (ix2 j r) := fun j => mul_comm _ _
  simp only [this]
  pointwise

/-- At the ideal instance the kernel's weight gradient is the product's, summed over all tokens. -/
theorem algebraic : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Kernel4Ideal.Value.W m c,
    (θ_run Cert.Kernel4Ideal.defs _ _).mono (fun r h c => ⟨(h c).1.trans (funext (Cert.Kernel4Ideal.Value.result m c)), (h c).2⟩) (Cert.Kernel4Ideal.Value.run m g),
    (θ_run Cert.Reference4Ideal.defs _ _).mono (fun r h c => ⟨(h c).1.trans ?_, (h c).2⟩) (Cert.Reference4Ideal.Value.run m' g')⟩
  obtain ⟨a0, a1⟩ := hag c
  funext y
  obtain ⟨r, s, rfl⟩ := pair y
  refine (refer _ _ r s).trans ?_
  exact Finset.sum_congr rfl fun j _ => congrArg₂ (· * ·) (congrFun a0 _) (congrFun a1 _)

end Cert.Proof.WgradDown
-- ==== Proof.WgradUp.lean ====
module

public import proofs.«01_k».proof.Defs
public import proofs.«01_k».proof.Proof.Tokens
public import proofs.«01_k».proof.Proof.Gen.Kernel5Ideal.Value
public import proofs.«01_k».proof.Proof.Gen.Reference5Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise
public import Idealize.ShloMosaic.Lib.Pipeline.ReadBack

@[expose] public section

set_option maxRecDepth 16384

noncomputable section

/-! ## The weight gradient of the first product: a sum over the tokens, taken in eight blocks -/

namespace Cert.Kernel5Ideal.Value

open Idealize.ShloMosaic Idealize.ShloMosaic.TcCoe Idealize.SL.Sem
open Cert.Kernel5Ideal Cert.Kernel5Ideal.Gen Cert.Proof

variable (m : (ℓ : Loc nD τ sig) → Buf (Elt Ideal) ℓ) (c : Dev nD)

theorem hz : (![0, 0] : Fin 2 → Nat) = fun _ => 0 := funext fun a => by fin_cases a <;> rfl

/-- One block's product, at an entry. -/
theorem pay2 (x : Vec Ideal S1024x1024 .f32) (a : Vec Ideal S1024x1024 .bf16) (b : Vec Ideal S1024x1024 .bf16) (r : Fin 1024) (s : Fin 1024) :
    k0_pay2 x a b (ix2 r s) = x (ix2 r s) + ∑ q : Fin 1024, a (ix2 q r) * b (ix2 q s) := by
  unfold k0_pay2
  pointwise

theorem pay1 (r : Fin 1024) (s : Fin 1024) : k0_pay1 (F := Ideal) (ix2 r s) = 0 := by
  unfold k0_pay1
  pointwise

section Cases

variable (i : grid0.Coords) (a3 : Memref sig .tc .vmem S1024x1024 .bf16) (h3 : a3.IsWhole) (a4 : Memref sig .tc .vmem S1024x1024 .bf16) (h4 : a4.IsWhole)
variable (a5 : Memref sig .tc .vmem S2x1024x512 .bf16) (h5 : a5.IsWhole) (a6 : Memref sig .tc .vmem S1024x1024 .f32) (h6 : a6.IsWhole)
variable (x0 : Vec Ideal S1024x1024 .bf16) (x1 : Vec Ideal S1024x1024 .bf16) (xs : Vec Ideal S1024x1024 .f32)

theorem sout_A (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, View.ld_unit_zero (S := S1024x1024) hz]

theorem sout_B (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_cons_unit_zero (S := S1024x1024) hz]
  simp only [View.readAt_eq_ld, h3.read_unread, h4.read_unread, h6.read_unread, View.ld_unit_zero (S := S1024x1024) hz, View.ld_unit_zero (S := S1024x1024) hz,
    View.ld_unit_zero (S := S1024x1024) hz]

theorem sout_C (hc0 : ¬cond0_0 i) (hc1 : cond0_1 i) : sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_cons_unit_zero (S := S1024x1024) hz]
  simp only [View.readAt_eq_ld, h3.read_unread, h4.read_unread, h6.read_unread, View.ld_unit_zero (S := S1024x1024) hz, View.ld_unit_zero (S := S1024x1024) hz,
    View.ld_unit_zero (S := S1024x1024) hz]

theorem ix2_ext {n k : ℕ} {y : Shape.Idx ⟨2, ![n, k]⟩} {a : Fin n} {b : Fin k} (h0 : y 0 = a) (h1 : y 1 = b) : y = ix2 a b := by
  subst h0 h1
  exact eq_ix2 y

theorem pay3 (x : Vec Ideal S1024x512 .f32) (o : Fin 1) (r : Fin 1024) (w : Fin 512) : k0_pay3 x (ix3 o r w) = x (ix2 r w) := by
  unfold k0_pay3
  pointwise
theorem pay4 (x : Vec Ideal S1024x512 .f32) (o : Fin 1) (r : Fin 1024) (w : Fin 512) : k0_pay4 x (ix3 o r w) = x (ix2 r w) := by
  unfold k0_pay4
  pointwise

/-- Two runs of 512 columns, one after the other. -/
abbrev runs (x : Vec Ideal S1024x1024 .f32) : Vec Ideal S2x1024x512 .bf16 := fun y =>
  x (ix2 ⟨(y 1).val, (y 1).isLt⟩ (⟨(512 * (y 0).val + (y 2).val) % 1024, Nat.mod_lt _ (by omega)⟩ : Fin 1024))

theorem out_C (hc0 : ¬cond0_0 i) (hc1 : cond0_1 i) (y : S2x1024x512.Idx) :
    out0_C_2 c i a3 h3 a4 h4 a5 h5 a6 h6 hc0 hc1 x0 x1 xs y = runs (k0_pay2 xs x0 x1) y := by
  unfold out0_C_2
  refine View.read_writes_apply_of_pieces _ _ (runs (k0_pay2 xs x0 x1)) _ ?_ y (cover0_C_2 c i a3 h3 a4 h4 a5 h5 a6 h6 hc0 hc1 x0 x1 xs y)
  unfold kernelRun0_C
  dsimp only
  sl_unfold_words
  simp only [List.forall_mem_cons, View.readAt_eq_ld, h3.read_unread, h4.read_unread, h6.read_unread, View.ld_unit_zero (S := S1024x1024) hz]
  refine ⟨fun q => ?_, fun q => ?_, by simp⟩
  · rw [View.readCov_fill (s := S1024x1024) _ inb_S1024x1024_S1024x1024_0_0 _ _ (Rect.unit (s := S1024x1024) ![0, 512] ![1024, 512] inb_S1024x1024_S1024x512_0_512) (congrFun hz)]
    obtain ⟨o, r, w, rfl⟩ := triple (n := 1) (k := 1024) (l := 512) q
    refine (pay4 _ o r w).trans (congrArg (k0_pay2 xs x0 x1) ?_)
    have ho := o.isLt
    have hw := w.isLt
    refine ix2_ext (Fin.ext ?_) (Fin.ext ?_)
    · show 0 + 1 * r.val = 0 + 1 * r.val; rfl
    · show 512 + 1 * w.val = (512 * (1 + 1 * o.val) + (0 + 1 * w.val)) % 1024
      omega
  · rw [View.readCov_fill (s := S1024x1024) _ inb_S1024x1024_S1024x1024_0_0 _ _ (Rect.unit (s := S1024x1024) ![0, 0] ![1024, 512] inb_S1024x1024_S1024x512_0_0) (congrFun hz)]
    obtain ⟨o, r, w, rfl⟩ := triple (n := 1) (k := 1024) (l := 512) q
    refine (pay3 _ o r w).trans (congrArg (k0_pay2 xs x0 x1) ?_)
    have ho := o.isLt
    have hw := w.isLt
    refine ix2_ext (Fin.ext ?_) (Fin.ext ?_)
    · show 0 + 1 * r.val = 0 + 1 * r.val; rfl
    · show 0 + 1 * w.val = (512 * (0 + 1 * o.val) + (0 + 1 * w.val)) % 1024
      omega

end Cases

/-- The left operand and the right one, by token. -/
abbrev A : Vec Ideal S8192x1024 .bf16 := V m c main_arg0
abbrev B : Vec Ideal S8192x4096 .bf16 := V m c main_arg1

theorem idx : ∀ t : Fin cfg0.N, win0_0.index t = ![t.val % 8, t.val / 8 / 4] ∧ win0_1.index t = ![t.val % 8, t.val / 8 % 4] ∧ t.val < 32 :=
  (by decide +kernel : ∀ t : Fin grid0.N, win0_0.index t = ![t.val % 8, t.val / 8 / 4] ∧ win0_1.index t = ![t.val % 8, t.val / 8 % 4] ∧ t.val < 32)

/-- Row `r` of the block of rows that point `n` works on. -/
abbrev col (n : ℕ) (r : Fin 1024) : Fin 1024 := ⟨(1024 * (n / 8 / 4) + r.val) % 1024, Nat.mod_lt _ (by omega)⟩
/-- Column `s` of the block of columns that point `n` works on. -/
abbrev lin (n : ℕ) (s : Fin 1024) : Fin 4096 := ⟨(1024 * (n / 8 % 4) + s.val) % 4096, Nat.mod_lt _ (by omega)⟩

theorem in0 (t : Fin cfg0.N) (q : Fin 1024) (r : Fin 1024) : iblk m c 0 t (ix2 q r) = A m c (ix2 (tok (t.val % 8) q) (col t.val r)) := by
  have := (idx t).2.2
  blk_ext [iblk, idx t]
theorem in1 (t : Fin cfg0.N) (q : Fin 1024) (s : Fin 1024) : iblk m c 1 t (ix2 q s) = B m c (ix2 (tok (t.val % 8) q) (lin t.val s)) := by
  have := (idx t).2.2
  blk_ext [iblk, idx t]

/-- What block `k` of the tokens adds to an entry. -/
def part (k : ℕ) (r : Fin 1024) (s : Fin 4096) : EReal := ∑ q : Fin 1024, A m c (ix2 (tok k q) r) * B m c (ix2 (tok k q) s)

theorem step (t : Fin cfg0.N) (x : Vec Ideal S1024x1024 .f32) (r : Fin 1024) (s : Fin 1024) :
    k0_pay2 x (iblk m c 0 t) (iblk m c 1 t) (ix2 r s) = x (ix2 r s) + part m c (t.val % 8) (col t.val r) (lin t.val s) := by
  rw [pay2]
  exact congrArg (x (ix2 r s) + ·) (Finset.sum_congr rfl fun q _ => by rw [in0, in1])

/-- The scratch after point `n` holds the sum over the blocks of tokens up to the point's own. -/
theorem acc_eq : ∀ (n : ℕ) (h : n < cfg0.N) (r : Fin 1024) (s : Fin 1024),
    (outsAt0 m c n h).2 (ix2 r s) = ∑ k ∈ Finset.range (n % 8 + 1), part m c k (col n r) (lin n s) := by
  intro n
  induction n with
  | zero =>
    intro h r s
    rw [outsAt0_A m c ⟨0, h⟩ rfl (by dsimp only; omega)]
    dsimp only
    rw [sout_A, step, pay1, zero_add]
    simp
  | succ n ih =>
    intro h r s
    by_cases h0 : (n + 1) % 8 = 0
    · rw [outsAt0_A m c ⟨n + 1, h⟩ h0 (by dsimp only; omega)]
      dsimp only
      rw [sout_A, step, pay1, zero_add]
      dsimp only
      rw [h0]
      simp
    · have e : (outsAt0 m c (n + 1) h).2 (ix2 r s) = (outsAt0 m c n (Nat.lt_of_succ_lt h)).2 (ix2 r s) + part m c ((n + 1) % 8) (col (n + 1) r) (lin (n + 1) s) := by
        by_cases h1 : (n + 1) % 8 = 7
        · rw [outsAt0_C m c ⟨n + 1, h⟩ h0 h1]
          dsimp only
          rw [sout_C, step]
          rfl
        · rw [outsAt0_B m c ⟨n + 1, h⟩ h0 h1]
          dsimp only
          rw [sout_B, step]
          rfl
      have hq : (n + 1) % 8 = n % 8 + 1 := by omega
      have hc : col (n + 1) r = col n r := Fin.ext (by
        show (1024 * ((n + 1) / 8 / 4) + r.val) % 1024 = (1024 * (n / 8 / 4) + r.val) % 1024
        rw [show (n + 1) / 8 = n / 8 by omega])
      have hl : lin (n + 1) s = lin n s := Fin.ext (by
        show (1024 * ((n + 1) / 8 % 4) + s.val) % 4096 = (1024 * (n / 8 % 4) + s.val) % 4096
        rw [show (n + 1) / 8 = n / 8 by omega])
      rw [e, ih, hc, hl, hq, Finset.sum_range_succ _ (n % 8 + 1)]

/-- The result: the product summed over all tokens, its columns in eight runs of 512. -/
def W : Vec Ideal S8x1024x512 .bf16 := fun i =>
  ∑ j : Fin 8192, A m c (ix2 j ⟨(i 1).val, (i 1).isLt⟩) * B m c (ix2 j (⟨(512 * (i 0).val + (i 2).val) % 4096, Nat.mod_lt _ (by omega)⟩ : Fin 4096))

theorem result (i : S8x1024x512.Idx) : G2 m c i = W m c i := by
  obtain ⟨b, r, w, rfl⟩ := triple i
  have hb := b.isLt
  have hr := r.isLt
  have hw := w.isLt
  have hN : cfg0.N = 32 := N_0
  have hp : pt2Of (ix3 b r w) = 8 * (b.val / 2) + 7 := by
    show 8 * (1 * (b.val / 2 - 0) + 1 * (r.val / 1024 - 0) + 1 * (w.val / 512 - 0)) + 7 = _
    omega
  have hl : loc2Of (ix3 b r w) = ix3 (⟨b.val % 2, Nat.mod_lt _ (by omega)⟩ : Fin 2) (⟨r.val % 1024, Nat.mod_lt _ (by omega)⟩ : Fin 1024)
      (⟨w.val % 512, Nat.mod_lt _ (by omega)⟩ : Fin 512) := by
    funext a; match a with | ⟨0, _⟩ => rfl | ⟨1, _⟩ => rfl | ⟨2, _⟩ => rfl
  have hlt : pt2Of (ix3 b r w) < cfg0.N := by rw [hp, hN]; omega
  unfold G2
  rw [dif_pos hlt, ← outsAt0_sweep m c _ hlt, hl]
  have h7 : (⟨pt2Of (ix3 b r w), hlt⟩ : Fin cfg0.N).val % 8 = 7 := by dsimp only; omega
  have e : ∀ y, (outsAt0 m c _ hlt).1 y = runs (outsAt0 m c _ hlt).2 y := fun y => by
    rw [outsAt0_C m c ⟨pt2Of (ix3 b r w), hlt⟩ (by omega) h7]
    dsimp only
    rw [out_C, sout_C]
  rw [e]
  refine (acc_eq m c _ hlt _ _).trans ?_
  rw [show pt2Of (ix3 b r w) % 8 + 1 = 8 from by have := h7; dsimp only at this; omega]
  refine (sum_tok fun j => A m c (ix2 j (col (pt2Of (ix3 b r w)) _)) * B m c (ix2 j (lin (pt2Of (ix3 b r w)) _))).trans ?_
  refine Finset.sum_congr rfl fun j _ => congrArg₂ (fun x y => A m c (ix2 j x) * B m c (ix2 j y)) (Fin.ext ?_) (Fin.ext ?_)
  · show (1024 * (pt2Of (ix3 b r w) / 8 / 4) + r.val % 1024) % 1024 = r.val
    rw [hp]; omega
  · show (1024 * (pt2Of (ix3 b r w) / 8 % 4) + (512 * (b.val % 2) + w.val % 512) % 1024) % 4096 = (512 * b.val + w.val) % 4096
    rw [hp]; omega

end Cert.Kernel5Ideal.Value

namespace Cert.Proof.WgradUp

open Idealize.ShloMosaic Idealize.ShloMosaic.TcCoe Idealize.SL.Sem

theorem refer (a : FVec Ideal Cert.Reference5Ideal.S8192x1024 .bf16) (d : FVec Ideal Cert.Reference5Ideal.S8192x4096 .bf16) (b : Fin 8) (r : Fin 1024) (w : Fin 512) :
    transpose Cert.Reference5Ideal.S8x1024x512 [1, 0, 2] (shapeCast Cert.Reference5Ideal.S1024x8x512 (truncf .bf16 (transpose Cert.Reference5Ideal.S1024x4096 [1, 0]
      (Host.dotGeneral Cert.Reference5Ideal.dot_S8192x4096_S8192x1024_S4096x1024_0_0_1_1_n_n none
      (extf .f32 d Cert.Reference5Ideal.Gen.facts.bitsLt_bf16_f32) (extf .f32 a Cert.Reference5Ideal.Gen.facts.bitsLt_bf16_f32))
      Cert.Reference5Ideal.Gen.facts.transposes_S4096x1024_S1024x4096_1_0) Cert.Reference5Ideal.Gen.facts.bitsLt_bf16_f32)
      Cert.Reference5Ideal.Gen.facts.shapeCasts_S1024x4096_S1024x8x512) Cert.Reference5Ideal.Gen.facts.transposes_S1024x8x512_S8x1024x512_1_0_2 (ix3 b r w)
      = ∑ j : Fin 8192, a (ix2 j r) * d (ix2 j (⟨(512 * b.val + w.val) % 4096, Nat.mod_lt _ (by omega)⟩ : Fin 4096)) := by
  have h : ∀ j : Fin 8192, a (ix2 j r) * d (ix2 j (⟨(512 * b.val + w.val) % 4096, Nat.mod_lt _ (by omega)⟩ : Fin 4096))
      = d (ix2 j (⟨b.val * 512 + w.val, by omega⟩ : Fin 4096)) * a (ix2 j r) := fun j => by
    rw [mul_comm]
    exact congrArg (fun x => d (ix2 j x) * a (ix2 j r)) (Fin.ext ((Nat.mod_eq_of_lt (by omega)).trans (by ring)))
  simp only [h]
  pointwise

/-- At the ideal instance the kernel's weight gradient is the product's, summed over all tokens. -/
theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Value.W m c,
    (θ_run Cert.Kernel5Ideal.defs _ _).mono (fun r h c => ⟨(h c).1.trans (funext (Cert.Kernel5Ideal.Value.result m c)), (h c).2⟩) (Cert.Kernel5Ideal.Value.run m g),
    (θ_run Cert.Reference5Ideal.defs _ _).mono (fun r h c => ⟨(h c).1.trans ?_, (h c).2⟩) (Cert.Reference5Ideal.Value.run m' g')⟩
  obtain ⟨a0, a1⟩ := hag c
  funext y
  obtain ⟨b, r, w, rfl⟩ := triple y
  refine (refer _ _ b r w).trans ?_
  exact Finset.sum_congr rfl fun j _ => congrArg₂ (· * ·) (congrFun a0 _) (congrFun a1 _)

end Cert.Proof.WgradUp
-- ==== Proof.WgradIn.lean ====
module

public import proofs.«01_k».proof.Defs
public import proofs.«01_k».proof.Proof.Tokens
public import proofs.«01_k».proof.Proof.Gen.Kernel6Ideal.Value
public import proofs.«01_k».proof.Proof.Gen.Reference6Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

/-! ## The weight gradient of the mixer's input product: a sum over the tokens, taken in eight blocks -/

namespace Cert.Kernel6Ideal.Value

open Idealize.ShloMosaic Idealize.ShloMosaic.TcCoe Idealize.SL.Sem
open Cert.Kernel6Ideal Cert.Kernel6Ideal.Gen Cert.Proof

variable (m : (ℓ : Loc nD τ sig) → Buf (Elt Ideal) ℓ) (c : Dev nD)

theorem hz : (![0, 0] : Fin 2 → Nat) = fun _ => 0 := funext fun a => by fin_cases a <;> rfl

/-- One block's product, at an entry. -/
theorem pay2 (x : Vec Ideal S1024x1152 .f32) (a : Vec Ideal S1024x1024 .bf16) (b : Vec Ideal S1024x1152 .bf16) (r : Fin 1024) (s : Fin 1152) :
    k0_pay2 x a b (ix2 r s) = x (ix2 r s) + ∑ q : Fin 1024, a (ix2 q r) * b (ix2 q s) := by
  unfold k0_pay2
  pointwise

theorem pay1 (r : Fin 1024) (s : Fin 1152) : k0_pay1 (F := Ideal) (ix2 r s) = 0 := by
  unfold k0_pay1
  pointwise

section Cases

variable (i : grid0.Coords) (a3 : Memref sig .tc .vmem S1024x1024 .bf16) (h3 : a3.IsWhole) (a4 : Memref sig .tc .vmem S1024x1152 .bf16) (h4 : a4.IsWhole)
variable (a5 : Memref sig .tc .vmem S1024x1152 .bf16) (h5 : a5.IsWhole) (a6 : Memref sig .tc .vmem S1024x1152 .f32) (h6 : a6.IsWhole)
variable (x0 : Vec Ideal S1024x1024 .bf16) (x1 : Vec Ideal S1024x1152 .bf16) (xs : Vec Ideal S1024x1152 .f32)

theorem sout_A (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1152) hz, View.readCov_unit_zero (S := S1024x1152) _ hz]
  simp only [View.readAt_eq_ld, h3.read_unread, h4.read_unread, View.ld_unit_zero (S := S1024x1024) hz, View.ld_unit_zero (S := S1024x1152) hz]

theorem sout_B (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_cons_unit_zero (S := S1024x1152) hz]
  simp only [View.readAt_eq_ld, h3.read_unread, h4.read_unread, h6.read_unread, View.ld_unit_zero (S := S1024x1024) hz, View.ld_unit_zero (S := S1024x1152) hz,
    View.ld_unit_zero (S := S1024x1152) hz]

theorem sout_C (hc0 : ¬cond0_0 i) (hc1 : cond0_1 i) : sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_cons_unit_zero (S := S1024x1152) hz]
  simp only [View.readAt_eq_ld, h3.read_unread, h4.read_unread, h6.read_unread, View.ld_unit_zero (S := S1024x1024) hz, View.ld_unit_zero (S := S1024x1152) hz,
    View.ld_unit_zero (S := S1024x1152) hz]

theorem out_C (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_cons_unit_zero (S := S1024x1152) hz, View.readCov_unit_zero (S := S1024x1152) _ hz]
  simp only [View.readAt_eq_ld, h3.read_unread, h4.read_unread, h6.read_unread, View.ld_unit_zero (S := S1024x1024) hz, View.ld_unit_zero (S := S1024x1152) hz,
    View.ld_unit_zero (S := S1024x1152) hz]

end Cases

/-- The left operand and the right one, by token. -/
abbrev A : Vec Ideal S8192x1024 .bf16 := V m c main_arg0
abbrev B : Vec Ideal S8192x2304 .bf16 := V m c main_arg1

theorem idx : ∀ t : Fin cfg0.N, win0_0.index t = ![t.val % 8, t.val / 8 / 2] ∧ win0_1.index t = ![t.val % 8, t.val / 8 % 2] ∧ t.val < 16 :=
  (by decide +kernel : ∀ t : Fin grid0.N, win0_0.index t = ![t.val % 8, t.val / 8 / 2] ∧ win0_1.index t = ![t.val % 8, t.val / 8 % 2] ∧ t.val < 16)

/-- Row `r` of the block of rows that point `n` works on. -/
abbrev col (n : ℕ) (r : Fin 1024) : Fin 1024 := ⟨(1024 * (n / 8 / 2) + r.val) % 1024, Nat.mod_lt _ (by omega)⟩
/-- Column `s` of the block of columns that point `n` works on. -/
abbrev lin (n : ℕ) (s : Fin 1152) : Fin 2304 := ⟨(1152 * (n / 8 % 2) + s.val) % 2304, Nat.mod_lt _ (by omega)⟩

theorem in0 (t : Fin cfg0.N) (q : Fin 1024) (r : Fin 1024) : iblk m c 0 t (ix2 q r) = A m c (ix2 (tok (t.val % 8) q) (col t.val r)) := by
  have := (idx t).2.2
  blk_ext [iblk, idx t]
theorem in1 (t : Fin cfg0.N) (q : Fin 1024) (s : Fin 1152) : iblk m c 1 t (ix2 q s) = B m c (ix2 (tok (t.val % 8) q) (lin t.val s)) := by
  have := (idx t).2.2
  blk_ext [iblk, idx t]

/-- What block `k` of the tokens adds to an entry. -/
def part (k : ℕ) (r : Fin 1024) (s : Fin 2304) : EReal := ∑ q : Fin 1024, A m c (ix2 (tok k q) r) * B m c (ix2 (tok k q) s)

theorem step (t : Fin cfg0.N) (x : Vec Ideal S1024x1152 .f32) (r : Fin 1024) (s : Fin 1152) :
    k0_pay2 x (iblk m c 0 t) (iblk m c 1 t) (ix2 r s) = x (ix2 r s) + part m c (t.val % 8) (col t.val r) (lin t.val s) := by
  rw [pay2]
  exact congrArg (x (ix2 r s) + ·) (Finset.sum_congr rfl fun q _ => by rw [in0, in1])

/-- The scratch after point `n` holds the sum over the blocks of tokens up to the point's own. -/
theorem acc_eq : ∀ (n : ℕ) (h : n < cfg0.N) (r : Fin 1024) (s : Fin 1152),
    (outsAt0 m c n h).2 (ix2 r s) = ∑ k ∈ Finset.range (n % 8 + 1), part m c k (col n r) (lin n s) := by
  intro n
  induction n with
  | zero =>
    intro h r s
    rw [outsAt0_A m c ⟨0, h⟩ rfl (by dsimp only; omega)]
    dsimp only
    rw [sout_A, step, pay1, zero_add]
    simp
  | succ n ih =>
    intro h r s
    by_cases h0 : (n + 1) % 8 = 0
    · rw [outsAt0_A m c ⟨n + 1, h⟩ h0 (by dsimp only; omega)]
      dsimp only
      rw [sout_A, step, pay1, zero_add]
      dsimp only
      rw [h0]
      simp
    · have e : (outsAt0 m c (n + 1) h).2 (ix2 r s) = (outsAt0 m c n (Nat.lt_of_succ_lt h)).2 (ix2 r s) + part m c ((n + 1) % 8) (col (n + 1) r) (lin (n + 1) s) := by
        by_cases h1 : (n + 1) % 8 = 7
        · rw [outsAt0_C m c ⟨n + 1, h⟩ h0 h1]
          dsimp only
          rw [sout_C, step]
          rfl
        · rw [outsAt0_B m c ⟨n + 1, h⟩ h0 h1]
          dsimp only
          rw [sout_B, step]
          rfl
      have hq : (n + 1) % 8 = n % 8 + 1 := by omega
      have hc : col (n + 1) r = col n r := Fin.ext (by
        show (1024 * ((n + 1) / 8 / 2) + r.val) % 1024 = (1024 * (n / 8 / 2) + r.val) % 1024
        rw [show (n + 1) / 8 = n / 8 by omega])
      have hl : lin (n + 1) s = lin n s := Fin.ext (by
        show (1152 * ((n + 1) / 8 % 2) + s.val) % 2304 = (1152 * (n / 8 % 2) + s.val) % 2304
        rw [show (n + 1) / 8 = n / 8 by omega])
      rw [e, ih, hc, hl, hq, Finset.sum_range_succ _ (n % 8 + 1)]

/-- The result: the product summed over all tokens. -/
def W : Vec Ideal S1024x2304 .bf16 := fun i =>
  ∑ j : Fin 8192, A m c (ix2 j ⟨(i 0).val, (i 0).isLt⟩) * B m c (ix2 j ⟨(i 1).val, (i 1).isLt⟩)

theorem pay3 (x : Vec Ideal S1024x1152 .f32) (y : S1024x1152.Idx) : k0_pay3 x y = x y := rfl

theorem result (i : S1024x2304.Idx) : G2 m c i = W m c i := by
  obtain ⟨r, s, rfl⟩ := pair i
  have hr := r.isLt
  have hs := s.isLt
  have hN : cfg0.N = 16 := N_0
  have hp : pt2Of (ix2 r s) = 8 * (2 * (r.val / 1024) + s.val / 1152) + 7 := by
    show 8 * (2 * (r.val / 1024 - 0) + 1 * (s.val / 1152 - 0)) + 7 = _
    omega
  have hl : loc2Of (ix2 r s) = ix2 (⟨r.val % 1024, Nat.mod_lt _ (by omega)⟩ : Fin 1024) (⟨s.val % 1152, Nat.mod_lt _ (by omega)⟩ : Fin 1152) := by
    funext a; match a with | ⟨0, _⟩ => rfl | ⟨1, _⟩ => rfl
  have hlt : pt2Of (ix2 r s) < cfg0.N := by rw [hp, hN]; omega
  unfold G2
  rw [dif_pos hlt, ← outsAt0_sweep m c _ hlt, hl]
  have h7 : (⟨pt2Of (ix2 r s), hlt⟩ : Fin cfg0.N).val % 8 = 7 := by dsimp only; omega
  have key := acc_eq m c _ hlt ⟨r.val % 1024, Nat.mod_lt _ (by omega)⟩ ⟨s.val % 1152, Nat.mod_lt _ (by omega)⟩
  have e : ∀ y, (outsAt0 m c _ hlt).1 y = (outsAt0 m c _ hlt).2 y := fun y => by
    rw [outsAt0_C m c ⟨pt2Of (ix2 r s), hlt⟩ (by omega) h7]
    dsimp only
    rw [out_C, sout_C]
    rfl
  rw [e, key]
  have hc : col (pt2Of (ix2 r s)) ⟨r.val % 1024, Nat.mod_lt _ (by omega)⟩ = r := Fin.ext (by
    show (1024 * (pt2Of (ix2 r s) / 8 / 2) + r.val % 1024) % 1024 = r.val
    rw [hp]; omega)
  have hs' : lin (pt2Of (ix2 r s)) ⟨s.val % 1152, Nat.mod_lt _ (by omega)⟩ = s := Fin.ext (by
    show (1152 * (pt2Of (ix2 r s) / 8 % 2) + s.val % 1152) % 2304 = s.val
    rw [hp]; omega)
  rw [hc, hs', show pt2Of (ix2 r s) % 8 + 1 = 8 from by have := h7; dsimp only at this; omega]
  exact sum_tok fun j => A m c (ix2 j r) * B m c (ix2 j s)

end Cert.Kernel6Ideal.Value

namespace Cert.Proof.WgradIn

open Idealize.ShloMosaic Idealize.ShloMosaic.TcCoe Idealize.SL.Sem

theorem refer (a : FVec Ideal Cert.Reference6Ideal.S8192x1024 .bf16) (b : FVec Ideal Cert.Reference6Ideal.S8192x2304 .bf16) (r : Fin 1024) (s : Fin 2304) :
    truncf .bf16 (transpose Cert.Reference6Ideal.S1024x2304 [1, 0] (Host.dotGeneral Cert.Reference6Ideal.dot_S8192x2304_S8192x1024_S2304x1024_0_0_1_1_n_n none
      (extf .f32 b Cert.Reference6Ideal.Gen.facts.bitsLt_bf16_f32) (extf .f32 a Cert.Reference6Ideal.Gen.facts.bitsLt_bf16_f32))
      Cert.Reference6Ideal.Gen.facts.transposes_S2304x1024_S1024x2304_1_0) Cert.Reference6Ideal.Gen.facts.bitsLt_bf16_f32 (ix2 r s)
      = ∑ j : Fin 8192, a (ix2 j r) * b (ix2 j s) := by
  have : ∀ j : Fin 8192, a (ix2 j r) * b (ix2 j s) = b (ix2 j s) * a (ix2 j r) := fun j => mul_comm _ _
  simp only [this]
  pointwise

/-- At the ideal instance the kernel's weight gradient is the product's, summed over all tokens. -/
theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Kernel6Ideal.Value.W m c,
    (θ_run Cert.Kernel6Ideal.defs _ _).mono (fun r h c => ⟨(h c).1.trans (funext (Cert.Kernel6Ideal.Value.result m c)), (h c).2⟩) (Cert.Kernel6Ideal.Value.run m g),
    (θ_run Cert.Reference6Ideal.defs _ _).mono (fun r h c => ⟨(h c).1.trans ?_, (h c).2⟩) (Cert.Reference6Ideal.Value.run m' g')⟩
  obtain ⟨a0, a1⟩ := hag c
  funext y
  obtain ⟨r, s, rfl⟩ := pair y
  refine (refer _ _ r s).trans ?_
  exact Finset.sum_congr rfl fun j _ => congrArg₂ (· * ·) (congrFun a0 _) (congrFun a1 _)

end Cert.Proof.WgradIn
-- ==== Proof.WgradOut.lean ====
module

public import proofs.«01_k».proof.Defs
public import proofs.«01_k».proof.Proof.Tokens
public import proofs.«01_k».proof.Proof.Gen.Kernel7Ideal.Value
public import proofs.«01_k».proof.Proof.Gen.Reference7Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

/-! ## The weight gradient of the mixer's output product: a sum over the tokens, taken in eight blocks -/

namespace Cert.Kernel7Ideal.Value

open Idealize.ShloMosaic Idealize.ShloMosaic.TcCoe Idealize.SL.Sem
open Cert.Kernel7Ideal Cert.Kernel7Ideal.Gen Cert.Proof

variable (m : (ℓ : Loc nD τ sig) → Buf (Elt Ideal) ℓ) (c : Dev nD)

theorem hz : (![0, 0] : Fin 2 → Nat) = fun _ => 0 := funext fun a => by fin_cases a <;> rfl

/-- One block's product, at an entry. -/
theorem pay2 (x : Vec Ideal S1024x1024 .f32) (a : Vec Ideal S1024x1024 .bf16) (b : Vec Ideal S1024x1024 .bf16) (r : Fin 1024) (s : Fin 1024) :
    k0_pay2 x a b (ix2 r s) = x (ix2 r s) + ∑ q : Fin 1024, a (ix2 q r) * b (ix2 q s) := by
  unfold k0_pay2
  pointwise

theorem pay1 (r : Fin 1024) (s : Fin 1024) : k0_pay1 (F := Ideal) (ix2 r s) = 0 := by
  unfold k0_pay1
  pointwise

section Cases

variable (i : grid0.Coords) (a3 : Memref sig .tc .vmem S1024x1024 .bf16) (h3 : a3.IsWhole) (a4 : Memref sig .tc .vmem S1024x1024 .bf16) (h4 : a4.IsWhole)
variable (a5 : Memref sig .tc .vmem S1024x1024 .bf16) (h5 : a5.IsWhole) (a6 : Memref sig .tc .vmem S1024x1024 .f32) (h6 : a6.IsWhole)
variable (x0 : Vec Ideal S1024x1024 .bf16) (x1 : Vec Ideal S1024x1024 .bf16) (xs : Vec Ideal S1024x1024 .f32)

theorem sout_A (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, View.ld_unit_zero (S := S1024x1024) hz]

theorem sout_B (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_cons_unit_zero (S := S1024x1024) hz]
  simp only [View.readAt_eq_ld, h3.read_unread, h4.read_unread, h6.read_unread, View.ld_unit_zero (S := S1024x1024) hz, View.ld_unit_zero (S := S1024x1024) hz,
    View.ld_unit_zero (S := S1024x1024) hz]

theorem sout_C (hc0 : ¬cond0_0 i) (hc1 : cond0_1 i) : sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_cons_unit_zero (S := S1024x1024) hz]
  simp only [View.readAt_eq_ld, h3.read_unread, h4.read_unread, h6.read_unread, View.ld_unit_zero (S := S1024x1024) hz, View.ld_unit_zero (S := S1024x1024) hz,
    View.ld_unit_zero (S := S1024x1024) hz]

theorem out_C (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_cons_unit_zero (S := S1024x1024) hz, View.readCov_unit_zero (S := S1024x1024) _ hz]
  simp only [View.readAt_eq_ld, h3.read_unread, h4.read_unread, h6.read_unread, View.ld_unit_zero (S := S1024x1024) hz, View.ld_unit_zero (S := S1024x1024) hz,
    View.ld_unit_zero (S := S1024x1024) hz]

end Cases

/-- The left operand and the right one, by token. -/
abbrev A : Vec Ideal S8192x1024 .bf16 := V m c main_arg0
abbrev B : Vec Ideal S8192x1024 .bf16 := V m c main_arg1

theorem idx : ∀ t : Fin cfg0.N, win0_0.index t = ![t.val % 8, t.val / 8 / 1] ∧ win0_1.index t = ![t.val % 8, t.val / 8 % 1] ∧ t.val < 8 :=
  (by decide +kernel : ∀ t : Fin grid0.N, win0_0.index t = ![t.val % 8, t.val / 8 / 1] ∧ win0_1.index t = ![t.val % 8, t.val / 8 % 1] ∧ t.val < 8)

/-- Row `r` of the block of rows that point `n` works on. -/
abbrev col (n : ℕ) (r : Fin 1024) : Fin 1024 := ⟨(1024 * (n / 8 / 1) + r.val) % 1024, Nat.mod_lt _ (by omega)⟩
/-- Column `s` of the block of columns that point `n` works on. -/
abbrev lin (n : ℕ) (s : Fin 1024) : Fin 1024 := ⟨(1024 * (n / 8 % 1) + s.val) % 1024, Nat.mod_lt _ (by omega)⟩

theorem in0 (t : Fin cfg0.N) (q : Fin 1024) (r : Fin 1024) : iblk m c 0 t (ix2 q r) = A m c (ix2 (tok (t.val % 8) q) (col t.val r)) := by
  have := (idx t).2.2
  blk_ext [iblk, idx t]
theorem in1 (t : Fin cfg0.N) (q : Fin 1024) (s : Fin 1024) : iblk m c 1 t (ix2 q s) = B m c (ix2 (tok (t.val % 8) q) (lin t.val s)) := by
  have := (idx t).2.2
  blk_ext [iblk, idx t]

/-- What block `k` of the tokens adds to an entry. -/
def part (k : ℕ) (r : Fin 1024) (s : Fin 1024) : EReal := ∑ q : Fin 1024, A m c (ix2 (tok k q) r) * B m c (ix2 (tok k q) s)

theorem step (t : Fin cfg0.N) (x : Vec Ideal S1024x1024 .f32) (r : Fin 1024) (s : Fin 1024) :
    k0_pay2 x (iblk m c 0 t) (iblk m c 1 t) (ix2 r s) = x (ix2 r s) + part m c (t.val % 8) (col t.val r) (lin t.val s) := by
  rw [pay2]
  exact congrArg (x (ix2 r s) + ·) (Finset.sum_congr rfl fun q _ => by rw [in0, in1])

/-- The scratch after point `n` holds the sum over the blocks of tokens up to the point's own. -/
theorem acc_eq : ∀ (n : ℕ) (h : n < cfg0.N) (r : Fin 1024) (s : Fin 1024),
    (outsAt0 m c n h).2 (ix2 r s) = ∑ k ∈ Finset.range (n % 8 + 1), part m c k (col n r) (lin n s) := by
  intro n
  induction n with
  | zero =>
    intro h r s
    rw [outsAt0_A m c ⟨0, h⟩ rfl (by dsimp only; omega)]
    dsimp only
    rw [sout_A, step, pay1, zero_add]
    simp
  | succ n ih =>
    intro h r s
    by_cases h0 : (n + 1) % 8 = 0
    · rw [outsAt0_A m c ⟨n + 1, h⟩ h0 (by dsimp only; omega)]
      dsimp only
      rw [sout_A, step, pay1, zero_add]
      dsimp only
      rw [h0]
      simp
    · have e : (outsAt0 m c (n + 1) h).2 (ix2 r s) = (outsAt0 m c n (Nat.lt_of_succ_lt h)).2 (ix2 r s) + part m c ((n + 1) % 8) (col (n + 1) r) (lin (n + 1) s) := by
        by_cases h1 : (n + 1) % 8 = 7
        · rw [outsAt0_C m c ⟨n + 1, h⟩ h0 h1]
          dsimp only
          rw [sout_C, step]
          rfl
        · rw [outsAt0_B m c ⟨n + 1, h⟩ h0 h1]
          dsimp only
          rw [sout_B, step]
          rfl
      have hq : (n + 1) % 8 = n % 8 + 1 := by omega
      have hc : col (n + 1) r = col n r := Fin.ext (by
        show (1024 * ((n + 1) / 8 / 1) + r.val) % 1024 = (1024 * (n / 8 / 1) + r.val) % 1024
        rw [show (n + 1) / 8 = n / 8 by omega])
      have hl : lin (n + 1) s = lin n s := Fin.ext (by
        show (1024 * ((n + 1) / 8 % 1) + s.val) % 1024 = (1024 * (n / 8 % 1) + s.val) % 1024
        rw [show (n + 1) / 8 = n / 8 by omega])
      rw [e, ih, hc, hl, hq, Finset.sum_range_succ _ (n % 8 + 1)]

/-- The result: the product summed over all tokens. -/
def W : Vec Ideal S1024x1024 .bf16 := fun i =>
  ∑ j : Fin 8192, A m c (ix2 j ⟨(i 0).val, (i 0).isLt⟩) * B m c (ix2 j ⟨(i 1).val, (i 1).isLt⟩)

theorem pay3 (x : Vec Ideal S1024x1024 .f32) (y : S1024x1024.Idx) : k0_pay3 x y = x y := rfl

theorem result (i : S1024x1024.Idx) : G2 m c i = W m c i := by
  obtain ⟨r, s, rfl⟩ := pair i
  have hr := r.isLt
  have hs := s.isLt
  have hN : cfg0.N = 8 := N_0
  have hp : pt2Of (ix2 r s) = 8 * (1 * (r.val / 1024) + s.val / 1024) + 7 := by
    show 8 * (1 * (r.val / 1024 - 0) + 1 * (s.val / 1024 - 0)) + 7 = _
    omega
  have hl : loc2Of (ix2 r s) = ix2 (⟨r.val % 1024, Nat.mod_lt _ (by omega)⟩ : Fin 1024) (⟨s.val % 1024, Nat.mod_lt _ (by omega)⟩ : Fin 1024) := by
    funext a; match a with | ⟨0, _⟩ => rfl | ⟨1, _⟩ => rfl
  have hlt : pt2Of (ix2 r s) < cfg0.N := by rw [hp, hN]; omega
  unfold G2
  rw [dif_pos hlt, ← outsAt0_sweep m c _ hlt, hl]
  have h7 : (⟨pt2Of (ix2 r s), hlt⟩ : Fin cfg0.N).val % 8 = 7 := by dsimp only; omega
  have key := acc_eq m c _ hlt ⟨r.val % 1024, Nat.mod_lt _ (by omega)⟩ ⟨s.val % 1024, Nat.mod_lt _ (by omega)⟩
  have e : ∀ y, (outsAt0 m c _ hlt).1 y = (outsAt0 m c _ hlt).2 y := fun y => by
    rw [outsAt0_C m c ⟨pt2Of (ix2 r s), hlt⟩ (by omega) h7]
    dsimp only
    rw [out_C, sout_C]
    rfl
  rw [e, key]
  have hc : col (pt2Of (ix2 r s)) ⟨r.val % 1024, Nat.mod_lt _ (by omega)⟩ = r := Fin.ext (by
    show (1024 * (pt2Of (ix2 r s) / 8 / 1) + r.val % 1024) % 1024 = r.val
    rw [hp]; omega)
  have hs' : lin (pt2Of (ix2 r s)) ⟨s.val % 1024, Nat.mod_lt _ (by omega)⟩ = s := Fin.ext (by
    show (1024 * (pt2Of (ix2 r s) / 8 % 1) + s.val % 1024) % 1024 = s.val
    rw [hp]; omega)
  rw [hc, hs', show pt2Of (ix2 r s) % 8 + 1 = 8 from by have := h7; dsimp only at this; omega]
  exact sum_tok fun j => A m c (ix2 j r) * B m c (ix2 j s)

end Cert.Kernel7Ideal.Value

namespace Cert.Proof.WgradOut

open Idealize.ShloMosaic Idealize.ShloMosaic.TcCoe Idealize.SL.Sem

theorem refer (a : FVec Ideal Cert.Reference7Ideal.S8192x1024 .bf16) (b : FVec Ideal Cert.Reference7Ideal.S8192x1024 .bf16) (r : Fin 1024) (s : Fin 1024) :
    truncf .bf16 (transpose Cert.Reference7Ideal.S1024x1024 [1, 0] (Host.dotGeneral Cert.Reference7Ideal.dot_S8192x1024_S8192x1024_S1024x1024_0_0_1_1_n_n none
      (extf .f32 b Cert.Reference7Ideal.Gen.facts.bitsLt_bf16_f32) (extf .f32 a Cert.Reference7Ideal.Gen.facts.bitsLt_bf16_f32))
      Cert.Reference7Ideal.Gen.facts.transposes_S1024x1024_S1024x1024_1_0) Cert.Reference7Ideal.Gen.facts.bitsLt_bf16_f32 (ix2 r s)
      = ∑ j : Fin 8192, a (ix2 j r) * b (ix2 j s) := by
  have : ∀ j : Fin 8192, a (ix2 j r) * b (ix2 j s) = b (ix2 j s) * a (ix2 j r) := fun j => mul_comm _ _
  simp only [this]
  pointwise

/-- At the ideal instance the kernel's weight gradient is the product's, summed over all tokens. -/
theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => Cert.Kernel7Ideal.Value.W m c,
    (θ_run Cert.Kernel7Ideal.defs _ _).mono (fun r h c => ⟨(h c).1.trans (funext (Cert.Kernel7Ideal.Value.result m c)), (h c).2⟩) (Cert.Kernel7Ideal.Value.run m g),
    (θ_run Cert.Reference7Ideal.defs _ _).mono (fun r h c => ⟨(h c).1.trans ?_, (h c).2⟩) (Cert.Reference7Ideal.Value.run m' g')⟩
  obtain ⟨a0, a1⟩ := hag c
  funext y
  obtain ⟨r, s, rfl⟩ := pair y
  refine (refer _ _ r s).trans ?_
  exact Finset.sum_congr rfl fun j _ => congrArg₂ (· * ·) (congrFun a0 _) (congrFun a1 _)

end Cert.Proof.WgradOut
-- ==== Proof.Adam.lean ====
module

public import Idealize.ShloMosaic.Lib.Pointwise

@[expose] public section

noncomputable section

open Idealize.ShloMosaic

/-! ## AdamW of one weight, as numbers -/

namespace Cert.Proof.Adam

/-- The new first moment: 0.9 of the old one and 0.1 of the gradient. -/
def first (m g : EReal) : EReal := Ideal.ofBits FTy.f32 0x3F666666#32 * m + Ideal.ofBits FTy.f32 0x3DCCCCCD#32 * g
/-- The new second moment: 0.999 of the old one and 0.001 of the gradient's square. -/
def second (v g : EReal) : EReal := Ideal.ofBits FTy.f32 0x3F7FBE77#32 * v + Ideal.ofBits FTy.f32 0x3A83126F#32 * (g * g)
/-- The step from the weight and its two new moments, each over its bias correction. -/
def step (w m v : EReal) : EReal :=
  Ideal.ofBits FTy.f32 0xBA83126F#32 * (Ideal.div (Ideal.div m (Ideal.ofBits FTy.f32 0x3F26BD02#32))
    (Ideal.sqrt (Ideal.div v (Ideal.ofBits FTy.f32 0x3C231ACC#32)) + Ideal.ofBits FTy.f32 0x322BCC77#32) + Ideal.ofBits FTy.f32 0x3C23D70A#32 * w)

end Cert.Proof.Adam
-- ==== Proof.AdamDown.lean ====
module

public import proofs.«01_k».proof.Defs
public import proofs.«01_k».proof.Proof.Tokens
public import proofs.«01_k».proof.Proof.Adam
public import proofs.«01_k».proof.Proof.Gen.Kernel8Ideal.Value
public import proofs.«01_k».proof.Proof.Gen.Reference8Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

/-! ## AdamW of the MLP's second product's weights: the eight devices' gradients summed, the two moments and the step -/

namespace Cert.Kernel8Ideal.Value

open Idealize.ShloMosaic Idealize.ShloMosaic.TcCoe Idealize.SL.Sem
open Cert.Kernel8Ideal Cert.Kernel8Ideal.Gen Cert.Proof

theorem hz : (![0, 0, 0] : Fin 3 → Nat) = fun _ => 0 := funext fun a => by fin_cases a <;> rfl

/-- The sum of the eight devices' parts at an entry. -/
def tot (x : Vec Ideal S8x128x1024 .bf16) (r : Fin 128) (s : Fin 1024) : EReal := ∑ d : Fin 8, x (ix3 d r s)

theorem slice (x : Vec Ideal S8x128x1024 .bf16) (j : Fin 8) (inb : ∀ a, (![j.val, 0, 0] : Fin 3 → ℕ) a + (![1, 128, 1024] : Fin 3 → ℕ) a ≤ S8x128x1024.size a) (r : Fin 128) (s : Fin 1024) :
    View.ld (S := S8x128x1024) x (Rect.unit ![j.val, 0, 0] ![1, 128, 1024] inb) (ix3 0 r s) = x (ix3 j r s) := by
  refine congrArg x ?_
  funext a
  match a with
  | ⟨0, _⟩ => exact Fin.ext (show j.val + 1 * 0 = j.val by omega)
  | ⟨1, _⟩ => exact Fin.ext (show 0 + 1 * r.val = r.val by omega)
  | ⟨2, _⟩ => exact Fin.ext (show 0 + 1 * s.val = s.val by omega)

/-! ### What the body's operations compute, entry by entry; once for each layer -/

theorem pay9 (x0 x1 x2 x3 x4 x5 x6 x7 : Vec Ideal S1x128x1024 .bf16) (r : Fin 128) (s : Fin 1024) : k0_pay9 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay9
  pointwise
theorem pay10 (w : Vec Ideal S1x128x1024 .f32) (r : Fin 128) (s : Fin 1024) : k0_pay10 w (ix2 r s) = w (ix3 0 r s) := by
  unfold k0_pay10
  pointwise
theorem pay11 (g : FVec Ideal S128x1024 .f32) (m : Vec Ideal S1x128x1024 .f32) (r : Fin 128) (s : Fin 1024) :
    k0_pay11 g m (ix2 r s) = Adam.first (m (ix3 0 r s)) (g (ix2 r s)) := by
  unfold k0_pay11 Adam.first
  pointwise
theorem pay12 (g : FVec Ideal S128x1024 .f32) (v : Vec Ideal S1x128x1024 .f32) (r : Fin 128) (s : Fin 1024) :
    k0_pay12 g v (ix2 r s) = Adam.second (v (ix3 0 r s)) (g (ix2 r s)) := by
  unfold k0_pay12 Adam.second
  pointwise
theorem pay13 (g : FVec Ideal S128x1024 .f32) (r : Fin 128) (s : Fin 1024) : k0_pay13 g (ix3 0 r s) = g (ix2 r s) := by
  unfold k0_pay13
  pointwise
theorem pay14 (g w : FVec Ideal S128x1024 .f32) (m v : Vec Ideal S1x128x1024 .f32) (r : Fin 128) (s : Fin 1024) :
    k0_pay14 g w m v (ix3 0 r s) = Adam.step (w (ix2 r s)) (k0_pay11 g m (ix2 r s)) (k0_pay12 g v (ix2 r s)) := by
  unfold k0_pay14 Adam.step
  pointwise
theorem pay1 (g : FVec Ideal S128x1024 .f32) (r : Fin 128) (s : Fin 1024) : k0_pay1 g (ix3 0 r s) = g (ix2 r s) := by
  unfold k0_pay1
  pointwise
theorem pay2 (g : FVec Ideal S128x1024 .f32) (r : Fin 128) (s : Fin 1024) : k0_pay2 g (ix3 0 r s) = g (ix2 r s) := by
  unfold k0_pay2
  pointwise

theorem pay15 (x0 x1 x2 x3 x4 x5 x6 x7 : Vec Ideal S1x128x1024 .bf16) (r : Fin 128) (s : Fin 1024) : k0_pay15 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay15
  pointwise
theorem pay16 (w : Vec Ideal S1x128x1024 .f32) (r : Fin 128) (s : Fin 1024) : k0_pay16 w (ix2 r s) = w (ix3 0 r s) := by
  unfold k0_pay16
  pointwise
theorem pay17 (g : FVec Ideal S128x1024 .f32) (m : Vec Ideal S1x128x1024 .f32) (r : Fin 128) (s : Fin 1024) :
    k0_pay17 g m (ix2 r s) = Adam.first (m (ix3 0 r s)) (g (ix2 r s)) := by
  unfold k0_pay17 Adam.first
  pointwise
theorem pay18 (g : FVec Ideal S128x1024 .f32) (v : Vec Ideal S1x128x1024 .f32) (r : Fin 128) (s : Fin 1024) :
    k0_pay18 g v (ix2 r s) = Adam.second (v (ix3 0 r s)) (g (ix2 r s)) := by
  unfold k0_pay18 Adam.second
  pointwise
theorem pay19 (g : FVec Ideal S128x1024 .f32) (r : Fin 128) (s : Fin 1024) : k0_pay19 g (ix3 0 r s) = g (ix2 r s) := by
  unfold k0_pay19
  pointwise
theorem pay20 (g w : FVec Ideal S128x1024 .f32) (m v : Vec Ideal S1x128x1024 .f32) (r : Fin 128) (s : Fin 1024) :
    k0_pay20 g w m v (ix3 0 r s) = Adam.step (w (ix2 r s)) (k0_pay17 g m (ix2 r s)) (k0_pay18 g v (ix2 r s)) := by
  unfold k0_pay20 Adam.step
  pointwise
theorem pay3 (g : FVec Ideal S128x1024 .f32) (r : Fin 128) (s : Fin 1024) : k0_pay3 g (ix3 0 r s) = g (ix2 r s) := by
  unfold k0_pay3
  pointwise
theorem pay4 (g : FVec Ideal S128x1024 .f32) (r : Fin 128) (s : Fin 1024) : k0_pay4 g (ix3 0 r s) = g (ix2 r s) := by
  unfold k0_pay4
  pointwise

theorem pay21 (x0 x1 x2 x3 x4 x5 x6 x7 : Vec Ideal S1x128x1024 .bf16) (r : Fin 128) (s : Fin 1024) : k0_pay21 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay21
  pointwise
theorem pay22 (w : Vec Ideal S1x128x1024 .f32) (r : Fin 128) (s : Fin 1024) : k0_pay22 w (ix2 r s) = w (ix3 0 r s) := by
  unfold k0_pay22
  pointwise
theorem pay23 (g : FVec Ideal S128x1024 .f32) (m : Vec Ideal S1x128x1024 .f32) (r : Fin 128) (s : Fin 1024) :
    k0_pay23 g m (ix2 r s) = Adam.first (m (ix3 0 r s)) (g (ix2 r s)) := by
  unfold k0_pay23 Adam.first
  pointwise
theorem pay24 (g : FVec Ideal S128x1024 .f32) (v : Vec Ideal S1x128x1024 .f32) (r : Fin 128) (s : Fin 1024) :
    k0_pay24 g v (ix2 r s) = Adam.second (v (ix3 0 r s)) (g (ix2 r s)) := by
  unfold k0_pay24 Adam.second
  pointwise
theorem pay25 (g : FVec Ideal S128x1024 .f32) (r : Fin 128) (s : Fin 1024) : k0_pay25 g (ix3 0 r s) = g (ix2 r s) := by
  unfold k0_pay25
  pointwise
theorem pay26 (g w : FVec Ideal S128x1024 .f32) (m v : Vec Ideal S1x128x1024 .f32) (r : Fin 128) (s : Fin 1024) :
    k0_pay26 g w m v (ix3 0 r s) = Adam.step (w (ix2 r s)) (k0_pay23 g m (ix2 r s)) (k0_pay24 g v (ix2 r s)) := by
  unfold k0_pay26 Adam.step
  pointwise
theorem pay5 (g : FVec Ideal S128x1024 .f32) (r : Fin 128) (s : Fin 1024) : k0_pay5 g (ix3 0 r s) = g (ix2 r s) := by
  unfold k0_pay5
  pointwise
theorem pay6 (g : FVec Ideal S128x1024 .f32) (r : Fin 128) (s : Fin 1024) : k0_pay6 g (ix3 0 r s) = g (ix2 r s) := by
  unfold k0_pay6
  pointwise

theorem pay27 (x0 x1 x2 x3 x4 x5 x6 x7 : Vec Ideal S1x128x1024 .bf16) (r : Fin 128) (s : Fin 1024) : k0_pay27 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay27
  pointwise
theorem pay28 (w : Vec Ideal S1x128x1024 .f32) (r : Fin 128) (s : Fin 1024) : k0_pay28 w (ix2 r s) = w (ix3 0 r s) := by
  unfold k0_pay28
  pointwise
theorem pay29 (g : FVec Ideal S128x1024 .f32) (m : Vec Ideal S1x128x1024 .f32) (r : Fin 128) (s : Fin 1024) :
    k0_pay29 g m (ix2 r s) = Adam.first (m (ix3 0 r s)) (g (ix2 r s)) := by
  unfold k0_pay29 Adam.first
  pointwise
theorem pay30 (g : FVec Ideal S128x1024 .f32) (v : Vec Ideal S1x128x1024 .f32) (r : Fin 128) (s : Fin 1024) :
    k0_pay30 g v (ix2 r s) = Adam.second (v (ix3 0 r s)) (g (ix2 r s)) := by
  unfold k0_pay30 Adam.second
  pointwise
theorem pay31 (g : FVec Ideal S128x1024 .f32) (r : Fin 128) (s : Fin 1024) : k0_pay31 g (ix3 0 r s) = g (ix2 r s) := by
  unfold k0_pay31
  pointwise
theorem pay32 (g w : FVec Ideal S128x1024 .f32) (m v : Vec Ideal S1x128x1024 .f32) (r : Fin 128) (s : Fin 1024) :
    k0_pay32 g w m v (ix3 0 r s) = Adam.step (w (ix2 r s)) (k0_pay29 g m (ix2 r s)) (k0_pay30 g v (ix2 r s)) := by
  unfold k0_pay32 Adam.step
  pointwise
theorem pay7 (g : FVec Ideal S128x1024 .f32) (r : Fin 128) (s : Fin 1024) : k0_pay7 g (ix3 0 r s) = g (ix2 r s) := by
  unfold k0_pay7
  pointwise
theorem pay8 (g : FVec Ideal S128x1024 .f32) (r : Fin 128) (s : Fin 1024) : k0_pay8 g (ix3 0 r s) = g (ix2 r s) := by
  unfold k0_pay8
  pointwise

/-- The running sum over the devices. -/
abbrev sumA (x : Vec Ideal S8x128x1024 .bf16) : FVec Ideal S128x1024 .f32 :=
  k0_pay9 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumA_at (x : Vec Ideal S8x128x1024 .bf16) (r : Fin 128) (s : Fin 1024) : sumA x (ix2 r s) = tot x r s := by
  refine (pay9 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumB (x : Vec Ideal S8x128x1024 .bf16) : FVec Ideal S128x1024 .f32 :=
  k0_pay15 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumB_at (x : Vec Ideal S8x128x1024 .bf16) (r : Fin 128) (s : Fin 1024) : sumB x (ix2 r s) = tot x r s := by
  refine (pay15 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumC (x : Vec Ideal S8x128x1024 .bf16) : FVec Ideal S128x1024 .f32 :=
  k0_pay21 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumC_at (x : Vec Ideal S8x128x1024 .bf16) (r : Fin 128) (s : Fin 1024) : sumC x (ix2 r s) = tot x r s := by
  refine (pay21 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumD (x : Vec Ideal S8x128x1024 .bf16) : FVec Ideal S128x1024 .f32 :=
  k0_pay27 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumD_at (x : Vec Ideal S8x128x1024 .bf16) (r : Fin 128) (s : Fin 1024) : sumD x (ix2 r s) = tot x r s := by
  refine (pay27 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)

section Cases

variable (c : Dev nD) (i : grid0.Coords)
  (a2 : Memref sig .tc .vmem S8x128x1024 .bf16) (h2 : a2.IsWhole) (a3 : Memref sig .tc .vmem S8x128x1024 .bf16) (h3 : a3.IsWhole)
  (a4 : Memref sig .tc .vmem S8x128x1024 .bf16) (h4 : a4.IsWhole) (a5 : Memref sig .tc .vmem S8x128x1024 .bf16) (h5 : a5.IsWhole)
  (a6 : Memref sig .tc .vmem S1x128x1024 .f32) (h6 : a6.IsWhole) (a7 : Memref sig .tc .vmem S1x128x1024 .f32) (h7 : a7.IsWhole)
  (a8 : Memref sig .tc .vmem S1x128x1024 .f32) (h8 : a8.IsWhole) (a9 : Memref sig .tc .vmem S1x128x1024 .f32) (h9 : a9.IsWhole)
  (a10 : Memref sig .tc .vmem S1x128x1024 .f32) (h10 : a10.IsWhole) (a11 : Memref sig .tc .vmem S1x128x1024 .f32) (h11 : a11.IsWhole)
  (a12 : Memref sig .tc .vmem S1x128x1024 .f32) (h12 : a12.IsWhole)
  (x0 x1 x2 x3 : Vec Ideal S8x128x1024 .bf16) (x4 x5 x6 : Vec Ideal S1x128x1024 .f32) (r : Fin 128) (s : Fin 1024)

theorem out7_A (c0 : cond0_0 i) (c1 : ¬cond0_1 i) (c2 : ¬cond0_2 i) (c3 : ¬cond0_3 i) :
    out0_A_7 c i a2 h2 a3 h3 a4 h4 a5 h5 a6 h6 a7 h7 a8 h8 a9 h9 a10 h10 a11 h11 a12 h12 c0 c1 c2 c3 x0 x1 x2 x3 x4 x5 x6 (ix3 0 r s) = tot x0 r s := by
  unfold out0_A_7
  rw [View.read_writes_eq_canon _ _ _ (cover0_A_7 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay13 _ r s).trans (sumA_at x0 r s)
theorem out8_A (c0 : cond0_0 i) (c1 : ¬cond0_1 i) (c2 : ¬cond0_2 i) (c3 : ¬cond0_3 i) :
    out0_A_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x0 r s)) (Adam.second (x6 (ix3 0 r s)) (tot x0 r s)) := by
  unfold out0_A_8
  rw [View.read_writes_eq_canon _ _ _ (cover0_A_8 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay14 (sumA x0) _ x5 x6 r s).trans ?_
  rw [pay10, pay11, pay12, sumA_at]
theorem out9_A (c0 : cond0_0 i) (c1 : ¬cond0_1 i) (c2 : ¬cond0_2 i) (c3 : ¬cond0_3 i) :
    out0_A_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x0 r s) := by
  unfold out0_A_9
  rw [View.read_writes_eq_canon _ _ _ (cover0_A_9 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay1 (k0_pay11 (sumA x0) x5) r s).trans ?_
  rw [pay11, sumA_at]
theorem out10_A (c0 : cond0_0 i) (c1 : ¬cond0_1 i) (c2 : ¬cond0_2 i) (c3 : ¬cond0_3 i) :
    out0_A_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x0 r s) := by
  unfold out0_A_10
  rw [View.read_writes_eq_canon _ _ _ (cover0_A_10 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay2 (k0_pay12 (sumA x0) x6) r s).trans ?_
  rw [pay12, sumA_at]

theorem out7_B (c0 : ¬cond0_0 i) (c1 : cond0_1 i) (c2 : ¬cond0_2 i) (c3 : ¬cond0_3 i) :
    out0_B_7 c i a2 h2 a3 h3 a4 h4 a5 h5 a6 h6 a7 h7 a8 h8 a9 h9 a10 h10 a11 h11 a12 h12 c0 c1 c2 c3 x0 x1 x2 x3 x4 x5 x6 (ix3 0 r s) = tot x1 r s := by
  unfold out0_B_7
  rw [View.read_writes_eq_canon _ _ _ (cover0_B_7 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay19 _ r s).trans (sumB_at x1 r s)
theorem out8_B (c0 : ¬cond0_0 i) (c1 : cond0_1 i) (c2 : ¬cond0_2 i) (c3 : ¬cond0_3 i) :
    out0_B_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x1 r s)) (Adam.second (x6 (ix3 0 r s)) (tot x1 r s)) := by
  unfold out0_B_8
  rw [View.read_writes_eq_canon _ _ _ (cover0_B_8 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay20 (sumB x1) _ x5 x6 r s).trans ?_
  rw [pay16, pay17, pay18, sumB_at]
theorem out9_B (c0 : ¬cond0_0 i) (c1 : cond0_1 i) (c2 : ¬cond0_2 i) (c3 : ¬cond0_3 i) :
    out0_B_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x1 r s) := by
  unfold out0_B_9
  rw [View.read_writes_eq_canon _ _ _ (cover0_B_9 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay3 (k0_pay17 (sumB x1) x5) r s).trans ?_
  rw [pay17, sumB_at]
theorem out10_B (c0 : ¬cond0_0 i) (c1 : cond0_1 i) (c2 : ¬cond0_2 i) (c3 : ¬cond0_3 i) :
    out0_B_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x1 r s) := by
  unfold out0_B_10
  rw [View.read_writes_eq_canon _ _ _ (cover0_B_10 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay4 (k0_pay18 (sumB x1) x6) r s).trans ?_
  rw [pay18, sumB_at]

theorem out7_C (c0 : ¬cond0_0 i) (c1 : ¬cond0_1 i) (c2 : cond0_2 i) (c3 : ¬cond0_3 i) :
    out0_C_7 c i a2 h2 a3 h3 a4 h4 a5 h5 a6 h6 a7 h7 a8 h8 a9 h9 a10 h10 a11 h11 a12 h12 c0 c1 c2 c3 x0 x1 x2 x3 x4 x5 x6 (ix3 0 r s) = tot x2 r s := by
  unfold out0_C_7
  rw [View.read_writes_eq_canon _ _ _ (cover0_C_7 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay25 _ r s).trans (sumC_at x2 r s)
theorem out8_C (c0 : ¬cond0_0 i) (c1 : ¬cond0_1 i) (c2 : cond0_2 i) (c3 : ¬cond0_3 i) :
    out0_C_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x2 r s)) (Adam.second (x6 (ix3 0 r s)) (tot x2 r s)) := by
  unfold out0_C_8
  rw [View.read_writes_eq_canon _ _ _ (cover0_C_8 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay26 (sumC x2) _ x5 x6 r s).trans ?_
  rw [pay22, pay23, pay24, sumC_at]
theorem out9_C (c0 : ¬cond0_0 i) (c1 : ¬cond0_1 i) (c2 : cond0_2 i) (c3 : ¬cond0_3 i) :
    out0_C_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x2 r s) := by
  unfold out0_C_9
  rw [View.read_writes_eq_canon _ _ _ (cover0_C_9 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay5 (k0_pay23 (sumC x2) x5) r s).trans ?_
  rw [pay23, sumC_at]
theorem out10_C (c0 : ¬cond0_0 i) (c1 : ¬cond0_1 i) (c2 : cond0_2 i) (c3 : ¬cond0_3 i) :
    out0_C_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x2 r s) := by
  unfold out0_C_10
  rw [View.read_writes_eq_canon _ _ _ (cover0_C_10 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay6 (k0_pay24 (sumC x2) x6) r s).trans ?_
  rw [pay24, sumC_at]

theorem out7_D (c0 : ¬cond0_0 i) (c1 : ¬cond0_1 i) (c2 : ¬cond0_2 i) (c3 : cond0_3 i) :
    out0_D_7 c i a2 h2 a3 h3 a4 h4 a5 h5 a6 h6 a7 h7 a8 h8 a9 h9 a10 h10 a11 h11 a12 h12 c0 c1 c2 c3 x0 x1 x2 x3 x4 x5 x6 (ix3 0 r s) = tot x3 r s := by
  unfold out0_D_7
  rw [View.read_writes_eq_canon _ _ _ (cover0_D_7 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay31 _ r s).trans (sumD_at x3 r s)
theorem out8_D (c0 : ¬cond0_0 i) (c1 : ¬cond0_1 i) (c2 : ¬cond0_2 i) (c3 : cond0_3 i) :
    out0_D_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x3 r s)) (Adam.second (x6 (ix3 0 r s)) (tot x3 r s)) := by
  unfold out0_D_8
  rw [View.read_writes_eq_canon _ _ _ (cover0_D_8 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay32 (sumD x3) _ x5 x6 r s).trans ?_
  rw [pay28, pay29, pay30, sumD_at]
theorem out9_D (c0 : ¬cond0_0 i) (c1 : ¬cond0_1 i) (c2 : ¬cond0_2 i) (c3 : cond0_3 i) :
    out0_D_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x3 r s) := by
  unfold out0_D_9
  rw [View.read_writes_eq_canon _ _ _ (cover0_D_9 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay7 (k0_pay29 (sumD x3) x5) r s).trans ?_
  rw [pay29, sumD_at]
theorem out10_D (c0 : ¬cond0_0 i) (c1 : ¬cond0_1 i) (c2 : ¬cond0_2 i) (c3 : cond0_3 i) :
    out0_D_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x3 r s) := by
  unfold out0_D_10
  rw [View.read_writes_eq_canon _ _ _ (cover0_D_10 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay8 (k0_pay30 (sumD x3) x6) r s).trans ?_
  rw [pay30, sumD_at]

end Cases

/-! ### The arrays -/

section Arrays

variable (m : (ℓ : Loc nD τ sig) → Buf (Elt Ideal) ℓ) (c : Dev nD)

/-- The devices' parts of the gradient by layer, the weight, the moments. -/
abbrev part : Fin 4 → Vec Ideal S8x512x1024 .bf16 := ![V m c main_arg0, V m c main_arg1, V m c main_arg2, V m c main_arg3]
abbrev aW : Vec Ideal S4x512x1024 .f32 := V m c main_arg4
abbrev aM : Vec Ideal S4x512x1024 .f32 := V m c main_arg5
abbrev aV : Vec Ideal S4x512x1024 .f32 := V m c main_arg6

theorem idx0 : ∀ t : Fin cfg0.N, t.val / 4 = 0 → win0_0.index t = ![0, t.val % 4, 0] :=
  (by decide +kernel : ∀ t : Fin grid0.N, t.val / 4 = 0 → win0_0.index t = ![0, t.val % 4, 0])
theorem idx1 : ∀ t : Fin cfg0.N, t.val / 4 = 1 → win0_1.index t = ![0, t.val % 4, 0] :=
  (by decide +kernel : ∀ t : Fin grid0.N, t.val / 4 = 1 → win0_1.index t = ![0, t.val % 4, 0])
theorem idx2 : ∀ t : Fin cfg0.N, t.val / 4 = 2 → win0_2.index t = ![0, t.val % 4, 0] :=
  (by decide +kernel : ∀ t : Fin grid0.N, t.val / 4 = 2 → win0_2.index t = ![0, t.val % 4, 0])
theorem idx3 : ∀ t : Fin cfg0.N, t.val / 4 = 3 → win0_3.index t = ![0, t.val % 4, 0] :=
  (by decide +kernel : ∀ t : Fin grid0.N, t.val / 4 = 3 → win0_3.index t = ![0, t.val % 4, 0])
theorem idx : ∀ t : Fin cfg0.N, (win0_4.index t = ![t.val / 4, t.val % 4, 0] ∧ win0_5.index t = ![t.val / 4, t.val % 4, 0] ∧ win0_6.index t = ![t.val / 4, t.val % 4, 0]) ∧ (win0_7.index t = ![t.val / 4, t.val % 4, 0] ∧ win0_8.index t = ![t.val / 4, t.val % 4, 0] ∧ win0_9.index t = ![t.val / 4, t.val % 4, 0] ∧ win0_10.index t = ![t.val / 4, t.val % 4, 0]) ∧ t.val < 16 :=
  (by decide +kernel : ∀ t : Fin grid0.N, (win0_4.index t = ![t.val / 4, t.val % 4, 0] ∧ win0_5.index t = ![t.val / 4, t.val % 4, 0] ∧ win0_6.index t = ![t.val / 4, t.val % 4, 0]) ∧ (win0_7.index t = ![t.val / 4, t.val % 4, 0] ∧ win0_8.index t = ![t.val / 4, t.val % 4, 0] ∧ win0_9.index t = ![t.val / 4, t.val % 4, 0] ∧ win0_10.index t = ![t.val / 4, t.val % 4, 0]) ∧ t.val < 16)

/-- Row `r` of the block of rows that point `n` works on, and the point's layer. -/
abbrev row (n : ℕ) (r : Fin 128) : Fin 512 := ⟨(128 * (n % 4) + r.val) % 512, Nat.mod_lt _ (by omega)⟩
abbrev lay (n : ℕ) : Fin 4 := ⟨n / 4 % 4, Nat.mod_lt _ (by omega)⟩

/-- The gradient: the sum of the devices' parts. -/
def G (l : Fin 4) (i : Fin 512) (j : Fin 1024) : EReal := ∑ d : Fin 8, part m c l (ix3 d i j)

theorem in0 (t : Fin cfg0.N) (h : t.val / 4 = 0) (d : Fin 8) (r : Fin 128) (s : Fin 1024) :
    iblk m c 0 t (ix3 d r s) = part m c 0 (ix3 d (row t.val r) s) := by
  have := (idx t).2.2
  show _ = (V m c main_arg0 : Vec Ideal S8x512x1024 .bf16) _
  blk_ext [iblk, idx0 t h]
theorem tot0 (t : Fin cfg0.N) (h : t.val / 4 = 0) (r : Fin 128) (s : Fin 1024) : tot (iblk m c 0 t) r s = G m c (lay t.val) (row t.val r) s := by
  have e : lay t.val = 0 := Fin.ext (show t.val / 4 % 4 = 0 by omega)
  rw [e]
  exact Finset.sum_congr rfl fun d _ => in0 m c t h d r s
theorem in1 (t : Fin cfg0.N) (h : t.val / 4 = 1) (d : Fin 8) (r : Fin 128) (s : Fin 1024) :
    iblk m c 1 t (ix3 d r s) = part m c 1 (ix3 d (row t.val r) s) := by
  have := (idx t).2.2
  show _ = (V m c main_arg1 : Vec Ideal S8x512x1024 .bf16) _
  blk_ext [iblk, idx1 t h]
theorem tot1 (t : Fin cfg0.N) (h : t.val / 4 = 1) (r : Fin 128) (s : Fin 1024) : tot (iblk m c 1 t) r s = G m c (lay t.val) (row t.val r) s := by
  have e : lay t.val = 1 := Fin.ext (show t.val / 4 % 4 = 1 by omega)
  rw [e]
  exact Finset.sum_congr rfl fun d _ => in1 m c t h d r s
theorem in2 (t : Fin cfg0.N) (h : t.val / 4 = 2) (d : Fin 8) (r : Fin 128) (s : Fin 1024) :
    iblk m c 2 t (ix3 d r s) = part m c 2 (ix3 d (row t.val r) s) := by
  have := (idx t).2.2
  show _ = (V m c main_arg2 : Vec Ideal S8x512x1024 .bf16) _
  blk_ext [iblk, idx2 t h]
theorem tot2 (t : Fin cfg0.N) (h : t.val / 4 = 2) (r : Fin 128) (s : Fin 1024) : tot (iblk m c 2 t) r s = G m c (lay t.val) (row t.val r) s := by
  have e : lay t.val = 2 := Fin.ext (show t.val / 4 % 4 = 2 by omega)
  rw [e]
  exact Finset.sum_congr rfl fun d _ => in2 m c t h d r s
theorem in3 (t : Fin cfg0.N) (h : t.val / 4 = 3) (d : Fin 8) (r : Fin 128) (s : Fin 1024) :
    iblk m c 3 t (ix3 d r s) = part m c 3 (ix3 d (row t.val r) s) := by
  have := (idx t).2.2
  show _ = (V m c main_arg3 : Vec Ideal S8x512x1024 .bf16) _
  blk_ext [iblk, idx3 t h]
theorem tot3 (t : Fin cfg0.N) (h : t.val / 4 = 3) (r : Fin 128) (s : Fin 1024) : tot (iblk m c 3 t) r s = G m c (lay t.val) (row t.val r) s := by
  have e : lay t.val = 3 := Fin.ext (show t.val / 4 % 4 = 3 by omega)
  rw [e]
  exact Finset.sum_congr rfl fun d _ => in3 m c t h d r s
theorem in4 (t : Fin cfg0.N) (r : Fin 128) (s : Fin 1024) : iblk m c 4 t (ix3 0 r s) = aW m c (ix3 (lay t.val) (row t.val r) s) := by
  have := (idx t).2.2
  blk_ext [iblk, (idx t).1.1]
theorem in5 (t : Fin cfg0.N) (r : Fin 128) (s : Fin 1024) : iblk m c 5 t (ix3 0 r s) = aM m c (ix3 (lay t.val) (row t.val r) s) := by
  have := (idx t).2.2
  blk_ext [iblk, (idx t).1.2.1]
theorem in6 (t : Fin cfg0.N) (r : Fin 128) (s : Fin 1024) : iblk m c 6 t (ix3 0 r s) = aV m c (ix3 (lay t.val) (row t.val r) s) := by
  have := (idx t).2.2
  blk_ext [iblk, (idx t).1.2.2]

/-- The four results: the gradient, the step, and the two moments. -/
def outG : FVec Ideal S4x512x1024 .f32 := fun y => G m c ⟨(y 0).val, (y 0).isLt⟩ ⟨(y 1).val, (y 1).isLt⟩ ⟨(y 2).val, (y 2).isLt⟩
def outM : FVec Ideal S4x512x1024 .f32 := fun y => Adam.first (aM m c y) (outG m c y)
def outV : FVec Ideal S4x512x1024 .f32 := fun y => Adam.second (aV m c y) (outG m c y)
def outD : FVec Ideal S4x512x1024 .f32 := fun y => Adam.step (aW m c y) (outM m c y) (outV m c y)

theorem left (t : Fin cfg0.N) (r : Fin 128) (s : Fin 1024) :
    (outsAt0 m c t.val t.isLt).1 (ix3 0 r s) = outG m c (ix3 (lay t.val) (row t.val r) s)
    ∧ (outsAt0 m c t.val t.isLt).2.1 (ix3 0 r s) = outD m c (ix3 (lay t.val) (row t.val r) s)
    ∧ (outsAt0 m c t.val t.isLt).2.2.1 (ix3 0 r s) = outM m c (ix3 (lay t.val) (row t.val r) s)
    ∧ (outsAt0 m c t.val t.isLt).2.2.2 (ix3 0 r s) = outV m c (ix3 (lay t.val) (row t.val r) s) := by
  have hN := (idx t).2.2
  rcases (show t.val / 4 = 0 ∨ t.val / 4 = 1 ∨ t.val / 4 = 2 ∨ t.val / 4 = 3 by omega) with h | h | h | h
  · rw [outsAt0_A m c t (by omega) (by omega) (by omega) (by omega)]
    dsimp only
    rw [out7_A, out8_A, out9_A, out10_A, tot0 m c t h, in4, in5, in6]
    exact ⟨rfl, rfl, rfl, rfl⟩
  · rw [outsAt0_B m c t (by omega) (by omega) (by omega) (by omega)]
    dsimp only
    rw [out7_B, out8_B, out9_B, out10_B, tot1 m c t h, in4, in5, in6]
    exact ⟨rfl, rfl, rfl, rfl⟩
  · rw [outsAt0_C m c t (by omega) (by omega) (by omega) (by omega)]
    dsimp only
    rw [out7_C, out8_C, out9_C, out10_C, tot2 m c t h, in4, in5, in6]
    exact ⟨rfl, rfl, rfl, rfl⟩
  · rw [outsAt0_D m c t (by omega) (by omega) (by omega) (by omega)]
    dsimp only
    rw [out7_D, out8_D, out9_D, out10_D, tot3 m c t h, in4, in5, in6]
    exact ⟨rfl, rfl, rfl, rfl⟩

theorem place7 (t : Fin cfg0.N) (r : Fin 128) (s : Fin 1024) : (win0_7.blk t).view.emb (ix3 (0 : Fin 1) r s) = ix3 (lay t.val) (row t.val r) s := by
  have hN := (idx t).2.2
  blk_ext [(idx t).2.1.1]
theorem final7 : (dats m 0 c).arrAt 7 cfg0.N = outG m c := by
  refine (dats m 0 c).arrAt_eq_of_covers 7 _ (by decide +kernel) fun t hf y => ?_
  blk_simp
  rw [after0_7]
  obtain ⟨z, r, s, rfl⟩ := triple (n := 1) (k := 128) (l := 1024) y
  obtain rfl : z = 0 := Subsingleton.elim _ _
  exact ((left m c t r s).1).trans (congrArg (outG m c) (place7 t r s)).symm

theorem place8 (t : Fin cfg0.N) (r : Fin 128) (s : Fin 1024) : (win0_8.blk t).view.emb (ix3 (0 : Fin 1) r s) = ix3 (lay t.val) (row t.val r) s := by
  have hN := (idx t).2.2
  blk_ext [(idx t).2.1.2.1]
theorem final8 : (dats m 0 c).arrAt 8 cfg0.N = outD m c := by
  refine (dats m 0 c).arrAt_eq_of_covers 8 _ (by decide +kernel) fun t hf y => ?_
  blk_simp
  rw [after0_8]
  obtain ⟨z, r, s, rfl⟩ := triple (n := 1) (k := 128) (l := 1024) y
  obtain rfl : z = 0 := Subsingleton.elim _ _
  exact ((left m c t r s).2.1).trans (congrArg (outD m c) (place8 t r s)).symm

theorem place9 (t : Fin cfg0.N) (r : Fin 128) (s : Fin 1024) : (win0_9.blk t).view.emb (ix3 (0 : Fin 1) r s) = ix3 (lay t.val) (row t.val r) s := by
  have hN := (idx t).2.2
  blk_ext [(idx t).2.1.2.2.1]
theorem final9 : (dats m 0 c).arrAt 9 cfg0.N = outM m c := by
  refine (dats m 0 c).arrAt_eq_of_covers 9 _ (by decide +kernel) fun t hf y => ?_
  blk_simp
  rw [after0_9]
  obtain ⟨z, r, s, rfl⟩ := triple (n := 1) (k := 128) (l := 1024) y
  obtain rfl : z = 0 := Subsingleton.elim _ _
  exact ((left m c t r s).2.2.1).trans (congrArg (outM m c) (place9 t r s)).symm

theorem place10 (t : Fin cfg0.N) (r : Fin 128) (s : Fin 1024) : (win0_10.blk t).view.emb (ix3 (0 : Fin 1) r s) = ix3 (lay t.val) (row t.val r) s := by
  have hN := (idx t).2.2
  blk_ext [(idx t).2.1.2.2.2]
theorem final10 : (dats m 0 c).arrAt 10 cfg0.N = outV m c := by
  refine (dats m 0 c).arrAt_eq_of_covers 10 _ (by decide +kernel) fun t hf y => ?_
  blk_simp
  rw [after0_10]
  obtain ⟨z, r, s, rfl⟩ := triple (n := 1) (k := 128) (l := 1024) y
  obtain rfl : z = 0 := Subsingleton.elim _ _
  exact ((left m c t r s).2.2.2).trans (congrArg (outV m c) (place10 t r s)).symm

end Arrays

end Cert.Kernel8Ideal.Value

namespace Cert.Reference8Ideal.Adam

open Idealize.ShloMosaic Idealize.ShloMosaic.TcCoe Idealize.SL.Sem
open Cert.Reference8Ideal Cert.Reference8Ideal.Gen Cert.Proof

/-- The four layers' gradients, each the sum over the devices. -/
def grad (a0 a1 a2 a3 : FVec Ideal S8x512x1024 .bf16) : FVec Ideal S4x512x1024 .f32 :=
  concatenate S4x512x1024 0 [⟨S1x512x1024, ((broadcastInDim S1x512x1024 ![1, 2] bcast_S512x1024_S1x512x1024_1_2 (Host.reduceAdd (extf .f32 a0 bitsLt_bf16_f32) (constant S_ .f32 0x00000000#32) reducesTo_S8x512x1024_S512x1024_d0 h_S_)) : (⟨S1x512x1024, .f32⟩ : BufTy).Contents (Elt Ideal))⟩, ⟨S1x512x1024, ((broadcastInDim S1x512x1024 ![1, 2] bcast_S512x1024_S1x512x1024_1_2 (Host.reduceAdd (extf .f32 a1 bitsLt_bf16_f32) (constant S_ .f32 0x00000000#32) reducesTo_S8x512x1024_S512x1024_d0 h_S_)) : (⟨S1x512x1024, .f32⟩ : BufTy).Contents (Elt Ideal))⟩, ⟨S1x512x1024, ((broadcastInDim S1x512x1024 ![1, 2] bcast_S512x1024_S1x512x1024_1_2 (Host.reduceAdd (extf .f32 a2 bitsLt_bf16_f32) (constant S_ .f32 0x00000000#32) reducesTo_S8x512x1024_S512x1024_d0 h_S_)) : (⟨S1x512x1024, .f32⟩ : BufTy).Contents (Elt Ideal))⟩, ⟨S1x512x1024, ((broadcastInDim S1x512x1024 ![1, 2] bcast_S512x1024_S1x512x1024_1_2 (Host.reduceAdd (extf .f32 a3 bitsLt_bf16_f32) (constant S_ .f32 0x00000000#32) reducesTo_S8x512x1024_S512x1024_d0 h_S_)) : (⟨S1x512x1024, .f32⟩ : BufTy).Contents (Elt Ideal))⟩] concatenates_S1x512x1024_S1x512x1024_S1x512x1024_S1x512x1024_S4x512x1024_d0

theorem grad_at (a0 a1 a2 a3 : FVec Ideal S8x512x1024 .bf16) (l : Fin 4) (i : Fin 512) (j : Fin 1024) :
    grad a0 a1 a2 a3 (ix3 l i j) = ∑ d : Fin 8, (![a0, a1, a2, a3] : Fin 4 → FVec Ideal S8x512x1024 .bf16) l (ix3 d i j) := by
  unfold grad
  fin_cases l
  · show _ = ∑ d : Fin 8, a0 (ix3 d i j)
    pointwise
  · show _ = ∑ d : Fin 8, a1 (ix3 d i j)
    pointwise
  · show _ = ∑ d : Fin 8, a2 (ix3 d i j)
    pointwise
  · show _ = ∑ d : Fin 8, a3 (ix3 d i j)
    pointwise

/-- The two new moments and the step. -/
def first (m g : FVec Ideal S4x512x1024 .f32) : FVec Ideal S4x512x1024 .f32 :=
  addf (mulf (broadcastInDim S4x512x1024 ![] bcast_S_S4x512x1024 (constant S_ .f32 0x3F666666#32)) m) (mulf (broadcastInDim S4x512x1024 ![] bcast_S_S4x512x1024 (constant S_ .f32 0x3DCCCCCD#32)) g)
def second (v g : FVec Ideal S4x512x1024 .f32) : FVec Ideal S4x512x1024 .f32 :=
  addf (mulf (broadcastInDim S4x512x1024 ![] bcast_S_S4x512x1024 (constant S_ .f32 0x3F7FBE77#32)) v) (mulf (broadcastInDim S4x512x1024 ![] bcast_S_S4x512x1024 (constant S_ .f32 0x3A83126F#32)) (mulf g g))
def step (w m v : FVec Ideal S4x512x1024 .f32) : FVec Ideal S4x512x1024 .f32 :=
  mulf (broadcastInDim S4x512x1024 ![] bcast_S_S4x512x1024 (constant S_ .f32 0xBA83126F#32)) (addf (Host.divf (Host.divf m (broadcastInDim S4x512x1024 ![] bcast_S_S4x512x1024 (constant S_ .f32 0x3F26BD02#32)))
    (addf (Host.sqrt (Host.divf v (broadcastInDim S4x512x1024 ![] bcast_S_S4x512x1024 (constant S_ .f32 0x3C231ACC#32)))) (broadcastInDim S4x512x1024 ![] bcast_S_S4x512x1024 (constant S_ .f32 0x322BCC77#32))))
    (mulf (broadcastInDim S4x512x1024 ![] bcast_S_S4x512x1024 (constant S_ .f32 0x3C23D70A#32)) w))

theorem first_at (m g : FVec Ideal S4x512x1024 .f32) (l : Fin 4) (i : Fin 512) (j : Fin 1024) : first m g (ix3 l i j) = Cert.Proof.Adam.first (m (ix3 l i j)) (g (ix3 l i j)) := by
  unfold first Cert.Proof.Adam.first
  pointwise
theorem second_at (v g : FVec Ideal S4x512x1024 .f32) (l : Fin 4) (i : Fin 512) (j : Fin 1024) : second v g (ix3 l i j) = Cert.Proof.Adam.second (v (ix3 l i j)) (g (ix3 l i j)) := by
  unfold second Cert.Proof.Adam.second
  pointwise
theorem step_at (w m v : FVec Ideal S4x512x1024 .f32) (l : Fin 4) (i : Fin 512) (j : Fin 1024) :
    step w m v (ix3 l i j) = Cert.Proof.Adam.step (w (ix3 l i j)) (m (ix3 l i j)) (v (ix3 l i j)) := by
  unfold step Cert.Proof.Adam.step
  pointwise

variable (m : (ℓ : Loc nD τ sig) → Buf (Elt Ideal) ℓ)

/-- The gradient, the weight and the moments as @main has them. -/
abbrev aG (c : Dev nD) : FVec Ideal S4x512x1024 .f32 := grad (m ((c.tc : Thread nD τ).loc main_arg0)) (m ((c.tc : Thread nD τ).loc main_arg1)) (m ((c.tc : Thread nD τ).loc main_arg2)) (m ((c.tc : Thread nD τ).loc main_arg3))
abbrev aM (c : Dev nD) : FVec Ideal S4x512x1024 .f32 := first (m ((c.tc : Thread nD τ).loc main_arg5)) (aG m c)
abbrev aV (c : Dev nD) : FVec Ideal S4x512x1024 .f32 := second (m ((c.tc : Thread nD τ).loc main_arg6)) (aG m c)

theorem run (ρ : Dev nD → PrngReg) :
    θ_run defs (onTc (τ := τ) (main (F := Ideal))) ⟨m, fun _ => 0, ρ⟩ fun r => ∀ c : Dev nD,
      r.2.mem ((c.tc : Thread nD τ).loc main_v12) = aG m c
      ∧ r.2.mem ((c.tc : Thread nD τ).loc main_v36) = step (m ((c.tc : Thread nD τ).loc main_arg4)) (aM m c) (aV m c)
      ∧ r.2.mem ((c.tc : Thread nD τ).loc main_v17) = aM m c
      ∧ r.2.mem ((c.tc : Thread nD τ).loc main_v23) = aV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference8Ideal.Value.run m ρ

end Cert.Reference8Ideal.Adam

namespace Cert.Proof.AdamDown

open Idealize.ShloMosaic Idealize.ShloMosaic.TcCoe Idealize.SL.Sem
open Cert.Reference8Ideal.Adam (grad grad_at first first_at second second_at step step_at)

section Equal

variable (m : (ℓ : Loc Cert.Kernel8Ideal.nD Cert.Kernel8Ideal.τ Cert.Kernel8Ideal.sig) → Buf (Elt Ideal) ℓ) (c : Dev Cert.Kernel8Ideal.nD)
  (a0 a1 a2 a3 : FVec Ideal Cert.Reference8Ideal.S8x512x1024 .bf16) (w s v : FVec Ideal Cert.Reference8Ideal.S4x512x1024 .f32)
  (e0 : a0 = Cert.Kernel8Ideal.Gen.V m c Cert.Kernel8Ideal.main_arg0) (e1 : a1 = Cert.Kernel8Ideal.Gen.V m c Cert.Kernel8Ideal.main_arg1)
  (e2 : a2 = Cert.Kernel8Ideal.Gen.V m c Cert.Kernel8Ideal.main_arg2) (e3 : a3 = Cert.Kernel8Ideal.Gen.V m c Cert.Kernel8Ideal.main_arg3)
  (ew : w = Cert.Kernel8Ideal.Value.aW m c) (es : s = Cert.Kernel8Ideal.Value.aM m c) (ev : v = Cert.Kernel8Ideal.Value.aV m c)

include e0 e1 e2 e3 in
theorem g_eq : grad a0 a1 a2 a3 = Cert.Kernel8Ideal.Value.outG m c := by
  subst e0 e1 e2 e3
  funext y
  obtain ⟨l, i, j, rfl⟩ := triple (n := 4) (k := 512) (l := 1024) y
  exact grad_at _ _ _ _ l i j
include e0 e1 e2 e3 es in
theorem m_eq : first s (grad a0 a1 a2 a3) = Cert.Kernel8Ideal.Value.outM m c := by
  rw [g_eq m c a0 a1 a2 a3 e0 e1 e2 e3, es]
  funext y
  obtain ⟨l, i, j, rfl⟩ := triple (n := 4) (k := 512) (l := 1024) y
  exact first_at _ _ l i j
include e0 e1 e2 e3 ev in
theorem v_eq : second v (grad a0 a1 a2 a3) = Cert.Kernel8Ideal.Value.outV m c := by
  rw [g_eq m c a0 a1 a2 a3 e0 e1 e2 e3, ev]
  funext y
  obtain ⟨l, i, j, rfl⟩ := triple (n := 4) (k := 512) (l := 1024) y
  exact second_at _ _ l i j
include e0 e1 e2 e3 ew es ev in
theorem d_eq : step w (first s (grad a0 a1 a2 a3)) (second v (grad a0 a1 a2 a3)) = Cert.Kernel8Ideal.Value.outD m c := by
  rw [m_eq m c a0 a1 a2 a3 s e0 e1 e2 e3 es, v_eq m c a0 a1 a2 a3 v e0 e1 e2 e3 ev, ew]
  funext y
  obtain ⟨l, i, j, rfl⟩ := triple (n := 4) (k := 512) (l := 1024) y
  exact step_at _ _ _ l i j

end Equal

/-- At the ideal instance the kernel's step of AdamW is the reference's, from the eight devices' parts of the gradient. -/
theorem algebraic : Cert.algebraic_Kernel8Ideal_Reference8Ideal (hKernel8Ideal := Cert.Kernel8Ideal.Gen.facts) (hReference8Ideal := Cert.Reference8Ideal.Gen.facts) := by
  intro m g m' g' _ hag
  refine ⟨fun c => Cert.Kernel8Ideal.Value.outG m c, fun c => Cert.Kernel8Ideal.Value.outD m c, fun c => Cert.Kernel8Ideal.Value.outM m c, fun c => Cert.Kernel8Ideal.Value.outV m c,
    (θ_run Cert.Kernel8Ideal.defs _ _).mono (fun r h c => ⟨(h c).1.trans (Cert.Kernel8Ideal.Value.final7 m c), (h c).2.1.trans (Cert.Kernel8Ideal.Value.final8 m c),
      (h c).2.2.1.trans (Cert.Kernel8Ideal.Value.final9 m c), (h c).2.2.2.1.trans (Cert.Kernel8Ideal.Value.final10 m c), (h c).2.2.2.2⟩) (Cert.Kernel8Ideal.Value.run_blocks m g),
    (θ_run Cert.Reference8Ideal.defs _ _).mono (fun r h c => ?_) (Cert.Reference8Ideal.Adam.run m' g')⟩
  obtain ⟨e0, e1, e2, e3, e4, e5, e6⟩ := hag c
  exact ⟨(h c).1.trans (g_eq m c _ _ _ _ e0 e1 e2 e3), (h c).2.1.trans (d_eq m c _ _ _ _ _ _ _ e0 e1 e2 e3 e4 e5 e6),
    (h c).2.2.1.trans (m_eq m c _ _ _ _ _ e0 e1 e2 e3 e5), (h c).2.2.2.1.trans (v_eq m c _ _ _ _ _ e0 e1 e2 e3 e6), (h c).2.2.2.2⟩

end Cert.Proof.AdamDown
-- ==== Proof.AdamUp.lean ====
module

public import proofs.«01_k».proof.Defs
public import proofs.«01_k».proof.Proof.Tokens
public import proofs.«01_k».proof.Proof.Adam
public import proofs.«01_k».proof.Proof.Gen.Kernel9Ideal.Value
public import proofs.«01_k».proof.Proof.Gen.Reference9Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

/-! ## AdamW of the MLP's first product's weights: the eight devices' gradients summed, the two moments and the step -/

namespace Cert.Kernel9Ideal.Value

open Idealize.ShloMosaic Idealize.ShloMosaic.TcCoe Idealize.SL.Sem
open Cert.Kernel9Ideal Cert.Kernel9Ideal.Gen Cert.Proof

theorem hz : (![0, 0, 0] : Fin 3 → Nat) = fun _ => 0 := funext fun a => by fin_cases a <;> rfl

/-- The sum of the eight devices' parts at an entry. -/
def tot (x : Vec Ideal S8x256x512 .bf16) (r : Fin 256) (s : Fin 512) : EReal := ∑ d : Fin 8, x (ix3 d r s)

theorem slice (x : Vec Ideal S8x256x512 .bf16) (j : Fin 8) (inb : ∀ a, (![j.val, 0, 0] : Fin 3 → ℕ) a + (![1, 256, 512] : Fin 3 → ℕ) a ≤ S8x256x512.size a) (r : Fin 256) (s : Fin 512) :
    View.ld (S := S8x256x512) x (Rect.unit ![j.val, 0, 0] ![1, 256, 512] inb) (ix3 0 r s) = x (ix3 j r s) := by
  refine congrArg x ?_
  funext a
  match a with
  | ⟨0, _⟩ => exact Fin.ext (show j.val + 1 * 0 = j.val by omega)
  | ⟨1, _⟩ => exact Fin.ext (show 0 + 1 * r.val = r.val by omega)
  | ⟨2, _⟩ => exact Fin.ext (show 0 + 1 * s.val = s.val by omega)

/-! ### What the body's operations compute, entry by entry; once for each layer -/

theorem pay9 (x0 x1 x2 x3 x4 x5 x6 x7 : Vec Ideal S1x256x512 .bf16) (r : Fin 256) (s : Fin 512) : k0_pay9 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay9
  pointwise
theorem pay10 (w : Vec Ideal S1x256x512 .f32) (r : Fin 256) (s : Fin 512) : k0_pay10 w (ix2 r s) = w (ix3 0 r s) := by
  unfold k0_pay10
  pointwise
theorem pay11 (g : FVec Ideal S256x512 .f32) (m : Vec Ideal S1x256x512 .f32) (r : Fin 256) (s : Fin 512) :
    k0_pay11 g m (ix2 r s) = Adam.first (m (ix3 0 r s)) (g (ix2 r s)) := by
  unfold k0_pay11 Adam.first
  pointwise
theorem pay12 (g : FVec Ideal S256x512 .f32) (v : Vec Ideal S1x256x512 .f32) (r : Fin 256) (s : Fin 512) :
    k0_pay12 g v (ix2 r s) = Adam.second (v (ix3 0 r s)) (g (ix2 r s)) := by
  unfold k0_pay12 Adam.second
  pointwise
theorem pay13 (g : FVec Ideal S256x512 .f32) (r : Fin 256) (s : Fin 512) : k0_pay13 g (ix3 0 r s) = g (ix2 r s) := by
  unfold k0_pay13
  pointwise
theorem pay14 (g w : FVec Ideal S256x512 .f32) (m v : Vec Ideal S1x256x512 .f32) (r : Fin 256) (s : Fin 512) :
    k0_pay14 g w m v (ix3 0 r s) = Adam.step (w (ix2 r s)) (k0_pay11 g m (ix2 r s)) (k0_pay12 g v (ix2 r s)) := by
  unfold k0_pay14 Adam.step
  pointwise
theorem pay1 (g : FVec Ideal S256x512 .f32) (r : Fin 256) (s : Fin 512) : k0_pay1 g (ix3 0 r s) = g (ix2 r s) := by
  unfold k0_pay1
  pointwise
theorem pay2 (g : FVec Ideal S256x512 .f32) (r : Fin 256) (s : Fin 512) : k0_pay2 g (ix3 0 r s) = g (ix2 r s) := by
  unfold k0_pay2
  pointwise

theorem pay15 (x0 x1 x2 x3 x4 x5 x6 x7 : Vec Ideal S1x256x512 .bf16) (r : Fin 256) (s : Fin 512) : k0_pay15 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay15
  pointwise
theorem pay16 (w : Vec Ideal S1x256x512 .f32) (r : Fin 256) (s : Fin 512) : k0_pay16 w (ix2 r s) = w (ix3 0 r s) := by
  unfold k0_pay16
  pointwise
theorem pay17 (g : FVec Ideal S256x512 .f32) (m : Vec Ideal S1x256x512 .f32) (r : Fin 256) (s : Fin 512) :
    k0_pay17 g m (ix2 r s) = Adam.first (m (ix3 0 r s)) (g (ix2 r s)) := by
  unfold k0_pay17 Adam.first
  pointwise
theorem pay18 (g : FVec Ideal S256x512 .f32) (v : Vec Ideal S1x256x512 .f32) (r : Fin 256) (s : Fin 512) :
    k0_pay18 g v (ix2 r s) = Adam.second (v (ix3 0 r s)) (g (ix2 r s)) := by
  unfold k0_pay18 Adam.second
  pointwise
theorem pay19 (g : FVec Ideal S256x512 .f32) (r : Fin 256) (s : Fin 512) : k0_pay19 g (ix3 0 r s) = g (ix2 r s) := by
  unfold k0_pay19
  pointwise
theorem pay20 (g w : FVec Ideal S256x512 .f32) (m v : Vec Ideal S1x256x512 .f32) (r : Fin 256) (s : Fin 512) :
    k0_pay20 g w m v (ix3 0 r s) = Adam.step (w (ix2 r s)) (k0_pay17 g m (ix2 r s)) (k0_pay18 g v (ix2 r s)) := by
  unfold k0_pay20 Adam.step
  pointwise
theorem pay3 (g : FVec Ideal S256x512 .f32) (r : Fin 256) (s : Fin 512) : k0_pay3 g (ix3 0 r s) = g (ix2 r s) := by
  unfold k0_pay3
  pointwise
theorem pay4 (g : FVec Ideal S256x512 .f32) (r : Fin 256) (s : Fin 512) : k0_pay4 g (ix3 0 r s) = g (ix2 r s) := by
  unfold k0_pay4
  pointwise

theorem pay21 (x0 x1 x2 x3 x4 x5 x6 x7 : Vec Ideal S1x256x512 .bf16) (r : Fin 256) (s : Fin 512) : k0_pay21 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay21
  pointwise
theorem pay22 (w : Vec Ideal S1x256x512 .f32) (r : Fin 256) (s : Fin 512) : k0_pay22 w (ix2 r s) = w (ix3 0 r s) := by
  unfold k0_pay22
  pointwise
theorem pay23 (g : FVec Ideal S256x512 .f32) (m : Vec Ideal S1x256x512 .f32) (r : Fin 256) (s : Fin 512) :
    k0_pay23 g m (ix2 r s) = Adam.first (m (ix3 0 r s)) (g (ix2 r s)) := by
  unfold k0_pay23 Adam.first
  pointwise
theorem pay24 (g : FVec Ideal S256x512 .f32) (v : Vec Ideal S1x256x512 .f32) (r : Fin 256) (s : Fin 512) :
    k0_pay24 g v (ix2 r s) = Adam.second (v (ix3 0 r s)) (g (ix2 r s)) := by
  unfold k0_pay24 Adam.second
  pointwise
theorem pay25 (g : FVec Ideal S256x512 .f32) (r : Fin 256) (s : Fin 512) : k0_pay25 g (ix3 0 r s) = g (ix2 r s) := by
  unfold k0_pay25
  pointwise
theorem pay26 (g w : FVec Ideal S256x512 .f32) (m v : Vec Ideal S1x256x512 .f32) (r : Fin 256) (s : Fin 512) :
    k0_pay26 g w m v (ix3 0 r s) = Adam.step (w (ix2 r s)) (k0_pay23 g m (ix2 r s)) (k0_pay24 g v (ix2 r s)) := by
  unfold k0_pay26 Adam.step
  pointwise
theorem pay5 (g : FVec Ideal S256x512 .f32) (r : Fin 256) (s : Fin 512) : k0_pay5 g (ix3 0 r s) = g (ix2 r s) := by
  unfold k0_pay5
  pointwise
theorem pay6 (g : FVec Ideal S256x512 .f32) (r : Fin 256) (s : Fin 512) : k0_pay6 g (ix3 0 r s) = g (ix2 r s) := by
  unfold k0_pay6
  pointwise

theorem pay27 (x0 x1 x2 x3 x4 x5 x6 x7 : Vec Ideal S1x256x512 .bf16) (r : Fin 256) (s : Fin 512) : k0_pay27 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay27
  pointwise
theorem pay28 (w : Vec Ideal S1x256x512 .f32) (r : Fin 256) (s : Fin 512) : k0_pay28 w (ix2 r s) = w (ix3 0 r s) := by
  unfold k0_pay28
  pointwise
theorem pay29 (g : FVec Ideal S256x512 .f32) (m : Vec Ideal S1x256x512 .f32) (r : Fin 256) (s : Fin 512) :
    k0_pay29 g m (ix2 r s) = Adam.first (m (ix3 0 r s)) (g (ix2 r s)) := by
  unfold k0_pay29 Adam.first
  pointwise
theorem pay30 (g : FVec Ideal S256x512 .f32) (v : Vec Ideal S1x256x512 .f32) (r : Fin 256) (s : Fin 512) :
    k0_pay30 g v (ix2 r s) = Adam.second (v (ix3 0 r s)) (g (ix2 r s)) := by
  unfold k0_pay30 Adam.second
  pointwise
theorem pay31 (g : FVec Ideal S256x512 .f32) (r : Fin 256) (s : Fin 512) : k0_pay31 g (ix3 0 r s) = g (ix2 r s) := by
  unfold k0_pay31
  pointwise
theorem pay32 (g w : FVec Ideal S256x512 .f32) (m v : Vec Ideal S1x256x512 .f32) (r : Fin 256) (s : Fin 512) :
    k0_pay32 g w m v (ix3 0 r s) = Adam.step (w (ix2 r s)) (k0_pay29 g m (ix2 r s)) (k0_pay30 g v (ix2 r s)) := by
  unfold k0_pay32 Adam.step
  pointwise
theorem pay7 (g : FVec Ideal S256x512 .f32) (r : Fin 256) (s : Fin 512) : k0_pay7 g (ix3 0 r s) = g (ix2 r s) := by
  unfold k0_pay7
  pointwise
theorem pay8 (g : FVec Ideal S256x512 .f32) (r : Fin 256) (s : Fin 512) : k0_pay8 g (ix3 0 r s) = g (ix2 r s) := by
  unfold k0_pay8
  pointwise

/-- The running sum over the devices. -/
abbrev sumA (x : Vec Ideal S8x256x512 .bf16) : FVec Ideal S256x512 .f32 :=
  k0_pay9 (View.ld x (Rect.unit ![0, 0, 0] ![1, 256, 512] inb_S8x256x512_S1x256x512_0_0_0)) (View.ld x (Rect.unit ![1, 0, 0] ![1, 256, 512] inb_S8x256x512_S1x256x512_1_0_0)) (View.ld x (Rect.unit ![2, 0, 0] ![1, 256, 512] inb_S8x256x512_S1x256x512_2_0_0)) (View.ld x (Rect.unit ![3, 0, 0] ![1, 256, 512] inb_S8x256x512_S1x256x512_3_0_0)) (View.ld x (Rect.unit ![4, 0, 0] ![1, 256, 512] inb_S8x256x512_S1x256x512_4_0_0)) (View.ld x (Rect.unit ![5, 0, 0] ![1, 256, 512] inb_S8x256x512_S1x256x512_5_0_0)) (View.ld x (Rect.unit ![6, 0, 0] ![1, 256, 512] inb_S8x256x512_S1x256x512_6_0_0)) (View.ld x (Rect.unit ![7, 0, 0] ![1, 256, 512] inb_S8x256x512_S1x256x512_7_0_0))
theorem sumA_at (x : Vec Ideal S8x256x512 .bf16) (r : Fin 256) (s : Fin 512) : sumA x (ix2 r s) = tot x r s := by
  refine (pay9 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x256x512_S1x256x512_0_0_0 r s) (slice x 1 inb_S8x256x512_S1x256x512_1_0_0 r s)) (slice x 2 inb_S8x256x512_S1x256x512_2_0_0 r s)) (slice x 3 inb_S8x256x512_S1x256x512_3_0_0 r s)) (slice x 4 inb_S8x256x512_S1x256x512_4_0_0 r s)) (slice x 5 inb_S8x256x512_S1x256x512_5_0_0 r s)) (slice x 6 inb_S8x256x512_S1x256x512_6_0_0 r s)) (slice x 7 inb_S8x256x512_S1x256x512_7_0_0 r s)
abbrev sumB (x : Vec Ideal S8x256x512 .bf16) : FVec Ideal S256x512 .f32 :=
  k0_pay15 (View.ld x (Rect.unit ![0, 0, 0] ![1, 256, 512] inb_S8x256x512_S1x256x512_0_0_0)) (View.ld x (Rect.unit ![1, 0, 0] ![1, 256, 512] inb_S8x256x512_S1x256x512_1_0_0)) (View.ld x (Rect.unit ![2, 0, 0] ![1, 256, 512] inb_S8x256x512_S1x256x512_2_0_0)) (View.ld x (Rect.unit ![3, 0, 0] ![1, 256, 512] inb_S8x256x512_S1x256x512_3_0_0)) (View.ld x (Rect.unit ![4, 0, 0] ![1, 256, 512] inb_S8x256x512_S1x256x512_4_0_0)) (View.ld x (Rect.unit ![5, 0, 0] ![1, 256, 512] inb_S8x256x512_S1x256x512_5_0_0)) (View.ld x (Rect.unit ![6, 0, 0] ![1, 256, 512] inb_S8x256x512_S1x256x512_6_0_0)) (View.ld x (Rect.unit ![7, 0, 0] ![1, 256, 512] inb_S8x256x512_S1x256x512_7_0_0))
theorem sumB_at (x : Vec Ideal S8x256x512 .bf16) (r : Fin 256) (s : Fin 512) : sumB x (ix2 r s) = tot x r s := by
  refine (pay15 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x256x512_S1x256x512_0_0_0 r s) (slice x 1 inb_S8x256x512_S1x256x512_1_0_0 r s)) (slice x 2 inb_S8x256x512_S1x256x512_2_0_0 r s)) (slice x 3 inb_S8x256x512_S1x256x512_3_0_0 r s)) (slice x 4 inb_S8x256x512_S1x256x512_4_0_0 r s)) (slice x 5 inb_S8x256x512_S1x256x512_5_0_0 r s)) (slice x 6 inb_S8x256x512_S1x256x512_6_0_0 r s)) (slice x 7 inb_S8x256x512_S1x256x512_7_0_0 r s)
abbrev sumC (x : Vec Ideal S8x256x512 .bf16) : FVec Ideal S256x512 .f32 :=
  k0_pay21 (View.ld x (Rect.unit ![0, 0, 0] ![1, 256, 512] inb_S8x256x512_S1x256x512_0_0_0)) (View.ld x (Rect.unit ![1, 0, 0] ![1, 256, 512] inb_S8x256x512_S1x256x512_1_0_0)) (View.ld x (Rect.unit ![2, 0, 0] ![1, 256, 512] inb_S8x256x512_S1x256x512_2_0_0)) (View.ld x (Rect.unit ![3, 0, 0] ![1, 256, 512] inb_S8x256x512_S1x256x512_3_0_0)) (View.ld x (Rect.unit ![4, 0, 0] ![1, 256, 512] inb_S8x256x512_S1x256x512_4_0_0)) (View.ld x (Rect.unit ![5, 0, 0] ![1, 256, 512] inb_S8x256x512_S1x256x512_5_0_0)) (View.ld x (Rect.unit ![6, 0, 0] ![1, 256, 512] inb_S8x256x512_S1x256x512_6_0_0)) (View.ld x (Rect.unit ![7, 0, 0] ![1, 256, 512] inb_S8x256x512_S1x256x512_7_0_0))
theorem sumC_at (x : Vec Ideal S8x256x512 .bf16) (r : Fin 256) (s : Fin 512) : sumC x (ix2 r s) = tot x r s := by
  refine (pay21 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x256x512_S1x256x512_0_0_0 r s) (slice x 1 inb_S8x256x512_S1x256x512_1_0_0 r s)) (slice x 2 inb_S8x256x512_S1x256x512_2_0_0 r s)) (slice x 3 inb_S8x256x512_S1x256x512_3_0_0 r s)) (slice x 4 inb_S8x256x512_S1x256x512_4_0_0 r s)) (slice x 5 inb_S8x256x512_S1x256x512_5_0_0 r s)) (slice x 6 inb_S8x256x512_S1x256x512_6_0_0 r s)) (slice x 7 inb_S8x256x512_S1x256x512_7_0_0 r s)
abbrev sumD (x : Vec Ideal S8x256x512 .bf16) : FVec Ideal S256x512 .f32 :=
  k0_pay27 (View.ld x (Rect.unit ![0, 0, 0] ![1, 256, 512] inb_S8x256x512_S1x256x512_0_0_0)) (View.ld x (Rect.unit ![1, 0, 0] ![1, 256, 512] inb_S8x256x512_S1x256x512_1_0_0)) (View.ld x (Rect.unit ![2, 0, 0] ![1, 256, 512] inb_S8x256x512_S1x256x512_2_0_0)) (View.ld x (Rect.unit ![3, 0, 0] ![1, 256, 512] inb_S8x256x512_S1x256x512_3_0_0)) (View.ld x (Rect.unit ![4, 0, 0] ![1, 256, 512] inb_S8x256x512_S1x256x512_4_0_0)) (View.ld x (Rect.unit ![5, 0, 0] ![1, 256, 512] inb_S8x256x512_S1x256x512_5_0_0)) (View.ld x (Rect.unit ![6, 0, 0] ![1, 256, 512] inb_S8x256x512_S1x256x512_6_0_0)) (View.ld x (Rect.unit ![7, 0, 0] ![1, 256, 512] inb_S8x256x512_S1x256x512_7_0_0))
theorem sumD_at (x : Vec Ideal S8x256x512 .bf16) (r : Fin 256) (s : Fin 512) : sumD x (ix2 r s) = tot x r s := by
  refine (pay27 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x256x512_S1x256x512_0_0_0 r s) (slice x 1 inb_S8x256x512_S1x256x512_1_0_0 r s)) (slice x 2 inb_S8x256x512_S1x256x512_2_0_0 r s)) (slice x 3 inb_S8x256x512_S1x256x512_3_0_0 r s)) (slice x 4 inb_S8x256x512_S1x256x512_4_0_0 r s)) (slice x 5 inb_S8x256x512_S1x256x512_5_0_0 r s)) (slice x 6 inb_S8x256x512_S1x256x512_6_0_0 r s)) (slice x 7 inb_S8x256x512_S1x256x512_7_0_0 r s)

section Cases

variable (c : Dev nD) (i : grid0.Coords)
  (a2 : Memref sig .tc .vmem S8x256x512 .bf16) (h2 : a2.IsWhole) (a3 : Memref sig .tc .vmem S8x256x512 .bf16) (h3 : a3.IsWhole)
  (a4 : Memref sig .tc .vmem S8x256x512 .bf16) (h4 : a4.IsWhole) (a5 : Memref sig .tc .vmem S8x256x512 .bf16) (h5 : a5.IsWhole)
  (a6 : Memref sig .tc .vmem S1x256x512 .f32) (h6 : a6.IsWhole) (a7 : Memref sig .tc .vmem S1x256x512 .f32) (h7 : a7.IsWhole)
  (a8 : Memref sig .tc .vmem S1x256x512 .f32) (h8 : a8.IsWhole) (a9 : Memref sig .tc .vmem S1x256x512 .f32) (h9 : a9.IsWhole)
  (a10 : Memref sig .tc .vmem S1x256x512 .f32) (h10 : a10.IsWhole) (a11 : Memref sig .tc .vmem S1x256x512 .f32) (h11 : a11.IsWhole)
  (a12 : Memref sig .tc .vmem S1x256x512 .f32) (h12 : a12.IsWhole)
  (x0 x1 x2 x3 : Vec Ideal S8x256x512 .bf16) (x4 x5 x6 : Vec Ideal S1x256x512 .f32) (r : Fin 256) (s : Fin 512)

theorem out7_A (c0 : cond0_0 i) (c1 : ¬cond0_1 i) (c2 : ¬cond0_2 i) (c3 : ¬cond0_3 i) :
    out0_A_7 c i a2 h2 a3 h3 a4 h4 a5 h5 a6 h6 a7 h7 a8 h8 a9 h9 a10 h10 a11 h11 a12 h12 c0 c1 c2 c3 x0 x1 x2 x3 x4 x5 x6 (ix3 0 r s) = tot x0 r s := by
  unfold out0_A_7
  rw [View.read_writes_eq_canon _ _ _ (cover0_A_7 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  exact (pay13 _ r s).trans (sumA_at x0 r s)
theorem out8_A (c0 : cond0_0 i) (c1 : ¬cond0_1 i) (c2 : ¬cond0_2 i) (c3 : ¬cond0_3 i) :
    out0_A_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x0 r s)) (Adam.second (x6 (ix3 0 r s)) (tot x0 r s)) := by
  unfold out0_A_8
  rw [View.read_writes_eq_canon _ _ _ (cover0_A_8 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay14 (sumA x0) _ x5 x6 r s).trans ?_
  rw [pay10, pay11, pay12, sumA_at]
theorem out9_A (c0 : cond0_0 i) (c1 : ¬cond0_1 i) (c2 : ¬cond0_2 i) (c3 : ¬cond0_3 i) :
    out0_A_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x0 r s) := by
  unfold out0_A_9
  rw [View.read_writes_eq_canon _ _ _ (cover0_A_9 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay1 (k0_pay11 (sumA x0) x5) r s).trans ?_
  rw [pay11, sumA_at]
theorem out10_A (c0 : cond0_0 i) (c1 : ¬cond0_1 i) (c2 : ¬cond0_2 i) (c3 : ¬cond0_3 i) :
    out0_A_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x0 r s) := by
  unfold out0_A_10
  rw [View.read_writes_eq_canon _ _ _ (cover0_A_10 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay2 (k0_pay12 (sumA x0) x6) r s).trans ?_
  rw [pay12, sumA_at]

theorem out7_B (c0 : ¬cond0_0 i) (c1 : cond0_1 i) (c2 : ¬cond0_2 i) (c3 : ¬cond0_3 i) :
    out0_B_7 c i a2 h2 a3 h3 a4 h4 a5 h5 a6 h6 a7 h7 a8 h8 a9 h9 a10 h10 a11 h11 a12 h12 c0 c1 c2 c3 x0 x1 x2 x3 x4 x5 x6 (ix3 0 r s) = tot x1 r s := by
  unfold out0_B_7
  rw [View.read_writes_eq_canon _ _ _ (cover0_B_7 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  exact (pay19 _ r s).trans (sumB_at x1 r s)
theorem out8_B (c0 : ¬cond0_0 i) (c1 : cond0_1 i) (c2 : ¬cond0_2 i) (c3 : ¬cond0_3 i) :
    out0_B_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x1 r s)) (Adam.second (x6 (ix3 0 r s)) (tot x1 r s)) := by
  unfold out0_B_8
  rw [View.read_writes_eq_canon _ _ _ (cover0_B_8 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay20 (sumB x1) _ x5 x6 r s).trans ?_
  rw [pay16, pay17, pay18, sumB_at]
theorem out9_B (c0 : ¬cond0_0 i) (c1 : cond0_1 i) (c2 : ¬cond0_2 i) (c3 : ¬cond0_3 i) :
    out0_B_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x1 r s) := by
  unfold out0_B_9
  rw [View.read_writes_eq_canon _ _ _ (cover0_B_9 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay3 (k0_pay17 (sumB x1) x5) r s).trans ?_
  rw [pay17, sumB_at]
theorem out10_B (c0 : ¬cond0_0 i) (c1 : cond0_1 i) (c2 : ¬cond0_2 i) (c3 : ¬cond0_3 i) :
    out0_B_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x1 r s) := by
  unfold out0_B_10
  rw [View.read_writes_eq_canon _ _ _ (cover0_B_10 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay4 (k0_pay18 (sumB x1) x6) r s).trans ?_
  rw [pay18, sumB_at]

theorem out7_C (c0 : ¬cond0_0 i) (c1 : ¬cond0_1 i) (c2 : cond0_2 i) (c3 : ¬cond0_3 i) :
    out0_C_7 c i a2 h2 a3 h3 a4 h4 a5 h5 a6 h6 a7 h7 a8 h8 a9 h9 a10 h10 a11 h11 a12 h12 c0 c1 c2 c3 x0 x1 x2 x3 x4 x5 x6 (ix3 0 r s) = tot x2 r s := by
  unfold out0_C_7
  rw [View.read_writes_eq_canon _ _ _ (cover0_C_7 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  exact (pay25 _ r s).trans (sumC_at x2 r s)
theorem out8_C (c0 : ¬cond0_0 i) (c1 : ¬cond0_1 i) (c2 : cond0_2 i) (c3 : ¬cond0_3 i) :
    out0_C_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x2 r s)) (Adam.second (x6 (ix3 0 r s)) (tot x2 r s)) := by
  unfold out0_C_8
  rw [View.read_writes_eq_canon _ _ _ (cover0_C_8 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay26 (sumC x2) _ x5 x6 r s).trans ?_
  rw [pay22, pay23, pay24, sumC_at]
theorem out9_C (c0 : ¬cond0_0 i) (c1 : ¬cond0_1 i) (c2 : cond0_2 i) (c3 : ¬cond0_3 i) :
    out0_C_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x2 r s) := by
  unfold out0_C_9
  rw [View.read_writes_eq_canon _ _ _ (cover0_C_9 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay5 (k0_pay23 (sumC x2) x5) r s).trans ?_
  rw [pay23, sumC_at]
theorem out10_C (c0 : ¬cond0_0 i) (c1 : ¬cond0_1 i) (c2 : cond0_2 i) (c3 : ¬cond0_3 i) :
    out0_C_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x2 r s) := by
  unfold out0_C_10
  rw [View.read_writes_eq_canon _ _ _ (cover0_C_10 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay6 (k0_pay24 (sumC x2) x6) r s).trans ?_
  rw [pay24, sumC_at]

theorem out7_D (c0 : ¬cond0_0 i) (c1 : ¬cond0_1 i) (c2 : ¬cond0_2 i) (c3 : cond0_3 i) :
    out0_D_7 c i a2 h2 a3 h3 a4 h4 a5 h5 a6 h6 a7 h7 a8 h8 a9 h9 a10 h10 a11 h11 a12 h12 c0 c1 c2 c3 x0 x1 x2 x3 x4 x5 x6 (ix3 0 r s) = tot x3 r s := by
  unfold out0_D_7
  rw [View.read_writes_eq_canon _ _ _ (cover0_D_7 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  exact (pay31 _ r s).trans (sumD_at x3 r s)
theorem out8_D (c0 : ¬cond0_0 i) (c1 : ¬cond0_1 i) (c2 : ¬cond0_2 i) (c3 : cond0_3 i) :
    out0_D_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x3 r s)) (Adam.second (x6 (ix3 0 r s)) (tot x3 r s)) := by
  unfold out0_D_8
  rw [View.read_writes_eq_canon _ _ _ (cover0_D_8 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay32 (sumD x3) _ x5 x6 r s).trans ?_
  rw [pay28, pay29, pay30, sumD_at]
theorem out9_D (c0 : ¬cond0_0 i) (c1 : ¬cond0_1 i) (c2 : ¬cond0_2 i) (c3 : cond0_3 i) :
    out0_D_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x3 r s) := by
  unfold out0_D_9
  rw [View.read_writes_eq_canon _ _ _ (cover0_D_9 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay7 (k0_pay29 (sumD x3) x5) r s).trans ?_
  rw [pay29, sumD_at]
theorem out10_D (c0 : ¬cond0_0 i) (c1 : ¬cond0_1 i) (c2 : ¬cond0_2 i) (c3 : cond0_3 i) :
    out0_D_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x3 r s) := by
  unfold out0_D_10
  rw [View.read_writes_eq_canon _ _ _ (cover0_D_10 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x256x512) hz]
  simp only [View.readAt_eq_ld, h2.read_unread, h3.read_unread, h4.read_unread, h5.read_unread, h6.read_unread, h7.read_unread, h8.read_unread, View.ld_unit_zero (S := S1x256x512) hz]
  refine (pay8 (k0_pay30 (sumD x3) x6) r s).trans ?_
  rw [pay30, sumD_at]

end Cases

/-! ### The arrays -/

section Arrays

variable (m : (ℓ : Loc nD τ sig) → Buf (Elt Ideal) ℓ) (c : Dev nD)

/-- The devices' parts of the gradient by layer, the weight, the moments. -/
abbrev part : Fin 4 → Vec Ideal S8x1024x512 .bf16 := ![V m c main_arg0, V m c main_arg1, V m c main_arg2, V m c main_arg3]
abbrev aW : Vec Ideal S4x1024x512 .f32 := V m c main_arg4
abbrev aM : Vec Ideal S4x1024x512 .f32 := V m c main_arg5
abbrev aV : Vec Ideal S4x1024x512 .f32 := V m c main_arg6

theorem idx0 : ∀ t : Fin cfg0.N, t.val / 4 = 0 → win0_0.index t = ![0, t.val % 4, 0] :=
  (by decide +kernel : ∀ t : Fin grid0.N, t.val / 4 = 0 → win0_0.index t = ![0, t.val % 4, 0])
theorem idx1 : ∀ t : Fin cfg0.N, t.val / 4 = 1 → win0_1.index t = ![0, t.val % 4, 0] :=
  (by decide +kernel : ∀ t : Fin grid0.N, t.val / 4 = 1 → win0_1.index t = ![0, t.val % 4, 0])
theorem idx2 : ∀ t : Fin cfg0.N, t.val / 4 = 2 → win0_2.index t = ![0, t.val % 4, 0] :=
  (by decide +kernel : ∀ t : Fin grid0.N, t.val / 4 = 2 → win0_2.index t = ![0, t.val % 4, 0])
theorem idx3 : ∀ t : Fin cfg0.N, t.val / 4 = 3 → win0_3.index t = ![0, t.val % 4, 0] :=
  (by decide +kernel : ∀ t : Fin grid0.N, t.val / 4 = 3 → win0_3.index t = ![0, t.val % 4, 0])
theorem idx : ∀ t : Fin cfg0.N, (win0_4.index t = ![t.val / 4, t.val % 4, 0] ∧ win0_5.index t = ![t.val / 4, t.val % 4, 0] ∧ win0_6.index t = ![t.val / 4, t.val % 4, 0]) ∧ (win0_7.index t = ![t.val / 4, t.val % 4, 0] ∧ win0_8.index t = ![t.val / 4, t.val % 4, 0] ∧ win0_9.index t = ![t.val / 4, t.val % 4, 0] ∧ win0_10.index t = ![t.val / 4, t.val % 4, 0]) ∧ t.val < 16 :=
  (by decide +kernel : ∀ t : Fin grid0.N, (win0_4.index t = ![t.val / 4, t.val % 4, 0] ∧ win0_5.index t = ![t.val / 4, t.val % 4, 0] ∧ win0_6.index t = ![t.val / 4, t.val % 4, 0]) ∧ (win0_7.index t = ![t.val / 4, t.val % 4, 0] ∧ win0_8.index t = ![t.val / 4, t.val % 4, 0] ∧ win0_9.index t = ![t.val / 4, t.val % 4, 0] ∧ win0_10.index t = ![t.val / 4, t.val % 4, 0]) ∧ t.val < 16)

/-- Row `r` of the block of rows that point `n` works on, and the point's layer. -/
abbrev row (n : ℕ) (r : Fin 256) : Fin 1024 := ⟨(256 * (n % 4) + r.val) % 1024, Nat.mod_lt _ (by omega)⟩
abbrev lay (n : ℕ) : Fin 4 := ⟨n / 4 % 4, Nat.mod_lt _ (by omega)⟩

/-- The gradient: the sum of the devices' parts. -/
def G (l : Fin 4) (i : Fin 1024) (j : Fin 512) : EReal := ∑ d : Fin 8, part m c l (ix3 d i j)

theorem in0 (t : Fin cfg0.N) (h : t.val / 4 = 0) (d : Fin 8) (r : Fin 256) (s : Fin 512) :
    iblk m c 0 t (ix3 d r s) = part m c 0 (ix3 d (row t.val r) s) := by
  have := (idx t).2.2
  show _ = (V m c main_arg0 : Vec Ideal S8x1024x512 .bf16) _
  blk_ext [iblk, idx0 t h]
theorem tot0 (t : Fin cfg0.N) (h : t.val / 4 = 0) (r : Fin 256) (s : Fin 512) : tot (iblk m c 0 t) r s = G m c (lay t.val) (row t.val r) s := by
  have e : lay t.val = 0 := Fin.ext (show t.val / 4 % 4 = 0 by omega)
  rw [e]
  exact Finset.sum_congr rfl fun d _ => in0 m c t h d r s
theorem in1 (t : Fin cfg0.N) (h : t.val / 4 = 1) (d : Fin 8) (r : Fin 256) (s : Fin 512) :
    iblk m c 1 t (ix3 d r s) = part m c 1 (ix3 d (row t.val r) s) := by
  have := (idx t).2.2
  show _ = (V m c main_arg1 : Vec Ideal S8x1024x512 .bf16) _
  blk_ext [iblk, idx1 t h]
theorem tot1 (t : Fin cfg0.N) (h : t.val / 4 = 1) (r : Fin 256) (s : Fin 512) : tot (iblk m c 1 t) r s = G m c (lay t.val) (row t.val r) s := by
  have e : lay t.val = 1 := Fin.ext (show t.val / 4 % 4 = 1 by omega)
  rw [e]
  exact Finset.sum_congr rfl fun d _ => in1 m c t h d r s
theorem in2 (t : Fin cfg0.N) (h : t.val / 4 = 2) (d : Fin 8) (r : Fin 256) (s : Fin 512) :
    iblk m c 2 t (ix3 d r s) = part m c 2 (ix3 d (row t.val r) s) := by
  have := (idx t).2.2
  show _ = (V m c main_arg2 : Vec Ideal S8x1024x512 .bf16) _
  blk_ext [iblk, idx2 t h]
theorem tot2 (t : Fin cfg0.N) (h : t.val / 4 = 2) (r : Fin 256) (s : Fin 512) : tot (iblk m c 2 t) r s = G m c (lay t.val) (row t.val r) s := by
  have e : lay t.val = 2 := Fin.ext (show t.val / 4 % 4 = 2 by omega)
  rw [e]
  exact Finset.sum_congr rfl fun d _ => in2 m c t h d r s
theorem in3 (t : Fin cfg0.N) (h : t.val / 4 = 3) (d : Fin 8) (r : Fin 256) (s : Fin 512) :
    iblk m c 3 t (ix3 d r s) = part m c 3 (ix3 d (row t.val r) s) := by
  have := (idx t).2.2
  show _ = (V m c main_arg3 : Vec Ideal S8x1024x512 .bf16) _
  blk_ext [iblk, idx3 t h]
theorem tot3 (t : Fin cfg0.N) (h : t.val / 4 = 3) (r : Fin 256) (s : Fin 512) : tot (iblk m c 3 t) r s = G m c (lay t.val) (row t.val r) s := by
  have e : lay t.val = 3 := Fin.ext (show t.val / 4 % 4 = 3 by omega)
  rw [e]
  exact Finset.sum_congr rfl fun d _ => in3 m c t h d r s
theorem in4 (t : Fin cfg0.N) (r : Fin 256) (s : Fin 512) : iblk m c 4 t (ix3 0 r s) = aW m c (ix3 (lay t.val) (row t.val r) s) := by
  have := (idx t).2.2
  blk_ext [iblk, (idx t).1.1]
theorem in5 (t : Fin cfg0.N) (r : Fin 256) (s : Fin 512) : iblk m c 5 t (ix3 0 r s) = aM m c (ix3 (lay t.val) (row t.val r) s) := by
  have := (idx t).2.2
  blk_ext [iblk, (idx t).1.2.1]
theorem in6 (t : Fin cfg0.N) (r : Fin 256) (s : Fin 512) : iblk m c 6 t (ix3 0 r s) = aV m c (ix3 (lay t.val) (row t.val r) s) := by
  have := (idx t).2.2
  blk_ext [iblk, (idx t).1.2.2]

/-- The four results: the gradient, the step, and the two moments. -/
def outG : FVec Ideal S4x1024x512 .f32 := fun y => G m c ⟨(y 0).val, (y 0).isLt⟩ ⟨(y 1).val, (y 1).isLt⟩ ⟨(y 2).val, (y 2).isLt⟩
def outM : FVec Ideal S4x1024x512 .f32 := fun y => Adam.first (aM m c y) (outG m c y)
def outV : FVec Ideal S4x1024x512 .f32 := fun y => Adam.second (aV m c y) (outG m c y)
def outD : FVec Ideal S4x1024x512 .f32 := fun y => Adam.step (aW m c y) (outM m c y) (outV m c y)

theorem left (t : Fin cfg0.N) (r : Fin 256) (s : Fin 512) :
    (outsAt0 m c t.val t.isLt).1 (ix3 0 r s) = outG m c (ix3 (lay t.val) (row t.val r) s)
    ∧ (outsAt0 m c t.val t.isLt).2.1 (ix3 0 r s) = outD m c (ix3 (lay t.val) (row t.val r) s)
    ∧ (outsAt0 m c t.val t.isLt).2.2.1 (ix3 0 r s) = outM m c (ix3 (lay t.val) (row t.val r) s)
    ∧ (outsAt0 m c t.val t.isLt).2.2.2 (ix3 0 r s) = outV m c (ix3 (lay t.val) (row t.val r) s) := by
  have hN := (idx t).2.2
  rcases (show t.val / 4 = 0 ∨ t.val / 4 = 1 ∨ t.val / 4 = 2 ∨ t.val / 4 = 3 by omega) with h | h | h | h
  · rw [outsAt0_A m c t (by omega) (by omega) (by omega) (by omega)]
    dsimp only
    rw [out7_A, out8_A, out9_A, out10_A, tot0 m c t h, in4, in5, in6]
    exact ⟨rfl, rfl, rfl, rfl⟩
  · rw [outsAt0_B m c t (by omega) (by omega) (by omega) (by omega)]
    dsimp only
    rw [out7_B, out8_B, out9_B, out10_B, tot1 m c t h, in4, in5, in6]
    exact ⟨rfl, rfl, rfl, rfl⟩
  · rw [outsAt0_C m c t (by omega) (by omega) (by omega) (by omega)]
    dsimp only
    rw [out7_C, out8_C, out9_C, out10_C, tot2 m c t h, in4, in5, in6]
    exact ⟨rfl, rfl, rfl, rfl⟩
  · rw [outsAt0_D m c t (by omega) (by omega) (by omega) (by omega)]
    dsimp only
    rw [out7_D, out8_D, out9_D, out10_D, tot3 m c t h, in4, in5, in6]
    exact ⟨rfl, rfl, rfl, rfl⟩

theorem place7 (t : Fin cfg0.N) (r : Fin 256) (s : Fin 512) : (win0_7.blk t).view.emb (ix3 (0 : Fin 1) r s) = ix3 (lay t.val) (row t.val r) s := by
  have hN := (idx t).2.2
  blk_ext [(idx t).2.1.1]
theorem final7 : (dats m 0 c).arrAt 7 cfg0.N = outG m c := by
  refine (dats m 0 c).arrAt_eq_of_covers 7 _ (by decide +kernel) fun t hf y => ?_
  blk_simp
  rw [after0_7]
  obtain ⟨z, r, s, rfl⟩ := triple (n := 1) (k := 256) (l := 512) y
  obtain rfl : z = 0 := Subsingleton.elim _ _
  exact ((left m c t r s).1).trans (congrArg (outG m c) (place7 t r s)).symm

theorem place8 (t : Fin cfg0.N) (r : Fin 256) (s : Fin 512) : (win0_8.blk t).view.emb (ix3 (0 : Fin 1) r s) = ix3 (lay t.val) (row t.val r) s := by
  have hN := (idx t).2.2
  blk_ext [(idx t).2.1.2.1]
theorem final8 : (dats m 0 c).arrAt 8 cfg0.N = outD m c := by
  refine (dats m 0 c).arrAt_eq_of_covers 8 _ (by decide +kernel) fun t hf y => ?_
  blk_simp
  rw [after0_8]
  obtain ⟨z, r, s, rfl⟩ := triple (n := 1) (k := 256) (l := 512) y
  obtain rfl : z = 0 := Subsingleton.elim _ _
  exact ((left m c t r s).2.1).trans (congrArg (outD m c) (place8 t r s)).symm

theorem place9 (t : Fin cfg0.N) (r : Fin 256) (s : Fin 512) : (win0_9.blk t).view.emb (ix3 (0 : Fin 1) r s) = ix3 (lay t.val) (row t.val r) s := by
  have hN := (idx t).2.2
  blk_ext [(idx t).2.1.2.2.1]
theorem final9 : (dats m 0 c).arrAt 9 cfg0.N = outM m c := by
  refine (dats m 0 c).arrAt_eq_of_covers 9 _ (by decide +kernel) fun t hf y => ?_
  blk_simp
  rw [after0_9]
  obtain ⟨z, r, s, rfl⟩ := triple (n := 1) (k := 256) (l := 512) y
  obtain rfl : z = 0 := Subsingleton.elim _ _
  exact ((left m c t r s).2.2.1).trans (congrArg (outM m c) (place9 t r s)).symm

theorem place10 (t : Fin cfg0.N) (r : Fin 256) (s : Fin 512) : (win0_10.blk t).view.emb (ix3 (0 : Fin 1) r s) = ix3 (lay t.val) (row t.val r) s := by
  have hN := (idx t).2.2
  blk_ext [(idx t).2.1.2.2.2]
theorem final10 : (dats m 0 c).arrAt 10 cfg0.N = outV m c := by
  refine (dats m 0 c).arrAt_eq_of_covers 10 _ (by decide +kernel) fun t hf y => ?_
  blk_simp
  rw [after0_10]
  obtain ⟨z, r, s, rfl⟩ := triple (n := 1) (k := 256) (l := 512) y
  obtain rfl : z = 0 := Subsingleton.elim _ _
  exact ((left m c t r s).2.2.2).trans (congrArg (outV m c) (place10 t r s)).symm

end Arrays

end Cert.Kernel9Ideal.Value

namespace Cert.Reference9Ideal.Adam

open Idealize.ShloMosaic Idealize.ShloMosaic.TcCoe Idealize.SL.Sem
open Cert.Reference9Ideal Cert.Reference9Ideal.Gen Cert.Proof

/-- The four layers' gradients, each the sum over the devices. -/
def grad (a0 a1 a2 a3 : FVec Ideal S8x1024x512 .bf16) : FVec Ideal S4x1024x512 .f32 :=
  concatenate S4x1024x512 0 [⟨S1x1024x512, ((broadcastInDim S1x1024x512 ![1, 2] bcast_S1024x512_S1x1024x512_1_2 (Host.reduceAdd (extf .f32 a0 bitsLt_bf16_f32) (constant S_ .f32 0x00000000#32) reducesTo_S8x1024x512_S1024x512_d0 h_S_)) : (⟨S1x1024x512, .f32⟩ : BufTy).Contents (Elt Ideal))⟩, ⟨S1x1024x512, ((broadcastInDim S1x1024x512 ![1, 2] bcast_S1024x512_S1x1024x512_1_2 (Host.reduceAdd (extf .f32 a1 bitsLt_bf16_f32) (constant S_ .f32 0x00000000#32) reducesTo_S8x1024x512_S1024x512_d0 h_S_)) : (⟨S1x1024x512, .f32⟩ : BufTy).Contents (Elt Ideal))⟩, ⟨S1x1024x512, ((broadcastInDim S1x1024x512 ![1, 2] bcast_S1024x512_S1x1024x512_1_2 (Host.reduceAdd (extf .f32 a2 bitsLt_bf16_f32) (constant S_ .f32 0x00000000#32) reducesTo_S8x1024x512_S1024x512_d0 h_S_)) : (⟨S1x1024x512, .f32⟩ : BufTy).Contents (Elt Ideal))⟩, ⟨S1x1024x512, ((broadcastInDim S1x1024x512 ![1, 2] bcast_S1024x512_S1x1024x512_1_2 (Host.reduceAdd (extf .f32 a3 bitsLt_bf16_f32) (constant S_ .f32 0x00000000#32) reducesTo_S8x1024x512_S1024x512_d0 h_S_)) : (⟨S1x1024x512, .f32⟩ : BufTy).Contents (Elt Ideal))⟩] concatenates_S1x1024x512_S1x1024x512_S1x1024x512_S1x1024x512_S4x1024x512_d0

theorem grad_at (a0 a1 a2 a3 : FVec Ideal S8x1024x512 .bf16) (l : Fin 4) (i : Fin 1024) (j : Fin 512) :
    grad a0 a1 a2 a3 (ix3 l i j) = ∑ d : Fin 8, (![a0, a1, a2, a3] : Fin 4 → FVec Ideal S8x1024x512 .bf16) l (ix3 d i j) := by
  unfold grad
  fin_cases l
  · show _ = ∑ d : Fin 8, a0 (ix3 d i j)
    pointwise
  · show _ = ∑ d : Fin 8, a1 (ix3 d i j)
    pointwise
  · show _ = ∑ d : Fin 8, a2 (ix3 d i j)
    pointwise
  · show _ = ∑ d : Fin 8, a3 (ix3 d i j)
    pointwise

/-- The two new moments and the step. -/
def first (m g : FVec Ideal S4x1024x512 .f32) : FVec Ideal S4x1024x512 .f32 :=
  addf (mulf (broadcastInDim S4x1024x512 ![] bcast_S_S4x1024x512 (constant S_ .f32 0x3F666666#32)) m) (mulf (broadcastInDim S4x1024x512 ![] bcast_S_S4x1024x512 (constant S_ .f32 0x3DCCCCCD#32)) g)
def second (v g : FVec Ideal S4x1024x512 .f32) : FVec Ideal S4x1024x512 .f32 :=
  addf (mulf (broadcastInDim S4x1024x512 ![] bcast_S_S4x1024x512 (constant S_ .f32 0x3F7FBE77#32)) v) (mulf (broadcastInDim S4x1024x512 ![] bcast_S_S4x1024x512 (constant S_ .f32 0x3A83126F#32)) (mulf g g))
def step (w m v : FVec Ideal S4x1024x512 .f32) : FVec Ideal S4x1024x512 .f32 :=
  mulf (broadcastInDim S4x1024x512 ![] bcast_S_S4x1024x512 (constant S_ .f32 0xBA83126F#32)) (addf (Host.divf (Host.divf m (broadcastInDim S4x1024x512 ![] bcast_S_S4x1024x512 (constant S_ .f32 0x3F26BD02#32)))
    (addf (Host.sqrt (Host.divf v (broadcastInDim S4x1024x512 ![] bcast_S_S4x1024x512 (constant S_ .f32 0x3C231ACC#32)))) (broadcastInDim S4x1024x512 ![] bcast_S_S4x1024x512 (constant S_ .f32 0x322BCC77#32))))
    (mulf (broadcastInDim S4x1024x512 ![] bcast_S_S4x1024x512 (constant S_ .f32 0x3C23D70A#32)) w))

theorem first_at (m g : FVec Ideal S4x1024x512 .f32) (l : Fin 4) (i : Fin 1024) (j : Fin 512) : first m g (ix3 l i j) = Cert.Proof.Adam.first (m (ix3 l i j)) (g (ix3 l i j)) := by
  unfold first Cert.Proof.Adam.first
  pointwise
theorem second_at (v g : FVec Ideal S4x1024x512 .f32) (l : Fin 4) (i : Fin 1024) (j : Fin 512) : second v g (ix3 l i j) = Cert.Proof.Adam.second (v (ix3 l i j)) (g (ix3 l i j)) := by
  unfold second Cert.Proof.Adam.second
  pointwise
theorem step_at (w m v : FVec Ideal S4x1024x512 .f32) (l : Fin 4) (i : Fin 1024) (j : Fin 512) :
    step w m v (ix3 l i j) = Cert.Proof.Adam.step (w (ix3 l i j)) (m (ix3 l i j)) (v (ix3 l i j)) := by
  unfold step Cert.Proof.Adam.step
  pointwise

variable (m : (ℓ : Loc nD τ sig) → Buf (Elt Ideal) ℓ)

/-- The gradient, the weight and the moments as @main has them. -/
abbrev aG (c : Dev nD) : FVec Ideal S4x1024x512 .f32 := grad (m ((c.tc : Thread nD τ).loc main_arg0)) (m ((c.tc : Thread nD τ).loc main_arg1)) (m ((c.tc : Thread nD τ).loc main_arg2)) (m ((c.tc : Thread nD τ).loc main_arg3))
abbrev aM (c : Dev nD) : FVec Ideal S4x1024x512 .f32 := first (m ((c.tc : Thread nD τ).loc main_arg5)) (aG m c)
abbrev aV (c : Dev nD) : FVec Ideal S4x1024x512 .f32 := second (m ((c.tc : Thread nD τ).loc main_arg6)) (aG m c)

theorem run (ρ : Dev nD → PrngReg) :
    θ_run defs (onTc (τ := τ) (main (F := Ideal))) ⟨m, fun _ => 0, ρ⟩ fun r => ∀ c : Dev nD,
      r.2.mem ((c.tc : Thread nD τ).loc main_v12) = aG m c
      ∧ r.2.mem ((c.tc : Thread nD τ).loc main_v36) = step (m ((c.tc : Thread nD τ).loc main_arg4)) (aM m c) (aV m c)
      ∧ r.2.mem ((c.tc : Thread nD τ).loc main_v17) = aM m c
      ∧ r.2.mem ((c.tc : Thread nD τ).loc main_v23) = aV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference9Ideal.Value.run m ρ

end Cert.Reference9Ideal.Adam

namespace Cert.Proof.AdamUp

open Idealize.ShloMosaic Idealize.ShloMosaic.TcCoe Idealize.SL.Sem
open Cert.Reference9Ideal.Adam (grad grad_at first first_at second second_at step step_at)

section Equal

variable (m : (ℓ : Loc Cert.Kernel9Ideal.nD Cert.Kernel9Ideal.τ Cert.Kernel9Ideal.sig) → Buf (Elt Ideal) ℓ) (c : Dev Cert.Kernel9Ideal.nD)
  (a0 a1 a2 a3 : FVec Ideal Cert.Reference9Ideal.S8x1024x512 .bf16) (w s v : FVec Ideal Cert.Reference9Ideal.S4x1024x512 .f32)
  (e0 : a0 = Cert.Kernel9Ideal.Gen.V m c Cert.Kernel9Ideal.main_arg0) (e1 : a1 = Cert.Kernel9Ideal.Gen.V m c Cert.Kernel9Ideal.main_arg1)
  (e2 : a2 = Cert.Kernel9Ideal.Gen.V m c Cert.Kernel9Ideal.main_arg2) (e3 : a3 = Cert.Kernel9Ideal.Gen.V m c Cert.Kernel9Ideal.main_arg3)
  (ew : w = Cert.Kernel9Ideal.Value.aW m c) (es : s = Cert.Kernel9Ideal.Value.aM m c) (ev : v = Cert.Kernel9Ideal.Value.aV m c)

include e0 e1 e2 e3 in
theorem g_eq : grad a0 a1 a2 a3 = Cert.Kernel9Ideal.Value.outG m c := by
  subst e0 e1 e2 e3
  funext y
  obtain ⟨l, i, j, rfl⟩ := triple (n := 4) (k := 1024) (l := 512) y
  exact grad_at _ _ _ _ l i j
include e0 e1 e2 e3 es in
theorem m_eq : first s (grad a0 a1 a2 a3) = Cert.Kernel9Ideal.Value.outM m c := by
  rw [g_eq m c a0 a1 a2 a3 e0 e1 e2 e3, es]
  funext y
  obtain ⟨l, i, j, rfl⟩ := triple (n := 4) (k := 1024) (l := 512) y
  exact first_at _ _ l i j
include e0 e1 e2 e3 ev in
theorem v_eq : second v (grad a0 a1 a2 a3) = Cert.Kernel9Ideal.Value.outV m c := by
  rw [g_eq m c a0 a1 a2 a3 e0 e1 e2 e3, ev]
  funext y
  obtain ⟨l, i, j, rfl⟩ := triple (n := 4) (k := 1024) (l := 512) y
  exact second_at _ _ l i j
include e0 e1 e2 e3 ew es ev in
theorem d_eq : step w (first s (grad a0 a1 a2 a3)) (second v (grad a0 a1 a2 a3)) = Cert.Kernel9Ideal.Value.outD m c := by
  rw [m_eq m c a0 a1 a2 a3 s e0 e1 e2 e3 es, v_eq m c a0 a1 a2 a3 v e0 e1 e2 e3 ev, ew]
  funext y
  obtain ⟨l, i, j, rfl⟩ := triple (n := 4) (k := 1024) (l := 512) y
  exact step_at _ _ _ l i j

end Equal

/-- At the ideal instance the kernel's step of AdamW is the reference's, from the eight devices' parts of the gradient. -/
theorem algebraic : Cert.algebraic_Kernel9Ideal_Reference9Ideal (hKernel9Ideal := Cert.Kernel9Ideal.Gen.facts) (hReference9Ideal := Cert.Reference9Ideal.Gen.facts) := by
  intro m g m' g' _ hag
  refine ⟨fun c => Cert.Kernel9Ideal.Value.outG m c, fun c => Cert.Kernel9Ideal.Value.outD m c, fun c => Cert.Kernel9Ideal.Value.outM m c, fun c => Cert.Kernel9Ideal.Value.outV m c,
    (θ_run Cert.Kernel9Ideal.defs _ _).mono (fun r h c => ⟨(h c).1.trans (Cert.Kernel9Ideal.Value.final7 m c), (h c).2.1.trans (Cert.Kernel9Ideal.Value.final8 m c),
      (h c).2.2.1.trans (Cert.Kernel9Ideal.Value.final9 m c), (h c).2.2.2.1.trans (Cert.Kernel9Ideal.Value.final10 m c), (h c).2.2.2.2⟩) (Cert.Kernel9Ideal.Value.run_blocks m g),
    (θ_run Cert.Reference9Ideal.defs _ _).mono (fun r h c => ?_) (Cert.Reference9Ideal.Adam.run m' g')⟩
  obtain ⟨e0, e1, e2, e3, e4, e5, e6⟩ := hag c
  exact ⟨(h c).1.trans (g_eq m c _ _ _ _ e0 e1 e2 e3), (h c).2.1.trans (d_eq m c _ _ _ _ _ _ _ e0 e1 e2 e3 e4 e5 e6),
    (h c).2.2.1.trans (m_eq m c _ _ _ _ _ e0 e1 e2 e3 e5), (h c).2.2.2.1.trans (v_eq m c _ _ _ _ _ e0 e1 e2 e3 e6), (h c).2.2.2.2⟩

end Cert.Proof.AdamUp
-- ==== Proof.AdamOut.lean ====
module

public import proofs.«01_k».proof.Defs
public import proofs.«01_k».proof.Proof.Tokens
public import proofs.«01_k».proof.Proof.Adam
public import proofs.«01_k».proof.Proof.Gen.Kernel10Ideal.Value
public import proofs.«01_k».proof.Proof.Gen.Reference10Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

/-! ## AdamW of the mixer's output product's weights: the eight devices' gradients summed, the two moments and the step -/

namespace Cert.Kernel10Ideal.Value

open Idealize.ShloMosaic Idealize.ShloMosaic.TcCoe Idealize.SL.Sem
open Cert.Kernel10Ideal Cert.Kernel10Ideal.Gen Cert.Proof

theorem hz : (![0, 0, 0] : Fin 3 → Nat) = fun _ => 0 := funext fun a => by fin_cases a <;> rfl

/-- The sum of the eight devices' parts at an entry. -/
def tot (x : Vec Ideal S8x128x1024 .bf16) (r : Fin 128) (s : Fin 1024) : EReal := ∑ d : Fin 8, x (ix3 d r s)

theorem slice (x : Vec Ideal S8x128x1024 .bf16) (j : Fin 8) (inb : ∀ a, (![j.val, 0, 0] : Fin 3 → ℕ) a + (![1, 128, 1024] : Fin 3 → ℕ) a ≤ S8x128x1024.size a) (r : Fin 128) (s : Fin 1024) :
    View.ld (S := S8x128x1024) x (Rect.unit ![j.val, 0, 0] ![1, 128, 1024] inb) (ix3 0 r s) = x (ix3 j r s) := by
  refine congrArg x ?_
  funext a
  match a with
  | ⟨0, _⟩ => exact Fin.ext (show j.val + 1 * 0 = j.val by omega)
  | ⟨1, _⟩ => exact Fin.ext (show 0 + 1 * r.val = r.val by omega)
  | ⟨2, _⟩ => exact Fin.ext (show 0 + 1 * s.val = s.val by omega)

/-! ### What the body's operations compute, entry by entry; once for each layer -/

theorem pay9 (x0 x1 x2 x3 x4 x5 x6 x7 : Vec Ideal S1x128x1024 .bf16) (r : Fin 128) (s : Fin 1024) : k0_pay9 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay9
  pointwise
theorem pay10 (w : Vec Ideal S1x128x1024 .f32) (r : Fin 128) (s : Fin 1024) : k0_pay10 w (ix2 r s) = w (ix3 0 r s) := by
  unfold k0_pay10
  pointwise
theorem pay11 (g : FVec Ideal S128x1024 .f32) (m : Vec Ideal S1x128x1024 .f32) (r : Fin 128) (s : Fin 1024) :
    k0_pay11 g m (ix2 r s) = Adam.first (m (ix3 0 r s)) (g (ix2 r s)) := by
  unfold k0_pay11 Adam.first
  pointwise
theorem pay12 (g : FVec Ideal S128x1024 .f32) (v : Vec Ideal S1x128x1024 .f32) (r : Fin 128) (s : Fin 1024) :
    k0_pay12 g v (ix2 r s) = Adam.second (v (ix3 0 r s)) (g (ix2 r s)) := by
  unfold k0_pay12 Adam.second
  pointwise
theorem pay13 (g : FVec Ideal S128x1024 .f32) (r : Fin 128) (s : Fin 1024) : k0_pay13 g (ix3 0 r s) = g (ix2 r s) := by
  unfold k0_pay13
  pointwise
theorem pay14 (g w : FVec Ideal S128x1024 .f32) (m v : Vec Ideal S1x128x1024 .f32) (r : Fin 128) (s : Fin 1024) :
    k0_pay14 g w m v (ix3 0 r s) = Adam.step (w (ix2 r s)) (k0_pay11 g m (ix2 r s)) (k0_pay12 g v (ix2 r s)) := by
  unfold k0_pay14 Adam.step
  pointwise
theorem pay1 (g : FVec Ideal S128x1024 .f32) (r : Fin 128) (s : Fin 1024) : k0_pay1 g (ix3 0 r s) = g (ix2 r s) := by
  unfold k0_pay1
  pointwise
theorem pay2 (g : FVec Ideal S128x1024 .f32) (r : Fin 128) (s : Fin 1024) : k0_pay2 g (ix3 0 r s) = g (ix2 r s) := by
  unfold k0_pay2
  pointwise

theorem pay15 (x0 x1 x2 x3 x4 x5 x6 x7 : Vec Ideal S1x128x1024 .bf16) (r : Fin 128) (s : Fin 1024) : k0_pay15 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay15
  pointwise
theorem pay16 (w : Vec Ideal S1x128x1024 .f32) (r : Fin 128) (s : Fin 1024) : k0_pay16 w (ix2 r s) = w (ix3 0 r s) := by
  unfold k0_pay16
  pointwise
theorem pay17 (g : FVec Ideal S128x1024 .f32) (m : Vec Ideal S1x128x1024 .f32) (r : Fin 128) (s : Fin 1024) :
    k0_pay17 g m (ix2 r s) = Adam.first (m (ix3 0 r s)) (g (ix2 r s)) := by
  unfold k0_pay17 Adam.first
  pointwise
theorem pay18 (g : FVec Ideal S128x1024 .f32) (v : Vec Ideal S1x128x1024 .f32) (r : Fin 128) (s : Fin 1024) :
    k0_pay18 g v (ix2 r s) = Adam.second (v (ix3 0 r s)) (g (ix2 r s)) := by
  unfold k0_pay18 Adam.second
  pointwise
theorem pay19 (g : FVec Ideal S128x1024 .f32) (r : Fin 128) (s : Fin 1024) : k0_pay19 g (ix3 0 r s) = g (ix2 r s) := by
  unfold k0_pay19
  pointwise
theorem pay20 (g w : FVec Ideal S128x1024 .f32) (m v : Vec Ideal S1x128x1024 .f32) (r : Fin 128) (s : Fin 1024) :
    k0_pay20 g w m v (ix3 0 r s) = Adam.step (w (ix2 r s)) (k0_pay17 g m (ix2 r s)) (k0_pay18 g v (ix2 r s)) := by
  unfold k0_pay20 Adam.step
  pointwise
theorem pay3 (g : FVec Ideal S128x1024 .f32) (r : Fin 128) (s : Fin 1024) : k0_pay3 g (ix3 0 r s) = g (ix2 r s) := by
  unfold k0_pay3
  pointwise
theorem pay4 (g : FVec Ideal S128x1024 .f32) (r : Fin 128) (s : Fin 1024) : k0_pay4 g (ix3 0 r s) = g (ix2 r s) := by
  unfold k0_pay4
  pointwise

theorem pay21 (x0 x1 x2 x3 x4 x5 x6 x7 : Vec Ideal S1x128x1024 .bf16) (r : Fin 128) (s : Fin 1024) : k0_pay21 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay21
  pointwise
theorem pay22 (w : Vec Ideal S1x128x1024 .f32) (r : Fin 128) (s : Fin 1024) : k0_pay22 w (ix2 r s) = w (ix3 0 r s) := by
  unfold k0_pay22
  pointwise
theorem pay23 (g : FVec Ideal S128x1024 .f32) (m : Vec Ideal S1x128x1024 .f32) (r : Fin 128) (s : Fin 1024) :
    k0_pay23 g m (ix2 r s) = Adam.first (m (ix3 0 r s)) (g (ix2 r s)) := by
  unfold k0_pay23 Adam.first
  pointwise
theorem pay24 (g : FVec Ideal S128x1024 .f32) (v : Vec Ideal S1x128x1024 .f32) (r : Fin 128) (s : Fin 1024) :
    k0_pay24 g v (ix2 r s) = Adam.second (v (ix3 0 r s)) (g (ix2 r s)) := by
  unfold k0_pay24 Adam.second
  pointwise
theorem pay25 (g : FVec Ideal S128x1024 .f32) (r : Fin 128) (s : Fin 1024) : k0_pay25 g (ix3 0 r s) = g (ix2 r s) := by
  unfold k0_pay25
  pointwise
theorem pay26 (g w : FVec Ideal S128x1024 .f32) (m v : Vec Ideal S1x128x1024 .f32) (r : Fin 128) (s : Fin 1024) :
    k0_pay26 g w m v (ix3 0 r s) = Adam.step (w (ix2 r s)) (k0_pay23 g m (ix2 r s)) (k0_pay24 g v (ix2 r s)) := by
  unfold k0_pay26 Adam.step
  pointwise
theorem pay5 (g : FVec Ideal S128x1024 .f32) (r : Fin 128) (s : Fin 1024) : k0_pay5 g (ix3 0 r s) = g (ix2 r s) := by
  unfold k0_pay5
  pointwise
theorem pay6 (g : FVec Ideal S128x1024 .f32) (r : Fin 128) (s : Fin 1024) : k0_pay6 g (ix3 0 r s) = g (ix2 r s) := by
  unfold k0_pay6
  pointwise

theorem pay27 (x0 x1 x2 x3 x4 x5 x6 x7 : Vec Ideal S1x128x1024 .bf16) (r : Fin 128) (s : Fin 1024) : k0_pay27 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay27
  pointwise
theorem pay28 (w : Vec Ideal S1x128x1024 .f32) (r : Fin 128) (s : Fin 1024) : k0_pay28 w (ix2 r s) = w (ix3 0 r s) := by
  unfold k0_pay28
  pointwise
theorem pay29 (g : FVec Ideal S128x1024 .f32) (m : Vec Ideal S1x128x1024 .f32) (r : Fin 128) (s : Fin 1024) :
    k0_pay29 g m (ix2 r s) = Adam.first (m (ix3 0 r s)) (g (ix2 r s)) := by
  unfold k0_pay29 Adam.first
  pointwise
theorem pay30 (g : FVec Ideal S128x1024 .f32) (v : Vec Ideal S1x128x1024 .f32) (r : Fin 128) (s : Fin 1024) :
    k0_pay30 g v (ix2 r s) = Adam.second (v (ix3 0 r s)) (g (ix2 r s)) := by
  unfold k0_pay30 Adam.second
  pointwise
theorem pay31 (g : FVec Ideal S128x1024 .f32) (r : Fin 128) (s : Fin 1024) : k0_pay31 g (ix3 0 r s) = g (ix2 r s) := by
  unfold k0_pay31
  pointwise
theorem pay32 (g w : FVec Ideal S128x1024 .f32) (m v : Vec Ideal S1x128x1024 .f32) (r : Fin 128) (s : Fin 1024) :
    k0_pay32 g w m v (ix3 0 r s) = Adam.step (w (ix2 r s)) (k0_pay29 g m (ix2 r s)) (k0_pay30 g v (ix2 r s)) := by
  unfold k0_pay32 Adam.step
  pointwise
theorem pay7 (g : FVec Ideal S128x1024 .f32) (r : Fin 128) (s : Fin 1024) : k0_pay7 g (ix3 0 r s) = g (ix2 r s) := by
  unfold k0_pay7
  pointwise
theorem pay8 (g : FVec Ideal S128x1024 .f32) (r : Fin 128) (s : Fin 1024) : k0_pay8 g (ix3 0 r s) = g (ix2 r s) := by
  unfold k0_pay8
  pointwise

/-- The running sum over the devices. -/
abbrev sumA (x : Vec Ideal S8x128x1024 .bf16) : FVec Ideal S128x1024 .f32 :=
  k0_pay9 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumA_at (x : Vec Ideal S8x128x1024 .bf16) (r : Fin 128) (s : Fin 1024) : sumA x (ix2 r s) = tot x r s := by
  refine (pay9 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumB (x : Vec Ideal S8x128x1024 .bf16) : FVec Ideal S128x1024 .f32 :=
  k0_pay15 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumB_at (x : Vec Ideal S8x128x1024 .bf16) (r : Fin 128) (s : Fin 1024) : sumB x (ix2 r s) = tot x r s := by
  refine (pay15 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumC (x : Vec Ideal S8x128x1024 .bf16) : FVec Ideal S128x1024 .f32 :=
  k0_pay21 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumC_at (x : Vec Ideal S8x128x1024 .bf16) (r : Fin 128) (s : Fin 1024) : sumC x (ix2 r s) = tot x r s := by
  refine (pay21 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumD (x : Vec Ideal S8x128x1024 .bf16) : FVec Ideal S128x1024 .f32 :=
  k0_pay27 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumD_at (x : Vec Ideal S8x128x1024 .bf16) (r : Fin 128) (s : Fin 1024) : sumD x (ix2 r s) = tot x r s := by
  refine (pay27 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)

section Cases

variable (c : Dev nD) (i : grid0.Coords)
  (a2 : Memref sig .tc .vmem S8x128x1024 .bf16) (h2 : a2.IsWhole) (a3 : Memref sig .tc .vmem S8x128x1024 .bf16) (h3 : a3.IsWhole)
  (a4 : Memref sig .tc .vmem S8x128x1024 .bf16) (h4 : a4.IsWhole) (a5 : Memref sig .tc .vmem S8x128x1024 .bf16) (h5 : a5.IsWhole)
  (a6 : Memref sig .tc .vmem S1x128x1024 .f32) (h6 : a6.IsWhole) (a7 : Memref sig .tc .vmem S1x128x1024 .f32) (h7 : a7.IsWhole)
  (a8 : Memref sig .tc .vmem S1x128x1024 .f32) (h8 : a8.IsWhole) (a9 : Memref sig .tc .vmem S1x128x1024 .f32) (h9 : a9.IsWhole)
  (a10 : Memref sig .tc .vmem S1x128x1024 .f32) (h10 : a10.IsWhole) (a11 : Memref sig .tc .vmem S1x128x1024 .f32) (h11 : a11.IsWhole)
  (a12 : Memref sig .tc .vmem S1x128x1024 .f32) (h12 : a12.IsWhole)
  (x0 x1 x2 x3 : Vec Ideal S8x128x1024 .bf16) (x4 x5 x6 : Vec Ideal S1x128x1024 .f32) (r : Fin 128) (s : Fin 1024)

theorem out7_A (c0 : cond0_0 i) (c1 : ¬cond0_1 i) (c2 : ¬cond0_2 i) (c3 : ¬cond0_3 i) :
    out0_A_7 c i a2 h2 a3 h3 a4 h4 a5 h5 a6 h6 a7 h7 a8 h8 a9 h9 a10 h10 a11 h11 a12 h12 c0 c1 c2 c3 x0 x1 x2 x3 x4 x5 x6 (ix3 0 r s) = tot x0 r s := by
  unfold out0_A_7
  rw [View.read_writes_eq_canon _ _ _ (cover0_A_7 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay13 _ r s).trans (sumA_at x0 r s)
theorem out8_A (c0 : cond0_0 i) (c1 : ¬cond0_1 i) (c2 : ¬cond0_2 i) (c3 : ¬cond0_3 i) :
    out0_A_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x0 r s)) (Adam.second (x6 (ix3 0 r s)) (tot x0 r s)) := by
  unfold out0_A_8
  rw [View.read_writes_eq_canon _ _ _ (cover0_A_8 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay14 (sumA x0) _ x5 x6 r s).trans ?_
  rw [pay10, pay11, pay12, sumA_at]
theorem out9_A (c0 : cond0_0 i) (c1 : ¬cond0_1 i) (c2 : ¬cond0_2 i) (c3 : ¬cond0_3 i) :
    out0_A_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x0 r s) := by
  unfold out0_A_9
  rw [View.read_writes_eq_canon _ _ _ (cover0_A_9 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay1 (k0_pay11 (sumA x0) x5) r s).trans ?_
  rw [pay11, sumA_at]
theorem out10_A (c0 : cond0_0 i) (c1 : ¬cond0_1 i) (c2 : ¬cond0_2 i) (c3 : ¬cond0_3 i) :
    out0_A_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x0 r s) := by
  unfold out0_A_10
  rw [View.read_writes_eq_canon _ _ _ (cover0_A_10 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay2 (k0_pay12 (sumA x0) x6) r s).trans ?_
  rw [pay12, sumA_at]

theorem out7_B (c0 : ¬cond0_0 i) (c1 : cond0_1 i) (c2 : ¬cond0_2 i) (c3 : ¬cond0_3 i) :
    out0_B_7 c i a2 h2 a3 h3 a4 h4 a5 h5 a6 h6 a7 h7 a8 h8 a9 h9 a10 h10 a11 h11 a12 h12 c0 c1 c2 c3 x0 x1 x2 x3 x4 x5 x6 (ix3 0 r s) = tot x1 r s := by
  unfold out0_B_7
  rw [View.read_writes_eq_canon _ _ _ (cover0_B_7 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay19 _ r s).trans (sumB_at x1 r s)
theorem out8_B (c0 : ¬cond0_0 i) (c1 : cond0_1 i) (c2 : ¬cond0_2 i) (c3 : ¬cond0_3 i) :
    out0_B_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x1 r s)) (Adam.second (x6 (ix3 0 r s)) (tot x1 r s)) := by
  unfold out0_B_8
  rw [View.read_writes_eq_canon _ _ _ (cover0_B_8 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay20 (sumB x1) _ x5 x6 r s).trans ?_
  rw [pay16, pay17, pay18, sumB_at]
theorem out9_B (c0 : ¬cond0_0 i) (c1 : cond0_1 i) (c2 : ¬cond0_2 i) (c3 : ¬cond0_3 i) :
    out0_B_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x1 r s) := by
  unfold out0_B_9
  rw [View.read_writes_eq_canon _ _ _ (cover0_B_9 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay3 (k0_pay17 (sumB x1) x5) r s).trans ?_
  rw [pay17, sumB_at]
theorem out10_B (c0 : ¬cond0_0 i) (c1 : cond0_1 i) (c2 : ¬cond0_2 i) (c3 : ¬cond0_3 i) :
    out0_B_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x1 r s) := by
  unfold out0_B_10
  rw [View.read_writes_eq_canon _ _ _ (cover0_B_10 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay4 (k0_pay18 (sumB x1) x6) r s).trans ?_
  rw [pay18, sumB_at]

theorem out7_C (c0 : ¬cond0_0 i) (c1 : ¬cond0_1 i) (c2 : cond0_2 i) (c3 : ¬cond0_3 i) :
    out0_C_7 c i a2 h2 a3 h3 a4 h4 a5 h5 a6 h6 a7 h7 a8 h8 a9 h9 a10 h10 a11 h11 a12 h12 c0 c1 c2 c3 x0 x1 x2 x3 x4 x5 x6 (ix3 0 r s) = tot x2 r s := by
  unfold out0_C_7
  rw [View.read_writes_eq_canon _ _ _ (cover0_C_7 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay25 _ r s).trans (sumC_at x2 r s)
theorem out8_C (c0 : ¬cond0_0 i) (c1 : ¬cond0_1 i) (c2 : cond0_2 i) (c3 : ¬cond0_3 i) :
    out0_C_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x2 r s)) (Adam.second (x6 (ix3 0 r s)) (tot x2 r s)) := by
  unfold out0_C_8
  rw [View.read_writes_eq_canon _ _ _ (cover0_C_8 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay26 (sumC x2) _ x5 x6 r s).trans ?_
  rw [pay22, pay23, pay24, sumC_at]
theorem out9_C (c0 : ¬cond0_0 i) (c1 : ¬cond0_1 i) (c2 : cond0_2 i) (c3 : ¬cond0_3 i) :
    out0_C_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x2 r s) := by
  unfold out0_C_9
  rw [View.read_writes_eq_canon _ _ _ (cover0_C_9 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay5 (k0_pay23 (sumC x2) x5) r s).trans ?_
  rw [pay23, sumC_at]
theorem out10_C (c0 : ¬cond0_0 i) (c1 : ¬cond0_1 i) (c2 : cond0_2 i) (c3 : ¬cond0_3 i) :
    out0_C_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x2 r s) := by
  unfold out0_C_10
  rw [View.read_writes_eq_canon _ _ _ (cover0_C_10 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay6 (k0_pay24 (sumC x2) x6) r s).trans ?_
  rw [pay24, sumC_at]

theorem out7_D (c0 : ¬cond0_0 i) (c1 : ¬cond0_1 i) (c2 : ¬cond0_2 i) (c3 : cond0_3 i) :
    out0_D_7 c i a2 h2 a3 h3 a4 h4 a5 h5 a6 h6 a7 h7 a8 h8 a9 h9 a10 h10 a11 h11 a12 h12 c0 c1 c2 c3 x0 x1 x2 x3 x4 x5 x6 (ix3 0 r s) = tot x3 r s := by
  unfold out0_D_7
  rw [View.read_writes_eq_canon _ _ _ (cover0_D_7 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay31 _ r s).trans (sumD_at x3 r s)
theorem out8_D (c0 : ¬cond0_0 i) (c1 : ¬cond0_1 i) (c2 : ¬cond0_2 i) (c3 : cond0_3 i) :
    out0_D_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x3 r s)) (Adam.second (x6 (ix3 0 r s)) (tot x3 r s)) := by
  unfold out0_D_8
  rw [View.read_writes_eq_canon _ _ _ (cover0_D_8 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay32 (sumD x3) _ x5 x6 r s).trans ?_
  rw [pay28, pay29, pay30, sumD_at]
theorem out9_D (c0 : ¬cond0_0 i) (c1 : ¬cond0_1 i) (c2 : ¬cond0_2 i) (c3 : cond0_3 i) :
    out0_D_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x3 r s) := by
  unfold out0_D_9
  rw [View.read_writes_eq_canon _ _ _ (cover0_D_9 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay7 (k0_pay29 (sumD x3) x5) r s).trans ?_
  rw [pay29, sumD_at]
theorem out10_D (c0 : ¬cond0_0 i) (c1 : ¬cond0_1 i) (c2 : ¬cond0_2 i) (c3 : cond0_3 i) :
    out0_D_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x3 r s) := by
  unfold out0_D_10
  rw [View.read_writes_eq_canon _ _ _ (cover0_D_10 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay8 (k0_pay30 (sumD x3) x6) r s).trans ?_
  rw [pay30, sumD_at]

end Cases

/-! ### The arrays -/

section Arrays

variable (m : (ℓ : Loc nD τ sig) → Buf (Elt Ideal) ℓ) (c : Dev nD)

/-- The devices' parts of the gradient by layer, the weight, the moments. -/
abbrev part : Fin 4 → Vec Ideal S8x128x1024 .bf16 := ![V m c main_arg0, V m c main_arg1, V m c main_arg2, V m c main_arg3]
abbrev aW : Vec Ideal S4x128x1024 .f32 := V m c main_arg4
abbrev aM : Vec Ideal S4x128x1024 .f32 := V m c main_arg5
abbrev aV : Vec Ideal S4x128x1024 .f32 := V m c main_arg6

theorem idx0 : ∀ t : Fin cfg0.N, t.val / 1 = 0 → win0_0.index t = ![0, t.val % 1, 0] :=
  (by decide +kernel : ∀ t : Fin grid0.N, t.val / 1 = 0 → win0_0.index t = ![0, t.val % 1, 0])
theorem idx1 : ∀ t : Fin cfg0.N, t.val / 1 = 1 → win0_1.index t = ![0, t.val % 1, 0] :=
  (by decide +kernel : ∀ t : Fin grid0.N, t.val / 1 = 1 → win0_1.index t = ![0, t.val % 1, 0])
theorem idx2 : ∀ t : Fin cfg0.N, t.val / 1 = 2 → win0_2.index t = ![0, t.val % 1, 0] :=
  (by decide +kernel : ∀ t : Fin grid0.N, t.val / 1 = 2 → win0_2.index t = ![0, t.val % 1, 0])
theorem idx3 : ∀ t : Fin cfg0.N, t.val / 1 = 3 → win0_3.index t = ![0, t.val % 1, 0] :=
  (by decide +kernel : ∀ t : Fin grid0.N, t.val / 1 = 3 → win0_3.index t = ![0, t.val % 1, 0])
theorem idx : ∀ t : Fin cfg0.N, (win0_4.index t = ![t.val / 1, t.val % 1, 0] ∧ win0_5.index t = ![t.val / 1, t.val % 1, 0] ∧ win0_6.index t = ![t.val / 1, t.val % 1, 0]) ∧ (win0_7.index t = ![t.val / 1, t.val % 1, 0] ∧ win0_8.index t = ![t.val / 1, t.val % 1, 0] ∧ win0_9.index t = ![t.val / 1, t.val % 1, 0] ∧ win0_10.index t = ![t.val / 1, t.val % 1, 0]) ∧ t.val < 4 :=
  (by decide +kernel : ∀ t : Fin grid0.N, (win0_4.index t = ![t.val / 1, t.val % 1, 0] ∧ win0_5.index t = ![t.val / 1, t.val % 1, 0] ∧ win0_6.index t = ![t.val / 1, t.val % 1, 0]) ∧ (win0_7.index t = ![t.val / 1, t.val % 1, 0] ∧ win0_8.index t = ![t.val / 1, t.val % 1, 0] ∧ win0_9.index t = ![t.val / 1, t.val % 1, 0] ∧ win0_10.index t = ![t.val / 1, t.val % 1, 0]) ∧ t.val < 4)

/-- Row `r` of the block of rows that point `n` works on, and the point's layer. -/
abbrev row (n : ℕ) (r : Fin 128) : Fin 128 := ⟨(128 * (n % 1) + r.val) % 128, Nat.mod_lt _ (by omega)⟩
abbrev lay (n : ℕ) : Fin 4 := ⟨n / 1 % 4, Nat.mod_lt _ (by omega)⟩

/-- The gradient: the sum of the devices' parts. -/
def G (l : Fin 4) (i : Fin 128) (j : Fin 1024) : EReal := ∑ d : Fin 8, part m c l (ix3 d i j)

theorem in0 (t : Fin cfg0.N) (h : t.val / 1 = 0) (d : Fin 8) (r : Fin 128) (s : Fin 1024) :
    iblk m c 0 t (ix3 d r s) = part m c 0 (ix3 d (row t.val r) s) := by
  have := (idx t).2.2
  show _ = (V m c main_arg0 : Vec Ideal S8x128x1024 .bf16) _
  blk_ext [iblk, idx0 t h]
theorem tot0 (t : Fin cfg0.N) (h : t.val / 1 = 0) (r : Fin 128) (s : Fin 1024) : tot (iblk m c 0 t) r s = G m c (lay t.val) (row t.val r) s := by
  have e : lay t.val = 0 := Fin.ext (show t.val / 1 % 4 = 0 by omega)
  rw [e]
  exact Finset.sum_congr rfl fun d _ => in0 m c t h d r s
theorem in1 (t : Fin cfg0.N) (h : t.val / 1 = 1) (d : Fin 8) (r : Fin 128) (s : Fin 1024) :
    iblk m c 1 t (ix3 d r s) = part m c 1 (ix3 d (row t.val r) s) := by
  have := (idx t).2.2
  show _ = (V m c main_arg1 : Vec Ideal S8x128x1024 .bf16) _
  blk_ext [iblk, idx1 t h]
theorem tot1 (t : Fin cfg0.N) (h : t.val / 1 = 1) (r : Fin 128) (s : Fin 1024) : tot (iblk m c 1 t) r s = G m c (lay t.val) (row t.val r) s := by
  have e : lay t.val = 1 := Fin.ext (show t.val / 1 % 4 = 1 by omega)
  rw [e]
  exact Finset.sum_congr rfl fun d _ => in1 m c t h d r s
theorem in2 (t : Fin cfg0.N) (h : t.val / 1 = 2) (d : Fin 8) (r : Fin 128) (s : Fin 1024) :
    iblk m c 2 t (ix3 d r s) = part m c 2 (ix3 d (row t.val r) s) := by
  have := (idx t).2.2
  show _ = (V m c main_arg2 : Vec Ideal S8x128x1024 .bf16) _
  blk_ext [iblk, idx2 t h]
theorem tot2 (t : Fin cfg0.N) (h : t.val / 1 = 2) (r : Fin 128) (s : Fin 1024) : tot (iblk m c 2 t) r s = G m c (lay t.val) (row t.val r) s := by
  have e : lay t.val = 2 := Fin.ext (show t.val / 1 % 4 = 2 by omega)
  rw [e]
  exact Finset.sum_congr rfl fun d _ => in2 m c t h d r s
theorem in3 (t : Fin cfg0.N) (h : t.val / 1 = 3) (d : Fin 8) (r : Fin 128) (s : Fin 1024) :
    iblk m c 3 t (ix3 d r s) = part m c 3 (ix3 d (row t.val r) s) := by
  have := (idx t).2.2
  show _ = (V m c main_arg3 : Vec Ideal S8x128x1024 .bf16) _
  blk_ext [iblk, idx3 t h]
theorem tot3 (t : Fin cfg0.N) (h : t.val / 1 = 3) (r : Fin 128) (s : Fin 1024) : tot (iblk m c 3 t) r s = G m c (lay t.val) (row t.val r) s := by
  have e : lay t.val = 3 := Fin.ext (show t.val / 1 % 4 = 3 by omega)
  rw [e]
  exact Finset.sum_congr rfl fun d _ => in3 m c t h d r s
theorem in4 (t : Fin cfg0.N) (r : Fin 128) (s : Fin 1024) : iblk m c 4 t (ix3 0 r s) = aW m c (ix3 (lay t.val) (row t.val r) s) := by
  have := (idx t).2.2
  blk_ext [iblk, (idx t).1.1]
theorem in5 (t : Fin cfg0.N) (r : Fin 128) (s : Fin 1024) : iblk m c 5 t (ix3 0 r s) = aM m c (ix3 (lay t.val) (row t.val r) s) := by
  have := (idx t).2.2
  blk_ext [iblk, (idx t).1.2.1]
theorem in6 (t : Fin cfg0.N) (r : Fin 128) (s : Fin 1024) : iblk m c 6 t (ix3 0 r s) = aV m c (ix3 (lay t.val) (row t.val r) s) := by
  have := (idx t).2.2
  blk_ext [iblk, (idx t).1.2.2]

/-- The four results: the gradient, the step, and the two moments. -/
def outG : FVec Ideal S4x128x1024 .f32 := fun y => G m c ⟨(y 0).val, (y 0).isLt⟩ ⟨(y 1).val, (y 1).isLt⟩ ⟨(y 2).val, (y 2).isLt⟩
def outM : FVec Ideal S4x128x1024 .f32 := fun y => Adam.first (aM m c y) (outG m c y)
def outV : FVec Ideal S4x128x1024 .f32 := fun y => Adam.second (aV m c y) (outG m c y)
def outD : FVec Ideal S4x128x1024 .f32 := fun y => Adam.step (aW m c y) (outM m c y) (outV m c y)

theorem left (t : Fin cfg0.N) (r : Fin 128) (s : Fin 1024) :
    (outsAt0 m c t.val t.isLt).1 (ix3 0 r s) = outG m c (ix3 (lay t.val) (row t.val r) s)
    ∧ (outsAt0 m c t.val t.isLt).2.1 (ix3 0 r s) = outD m c (ix3 (lay t.val) (row t.val r) s)
    ∧ (outsAt0 m c t.val t.isLt).2.2.1 (ix3 0 r s) = outM m c (ix3 (lay t.val) (row t.val r) s)
    ∧ (outsAt0 m c t.val t.isLt).2.2.2 (ix3 0 r s) = outV m c (ix3 (lay t.val) (row t.val r) s) := by
  have hN := (idx t).2.2
  rcases (show t.val / 1 = 0 ∨ t.val / 1 = 1 ∨ t.val / 1 = 2 ∨ t.val / 1 = 3 by omega) with h | h | h | h
  · rw [outsAt0_A m c t (by omega) (by omega) (by omega) (by omega)]
    dsimp only
    rw [out7_A, out8_A, out9_A, out10_A, tot0 m c t h, in4, in5, in6]
    exact ⟨rfl, rfl, rfl, rfl⟩
  · rw [outsAt0_B m c t (by omega) (by omega) (by omega) (by omega)]
    dsimp only
    rw [out7_B, out8_B, out9_B, out10_B, tot1 m c t h, in4, in5, in6]
    exact ⟨rfl, rfl, rfl, rfl⟩
  · rw [outsAt0_C m c t (by omega) (by omega) (by omega) (by omega)]
    dsimp only
    rw [out7_C, out8_C, out9_C, out10_C, tot2 m c t h, in4, in5, in6]
    exact ⟨rfl, rfl, rfl, rfl⟩
  · rw [outsAt0_D m c t (by omega) (by omega) (by omega) (by omega)]
    dsimp only
    rw [out7_D, out8_D, out9_D, out10_D, tot3 m c t h, in4, in5, in6]
    exact ⟨rfl, rfl, rfl, rfl⟩

theorem place7 (t : Fin cfg0.N) (r : Fin 128) (s : Fin 1024) : (win0_7.blk t).view.emb (ix3 (0 : Fin 1) r s) = ix3 (lay t.val) (row t.val r) s := by
  have hN := (idx t).2.2
  blk_ext [(idx t).2.1.1]
theorem final7 : (dats m 0 c).arrAt 7 cfg0.N = outG m c := by
  refine (dats m 0 c).arrAt_eq_of_covers 7 _ (by decide +kernel) fun t hf y => ?_
  blk_simp
  rw [after0_7]
  obtain ⟨z, r, s, rfl⟩ := triple (n := 1) (k := 128) (l := 1024) y
  obtain rfl : z = 0 := Subsingleton.elim _ _
  exact ((left m c t r s).1).trans (congrArg (outG m c) (place7 t r s)).symm

theorem place8 (t : Fin cfg0.N) (r : Fin 128) (s : Fin 1024) : (win0_8.blk t).view.emb (ix3 (0 : Fin 1) r s) = ix3 (lay t.val) (row t.val r) s := by
  have hN := (idx t).2.2
  blk_ext [(idx t).2.1.2.1]
theorem final8 : (dats m 0 c).arrAt 8 cfg0.N = outD m c := by
  refine (dats m 0 c).arrAt_eq_of_covers 8 _ (by decide +kernel) fun t hf y => ?_
  blk_simp
  rw [after0_8]
  obtain ⟨z, r, s, rfl⟩ := triple (n := 1) (k := 128) (l := 1024) y
  obtain rfl : z = 0 := Subsingleton.elim _ _
  exact ((left m c t r s).2.1).trans (congrArg (outD m c) (place8 t r s)).symm

theorem place9 (t : Fin cfg0.N) (r : Fin 128) (s : Fin 1024) : (win0_9.blk t).view.emb (ix3 (0 : Fin 1) r s) = ix3 (lay t.val) (row t.val r) s := by
  have hN := (idx t).2.2
  blk_ext [(idx t).2.1.2.2.1]
theorem final9 : (dats m 0 c).arrAt 9 cfg0.N = outM m c := by
  refine (dats m 0 c).arrAt_eq_of_covers 9 _ (by decide +kernel) fun t hf y => ?_
  blk_simp
  rw [after0_9]
  obtain ⟨z, r, s, rfl⟩ := triple (n := 1) (k := 128) (l := 1024) y
  obtain rfl : z = 0 := Subsingleton.elim _ _
  exact ((left m c t r s).2.2.1).trans (congrArg (outM m c) (place9 t r s)).symm

theorem place10 (t : Fin cfg0.N) (r : Fin 128) (s : Fin 1024) : (win0_10.blk t).view.emb (ix3 (0 : Fin 1) r s) = ix3 (lay t.val) (row t.val r) s := by
  have hN := (idx t).2.2
  blk_ext [(idx t).2.1.2.2.2]
theorem final10 : (dats m 0 c).arrAt 10 cfg0.N = outV m c := by
  refine (dats m 0 c).arrAt_eq_of_covers 10 _ (by decide +kernel) fun t hf y => ?_
  blk_simp
  rw [after0_10]
  obtain ⟨z, r, s, rfl⟩ := triple (n := 1) (k := 128) (l := 1024) y
  obtain rfl : z = 0 := Subsingleton.elim _ _
  exact ((left m c t r s).2.2.2).trans (congrArg (outV m c) (place10 t r s)).symm

end Arrays

end Cert.Kernel10Ideal.Value

namespace Cert.Reference10Ideal.Adam

open Idealize.ShloMosaic Idealize.ShloMosaic.TcCoe Idealize.SL.Sem
open Cert.Reference10Ideal Cert.Reference10Ideal.Gen Cert.Proof

/-- The four layers' gradients, each the sum over the devices. -/
def grad (a0 a1 a2 a3 : FVec Ideal S8x128x1024 .bf16) : FVec Ideal S4x128x1024 .f32 :=
  concatenate S4x128x1024 0 [⟨S1x128x1024, ((broadcastInDim S1x128x1024 ![1, 2] bcast_S128x1024_S1x128x1024_1_2 (Host.reduceAdd (extf .f32 a0 bitsLt_bf16_f32) (constant S_ .f32 0x00000000#32) reducesTo_S8x128x1024_S128x1024_d0 h_S_)) : (⟨S1x128x1024, .f32⟩ : BufTy).Contents (Elt Ideal))⟩, ⟨S1x128x1024, ((broadcastInDim S1x128x1024 ![1, 2] bcast_S128x1024_S1x128x1024_1_2 (Host.reduceAdd (extf .f32 a1 bitsLt_bf16_f32) (constant S_ .f32 0x00000000#32) reducesTo_S8x128x1024_S128x1024_d0 h_S_)) : (⟨S1x128x1024, .f32⟩ : BufTy).Contents (Elt Ideal))⟩, ⟨S1x128x1024, ((broadcastInDim S1x128x1024 ![1, 2] bcast_S128x1024_S1x128x1024_1_2 (Host.reduceAdd (extf .f32 a2 bitsLt_bf16_f32) (constant S_ .f32 0x00000000#32) reducesTo_S8x128x1024_S128x1024_d0 h_S_)) : (⟨S1x128x1024, .f32⟩ : BufTy).Contents (Elt Ideal))⟩, ⟨S1x128x1024, ((broadcastInDim S1x128x1024 ![1, 2] bcast_S128x1024_S1x128x1024_1_2 (Host.reduceAdd (extf .f32 a3 bitsLt_bf16_f32) (constant S_ .f32 0x00000000#32) reducesTo_S8x128x1024_S128x1024_d0 h_S_)) : (⟨S1x128x1024, .f32⟩ : BufTy).Contents (Elt Ideal))⟩] concatenates_S1x128x1024_S1x128x1024_S1x128x1024_S1x128x1024_S4x128x1024_d0

theorem grad_at (a0 a1 a2 a3 : FVec Ideal S8x128x1024 .bf16) (l : Fin 4) (i : Fin 128) (j : Fin 1024) :
    grad a0 a1 a2 a3 (ix3 l i j) = ∑ d : Fin 8, (![a0, a1, a2, a3] : Fin 4 → FVec Ideal S8x128x1024 .bf16) l (ix3 d i j) := by
  unfold grad
  fin_cases l
  · show _ = ∑ d : Fin 8, a0 (ix3 d i j)
    pointwise
  · show _ = ∑ d : Fin 8, a1 (ix3 d i j)
    pointwise
  · show _ = ∑ d : Fin 8, a2 (ix3 d i j)
    pointwise
  · show _ = ∑ d : Fin 8, a3 (ix3 d i j)
    pointwise

/-- The two new moments and the step. -/
def first (m g : FVec Ideal S4x128x1024 .f32) : FVec Ideal S4x128x1024 .f32 :=
  addf (mulf (broadcastInDim S4x128x1024 ![] bcast_S_S4x128x1024 (constant S_ .f32 0x3F666666#32)) m) (mulf (broadcastInDim S4x128x1024 ![] bcast_S_S4x128x1024 (constant S_ .f32 0x3DCCCCCD#32)) g)
def second (v g : FVec Ideal S4x128x1024 .f32) : FVec Ideal S4x128x1024 .f32 :=
  addf (mulf (broadcastInDim S4x128x1024 ![] bcast_S_S4x128x1024 (constant S_ .f32 0x3F7FBE77#32)) v) (mulf (broadcastInDim S4x128x1024 ![] bcast_S_S4x128x1024 (constant S_ .f32 0x3A83126F#32)) (mulf g g))
def step (w m v : FVec Ideal S4x128x1024 .f32) : FVec Ideal S4x128x1024 .f32 :=
  mulf (broadcastInDim S4x128x1024 ![] bcast_S_S4x128x1024 (constant S_ .f32 0xBA83126F#32)) (addf (Host.divf (Host.divf m (broadcastInDim S4x128x1024 ![] bcast_S_S4x128x1024 (constant S_ .f32 0x3F26BD02#32)))
    (addf (Host.sqrt (Host.divf v (broadcastInDim S4x128x1024 ![] bcast_S_S4x128x1024 (constant S_ .f32 0x3C231ACC#32)))) (broadcastInDim S4x128x1024 ![] bcast_S_S4x128x1024 (constant S_ .f32 0x322BCC77#32))))
    (mulf (broadcastInDim S4x128x1024 ![] bcast_S_S4x128x1024 (constant S_ .f32 0x3C23D70A#32)) w))

theorem first_at (m g : FVec Ideal S4x128x1024 .f32) (l : Fin 4) (i : Fin 128) (j : Fin 1024) : first m g (ix3 l i j) = Cert.Proof.Adam.first (m (ix3 l i j)) (g (ix3 l i j)) := by
  unfold first Cert.Proof.Adam.first
  pointwise
theorem second_at (v g : FVec Ideal S4x128x1024 .f32) (l : Fin 4) (i : Fin 128) (j : Fin 1024) : second v g (ix3 l i j) = Cert.Proof.Adam.second (v (ix3 l i j)) (g (ix3 l i j)) := by
  unfold second Cert.Proof.Adam.second
  pointwise
theorem step_at (w m v : FVec Ideal S4x128x1024 .f32) (l : Fin 4) (i : Fin 128) (j : Fin 1024) :
    step w m v (ix3 l i j) = Cert.Proof.Adam.step (w (ix3 l i j)) (m (ix3 l i j)) (v (ix3 l i j)) := by
  unfold step Cert.Proof.Adam.step
  pointwise

variable (m : (ℓ : Loc nD τ sig) → Buf (Elt Ideal) ℓ)

/-- The gradient, the weight and the moments as @main has them. -/
abbrev aG (c : Dev nD) : FVec Ideal S4x128x1024 .f32 := grad (m ((c.tc : Thread nD τ).loc main_arg0)) (m ((c.tc : Thread nD τ).loc main_arg1)) (m ((c.tc : Thread nD τ).loc main_arg2)) (m ((c.tc : Thread nD τ).loc main_arg3))
abbrev aM (c : Dev nD) : FVec Ideal S4x128x1024 .f32 := first (m ((c.tc : Thread nD τ).loc main_arg5)) (aG m c)
abbrev aV (c : Dev nD) : FVec Ideal S4x128x1024 .f32 := second (m ((c.tc : Thread nD τ).loc main_arg6)) (aG m c)

theorem run (ρ : Dev nD → PrngReg) :
    θ_run defs (onTc (τ := τ) (main (F := Ideal))) ⟨m, fun _ => 0, ρ⟩ fun r => ∀ c : Dev nD,
      r.2.mem ((c.tc : Thread nD τ).loc main_v12) = aG m c
      ∧ r.2.mem ((c.tc : Thread nD τ).loc main_v36) = step (m ((c.tc : Thread nD τ).loc main_arg4)) (aM m c) (aV m c)
      ∧ r.2.mem ((c.tc : Thread nD τ).loc main_v17) = aM m c
      ∧ r.2.mem ((c.tc : Thread nD τ).loc main_v23) = aV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference10Ideal.Value.run m ρ

end Cert.Reference10Ideal.Adam

namespace Cert.Proof.AdamOut

open Idealize.ShloMosaic Idealize.ShloMosaic.TcCoe Idealize.SL.Sem
open Cert.Reference10Ideal.Adam (grad grad_at first first_at second second_at step step_at)

section Equal

variable (m : (ℓ : Loc Cert.Kernel10Ideal.nD Cert.Kernel10Ideal.τ Cert.Kernel10Ideal.sig) → Buf (Elt Ideal) ℓ) (c : Dev Cert.Kernel10Ideal.nD)
  (a0 a1 a2 a3 : FVec Ideal Cert.Reference10Ideal.S8x128x1024 .bf16) (w s v : FVec Ideal Cert.Reference10Ideal.S4x128x1024 .f32)
  (e0 : a0 = Cert.Kernel10Ideal.Gen.V m c Cert.Kernel10Ideal.main_arg0) (e1 : a1 = Cert.Kernel10Ideal.Gen.V m c Cert.Kernel10Ideal.main_arg1)
  (e2 : a2 = Cert.Kernel10Ideal.Gen.V m c Cert.Kernel10Ideal.main_arg2) (e3 : a3 = Cert.Kernel10Ideal.Gen.V m c Cert.Kernel10Ideal.main_arg3)
  (ew : w = Cert.Kernel10Ideal.Value.aW m c) (es : s = Cert.Kernel10Ideal.Value.aM m c) (ev : v = Cert.Kernel10Ideal.Value.aV m c)

include e0 e1 e2 e3 in
theorem g_eq : grad a0 a1 a2 a3 = Cert.Kernel10Ideal.Value.outG m c := by
  subst e0 e1 e2 e3
  funext y
  obtain ⟨l, i, j, rfl⟩ := triple (n := 4) (k := 128) (l := 1024) y
  exact grad_at _ _ _ _ l i j
include e0 e1 e2 e3 es in
theorem m_eq : first s (grad a0 a1 a2 a3) = Cert.Kernel10Ideal.Value.outM m c := by
  rw [g_eq m c a0 a1 a2 a3 e0 e1 e2 e3, es]
  funext y
  obtain ⟨l, i, j, rfl⟩ := triple (n := 4) (k := 128) (l := 1024) y
  exact first_at _ _ l i j
include e0 e1 e2 e3 ev in
theorem v_eq : second v (grad a0 a1 a2 a3) = Cert.Kernel10Ideal.Value.outV m c := by
  rw [g_eq m c a0 a1 a2 a3 e0 e1 e2 e3, ev]
  funext y
  obtain ⟨l, i, j, rfl⟩ := triple (n := 4) (k := 128) (l := 1024) y
  exact second_at _ _ l i j
include e0 e1 e2 e3 ew es ev in
theorem d_eq : step w (first s (grad a0 a1 a2 a3)) (second v (grad a0 a1 a2 a3)) = Cert.Kernel10Ideal.Value.outD m c := by
  rw [m_eq m c a0 a1 a2 a3 s e0 e1 e2 e3 es, v_eq m c a0 a1 a2 a3 v e0 e1 e2 e3 ev, ew]
  funext y
  obtain ⟨l, i, j, rfl⟩ := triple (n := 4) (k := 128) (l := 1024) y
  exact step_at _ _ _ l i j

end Equal

/-- At the ideal instance the kernel's step of AdamW is the reference's, from the eight devices' parts of the gradient. -/
theorem algebraic : Cert.algebraic_Kernel10Ideal_Reference10Ideal (hKernel10Ideal := Cert.Kernel10Ideal.Gen.facts) (hReference10Ideal := Cert.Reference10Ideal.Gen.facts) := by
  intro m g m' g' _ hag
  refine ⟨fun c => Cert.Kernel10Ideal.Value.outG m c, fun c => Cert.Kernel10Ideal.Value.outD m c, fun c => Cert.Kernel10Ideal.Value.outM m c, fun c => Cert.Kernel10Ideal.Value.outV m c,
    (θ_run Cert.Kernel10Ideal.defs _ _).mono (fun r h c => ⟨(h c).1.trans (Cert.Kernel10Ideal.Value.final7 m c), (h c).2.1.trans (Cert.Kernel10Ideal.Value.final8 m c),
      (h c).2.2.1.trans (Cert.Kernel10Ideal.Value.final9 m c), (h c).2.2.2.1.trans (Cert.Kernel10Ideal.Value.final10 m c), (h c).2.2.2.2⟩) (Cert.Kernel10Ideal.Value.run_blocks m g),
    (θ_run Cert.Reference10Ideal.defs _ _).mono (fun r h c => ?_) (Cert.Reference10Ideal.Adam.run m' g')⟩
  obtain ⟨e0, e1, e2, e3, e4, e5, e6⟩ := hag c
  exact ⟨(h c).1.trans (g_eq m c _ _ _ _ e0 e1 e2 e3), (h c).2.1.trans (d_eq m c _ _ _ _ _ _ _ e0 e1 e2 e3 e4 e5 e6),
    (h c).2.2.1.trans (m_eq m c _ _ _ _ _ e0 e1 e2 e3 e5), (h c).2.2.2.1.trans (v_eq m c _ _ _ _ _ e0 e1 e2 e3 e6), (h c).2.2.2.2⟩

end Cert.Proof.AdamOut
-- ==== Proof.AdamGate.lean ====
module

public import proofs.«01_k».proof.Defs
public import proofs.«01_k».proof.Proof.Tokens
public import proofs.«01_k».proof.Proof.Adam
public import proofs.«01_k».proof.Proof.Gen.Kernel11Ideal.Value
public import proofs.«01_k».proof.Proof.Gen.Reference11Ideal.Run
public import Idealize.ShloMosaic.Lib.Claim
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

/-! ## AdamW of the embedding's gate's weights: the eight devices' gradients summed, the two moments and the step -/

namespace Cert.Kernel11Ideal.Value

open Idealize.ShloMosaic Idealize.ShloMosaic.TcCoe Idealize.SL.Sem
open Cert.Kernel11Ideal Cert.Kernel11Ideal.Gen Cert.Proof

theorem hz : (![0, 0, 0] : Fin 3 → Nat) = fun _ => 0 := funext fun a => by fin_cases a <;> rfl

/-- The sum of the eight devices' parts at an entry. -/
def tot (x : Vec Ideal S8x128x1024 .bf16) (r : Fin 128) (s : Fin 1024) : EReal := ∑ d : Fin 8, x (ix3 d r s)

theorem slice (x : Vec Ideal S8x128x1024 .bf16) (j : Fin 8) (inb : ∀ a, (![j.val, 0, 0] : Fin 3 → ℕ) a + (![1, 128, 1024] : Fin 3 → ℕ) a ≤ S8x128x1024.size a) (r : Fin 128) (s : Fin 1024) :
    View.ld (S := S8x128x1024) x (Rect.unit ![j.val, 0, 0] ![1, 128, 1024] inb) (ix3 0 r s) = x (ix3 j r s) := by
  refine congrArg x ?_
  funext a
  match a with
  | ⟨0, _⟩ => exact Fin.ext (show j.val + 1 * 0 = j.val by omega)
  | ⟨1, _⟩ => exact Fin.ext (show 0 + 1 * r.val = r.val by omega)
  | ⟨2, _⟩ => exact Fin.ext (show 0 + 1 * s.val = s.val by omega)

/-! ### What the body's operations compute, entry by entry; once for each layer -/

theorem pay9 (x0 x1 x2 x3 x4 x5 x6 x7 : Vec Ideal S1x128x1024 .bf16) (r : Fin 128) (s : Fin 1024) : k0_pay9 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay9
  pointwise
theorem pay10 (w : Vec Ideal S1x128x1024 .f32) (r : Fin 128) (s : Fin 1024) : k0_pay10 w (ix2 r s) = w (ix3 0 r s) := by
  unfold k0_pay10
  pointwise
theorem pay11 (g : FVec Ideal S128x1024 .f32) (m : Vec Ideal S1x128x1024 .f32) (r : Fin 128) (s : Fin 1024) :
    k0_pay11 g m (ix2 r s) = Adam.first (m (ix3 0 r s)) (g (ix2 r s)) := by
  unfold k0_pay11 Adam.first
  pointwise
theorem pay12 (g : FVec Ideal S128x1024 .f32) (v : Vec Ideal S1x128x1024 .f32) (r : Fin 128) (s : Fin 1024) :
    k0_pay12 g v (ix2 r s) = Adam.second (v (ix3 0 r s)) (g (ix2 r s)) := by
  unfold k0_pay12 Adam.second
  pointwise
theorem pay13 (g : FVec Ideal S128x1024 .f32) (r : Fin 128) (s : Fin 1024) : k0_pay13 g (ix3 0 r s) = g (ix2 r s) := by
  unfold k0_pay13
  pointwise
theorem pay14 (g w : FVec Ideal S128x1024 .f32) (m v : Vec Ideal S1x128x1024 .f32) (r : Fin 128) (s : Fin 1024) :
    k0_pay14 g w m v (ix3 0 r s) = Adam.step (w (ix2 r s)) (k0_pay11 g m (ix2 r s)) (k0_pay12 g v (ix2 r s)) := by
  unfold k0_pay14 Adam.step
  pointwise
theorem pay1 (g : FVec Ideal S128x1024 .f32) (r : Fin 128) (s : Fin 1024) : k0_pay1 g (ix3 0 r s) = g (ix2 r s) := by
  unfold k0_pay1
  pointwise
theorem pay2 (g : FVec Ideal S128x1024 .f32) (r : Fin 128) (s : Fin 1024) : k0_pay2 g (ix3 0 r s) = g (ix2 r s) := by
  unfold k0_pay2
  pointwise

theorem pay15 (x0 x1 x2 x3 x4 x5 x6 x7 : Vec Ideal S1x128x1024 .bf16) (r : Fin 128) (s : Fin 1024) : k0_pay15 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay15
  pointwise
theorem pay16 (w : Vec Ideal S1x128x1024 .f32) (r : Fin 128) (s : Fin 1024) : k0_pay16 w (ix2 r s) = w (ix3 0 r s) := by
  unfold k0_pay16
  pointwise
theorem pay17 (g : FVec Ideal S128x1024 .f32) (m : Vec Ideal S1x128x1024 .f32) (r : Fin 128) (s : Fin 1024) :
    k0_pay17 g m (ix2 r s) = Adam.first (m (ix3 0 r s)) (g (ix2 r s)) := by
  unfold k0_pay17 Adam.first
  pointwise
theorem pay18 (g : FVec Ideal S128x1024 .f32) (v : Vec Ideal S1x128x1024 .f32) (r : Fin 128) (s : Fin 1024) :
    k0_pay18 g v (ix2 r s) = Adam.second (v (ix3 0 r s)) (g (ix2 r s)) := by
  unfold k0_pay18 Adam.second
  pointwise
theorem pay19 (g : FVec Ideal S128x1024 .f32) (r : Fin 128) (s : Fin 1024) : k0_pay19 g (ix3 0 r s) = g (ix2 r s) := by
  unfold k0_pay19
  pointwise
theorem pay20 (g w : FVec Ideal S128x1024 .f32) (m v : Vec Ideal S1x128x1024 .f32) (r : Fin 128) (s : Fin 1024) :
    k0_pay20 g w m v (ix3 0 r s) = Adam.step (w (ix2 r s)) (k0_pay17 g m (ix2 r s)) (k0_pay18 g v (ix2 r s)) := by
  unfold k0_pay20 Adam.step
  pointwise
theorem pay3 (g : FVec Ideal S128x1024 .f32) (r : Fin 128) (s : Fin 1024) : k0_pay3 g (ix3 0 r s) = g (ix2 r s) := by
  unfold k0_pay3
  pointwise
theorem pay4 (g : FVec Ideal S128x1024 .f32) (r : Fin 128) (s : Fin 1024) : k0_pay4 g (ix3 0 r s) = g (ix2 r s) := by
  unfold k0_pay4
  pointwise

theorem pay21 (x0 x1 x2 x3 x4 x5 x6 x7 : Vec Ideal S1x128x1024 .bf16) (r : Fin 128) (s : Fin 1024) : k0_pay21 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay21
  pointwise
theorem pay22 (w : Vec Ideal S1x128x1024 .f32) (r : Fin 128) (s : Fin 1024) : k0_pay22 w (ix2 r s) = w (ix3 0 r s) := by
  unfold k0_pay22
  pointwise
theorem pay23 (g : FVec Ideal S128x1024 .f32) (m : Vec Ideal S1x128x1024 .f32) (r : Fin 128) (s : Fin 1024) :
    k0_pay23 g m (ix2 r s) = Adam.first (m (ix3 0 r s)) (g (ix2 r s)) := by
  unfold k0_pay23 Adam.first
  pointwise
theorem pay24 (g : FVec Ideal S128x1024 .f32) (v : Vec Ideal S1x128x1024 .f32) (r : Fin 128) (s : Fin 1024) :
    k0_pay24 g v (ix2 r s) = Adam.second (v (ix3 0 r s)) (g (ix2 r s)) := by
  unfold k0_pay24 Adam.second
  pointwise
theorem pay25 (g : FVec Ideal S128x1024 .f32) (r : Fin 128) (s : Fin 1024) : k0_pay25 g (ix3 0 r s) = g (ix2 r s) := by
  unfold k0_pay25
  pointwise
theorem pay26 (g w : FVec Ideal S128x1024 .f32) (m v : Vec Ideal S1x128x1024 .f32) (r : Fin 128) (s : Fin 1024) :
    k0_pay26 g w m v (ix3 0 r s) = Adam.step (w (ix2 r s)) (k0_pay23 g m (ix2 r s)) (k0_pay24 g v (ix2 r s)) := by
  unfold k0_pay26 Adam.step
  pointwise
theorem pay5 (g : FVec Ideal S128x1024 .f32) (r : Fin 128) (s : Fin 1024) : k0_pay5 g (ix3 0 r s) = g (ix2 r s) := by
  unfold k0_pay5
  pointwise
theorem pay6 (g : FVec Ideal S128x1024 .f32) (r : Fin 128) (s : Fin 1024) : k0_pay6 g (ix3 0 r s) = g (ix2 r s) := by
  unfold k0_pay6
  pointwise

theorem pay27 (x0 x1 x2 x3 x4 x5 x6 x7 : Vec Ideal S1x128x1024 .bf16) (r : Fin 128) (s : Fin 1024) : k0_pay27 x0 x1 x2 x3 x4 x5 x6 x7 (ix2 r s)
    = x0 (ix3 0 r s) + x1 (ix3 0 r s) + x2 (ix3 0 r s) + x3 (ix3 0 r s) + x4 (ix3 0 r s) + x5 (ix3 0 r s) + x6 (ix3 0 r s) + x7 (ix3 0 r s) := by
  unfold k0_pay27
  pointwise
theorem pay28 (w : Vec Ideal S1x128x1024 .f32) (r : Fin 128) (s : Fin 1024) : k0_pay28 w (ix2 r s) = w (ix3 0 r s) := by
  unfold k0_pay28
  pointwise
theorem pay29 (g : FVec Ideal S128x1024 .f32) (m : Vec Ideal S1x128x1024 .f32) (r : Fin 128) (s : Fin 1024) :
    k0_pay29 g m (ix2 r s) = Adam.first (m (ix3 0 r s)) (g (ix2 r s)) := by
  unfold k0_pay29 Adam.first
  pointwise
theorem pay30 (g : FVec Ideal S128x1024 .f32) (v : Vec Ideal S1x128x1024 .f32) (r : Fin 128) (s : Fin 1024) :
    k0_pay30 g v (ix2 r s) = Adam.second (v (ix3 0 r s)) (g (ix2 r s)) := by
  unfold k0_pay30 Adam.second
  pointwise
theorem pay31 (g : FVec Ideal S128x1024 .f32) (r : Fin 128) (s : Fin 1024) : k0_pay31 g (ix3 0 r s) = g (ix2 r s) := by
  unfold k0_pay31
  pointwise
theorem pay32 (g w : FVec Ideal S128x1024 .f32) (m v : Vec Ideal S1x128x1024 .f32) (r : Fin 128) (s : Fin 1024) :
    k0_pay32 g w m v (ix3 0 r s) = Adam.step (w (ix2 r s)) (k0_pay29 g m (ix2 r s)) (k0_pay30 g v (ix2 r s)) := by
  unfold k0_pay32 Adam.step
  pointwise
theorem pay7 (g : FVec Ideal S128x1024 .f32) (r : Fin 128) (s : Fin 1024) : k0_pay7 g (ix3 0 r s) = g (ix2 r s) := by
  unfold k0_pay7
  pointwise
theorem pay8 (g : FVec Ideal S128x1024 .f32) (r : Fin 128) (s : Fin 1024) : k0_pay8 g (ix3 0 r s) = g (ix2 r s) := by
  unfold k0_pay8
  pointwise

/-- The running sum over the devices. -/
abbrev sumA (x : Vec Ideal S8x128x1024 .bf16) : FVec Ideal S128x1024 .f32 :=
  k0_pay9 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumA_at (x : Vec Ideal S8x128x1024 .bf16) (r : Fin 128) (s : Fin 1024) : sumA x (ix2 r s) = tot x r s := by
  refine (pay9 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumB (x : Vec Ideal S8x128x1024 .bf16) : FVec Ideal S128x1024 .f32 :=
  k0_pay15 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumB_at (x : Vec Ideal S8x128x1024 .bf16) (r : Fin 128) (s : Fin 1024) : sumB x (ix2 r s) = tot x r s := by
  refine (pay15 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumC (x : Vec Ideal S8x128x1024 .bf16) : FVec Ideal S128x1024 .f32 :=
  k0_pay21 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumC_at (x : Vec Ideal S8x128x1024 .bf16) (r : Fin 128) (s : Fin 1024) : sumC x (ix2 r s) = tot x r s := by
  refine (pay21 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)
abbrev sumD (x : Vec Ideal S8x128x1024 .bf16) : FVec Ideal S128x1024 .f32 :=
  k0_pay27 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
theorem sumD_at (x : Vec Ideal S8x128x1024 .bf16) (r : Fin 128) (s : Fin 1024) : sumD x (ix2 r s) = tot x r s := by
  refine (pay27 _ _ _ _ _ _ _ _ r s).trans (Eq.trans ?_ (Fin.sum_univ_eight fun d => x (ix3 d r s)).symm)
  exact congrArg₂ (· + ·) (congrArg₂ (· + ·) (congrArg₂ (· + ·) (congrArg₂ (· + ·) (congrArg₂ (· + ·) (congrArg₂ (· + ·) (congrArg₂ (· + ·) (slice x 0 inb_S8x128x1024_S1x128x1024_0_0_0 r s) (slice x 1 inb_S8x128x1024_S1x128x1024_1_0_0 r s)) (slice x 2 inb_S8x128x1024_S1x128x1024_2_0_0 r s)) (slice x 3 inb_S8x128x1024_S1x128x1024_3_0_0 r s)) (slice x 4 inb_S8x128x1024_S1x128x1024_4_0_0 r s)) (slice x 5 inb_S8x128x1024_S1x128x1024_5_0_0 r s)) (slice x 6 inb_S8x128x1024_S1x128x1024_6_0_0 r s)) (slice x 7 inb_S8x128x1024_S1x128x1024_7_0_0 r s)

section Cases

variable (c : Dev nD) (i : grid0.Coords)
  (a2 : Memref sig .tc .vmem S8x128x1024 .bf16) (h2 : a2.IsWhole) (a3 : Memref sig .tc .vmem S8x128x1024 .bf16) (h3 : a3.IsWhole)
  (a4 : Memref sig .tc .vmem S8x128x1024 .bf16) (h4 : a4.IsWhole) (a5 : Memref sig .tc .vmem S8x128x1024 .bf16) (h5 : a5.IsWhole)
  (a6 : Memref sig .tc .vmem S1x128x1024 .f32) (h6 : a6.IsWhole) (a7 : Memref sig .tc .vmem S1x128x1024 .f32) (h7 : a7.IsWhole)
  (a8 : Memref sig .tc .vmem S1x128x1024 .f32) (h8 : a8.IsWhole) (a9 : Memref sig .tc .vmem S1x128x1024 .f32) (h9 : a9.IsWhole)
  (a10 : Memref sig .tc .vmem S1x128x1024 .f32) (h10 : a10.IsWhole) (a11 : Memref sig .tc .vmem S1x128x1024 .f32) (h11 : a11.IsWhole)
  (a12 : Memref sig .tc .vmem S1x128x1024 .f32) (h12 : a12.IsWhole)
  (x0 x1 x2 x3 : Vec Ideal S8x128x1024 .bf16) (x4 x5 x6 : Vec Ideal S1x128x1024 .f32) (r : Fin 128) (s : Fin 1024)

theorem out7_A (c0 : cond0_0 i) (c1 : ¬cond0_1 i) (c2 : ¬cond0_2 i) (c3 : ¬cond0_3 i) :
    out0_A_7 c i a2 h2 a3 h3 a4 h4 a5 h5 a6 h6 a7 h7 a8 h8 a9 h9 a10 h10 a11 h11 a12 h12 c0 c1 c2 c3 x0 x1 x2 x3 x4 x5 x6 (ix3 0 r s) = tot x0 r s := by
  unfold out0_A_7
  rw [View.read_writes_eq_canon _ _ _ (cover0_A_7 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay13 _ r s).trans (sumA_at x0 r s)
theorem out8_A (c0 : cond0_0 i) (c1 : ¬cond0_1 i) (c2 : ¬cond0_2 i) (c3 : ¬cond0_3 i) :
    out0_A_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x0 r s)) (Adam.second (x6 (ix3 0 r s)) (tot x0 r s)) := by
  unfold out0_A_8
  rw [View.read_writes_eq_canon _ _ _ (cover0_A_8 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay14 (sumA x0) _ x5 x6 r s).trans ?_
  rw [pay10, pay11, pay12, sumA_at]
theorem out9_A (c0 : cond0_0 i) (c1 : ¬cond0_1 i) (c2 : ¬cond0_2 i) (c3 : ¬cond0_3 i) :
    out0_A_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x0 r s) := by
  unfold out0_A_9
  rw [View.read_writes_eq_canon _ _ _ (cover0_A_9 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay1 (k0_pay11 (sumA x0) x5) r s).trans ?_
  rw [pay11, sumA_at]
theorem out10_A (c0 : cond0_0 i) (c1 : ¬cond0_1 i) (c2 : ¬cond0_2 i) (c3 : ¬cond0_3 i) :
    out0_A_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x0 r s) := by
  unfold out0_A_10
  rw [View.read_writes_eq_canon _ _ _ (cover0_A_10 c i a2 h2 a3 h3 a4 h4 a5 h5 a6 h6 a7 h7 a8 h8 a9 h9 a10 h10 a11 h11 a12 h12 c0 c1 c2 c3 x0 x1 x2 x3 x4 x5 x6)]
  unfold kernelRun0_A
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay2 (k0_pay12 (sumA x0) x6) r s).trans ?_
  rw [pay12, sumA_at]

theorem out7_B (c0 : ¬cond0_0 i) (c1 : cond0_1 i) (c2 : ¬cond0_2 i) (c3 : ¬cond0_3 i) :
    out0_B_7 c i a2 h2 a3 h3 a4 h4 a5 h5 a6 h6 a7 h7 a8 h8 a9 h9 a10 h10 a11 h11 a12 h12 c0 c1 c2 c3 x0 x1 x2 x3 x4 x5 x6 (ix3 0 r s) = tot x1 r s := by
  unfold out0_B_7
  rw [View.read_writes_eq_canon _ _ _ (cover0_B_7 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay19 _ r s).trans (sumB_at x1 r s)
theorem out8_B (c0 : ¬cond0_0 i) (c1 : cond0_1 i) (c2 : ¬cond0_2 i) (c3 : ¬cond0_3 i) :
    out0_B_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x1 r s)) (Adam.second (x6 (ix3 0 r s)) (tot x1 r s)) := by
  unfold out0_B_8
  rw [View.read_writes_eq_canon _ _ _ (cover0_B_8 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay20 (sumB x1) _ x5 x6 r s).trans ?_
  rw [pay16, pay17, pay18, sumB_at]
theorem out9_B (c0 : ¬cond0_0 i) (c1 : cond0_1 i) (c2 : ¬cond0_2 i) (c3 : ¬cond0_3 i) :
    out0_B_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x1 r s) := by
  unfold out0_B_9
  rw [View.read_writes_eq_canon _ _ _ (cover0_B_9 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay3 (k0_pay17 (sumB x1) x5) r s).trans ?_
  rw [pay17, sumB_at]
theorem out10_B (c0 : ¬cond0_0 i) (c1 : cond0_1 i) (c2 : ¬cond0_2 i) (c3 : ¬cond0_3 i) :
    out0_B_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x1 r s) := by
  unfold out0_B_10
  rw [View.read_writes_eq_canon _ _ _ (cover0_B_10 c i a2 h2 a3 h3 a4 h4 a5 h5 a6 h6 a7 h7 a8 h8 a9 h9 a10 h10 a11 h11 a12 h12 c0 c1 c2 c3 x0 x1 x2 x3 x4 x5 x6)]
  unfold kernelRun0_B
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay4 (k0_pay18 (sumB x1) x6) r s).trans ?_
  rw [pay18, sumB_at]

theorem out7_C (c0 : ¬cond0_0 i) (c1 : ¬cond0_1 i) (c2 : cond0_2 i) (c3 : ¬cond0_3 i) :
    out0_C_7 c i a2 h2 a3 h3 a4 h4 a5 h5 a6 h6 a7 h7 a8 h8 a9 h9 a10 h10 a11 h11 a12 h12 c0 c1 c2 c3 x0 x1 x2 x3 x4 x5 x6 (ix3 0 r s) = tot x2 r s := by
  unfold out0_C_7
  rw [View.read_writes_eq_canon _ _ _ (cover0_C_7 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay25 _ r s).trans (sumC_at x2 r s)
theorem out8_C (c0 : ¬cond0_0 i) (c1 : ¬cond0_1 i) (c2 : cond0_2 i) (c3 : ¬cond0_3 i) :
    out0_C_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x2 r s)) (Adam.second (x6 (ix3 0 r s)) (tot x2 r s)) := by
  unfold out0_C_8
  rw [View.read_writes_eq_canon _ _ _ (cover0_C_8 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay26 (sumC x2) _ x5 x6 r s).trans ?_
  rw [pay22, pay23, pay24, sumC_at]
theorem out9_C (c0 : ¬cond0_0 i) (c1 : ¬cond0_1 i) (c2 : cond0_2 i) (c3 : ¬cond0_3 i) :
    out0_C_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x2 r s) := by
  unfold out0_C_9
  rw [View.read_writes_eq_canon _ _ _ (cover0_C_9 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay5 (k0_pay23 (sumC x2) x5) r s).trans ?_
  rw [pay23, sumC_at]
theorem out10_C (c0 : ¬cond0_0 i) (c1 : ¬cond0_1 i) (c2 : cond0_2 i) (c3 : ¬cond0_3 i) :
    out0_C_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x2 r s) := by
  unfold out0_C_10
  rw [View.read_writes_eq_canon _ _ _ (cover0_C_10 c i a2 h2 a3 h3 a4 h4 a5 h5 a6 h6 a7 h7 a8 h8 a9 h9 a10 h10 a11 h11 a12 h12 c0 c1 c2 c3 x0 x1 x2 x3 x4 x5 x6)]
  unfold kernelRun0_C
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay6 (k0_pay24 (sumC x2) x6) r s).trans ?_
  rw [pay24, sumC_at]

theorem out7_D (c0 : ¬cond0_0 i) (c1 : ¬cond0_1 i) (c2 : ¬cond0_2 i) (c3 : cond0_3 i) :
    out0_D_7 c i a2 h2 a3 h3 a4 h4 a5 h5 a6 h6 a7 h7 a8 h8 a9 h9 a10 h10 a11 h11 a12 h12 c0 c1 c2 c3 x0 x1 x2 x3 x4 x5 x6 (ix3 0 r s) = tot x3 r s := by
  unfold out0_D_7
  rw [View.read_writes_eq_canon _ _ _ (cover0_D_7 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  exact (pay31 _ r s).trans (sumD_at x3 r s)
theorem out8_D (c0 : ¬cond0_0 i) (c1 : ¬cond0_1 i) (c2 : ¬cond0_2 i) (c3 : cond0_3 i) :
    out0_D_8 c i a2 h2 a3 h3 a4 h4 a5 h5 a6 h6 a7 h7 a8 h8 a9 h9 a10 h10 a11 h11 a12 h12 c0 c1 c2 c3 x0 x1 x2 x3 x4 x5 x6 (ix3 0 r s) = Adam.step (x4 (ix3 0 r s)) (Adam.first (x5 (ix3 0 r s)) (tot x3 r s)) (Adam.second (x6 (ix3 0 r s)) (tot x3 r s)) := by
  unfold out0_D_8
  rw [View.read_writes_eq_canon _ _ _ (cover0_D_8 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay32 (sumD x3) _ x5 x6 r s).trans ?_
  rw [pay28, pay29, pay30, sumD_at]
theorem out9_D (c0 : ¬cond0_0 i) (c1 : ¬cond0_1 i) (c2 : ¬cond0_2 i) (c3 : cond0_3 i) :
    out0_D_9 c i a2 h2 a3 h3 a4 h4 a5 h5 a6 h6 a7 h7 a8 h8 a9 h9 a10 h10 a11 h11 a12 h12 c0 c1 c2 c3 x0 x1 x2 x3 x4 x5 x6 (ix3 0 r s) = Adam.first (x5 (ix3 0 r s)) (tot x3 r s) := by
  unfold out0_D_9
  rw [View.read_writes_eq_canon _ _ _ (cover0_D_9 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay7 (k0_pay29 (sumD x3) x5) r s).trans ?_
  rw [pay29, sumD_at]
theorem out10_D (c0 : ¬cond0_0 i) (c1 : ¬cond0_1 i) (c2 : ¬cond0_2 i) (c3 : cond0_3 i) :
    out0_D_10 c i a2 h2 a3 h3 a4 h4 a5 h5 a6 h6 a7 h7 a8 h8 a9 h9 a10 h10 a11 h11 a12 h12 c0 c1 c2 c3 x0 x1 x2 x3 x4 x5 x6 (ix3 0 r s) = Adam.second (x6 (ix3 0 r s)) (tot x3 r s) := by
  unfold out0_D_10
  rw [View.read_writes_eq_canon _ _ _ (cover0_D_10 c i a2 h2 a3 h3 a4 h4 a5 h5 a6 h6 a7 h7 a8 h8 a9 h9 a10 h10 a11 h11 a12 h12 c0 c1 c2 c3 x0 x1 x2 x3 x4 x5 x6)]
  unfold kernelRun0_D
  dsimp only
  sl_unfold_words
  rw [View.canon_cons_unit_zero (S := S1x128x1024) hz]
  simp only [View.readAt_eq_ld, h2.read_unread, h3.read_unread, h4.read_unread, h5.read_unread, h6.read_unread, h7.read_unread, h8.read_unread, View.ld_unit_zero (S := S1x128x1024) hz]
  refine (pay8 (k0_pay30 (sumD x3) x6) r s).trans ?_
  rw [pay30, sumD_at]

end Cases

/-! ### The arrays -/

section Arrays

variable (m : (ℓ : Loc nD τ sig) → Buf (Elt Ideal) ℓ) (c : Dev nD)

/-- The devices' parts of the gradient by layer, the weight, the moments. -/
abbrev part : Fin 4 → Vec Ideal S8x128x1024 .bf16 := ![V m c main_arg0, V m c main_arg1, V m c main_arg2, V m c main_arg3]
abbrev aW : Vec Ideal S4x128x1024 .f32 := V m c main_arg4
abbrev aM : Vec Ideal S4x128x1024 .f32 := V m c main_arg5
abbrev aV : Vec Ideal S4x128x1024 .f32 := V m c main_arg6

theorem idx0 : ∀ t : Fin cfg0.N, t.val / 1 = 0 → win0_0.index t = ![0, t.val % 1, 0] :=
  (by decide +kernel : ∀ t : Fin grid0.N, t.val / 1 = 0 → win0_0.index t = ![0, t.val % 1, 0])
theorem idx1 : ∀ t : Fin cfg0.N, t.val / 1 = 1 → win0_1.index t = ![0, t.val % 1, 0] :=
  (by decide +kernel : ∀ t : Fin grid0.N, t.val / 1 = 1 → win0_1.index t = ![0, t.val % 1, 0])
theorem idx2 : ∀ t : Fin cfg0.N, t.val / 1 = 2 → win0_2.index t = ![0, t.val % 1, 0] :=
  (by decide +kernel : ∀ t : Fin grid0.N, t.val / 1 = 2 → win0_2.index t = ![0, t.val % 1, 0])
theorem idx3 : ∀ t : Fin cfg0.N, t.val / 1 = 3 → win0_3.index t = ![0, t.val % 1, 0] :=
  (by decide +kernel : ∀ t : Fin grid0.N, t.val / 1 = 3 → win0_3.index t = ![0, t.val % 1, 0])
theorem idx : ∀ t : Fin cfg0.N, (win0_4.index t = ![t.val / 1, t.val % 1, 0] ∧ win0_5.index t = ![t.val / 1, t.val % 1, 0] ∧ win0_6.index t = ![t.val / 1, t.val % 1, 0]) ∧ (win0_7.index t = ![t.val / 1, t.val % 1, 0] ∧ win0_8.index t = ![t.val / 1, t.val % 1, 0] ∧ win0_9.index t = ![t.val / 1, t.val % 1, 0] ∧ win0_10.index t = ![t.val / 1, t.val % 1, 0]) ∧ t.val < 4 :=
  (by decide +kernel : ∀ t : Fin grid0.N, (win0_4.index t = ![t.val / 1, t.val % 1, 0] ∧ win0_5.index t = ![t.val / 1, t.val % 1, 0] ∧ win0_6.index t = ![t.val / 1, t.val % 1, 0]) ∧ (win0_7.index t = ![t.val / 1, t.val % 1, 0] ∧ win0_8.index t = ![t.val / 1, t.val % 1, 0] ∧ win0_9.index t = ![t.val / 1, t.val % 1, 0] ∧ win0_10.index t = ![t.val / 1, t.val % 1, 0]) ∧ t.val < 4)

/-- Row `r` of the block of rows that point `n` works on, and the point's layer. -/
abbrev row (n : ℕ) (r : Fin 128) : Fin 128 := ⟨(128 * (n % 1) + r.val) % 128, Nat.mod_lt _ (by omega)⟩
abbrev lay (n : ℕ) : Fin 4 := ⟨n / 1 % 4, Nat.mod_lt _ (by omega)⟩

/-- The gradient: the sum of the devices' parts. -/
def G (l : Fin 4) (i : Fin 128) (j : Fin 1024) : EReal := ∑ d : Fin 8, part m c l (ix3 d i j)

theorem in0 (t : Fin cfg0.N) (h : t.val / 1 = 0) (d : Fin 8) (r : Fin 128) (s : Fin 1024) :
    iblk m c 0 t (ix3 d r s) = part m c 0 (ix3 d (row t.val r) s) := by
  have := (idx t).2.2
  show _ = (V m c main_arg0 : Vec Ideal S8x128x1024 .bf16) _
  blk_ext [iblk, idx0 t h]
theorem tot0 (t : Fin cfg0.N) (h : t.val / 1 = 0) (r : Fin 128) (s : Fin 1024) : tot (iblk m c 0 t) r s = G m c (lay t.val) (row t.val r) s := by
  have e : lay t.val = 0 := Fin.ext (show t.val / 1 % 4 = 0 by omega)
  rw [e]
  exact Finset.sum_congr rfl fun d _ => in0 m c t h d r s
theorem in1 (t : Fin cfg0.N) (h : t.val / 1 = 1) (d : Fin 8) (r : Fin 128) (s : Fin 1024) :
    iblk m c 1 t (ix3 d r s) = part m c 1 (ix3 d (row t.val r) s) := by
  have := (idx t).2.2
  show _ = (V m c main_arg1 : Vec Ideal S8x128x1024 .bf16) _
  blk_ext [iblk, idx1 t h]
theorem tot1 (t : Fin cfg0.N) (h : t.val / 1 = 1) (r : Fin 128) (s : Fin 1024) : tot (iblk m c 1 t) r s = G m c (lay t.val) (row t.val r) s := by
  have e : lay t.val = 1 := Fin.ext (show t.val / 1 % 4 = 1 by omega)
  rw [e]
  exact Finset.sum_congr rfl fun d _ => in1 m c t h d r s
theorem in2 (t : Fin cfg0.N) (h : t.val / 1 = 2) (d : Fin 8) (r : Fin 128) (s : Fin 1024) :
    iblk m c 2 t (ix3 d r s) = part m c 2 (ix3 d (row t.val r) s) := by
  have := (idx t).2.2
  show _ = (V m c main_arg2 : Vec Ideal S8x128x1024 .bf16) _
  blk_ext [iblk, idx2 t h]
theorem tot2 (t : Fin cfg0.N) (h : t.val / 1 = 2) (r : Fin 128) (s : Fin 1024) : tot (iblk m c 2 t) r s = G m c (lay t.val) (row t.val r) s := by
  have e : lay t.val = 2 := Fin.ext (show t.val / 1 % 4 = 2 by omega)
  rw [e]
  exact Finset.sum_congr rfl fun d _ => in2 m c t h d r s
theorem in3 (t : Fin cfg0.N) (h : t.val / 1 = 3) (d : Fin 8) (r : Fin 128) (s : Fin 1024) :
    iblk m c 3 t (ix3 d r s) = part m c 3 (ix3 d (row t.val r) s) := by
  have := (idx t).2.2
  show _ = (V m c main_arg3 : Vec Ideal S8x128x1024 .bf16) _
  blk_ext [iblk, idx3 t h]
theorem tot3 (t : Fin cfg0.N) (h : t.val / 1 = 3) (r : Fin 128) (s : Fin 1024) : tot (iblk m c 3 t) r s = G m c (lay t.val) (row t.val r) s := by
  have e : lay t.val = 3 := Fin.ext (show t.val / 1 % 4 = 3 by omega)
  rw [e]
  exact Finset.sum_congr rfl fun d _ => in3 m c t h d r s
theorem in4 (t : Fin cfg0.N) (r : Fin 128) (s : Fin 1024) : iblk m c 4 t (ix3 0 r s) = aW m c (ix3 (lay t.val) (row t.val r) s) := by
  have := (idx t).2.2
  blk_ext [iblk, (idx t).1.1]
theorem in5 (t : Fin cfg0.N) (r : Fin 128) (s : Fin 1024) : iblk m c 5 t (ix3 0 r s) = aM m c (ix3 (lay t.val) (row t.val r) s) := by
  have := (idx t).2.2
  blk_ext [iblk, (idx t).1.2.1]
theorem in6 (t : Fin cfg0.N) (r : Fin 128) (s : Fin 1024) : iblk m c 6 t (ix3 0 r s) = aV m c (ix3 (lay t.val) (row t.val r) s) := by
  have := (idx t).2.2
  blk_ext [iblk, (idx t).1.2.2]

/-- The four results: the gradient, the step, and the two moments. -/
def outG : FVec Ideal S4x128x1024 .f32 := fun y => G m c ⟨(y 0).val, (y 0).isLt⟩ ⟨(y 1).val, (y 1).isLt⟩ ⟨(y 2).val, (y 2).isLt⟩
def outM : FVec Ideal S4x128x1024 .f32 := fun y => Adam.first (aM m c y) (outG m c y)
def outV : FVec Ideal S4x128x1024 .f32 := fun y => Adam.second (aV m c y) (outG m c y)
def outD : FVec Ideal S4x128x1024 .f32 := fun y => Adam.step (aW m c y) (outM m c y) (outV m c y)

theorem left (t : Fin cfg0.N) (r : Fin 128) (s : Fin 1024) :
    (outsAt0 m c t.val t.isLt).1 (ix3 0 r s) = outG m c (ix3 (lay t.val) (row t.val r) s)
    ∧ (outsAt0 m c t.val t.isLt).2.1 (ix3 0 r s) = outD m c (ix3 (lay t.val) (row t.val r) s)
    ∧ (outsAt0 m c t.val t.isLt).2.2.1 (ix3 0 r s) = outM m c (ix3 (lay t.val) (row t.val r) s)
    ∧ (outsAt0 m c t.val t.isLt).2.2.2 (ix3 0 r s) = outV m c (ix3 (lay t.val) (row t.val r) s) := by
  have hN := (idx t).2.2
  rcases (show t.val / 1 = 0 ∨ t.val / 1 = 1 ∨ t.val / 1 = 2 ∨ t.val / 1 = 3 by omega) with h | h | h | h
  · rw [outsAt0_A m c t (by omega) (by omega) (by omega) (by omega)]
    dsimp only
    rw [out7_A, out8_A, out9_A, out10_A, tot0 m c t h, in4, in5, in6]
    exact ⟨rfl, rfl, rfl, rfl⟩
  · rw [outsAt0_B m c t (by omega) (by omega) (by omega) (by omega)]
    dsimp only
    rw [out7_B, out8_B, out9_B, out10_B, tot1 m c t h, in4, in5, in6]
    exact ⟨rfl, rfl, rfl, rfl⟩
  · rw [outsAt0_C m c t (by omega) (by omega) (by omega) (by omega)]
    dsimp only
    rw [out7_C, out8_C, out9_C, out10_C, tot2 m c t h, in4, in5, in6]
    exact ⟨rfl, rfl, rfl, rfl⟩
  · rw [outsAt0_D m c t (by omega) (by omega) (by omega) (by omega)]
    dsimp only
    rw [out7_D, out8_D, out9_D, out10_D, tot3 m c t h, in4, in5, in6]
    exact ⟨rfl, rfl, rfl, rfl⟩

theorem place7 (t : Fin cfg0.N) (r : Fin 128) (s : Fin 1024) : (win0_7.blk t).view.emb (ix3 (0 : Fin 1) r s) = ix3 (lay t.val) (row t.val r) s := by
  have hN := (idx t).2.2
  blk_ext [(idx t).2.1.1]
theorem final7 : (dats m 0 c).arrAt 7 cfg0.N = outG m c := by
  refine (dats m 0 c).arrAt_eq_of_covers 7 _ (by decide +kernel) fun t hf y => ?_
  blk_simp
  rw [after0_7]
  obtain ⟨z, r, s, rfl⟩ := triple (n := 1) (k := 128) (l := 1024) y
  obtain rfl : z = 0 := Subsingleton.elim _ _
  exact ((left m c t r s).1).trans (congrArg (outG m c) (place7 t r s)).symm

theorem place8 (t : Fin cfg0.N) (r : Fin 128) (s : Fin 1024) : (win0_8.blk t).view.emb (ix3 (0 : Fin 1) r s) = ix3 (lay t.val) (row t.val r) s := by
  have hN := (idx t).2.2
  blk_ext [(idx t).2.1.2.1]
theorem final8 : (dats m 0 c).arrAt 8 cfg0.N = outD m c := by
  refine (dats m 0 c).arrAt_eq_of_covers 8 _ (by decide +kernel) fun t hf y => ?_
  blk_simp
  rw [after0_8]
  obtain ⟨z, r, s, rfl⟩ := triple (n := 1) (k := 128) (l := 1024) y
  obtain rfl : z = 0 := Subsingleton.elim _ _
  exact ((left m c t r s).2.1).trans (congrArg (outD m c) (place8 t r s)).symm

theorem place9 (t : Fin cfg0.N) (r : Fin 128) (s : Fin 1024) : (win0_9.blk t).view.emb (ix3 (0 : Fin 1) r s) = ix3 (lay t.val) (row t.val r) s := by
  have hN := (idx t).2.2
  blk_ext [(idx t).2.1.2.2.1]
theorem final9 : (dats m 0 c).arrAt 9 cfg0.N = outM m c := by
  refine (dats m 0 c).arrAt_eq_of_covers 9 _ (by decide +kernel) fun t hf y => ?_
  blk_simp
  rw [after0_9]
  obtain ⟨z, r, s, rfl⟩ := triple (n := 1) (k := 128) (l := 1024) y
  obtain rfl : z = 0 := Subsingleton.elim _ _
  exact ((left m c t r s).2.2.1).trans (congrArg (outM m c) (place9 t r s)).symm

theorem place10 (t : Fin cfg0.N) (r : Fin 128) (s : Fin 1024) : (win0_10.blk t).view.emb (ix3 (0 : Fin 1) r s) = ix3 (lay t.val) (row t.val r) s := by
  have hN := (idx t).2.2
  blk_ext [(idx t).2.1.2.2.2]
theorem final10 : (dats m 0 c).arrAt 10 cfg0.N = outV m c := by
  refine (dats m 0 c).arrAt_eq_of_covers 10 _ (by decide +kernel) fun t hf y => ?_
  blk_simp
  rw [after0_10]
  obtain ⟨z, r, s, rfl⟩ := triple (n := 1) (k := 128) (l := 1024) y
  obtain rfl : z = 0 := Subsingleton.elim _ _
  exact ((left m c t r s).2.2.2).trans (congrArg (outV m c) (place10 t r s)).symm

end Arrays

end Cert.Kernel11Ideal.Value

namespace Cert.Reference11Ideal.Adam

open Idealize.ShloMosaic Idealize.ShloMosaic.TcCoe Idealize.SL.Sem
open Cert.Reference11Ideal Cert.Reference11Ideal.Gen Cert.Proof

/-- The four layers' gradients, each the sum over the devices. -/
def grad (a0 a1 a2 a3 : FVec Ideal S8x128x1024 .bf16) : FVec Ideal S4x128x1024 .f32 :=
  concatenate S4x128x1024 0 [⟨S1x128x1024, ((broadcastInDim S1x128x1024 ![1, 2] bcast_S128x1024_S1x128x1024_1_2 (Host.reduceAdd (extf .f32 a0 bitsLt_bf16_f32) (constant S_ .f32 0x00000000#32) reducesTo_S8x128x1024_S128x1024_d0 h_S_)) : (⟨S1x128x1024, .f32⟩ : BufTy).Contents (Elt Ideal))⟩, ⟨S1x128x1024, ((broadcastInDim S1x128x1024 ![1, 2] bcast_S128x1024_S1x128x1024_1_2 (Host.reduceAdd (extf .f32 a1 bitsLt_bf16_f32) (constant S_ .f32 0x00000000#32) reducesTo_S8x128x1024_S128x1024_d0 h_S_)) : (⟨S1x128x1024, .f32⟩ : BufTy).Contents (Elt Ideal))⟩, ⟨S1x128x1024, ((broadcastInDim S1x128x1024 ![1, 2] bcast_S128x1024_S1x128x1024_1_2 (Host.reduceAdd (extf .f32 a2 bitsLt_bf16_f32) (constant S_ .f32 0x00000000#32) reducesTo_S8x128x1024_S128x1024_d0 h_S_)) : (⟨S1x128x1024, .f32⟩ : BufTy).Contents (Elt Ideal))⟩, ⟨S1x128x1024, ((broadcastInDim S1x128x1024 ![1, 2] bcast_S128x1024_S1x128x1024_1_2 (Host.reduceAdd (extf .f32 a3 bitsLt_bf16_f32) (constant S_ .f32 0x00000000#32) reducesTo_S8x128x1024_S128x1024_d0 h_S_)) : (⟨S1x128x1024, .f32⟩ : BufTy).Contents (Elt Ideal))⟩] concatenates_S1x128x1024_S1x128x1024_S1x128x1024_S1x128x1024_S4x128x1024_d0

theorem grad_at (a0 a1 a2 a3 : FVec Ideal S8x128x1024 .bf16) (l : Fin 4) (i : Fin 128) (j : Fin 1024) :
    grad a0 a1 a2 a3 (ix3 l i j) = ∑ d : Fin 8, (![a0, a1, a2, a3] : Fin 4 → FVec Ideal S8x128x1024 .bf16) l (ix3 d i j) := by
  unfold grad
  fin_cases l
  · show _ = ∑ d : Fin 8, a0 (ix3 d i j)
    pointwise
  · show _ = ∑ d : Fin 8, a1 (ix3 d i j)
    pointwise
  · show _ = ∑ d : Fin 8, a2 (ix3 d i j)
    pointwise
  · show _ = ∑ d : Fin 8, a3 (ix3 d i j)
    pointwise

/-- The two new moments and the step. -/
def first (m g : FVec Ideal S4x128x1024 .f32) : FVec Ideal S4x128x1024 .f32 :=
  addf (mulf (broadcastInDim S4x128x1024 ![] bcast_S_S4x128x1024 (constant S_ .f32 0x3F666666#32)) m) (mulf (broadcastInDim S4x128x1024 ![] bcast_S_S4x128x1024 (constant S_ .f32 0x3DCCCCCD#32)) g)
def second (v g : FVec Ideal S4x128x1024 .f32) : FVec Ideal S4x128x1024 .f32 :=
  addf (mulf (broadcastInDim S4x128x1024 ![] bcast_S_S4x128x1024 (constant S_ .f32 0x3F7FBE77#32)) v) (mulf (broadcastInDim S4x128x1024 ![] bcast_S_S4x128x1024 (constant S_ .f32 0x3A83126F#32)) (mulf g g))
def step (w m v : FVec Ideal S4x128x1024 .f32) : FVec Ideal S4x128x1024 .f32 :=
  mulf (broadcastInDim S4x128x1024 ![] bcast_S_S4x128x1024 (constant S_ .f32 0xBA83126F#32)) (addf (Host.divf (Host.divf m (broadcastInDim S4x128x1024 ![] bcast_S_S4x128x1024 (constant S_ .f32 0x3F26BD02#32)))
    (addf (Host.sqrt (Host.divf v (broadcastInDim S4x128x1024 ![] bcast_S_S4x128x1024 (constant S_ .f32 0x3C231ACC#32)))) (broadcastInDim S4x128x1024 ![] bcast_S_S4x128x1024 (constant S_ .f32 0x322BCC77#32))))
    (mulf (broadcastInDim S4x128x1024 ![] bcast_S_S4x128x1024 (constant S_ .f32 0x3C23D70A#32)) w))

theorem first_at (m g : FVec Ideal S4x128x1024 .f32) (l : Fin 4) (i : Fin 128) (j : Fin 1024) : first m g (ix3 l i j) = Cert.Proof.Adam.first (m (ix3 l i j)) (g (ix3 l i j)) := by
  unfold first Cert.Proof.Adam.first
  pointwise
theorem second_at (v g : FVec Ideal S4x128x1024 .f32) (l : Fin 4) (i : Fin 128) (j : Fin 1024) : second v g (ix3 l i j) = Cert.Proof.Adam.second (v (ix3 l i j)) (g (ix3 l i j)) := by
  unfold second Cert.Proof.Adam.second
  pointwise
theorem step_at (w m v : FVec Ideal S4x128x1024 .f32) (l : Fin 4) (i : Fin 128) (j : Fin 1024) :
    step w m v (ix3 l i j) = Cert.Proof.Adam.step (w (ix3 l i j)) (m (ix3 l i j)) (v (ix3 l i j)) := by
  unfold step Cert.Proof.Adam.step
  pointwise

variable (m : (ℓ : Loc nD τ sig) → Buf (Elt Ideal) ℓ)

/-- The gradient, the weight and the moments as @main has them. -/
abbrev aG (c : Dev nD) : FVec Ideal S4x128x1024 .f32 := grad (m ((c.tc : Thread nD τ).loc main_arg0)) (m ((c.tc : Thread nD τ).loc main_arg1)) (m ((c.tc : Thread nD τ).loc main_arg2)) (m ((c.tc : Thread nD τ).loc main_arg3))
abbrev aM (c : Dev nD) : FVec Ideal S4x128x1024 .f32 := first (m ((c.tc : Thread nD τ).loc main_arg5)) (aG m c)
abbrev aV (c : Dev nD) : FVec Ideal S4x128x1024 .f32 := second (m ((c.tc : Thread nD τ).loc main_arg6)) (aG m c)

theorem run (ρ : Dev nD → PrngReg) :
    θ_run defs (onTc (τ := τ) (main (F := Ideal))) ⟨m, fun _ => 0, ρ⟩ fun r => ∀ c : Dev nD,
      r.2.mem ((c.tc : Thread nD τ).loc main_v12) = aG m c
      ∧ r.2.mem ((c.tc : Thread nD τ).loc main_v36) = step (m ((c.tc : Thread nD τ).loc main_arg4)) (aM m c) (aV m c)
      ∧ r.2.mem ((c.tc : Thread nD τ).loc main_v17) = aM m c
      ∧ r.2.mem ((c.tc : Thread nD τ).loc main_v23) = aV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference11Ideal.Value.run m ρ

end Cert.Reference11Ideal.Adam

namespace Cert.Proof.AdamGate

open Idealize.ShloMosaic Idealize.ShloMosaic.TcCoe Idealize.SL.Sem
open Cert.Reference11Ideal.Adam (grad grad_at first first_at second second_at step step_at)

section Equal

variable (m : (ℓ : Loc Cert.Kernel11Ideal.nD Cert.Kernel11Ideal.τ Cert.Kernel11Ideal.sig) → Buf (Elt Ideal) ℓ) (c : Dev Cert.Kernel11Ideal.nD)
  (a0 a1 a2 a3 : FVec Ideal Cert.Reference11Ideal.S8x128x1024 .bf16) (w s v : FVec Ideal Cert.Reference11Ideal.S4x128x1024 .f32)
  (e0 : a0 = Cert.Kernel11Ideal.Gen.V m c Cert.Kernel11Ideal.main_arg0) (e1 : a1 = Cert.Kernel11Ideal.Gen.V m c Cert.Kernel11Ideal.main_arg1)
  (e2 : a2 = Cert.Kernel11Ideal.Gen.V m c Cert.Kernel11Ideal.main_arg2) (e3 : a3 = Cert.Kernel11Ideal.Gen.V m c Cert.Kernel11Ideal.main_arg3)
  (ew : w = Cert.Kernel11Ideal.Value.aW m c) (es : s = Cert.Kernel11Ideal.Value.aM m c) (ev : v = Cert.Kernel11Ideal.Value.aV m c)

include e0 e1 e2 e3 in
theorem g_eq : grad a0 a1 a2 a3 = Cert.Kernel11Ideal.Value.outG m c := by
  subst e0 e1 e2 e3
  funext y
  obtain ⟨l, i, j, rfl⟩ := triple (n := 4) (k := 128) (l := 1024) y
  exact grad_at _ _ _ _ l i j
include e0 e1 e2 e3 es in
theorem m_eq : first s (grad a0 a1 a2 a3) = Cert.Kernel11Ideal.Value.outM m c := by
  rw [g_eq m c a0 a1 a2 a3 e0 e1 e2 e3, es]
  funext y
  obtain ⟨l, i, j, rfl⟩ := triple (n := 4) (k := 128) (l := 1024) y
  exact first_at _ _ l i j
include e0 e1 e2 e3 ev in
theorem v_eq : second v (grad a0 a1 a2 a3) = Cert.Kernel11Ideal.Value.outV m c := by
  rw [g_eq m c a0 a1 a2 a3 e0 e1 e2 e3, ev]
  funext y
  obtain ⟨l, i, j, rfl⟩ := triple (n := 4) (k := 128) (l := 1024) y
  exact second_at _ _ l i j
include e0 e1 e2 e3 ew es ev in
theorem d_eq : step w (first s (grad a0 a1 a2 a3)) (second v (grad a0 a1 a2 a3)) = Cert.Kernel11Ideal.Value.outD m c := by
  rw [m_eq m c a0 a1 a2 a3 s e0 e1 e2 e3 es, v_eq m c a0 a1 a2 a3 v e0 e1 e2 e3 ev, ew]
  funext y
  obtain ⟨l, i, j, rfl⟩ := triple (n := 4) (k := 128) (l := 1024) y
  exact step_at _ _ _ l i j

end Equal

/-- At the ideal instance the kernel's step of AdamW is the reference's, from the eight devices' parts of the gradient. -/
theorem algebraic : Cert.algebraic_Kernel11Ideal_Reference11Ideal (hKernel11Ideal := Cert.Kernel11Ideal.Gen.facts) (hReference11Ideal := Cert.Reference11Ideal.Gen.facts) := by
  intro m g m' g' _ hag
  refine ⟨fun c => Cert.Kernel11Ideal.Value.outG m c, fun c => Cert.Kernel11Ideal.Value.outD m c, fun c => Cert.Kernel11Ideal.Value.outM m c, fun c => Cert.Kernel11Ideal.Value.outV m c,
    (θ_run Cert.Kernel11Ideal.defs _ _).mono (fun r h c => ⟨(h c).1.trans (Cert.Kernel11Ideal.Value.final7 m c), (h c).2.1.trans (Cert.Kernel11Ideal.Value.final8 m c),
      (h c).2.2.1.trans (Cert.Kernel11Ideal.Value.final9 m c), (h c).2.2.2.1.trans (Cert.Kernel11Ideal.Value.final10 m c), (h c).2.2.2.2⟩) (Cert.Kernel11Ideal.Value.run_blocks m g),
    (θ_run Cert.Reference11Ideal.defs _ _).mono (fun r h c => ?_) (Cert.Reference11Ideal.Adam.run m' g')⟩
  obtain ⟨e0, e1, e2, e3, e4, e5, e6⟩ := hag c
  exact ⟨(h c).1.trans (g_eq m c _ _ _ _ e0 e1 e2 e3), (h c).2.1.trans (d_eq m c _ _ _ _ _ _ _ e0 e1 e2 e3 e4 e5 e6),
    (h c).2.2.1.trans (m_eq m c _ _ _ _ _ e0 e1 e2 e3 e5), (h c).2.2.2.1.trans (v_eq m c _ _ _ _ _ e0 e1 e2 e3 e6), (h c).2.2.2.2⟩

end Cert.Proof.AdamGate
-- ==== Proof.lean ====
module

public import proofs.«01_k».proof.Defs
public import proofs.«01_k».proof.Proof.AttnClaim
public import proofs.«01_k».proof.Proof.CompiledFrame
public import proofs.«01_k».proof.Proof.MlpForward
public import proofs.«01_k».proof.Proof.WgradDown
public import proofs.«01_k».proof.Proof.WgradUp
public import proofs.«01_k».proof.Proof.WgradIn
public import proofs.«01_k».proof.Proof.WgradOut
public import proofs.«01_k».proof.Proof.AdamDown
public import proofs.«01_k».proof.Proof.AdamUp
public import proofs.«01_k».proof.Proof.AdamOut
public import proofs.«01_k».proof.Proof.AdamGate
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import Idealize.ShloMosaic.Adequacy
public import Idealize.ShloMosaic.Init

@[expose] public section

noncomputable section

namespace Cert.Proof

open Idealize.ShloMosaic Idealize.SL.Sem

/-- The attention kernel, compiled and idealized, runs, leaves its arguments unchanged and every counter at zero. -/
theorem frame_kernel : Cert.quiescent_Kernel (hKernel := Cert.Kernel.Gen.facts) := fun m ρ _ => Cert.Kernel.Attn.frame_claim m ρ
theorem frame_ideal : Cert.quiescent_KernelIdeal (hKernelIdeal := Cert.KernelIdeal.Gen.facts) := fun m ρ _ => Cert.KernelIdeal.Attn.frame_claim m ρ
theorem frame_ideal_pre : Cert.quiescent_KernelIdeal_pre_finite (hKernelIdeal := Cert.KernelIdeal.Gen.facts) (hPre_finite := Cert.Pre_finite.Gen.facts) :=
  fun m ρ _ => Cert.KernelIdeal.Attn.frame_claim m ρ

/-- So does its reference. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run m ρ)
theorem frame_reference_pre : Cert.quiescent_ReferenceIdeal_pre_finite (hReferenceIdeal := Cert.ReferenceIdeal.Gen.facts) (hPre_finite := Cert.Pre_finite.Gen.facts) :=
  fun m ρ _ => frame_reference m ρ trivial

/-- So do the references of the forget gates, of the MLP, of the weight gradients and of AdamW. -/
theorem frame_reference2 : Cert.quiescent_Reference2Ideal (hReference2Ideal := Cert.Reference2Ideal.Gen.facts) := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)
theorem frame_reference3 : Cert.quiescent_Reference3Ideal (hReference3Ideal := Cert.Reference3Ideal.Gen.facts) := fun m ρ _ =>
  (θ_run Cert.Reference3Ideal.defs _ _).mono (fun r h => ⟨fun c => (h c).2.2.2, Idealize.ShloMosaic.sem_eq_zero_of_no_sems (by decide) r.2⟩)
    (Cert.Reference3Ideal.Value.run m ρ)
theorem frame_reference4 : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run m ρ)
theorem frame_reference5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run m ρ)
theorem frame_reference6 : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run m ρ)
theorem frame_reference7 : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run m ρ)
theorem frame_reference8 : Cert.quiescent_Reference8Ideal (hReference8Ideal := Cert.Reference8Ideal.Gen.facts) := fun m ρ _ =>
  (θ_run Cert.Reference8Ideal.defs _ _).mono (fun r h => ⟨fun c => (h c).2.2.2.2, Idealize.ShloMosaic.sem_eq_zero_of_no_sems (by decide) r.2⟩)
    (Cert.Reference8Ideal.Value.run m ρ)
theorem frame_reference9 : Cert.quiescent_Reference9Ideal (hReference9Ideal := Cert.Reference9Ideal.Gen.facts) := fun m ρ _ =>
  (θ_run Cert.Reference9Ideal.defs _ _).mono (fun r h => ⟨fun c => (h c).2.2.2.2, Idealize.ShloMosaic.sem_eq_zero_of_no_sems (by decide) r.2⟩)
    (Cert.Reference9Ideal.Value.run m ρ)
theorem frame_reference10 : Cert.quiescent_Reference10Ideal (hReference10Ideal := Cert.Reference10Ideal.Gen.facts) := fun m ρ _ =>
  (θ_run Cert.Reference10Ideal.defs _ _).mono (fun r h => ⟨fun c => (h c).2.2.2.2, Idealize.ShloMosaic.sem_eq_zero_of_no_sems (by decide) r.2⟩)
    (Cert.Reference10Ideal.Value.run m ρ)
theorem frame_reference11 : Cert.quiescent_Reference11Ideal (hReference11Ideal := Cert.Reference11Ideal.Gen.facts) := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts,
    frame_kernel, frame_ideal, frame_ideal_pre, frame_reference, frame_reference_pre,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    trivial, Attn.algebraic, trivial, trivial, MlpForward.algebraic, trivial, WgradDown.algebraic, trivial, WgradUp.algebraic,
    trivial, WgradIn.algebraic, trivial, WgradOut.algebraic, trivial, AdamDown.algebraic, trivial, AdamUp.algebraic, trivial, AdamOut.algebraic, trivial, AdamGate.algebraic⟩

end Cert.Proof

end
